-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_blocks_marked : Cert.Pre_blocks_marked.Facts] (m : (ℓ : Loc Cert.Kernel2.nD Cert.Kernel2.τ Cert.Kernel2.sig) → Buf (Elt Bits) ℓ) : Prop :=
  ∀ c : Dev Cert.Kernel2.nD,
    (Cert.Pre_blocks_marked.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_blocks_marked : Cert.Pre_blocks_marked.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_blocks_marked.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_blocks_marked [hPre_blocks_marked : Cert.Pre_blocks_marked.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_blocks_marked.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 [hPre_blocks_marked : Cert.Pre_blocks_marked.Facts] (m : (ℓ : Loc Cert.Kernel3.nD Cert.Kernel3.τ Cert.Kernel3.sig) → Buf (Elt Bits) ℓ) : Prop :=
  ∀ c : Dev Cert.Kernel3.nD,
    (Cert.Pre_blocks_marked.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))) = (fun _ => 1#1)

def Pre_Kernel3Ideal [hPre_blocks_marked : Cert.Pre_blocks_marked.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_blocks_marked.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_blocks_marked [hPre_blocks_marked : Cert.Pre_blocks_marked.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_blocks_marked.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_stream [hPre_finite_stream : Cert.Pre_finite_stream.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_stream.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_stream [hPre_finite_stream : Cert.Pre_finite_stream.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_stream.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_blocks_marked : Cert.Pre_blocks_marked.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_blocks_marked : Cert.Pre_blocks_marked.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_blocks_marked [hReference2Ideal : Cert.Reference2Ideal.Facts] [hPre_blocks_marked : Cert.Pre_blocks_marked.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_blocks_marked m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] [hPre_blocks_marked : Cert.Pre_blocks_marked.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_blocks_marked : Cert.Pre_blocks_marked.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_blocks_marked [hReference3Ideal : Cert.Reference3Ideal.Facts] [hPre_blocks_marked : Cert.Pre_blocks_marked.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_blocks_marked m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Kernel5Ideal_pre_finite_stream [hKernel5Ideal : Cert.Kernel5Ideal.Facts] [hPre_finite_stream : Cert.Pre_finite_stream.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_stream m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Reference5Ideal_pre_finite_stream [hReference5Ideal : Cert.Reference5Ideal.Facts] [hPre_finite_stream : Cert.Pre_finite_stream.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_stream m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_blocks_marked : Cert.Pre_blocks_marked.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] [hPre_blocks_marked : Cert.Pre_blocks_marked.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_v11) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite_stream [hKernel5Ideal : Cert.Kernel5Ideal.Facts] [hReference5Ideal : Cert.Reference5Ideal.Facts] [hPre_finite_stream : Cert.Pre_finite_stream.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_stream m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v16_0)) (v1 : (c : Dev Cert.Kernel5Ideal.nD) → Buf (Elt Ideal) ((c.tc : Thread Cert.Kernel5Ideal.nD Cert.Kernel5Ideal.τ).loc Cert.Kernel5Ideal.main_v16_1)) (v2 : (c : Dev Cert.Kernel5Ideal.nD) → Buf (Elt Ideal) ((c.tc : Thread Cert.Kernel5Ideal.nD Cert.Kernel5Ideal.τ).loc Cert.Kernel5Ideal.main_v17)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16_0) = v0 c
          ∧ r.2.mem ((c.tc : Thread Cert.Kernel5Ideal.nD Cert.Kernel5Ideal.τ).loc Cert.Kernel5Ideal.main_v16_1) = v1 c
          ∧ r.2.mem ((c.tc : Thread Cert.Kernel5Ideal.nD Cert.Kernel5Ideal.τ).loc Cert.Kernel5Ideal.main_v17) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_v39) = v1 c
          ∧ r.2.mem ((c.tc : Thread Cert.Reference5Ideal.nD Cert.Reference5Ideal.τ).loc Cert.Reference5Ideal.main_v43) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_blocks_marked : Cert.Pre_blocks_marked.Facts) (hPre_finite_stream : Cert.Pre_finite_stream.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_blocks_marked := hPre_blocks_marked)
    ∧ quiescent_Kernel2Ideal (hKernel2Ideal := hKernel2Ideal) (hPre_blocks_marked := hPre_blocks_marked)
    ∧ quiescent_Reference2Ideal (hReference2Ideal := hReference2Ideal)
    ∧ quiescent_Reference2Ideal_pre_blocks_marked (hReference2Ideal := hReference2Ideal) (hPre_blocks_marked := hPre_blocks_marked)
    ∧ quiescent_Kernel3 (hKernel3 := hKernel3) (hPre_blocks_marked := hPre_blocks_marked)
    ∧ quiescent_Kernel3Ideal (hKernel3Ideal := hKernel3Ideal) (hPre_blocks_marked := hPre_blocks_marked)
    ∧ quiescent_Reference3Ideal (hReference3Ideal := hReference3Ideal)
    ∧ quiescent_Reference3Ideal_pre_blocks_marked (hReference3Ideal := hReference3Ideal) (hPre_blocks_marked := hPre_blocks_marked)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_stream (hKernel5Ideal := hKernel5Ideal) (hPre_finite_stream := hPre_finite_stream)
    ∧ quiescent_Reference5Ideal (hReference5Ideal := hReference5Ideal)
    ∧ quiescent_Reference5Ideal_pre_finite_stream (hReference5Ideal := hReference5Ideal) (hPre_finite_stream := hPre_finite_stream)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_blocks_marked := hPre_blocks_marked)
    ∧ preserves_Kernel3_Kernel3Ideal
    ∧ algebraic_Kernel3Ideal_Reference3Ideal (hKernel3Ideal := hKernel3Ideal) (hReference3Ideal := hReference3Ideal) (hPre_blocks_marked := hPre_blocks_marked)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_stream (hKernel5Ideal := hKernel5Ideal) (hReference5Ideal := hReference5Ideal) (hPre_finite_stream := hPre_finite_stream)
-- ==== Pre_blocks_marked.lean ====
abbrev S288 : Shape := ⟨1, ![288]⟩
abbrev S73728x1024 : Shape := ⟨2, ![73728, 1024]⟩
abbrev S2x32x1024x2048 : Shape := ⟨4, ![2, 32, 1024, 2048]⟩
abbrev S2x32x1x2048 : Shape := ⟨4, ![2, 32, 1, 2048]⟩
abbrev S2x32x1024x1024 : Shape := ⟨4, ![2, 32, 1024, 1024]⟩
abbrev S2x32x1x1024 : Shape := ⟨4, ![2, 32, 1, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel

variable [Facts]

def fn {F : FTy → Type} [FloatOps F] (main_arg0 : IVec S288 32) (main_arg1 : IVec S288 32) (main_arg2 : FVec F S73728x1024 .f32) (main_arg3 : FVec F S2x32x1024x2048 .f32) (main_arg4 : FVec F S2x32x1x2048 .f32) (main_arg5 : FVec F S2x32x1024x1024 .f32) (main_arg6 : FVec F S2x32x1x1024 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_c_2 : IVec S_ 32 := constantI S_ 32 0#32
  let main_v6 : IVec S288 32 := broadcastInDim S288 ![] bcast_S_S288 main_c_2
  let main_v7 : IVec S288 1 := cmpi .eq main_arg1 main_v6
  let main_c_3 : IVec S_ 32 := constantI S_ 32 1#32
  let main_v8 : IVec S288 32 := broadcastInDim S288 ![] bcast_S_S288 main_c_3
  let main_v9 : IVec S288 1 := cmpi .eq main_arg1 main_v8
  let main_v10 : IVec S288 1 := ori main_v7 main_v9
  let main_c_4 : IVec S_ 1 := constantI S_ 1 1#1
  let main_v11 : IVec S_ 1 := (fun x v => Host.reduce IntOp.andi x v reducesTo_S288_S_d0 h_S_) main_v10 main_c_4
  let main_v12 : IVec S_ 1 := andi main_v5 main_v11
  main_v12
-- ==== Pre_finite_scores.lean ====
abbrev S8x2048x1024 : Shape := ⟨3, ![8, 2048, 1024]⟩
abbrev S8x2048x2048 : Shape := ⟨3, ![8, 2048, 2048]⟩
abbrev S32x8 : Shape := ⟨2, ![32, 8]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  slices_S8x2048x2048_S8x2048x1024_0_0_0 : S8x2048x2048.Slices ![0, 0, 0] S8x2048x1024
  bcast_S_S32x8 : S_.BroadcastsInDim S32x8 (![] : Fin 0 → Fin S32x8.rank)
  reducesTo_S32x8_S_d0_1 : S32x8.ReducesTo [0, 1] S_

variable [Facts]

def fn {F : FTy → Type} [FloatOps F] (main_arg0 : FVec F S8x2048x1024 .bf16) (main_arg1 : FVec F S8x2048x2048 .bf16) (main_arg2 : FVec F S32x8 .f32) (main_arg3 : FVec F S4x64 .f32) (main_arg4 : FVec F S128 .f32) : IVec S_ 1 :=
  let main_v0 : FVec F S8x2048x1024 .f32 := (extf .f32 · bitsLt_bf16_f32) main_arg0
  let main_v1 : FVec F S8x2048x1024 .f32 := Host.absf main_v0
  let main_cst : FVec F S_ .f32 := constant S_ .f32 0x7F800000#32
  let main_v2 : FVec F S8x2048x1024 .f32 := broadcastInDim S8x2048x1024 ![] bcast_S_S8x2048x1024 main_cst
  let main_v3 : IVec S8x2048x1024 1 := cmpf .olt main_v1 main_v2
  let main_c : IVec S_ 1 := constantI S_ 1 1#1
  let main_v4 : IVec S_ 1 := (fun x v => Host.reduce IntOp.andi x v reducesTo_S8x2048x1024_S_d0_1_2 h_S_) main_v3 main_c
  let main_v5 : FVec F S8x2048x1024 .bf16 := (extractStridedSlice S8x2048x1024 ![0, 0, 0] · slices_S8x2048x2048_S8x2048x1024_0_0_0) main_arg1
  let main_v6 : FVec F S8x2048x1024 .f32 := (extf .f32 · bitsLt_bf16_f32) main_v5
  let main_v7 : FVec F S8x2048x1024 .f32 := Host.absf main_v6
  let main_cst_0 : FVec F S_ .f32 := constant S_ .f32 0x7F800000#32
  let main_v8 : FVec F S8x2048x1024 .f32 := broadcastInDim S8x2048x1024 ![] bcast_S_S8x2048x1024 main_cst_0
  let main_v9 : IVec S8x2048x1024 1 := cmpf .olt main_v7 main_v8
  let main_c_1 : IVec S_ 1 := constantI S_ 1 1#1
  let main_v10 : IVec S_ 1 := (fun x v => Host.reduce IntOp.andi x v reducesTo_S8x2048x1024_S_d0_1_2 h_S_) main_v9 main_c_1
  let main_v11 : IVec S_ 1 := andi main_v4 main_v10
  let main_v12 : FVec F S32x8 .f32 := Host.absf main_arg2
  let main_cst_2 : FVec F S_ .f32 := constant S_ .f32 0x7F800000#32
  let main_v13 : FVec F S32x8 .f32 := broadcastInDim S32x8 ![] bcast_S_S32x8 main_cst_2
  let main_v14 : IVec S32x8 1 := cmpf .olt main_v12 main_v13
  let main_c_3 : IVec S_ 1 := constantI S_ 1 1#1
  let main_v15 : IVec S_ 1 := (fun x v => Host.reduce IntOp.andi x v reducesTo_S32x8_S_d0_1 h_S_) main_v14 main_c_3
  let main_v16 : IVec S_ 1 := andi main_v11 main_v15
  main_v16
-- ==== Pre_finite_stream.lean ====
abbrev S8x2048x1024 : Shape := ⟨3, ![8, 2048, 1024]⟩
abbrev S1024x1024 : Shape := ⟨2, ![1024, 1024]⟩
abbrev S1024 : Shape := ⟨1, ![1024]⟩
abbrev S8x1x1024 : Shape := ⟨3, ![8, 1, 1024]⟩
abbrev S1024x32 : Shape := ⟨2, ![1024, 32]⟩
abbrev S32 : Shape := ⟨1, ![32]⟩
abbrev S_ : Shape := ⟨0, ![]⟩

class Facts : Prop where
  bitsLt_bf16_f32 : FTy.bits .bf16 < FTy.bits .f32
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S8x1x1024 : S_.BroadcastsInDim S8x1x1024 (![] : Fin 0 → Fin S8x1x1024.rank)
  reducesTo_S8x1x1024_S_d0_1_2 : S8x1x1024.ReducesTo [0, 1, 2] S_
  bcast_S_S1024x32 : S_.BroadcastsInDim S1024x32 (![] : Fin 0 → Fin S1024x32.rank)
  reducesTo_S1024x32_S_d0_1 : S1024x32.ReducesTo [0, 1] S_

variable [Facts]

def fn_part2 {F : FTy → Type} [FloatOps F] (main_arg7 : FVec F S8x1x1024 .f32) (main_arg8 : FVec F S8x1x1024 .f32) (main_arg9 : FVec F S1024x32 .f32) (main_v29 : IVec S_ 1) (main_v33 : IVec S_ 1) : IVec S_ 1 :=
  let main_v34 : IVec S_ 1 := andi main_v29 main_v33
  let main_v35 : FVec F S8x1x1024 .f32 := Host.absf main_arg7
  let main_cst_12 : FVec F S_ .f32 := constant S_ .f32 0x7F800000#32
  let main_v36 : FVec F S8x1x1024 .f32 := broadcastInDim S8x1x1024 ![] bcast_S_S8x1x1024 main_cst_12
  let main_v37 : IVec S8x1x1024 1 := cmpf .olt main_v35 main_v36
  let main_c_13 : IVec S_ 1 := constantI S_ 1 1#1
  let main_v38 : IVec S_ 1 := (fun x v => Host.reduce IntOp.andi x v reducesTo_S8x1x1024_S_d0_1_2 h_S_) main_v37 main_c_13
  let main_v39 : IVec S_ 1 := andi main_v34 main_v38
  let main_v40 : FVec F S8x1x1024 .f32 := Host.absf main_arg8
  let main_cst_14 : FVec F S_ .f32 := constant S_ .f32 0x7F800000#32
  let main_v41 : FVec F S8x1x1024 .f32 := broadcastInDim S8x1x1024 ![] bcast_S_S8x1x1024 main_cst_14
  let main_v42 : IVec S8x1x1024 1 := cmpf .olt main_v40 main_v41
  let main_c_15 : IVec S_ 1 := constantI S_ 1 1#1
  let main_v43 : IVec S_ 1 := (fun x v => Host.reduce IntOp.andi x v reducesTo_S8x1x1024_S_d0_1_2 h_S_) main_v42 main_c_15
  let main_v44 : IVec S_ 1 := andi main_v39 main_v43
  let main_v45 : FVec F S1024x32 .f32 := Host.absf main_arg9
  let main_cst_16 : FVec F S_ .f32 := constant S_ .f32 0x7F800000#32
  let main_v46 : FVec F S1024x32 .f32 := broadcastInDim S1024x32 ![] bcast_S_S1024x32 main_cst_16
  let main_v47 : IVec S1024x32 1 := cmpf .olt main_v45 main_v46
  let main_c_17 : IVec S_ 1 := constantI S_ 1 1#1
  let main_v48 : IVec S_ 1 := (fun x v => Host.reduce IntOp.andi x v reducesTo_S1024x32_S_d0_1 h_S_) main_v47 main_c_17
  let main_v49 : IVec S_ 1 := andi main_v44 main_v48
  main_v49

def fn_part1 {F : FTy → Type} [FloatOps F] (main_arg4 : FVec F S8x1x1024 .f32) (main_arg5 : FVec F S1024 .f32) (main_arg6 : FVec F S1024 .f32) (main_arg7 : FVec F S8x1x1024 .f32) (main_arg8 : FVec F S8x1x1024 .f32) (main_arg9 : FVec F S1024x32 .f32) (main_v14 : IVec S_ 1) (main_v15 : FVec F S8x2048x1024 .f32) (main_v16 : FVec F S8x2048x1024 .f32) : IVec S_ 1 :=
  let main_v17 : IVec S8x2048x1024 1 := cmpf .olt main_v15 main_v16
  let main_c_5 : IVec S_ 1 := constantI S_ 1 1#1
  let main_v18 : IVec S_ 1 := (fun x v => Host.reduce IntOp.andi x v reducesTo_S8x2048x1024_S_d0_1_2 h_S_) main_v17 main_c_5
  let main_v19 : IVec S_ 1 := andi main_v14 main_v18
  let main_v20 : FVec F S8x1x1024 .f32 := Host.absf main_arg4
  let main_cst_6 : FVec F S_ .f32 := constant S_ .f32 0x7F800000#32
  let main_v21 : FVec F S8x1x1024 .f32 := broadcastInDim S8x1x1024 ![] bcast_S_S8x1x1024 main_cst_6
  let main_v22 : IVec S8x1x1024 1 := cmpf .olt main_v20 main_v21
  let main_c_7 : IVec S_ 1 := constantI S_ 1 1#1
  let main_v23 : IVec S_ 1 := (fun x v => Host.reduce IntOp.andi x v reducesTo_S8x1x1024_S_d0_1_2 h_S_) main_v22 main_c_7
  let main_v24 : IVec S_ 1 := andi main_v19 main_v23
  let main_v25 : FVec F S1024 .f32 := Host.absf main_arg5
  let main_cst_8 : FVec F S_ .f32 := constant S_ .f32 0x7F800000#32
  let main_v26 : FVec F S1024 .f32 := broadcastInDim S1024 ![] bcast_S_S1024 main_cst_8
  let main_v27 : IVec S1024 1 := cmpf .olt main_v25 main_v26
  let main_c_9 : IVec S_ 1 := constantI S_ 1 1#1
  let main_v28 : IVec S_ 1 := (fun x v => Host.reduce IntOp.andi x v reducesTo_S1024_S_d0 h_S_) main_v27 main_c_9
  let main_v29 : IVec S_ 1 := andi main_v24 main_v28
  let main_v30 : FVec F S1024 .f32 := Host.absf main_arg6
  let main_cst_10 : FVec F S_ .f32 := constant S_ .f32 0x7F800000#32
  let main_v31 : FVec F S1024 .f32 := broadcastInDim S1024 ![] bcast_S_S1024 main_cst_10
  let main_v32 : IVec S1024 1 := cmpf .olt main_v30 main_v31
  let main_c_11 : IVec S_ 1 := constantI S_ 1 1#1
  let main_v33 : IVec S_ 1 := (fun x v => Host.reduce IntOp.andi x v reducesTo_S1024_S_d0 h_S_) main_v32 main_c_11
  fn_part2 (F := F) main_arg7 main_arg8 main_arg9 main_v29 main_v33

def fn {F : FTy → Type} [FloatOps F] (main_arg0 : FVec F S8x2048x1024 .bf16) (main_arg1 : FVec F S1024x1024 .f32) (main_arg2 : FVec F S1024 .f32) (main_arg3 : FVec F S8x2048x1024 .f32) (main_arg4 : FVec F S8x1x1024 .f32) (main_arg5 : FVec F S1024 .f32) (main_arg6 : FVec F S1024 .f32) (main_arg7 : FVec F S8x1x1024 .f32) (main_arg8 : FVec F S8x1x1024 .f32) (main_arg9 : FVec F S1024x32 .f32) (main_arg10 : FVec F S32 .f32) : IVec S_ 1 :=
  let main_v0 : FVec F S8x2048x1024 .f32 := (extf .f32 · bitsLt_bf16_f32) main_arg0
  let main_v1 : FVec F S8x2048x1024 .f32 := Host.absf main_v0
  let main_cst : FVec F S_ .f32 := constant S_ .f32 0x7F800000#32
  let main_v2 : FVec F S8x2048x1024 .f32 := broadcastInDim S8x2048x1024 ![] bcast_S_S8x2048x1024 main_cst
  let main_v3 : IVec S8x2048x1024 1 := cmpf .olt main_v1 main_v2
  let main_c : IVec S_ 1 := constantI S_ 1 1#1
  let main_v4 : IVec S_ 1 := (fun x v => Host.reduce IntOp.andi x v reducesTo_S8x2048x1024_S_d0_1_2 h_S_) main_v3 main_c
  let main_v5 : FVec F S1024x1024 .f32 := Host.absf main_arg1
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_c_1 : IVec S_ 1 := constantI S_ 1 1#1
  let main_v8 : IVec S_ 1 := (fun x v => Host.reduce IntOp.andi x v reducesTo_S1024x1024_S_d0_1 h_S_) main_v7 main_c_1
  let main_v9 : IVec S_ 1 := andi main_v4 main_v8
  let main_v10 : FVec F S1024 .f32 := Host.absf main_arg2
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_c_3 : IVec S_ 1 := constantI S_ 1 1#1
  let main_v13 : IVec S_ 1 := (fun x v => Host.reduce IntOp.andi x v reducesTo_S1024_S_d0 h_S_) main_v12 main_c_3
  let main_v14 : IVec S_ 1 := andi main_v9 main_v13
  let main_v15 : FVec F S8x2048x1024 .f32 := Host.absf main_arg3
  let main_cst_4 : FVec F S_ .f32 := constant S_ .f32 0x7F800000#32
  let main_v16 : FVec F S8x2048x1024 .f32 := broadcastInDim S8x2048x1024 ![] bcast_S_S8x2048x1024 main_cst_4
  fn_part1 (F := F) main_arg4 main_arg5 main_arg6 main_arg7 main_arg8 main_arg9 main_v14 main_v15 main_v16
-- ==== Kernel.lean ====
abbrev S8x2048x1024 : Shape := ⟨3, ![8, 2048, 1024]⟩
abbrev S8x2048x2048 : Shape := ⟨3, ![8, 2048, 2048]⟩
abbrev S32x8 : Shape := ⟨2, ![32, 8]⟩
abbrev S4x64 : Shape := ⟨2, ![4, 64]⟩
abbrev S128 : Shape := ⟨1, ![128]⟩
abbrev S8x256x512 : Shape := ⟨3, ![8, 256, 512]⟩
abbrev S1x256x512 : Shape := ⟨3, ![1, 256, 512]⟩
abbrev S256x512 : Shape := ⟨2, ![256, 512]⟩
abbrev S1x1 : Shape := ⟨2, ![1, 1]⟩
abbrev S1x128 : Shape := ⟨2, ![1, 128]⟩
abbrev S1x2048x128 : Shape := ⟨3, ![1, 2048, 128]⟩
abbrev S1x64 : Shape := ⟨2, ![1, 64]⟩
abbrev S1 : Shape := ⟨1, ![1]⟩
abbrev S256x128 : Shape := ⟨2, ![256, 128]⟩
abbrev S1x256x128 : Shape := ⟨3, ![1, 256, 128]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S1x512x128 : Shape := ⟨3, ![1, 512, 128]⟩
abbrev S512x128 : Shape := ⟨2, ![512, 128]⟩
abbrev S1x768x128 : Shape := ⟨3, ![1, 768, 128]⟩
abbrev S768x128 : Shape := ⟨2, ![768, 128]⟩
abbrev S256x768 : Shape := ⟨2, ![256, 768]⟩
abbrev S1x1024x128 : Shape := ⟨3, ![1, 1024, 128]⟩
abbrev S1024x128 : Shape := ⟨2, ![1024, 128]⟩
abbrev S256x1024 : Shape := ⟨2, ![256, 1024]⟩
abbrev S1x1280x128 : Shape := ⟨3, ![1, 1280, 128]⟩
abbrev S1280x128 : Shape := ⟨2, ![1280, 128]⟩
abbrev S256x1280 : Shape := ⟨2, ![256, 1280]⟩
abbrev S1x1536x128 : Shape := ⟨3, ![1, 1536, 128]⟩
abbrev S1536x128 : Shape := ⟨2, ![1536, 128]⟩
abbrev S256x1536 : Shape := ⟨2, ![256, 1536]⟩
abbrev S1x1792x128 : Shape := ⟨3, ![1, 1792, 128]⟩
abbrev S1792x128 : Shape := ⟨2, ![1792, 128]⟩
abbrev S256x1792 : Shape := ⟨2, ![256, 1792]⟩
abbrev S2048x128 : Shape := ⟨2, ![2048, 128]⟩
abbrev S256x2048 : Shape := ⟨2, ![256, 2048]⟩

abbrev nBuf : Space → Nat
  | .hbm => 8
  | .vmem => 14
  | .smem => 1
  | _ => 0

abbrev bufTy : (tb : Table) → Fin (tcTables nBuf tb) → BufTy
  | .hbm, ⟨0, _⟩ => ⟨S8x2048x1024, .bf16⟩
  | .hbm, ⟨1, _⟩ => ⟨S8x2048x2048, .bf16⟩
  | .hbm, ⟨2, _⟩ => ⟨S32x8, .f32⟩
  | .hbm, ⟨3, _⟩ => ⟨S4x64, .f32⟩
  | .hbm, ⟨4, _⟩ => ⟨S128, .f32⟩
  | .hbm, ⟨5, _⟩ => ⟨S8x256x512, .f32⟩
  | .hbm, ⟨6, _⟩ => ⟨S1x128, .f32⟩
  | .hbm, ⟨7, _⟩ => ⟨S8x2048x1024, .bf16⟩
  | .local _ .vmem, ⟨0, _⟩ => ⟨S1x256x512, .f32⟩
  | .local _ .vmem, ⟨1, _⟩ => ⟨S1x256x512, .f32⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x256x512, .f32⟩
  | .local _ .vmem, ⟨9, _⟩ => ⟨S1x256x512, .f32⟩
  | .local _ .vmem, ⟨10, _⟩ => ⟨S4x64, .f32⟩
  | .local _ .vmem, ⟨11, _⟩ => ⟨S1x128, .f32⟩
  | .local _ .vmem, ⟨12, _⟩ => ⟨S1x2048x128, .bf16⟩
  | .local _ .vmem, ⟨13, _⟩ => ⟨S1x2048x128, .bf16⟩
  | .local _ .smem, ⟨0, _⟩ => ⟨S32x8, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg1_0 : Ref sig .tc := ⟨.vmem, 0, rfl⟩
abbrev cc0_stg1_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c15 : Index := 15#32
  let arg0 : BitVec 32 := BitVec.ofNat 32 (i 0).val
  let v58 : Index := Scalar.indexCast arg0
  ![15, v58.toNat]
def k0_off2 (i : grid0.Coords) : Fin 2 → Nat :=
  let c0 : Index := 0#32
  let arg0 : BitVec 32 := BitVec.ofNat 32 (i 0).val
  let v63 : Index := Scalar.indexCast arg0
  ![0, v63.toNat]
def k0_off3 (i : grid0.Coords) : Fin 2 → Nat :=
  let c1 : Index := 1#32
  let arg0 : BitVec 32 := BitVec.ofNat 32 (i 0).val
  let v70 : Index := Scalar.indexCast arg0
  ![1, v70.toNat]
def k0_off4 (i : grid0.Coords) : Fin 2 → Nat :=
  let c2 : Index := 2#32
  let arg0 : BitVec 32 := BitVec.ofNat 32 (i 0).val
  let v77 : Index := Scalar.indexCast arg0
  ![2, v77.toNat]
def k0_off5 (i : grid0.Coords) : Fin 2 → Nat :=
  let c3 : Index := 3#32
  let arg0 : BitVec 32 := BitVec.ofNat 32 (i 0).val
  let v84 : Index := Scalar.indexCast arg0
  ![3, v84.toNat]
def k0_off6 (i : grid0.Coords) : Fin 2 → Nat :=
  let c4 : Index := 4#32
  let arg0 : BitVec 32 := BitVec.ofNat 32 (i 0).val
  let v91 : Index := Scalar.indexCast arg0
  ![4, v91.toNat]
def k0_off7 (i : grid0.Coords) : Fin 2 → Nat :=
  let c5 : Index := 5#32
  let arg0 : BitVec 32 := BitVec.ofNat 32 (i 0).val
  let v98 : Index := Scalar.indexCast arg0
  ![5, v98.toNat]
def k0_off8 (i : grid0.Coords) : Fin 2 → Nat :=
  let c6 : Index := 6#32
  let arg0 : BitVec 32 := BitVec.ofNat 32 (i 0).val
  let v105 : Index := Scalar.indexCast arg0
  ![6, v105.toNat]
def k0_off9 (i : grid0.Coords) : Fin 2 → Nat :=
  let c7 : Index := 7#32
  let arg0 : BitVec 32 := BitVec.ofNat 32 (i 0).val
  let v112 : Index := Scalar.indexCast arg0
  ![7, v112.toNat]
def k0_off10 (i : grid0.Coords) : Fin 2 → Nat :=
  let c8 : Index := 8#32
  let arg0 : BitVec 32 := BitVec.ofNat 32 (i 0).val
  let v119 : Index := Scalar.indexCast arg0
  ![8, v119.toNat]
def k0_off11 (i : grid0.Coords) : Fin 2 → Nat :=
  let c9 : Index := 9#32
  let arg0 : BitVec 32 := BitVec.ofNat 32 (i 0).val
  let v126 : Index := Scalar.indexCast arg0
  ![9, v126.toNat]
def k0_off12 (i : grid0.Coords) : Fin 2 → Nat :=
  let c10 : Index := 10#32
  let arg0 : BitVec 32 := BitVec.ofNat 32 (i 0).val
  let v133 : Index := Scalar.indexCast arg0
  ![10, v133.toNat]
def k0_off13 (i : grid0.Coords) : Fin 2 → Nat :=
  let c11 : Index := 11#32
  let arg0 : BitVec 32 := BitVec.ofNat 32 (i 0).val
  let v140 : Index := Scalar.indexCast arg0
  ![11, v140.toNat]
def k0_off14 (i : grid0.Coords) : Fin 2 → Nat :=
  let c12 : Index := 12#32
  let arg0 : BitVec 32 := BitVec.ofNat 32 (i 0).val
  let v147 : Index := Scalar.indexCast arg0
  ![12, v147.toNat]
def k0_off15 (i : grid0.Coords) : Fin 2 → Nat :=
  let c13 : Index := 13#32
  let arg0 : BitVec 32 := BitVec.ofNat 32 (i 0).val
  let v154 : Index := Scalar.indexCast arg0
  ![13, v154.toNat]
def k0_off16 (i : grid0.Coords) : Fin 2 → Nat :=
  let c14 : Index := 14#32
  let arg0 : BitVec 32 := BitVec.ofNat 32 (i 0).val
  let v161 : Index := Scalar.indexCast arg0
  ![14, v161.toNat]
def k0_off17 (i : grid0.Coords) : Fin 2 → Nat :=
  let c16 : Index := 16#32
  let arg0 : BitVec 32 := BitVec.ofNat 32 (i 0).val
  let v175 : Index := Scalar.indexCast arg0
  ![16, v175.toNat]
def k0_off18 (i : grid0.Coords) : Fin 2 → Nat :=
  let c17 : Index := 17#32
  let arg0 : BitVec 32 := BitVec.ofNat 32 (i 0).val
  let v182 : Index := Scalar.indexCast arg0
  ![17, v182.toNat]
def k0_off19 (i : grid0.Coords) : Fin 2 → Nat :=
  let c18 : Index := 18#32
  let arg0 : BitVec 32 := BitVec.ofNat 32 (i 0).val
  let v189 : Index := Scalar.indexCast arg0
  ![18, v189.toNat]
def k0_off20 (i : grid0.Coords) : Fin 2 → Nat :=
  let c19 : Index := 19#32
  let arg0 : BitVec 32 := BitVec.ofNat 32 (i 0).val
  let v196 : Index := Scalar.indexCast arg0
  ![19, v196.toNat]
def k0_off21 (i : grid0.Coords) : Fin 2 → Nat :=
  let c20 : Index := 20#32
  let arg0 : BitVec 32 := BitVec.ofNat 32 (i 0).val
  let v203 : Index := Scalar.indexCast arg0
  ![20, v203.toNat]
def k0_off22 (i : grid0.Coords) : Fin 2 → Nat :=
  let c21 : Index := 21#32
  let arg0 : BitVec 32 := BitVec.ofNat 32 (i 0).val
  let v210 : Index := Scalar.indexCast arg0
  ![21, v210.toNat]
def k0_off23 (i : grid0.Coords) : Fin 2 → Nat :=
  let c22 : Index := 22#32
  let arg0 : BitVec 32 := BitVec.ofNat 32 (i 0).val
  let v217 : Index := Scalar.indexCast arg0
  ![22, v217.toNat]
def k0_off24 (i : grid0.Coords) : Fin 2 → Nat :=
  let c23 : Index := 23#32
  let arg0 : BitVec 32 := BitVec.ofNat 32 (i 0).val
  let v224 : Index := Scalar.indexCast arg0
  ![23, v224.toNat]
def k0_off25 (i : grid0.Coords) : Fin 2 → Nat :=
  let c24 : Index := 24#32
  let arg0 : BitVec 32 := BitVec.ofNat 32 (i 0).val
  let v231 : Index := Scalar.indexCast arg0
  ![24, v231.toNat]
def k0_off26 (i : grid0.Coords) : Fin 2 → Nat :=
  let c25 : Index := 25#32
  let arg0 : BitVec 32 := BitVec.ofNat 32 (i 0).val
  let v238 : Index := Scalar.indexCast arg0
  ![25, v238.toNat]
def k0_off27 (i : grid0.Coords) : Fin 2 → Nat :=
  let c26 : Index := 26#32
  let arg0 : BitVec 32 := BitVec.ofNat 32 (i 0).val
  let v245 : Index := Scalar.indexCast arg0
  ![26, v245.toNat]
def k0_off28 (i : grid0.Coords) : Fin 2 → Nat :=
  let c27 : Index := 27#32
  let arg0 : BitVec 32 := BitVec.ofNat 32 (i 0).val
  let v252 : Index := Scalar.indexCast arg0
  ![27, v252.toNat]
def k0_off29 (i : grid0.Coords) : Fin 2 → Nat :=
  let c28 : Index := 28#32
  let arg0 : BitVec 32 := BitVec.ofNat 32 (i 0).val
  let v259 : Index := Scalar.indexCast arg0
  ![28, v259.toNat]
def k0_off30 (i : grid0.Coords) : Fin 2 → Nat :=
  let c29 : Index := 29#32
  let arg0 : BitVec 32 := BitVec.ofNat 32 (i 0).val
  let v266 : Index := Scalar.indexCast arg0
  ![29, v266.toNat]
def k0_off31 (i : grid0.Coords) : Fin 2 → Nat :=
  let c30 : Index := 30#32
  let arg0 : BitVec 32 := BitVec.ofNat 32 (i 0).val
  let v273 : Index := Scalar.indexCast arg0
  ![30, v273.toNat]
def k0_off32 (i : grid0.Coords) : Fin 2 → Nat :=
  let c31 : Index := 31#32
  let arg0 : BitVec 32 := BitVec.ofNat 32 (i 0).val
  let v280 : Index := Scalar.indexCast arg0
  ![31, v280.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

def cc1_transform_2 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, c0_i32_0.toNat, v0.toNat]

abbrev stage1_0 : Fin 2 → Memref sig .tc .vmem S1x2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S4x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x2048x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S8x2048x1024 : Shape := ⟨3, ![8, 2048, 1024]⟩
abbrev S8x2048x2048 : Shape := ⟨3, ![8, 2048, 2048]⟩
abbrev S32x8 : Shape := ⟨2, ![32, 8]⟩
abbrev S4x64 : Shape := ⟨2, ![4, 64]⟩
abbrev S128 : Shape := ⟨1, ![128]⟩
abbrev S8x2048x8x2x64 : Shape := ⟨5, ![8, 2048, 8, 2, 64]⟩
abbrev S8x8x2x2048x64 : Shape := ⟨5, ![8, 8, 2, 2048, 64]⟩
abbrev S8x2048x8x128 : Shape := ⟨4, ![8, 2048, 8, 128]⟩
abbrev S8x8x2048x128 : Shape := ⟨4, ![8, 8, 2048, 128]⟩
abbrev S1x64 : Shape := ⟨2, ![1, 64]⟩
abbrev S64 : Shape := ⟨1, ![64]⟩
abbrev S_ : Shape := ⟨0, ![]⟩
abbrev S2048 : Shape := ⟨1, ![2048]⟩
abbrev S8x8x2x2048x2048 : Shape := ⟨5, ![8, 8, 2, 2048, 2048]⟩
abbrev S1x2048 : Shape := ⟨2, ![1, 2048]⟩
abbrev S2048x1 : Shape := ⟨2, ![2048, 1]⟩
abbrev S2048x2048 : Shape := ⟨2, ![2048, 2048]⟩
abbrev S2048x2048x1 : Shape := ⟨3, ![2048, 2048, 1]⟩
abbrev S1 : Shape := ⟨1, ![1]⟩
abbrev S1x1x1 : Shape := ⟨3, ![1, 1, 1]⟩
abbrev S2048x2048x8 : Shape := ⟨3, ![2048, 2048, 8]⟩
abbrev S1x8x1x2048x2048 : Shape := ⟨5, ![1, 8, 1, 2048, 2048]⟩
abbrev S8x8x2x2048 : Shape := ⟨4, ![8, 8, 2, 2048]⟩
abbrev S8x8x2x2048x1 : Shape := ⟨5, ![8, 8, 2, 2048, 1]⟩
abbrev S8x8x1x2048x2048 : Shape := ⟨5, ![8, 8, 1, 2048, 2048]⟩
abbrev S8x8x2048x2048 : Shape := ⟨4, ![8, 8, 2048, 2048]⟩
abbrev S8x8x128x2048 : Shape := ⟨4, ![8, 8, 128, 2048]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩

abbrev nBuf : Space → Nat
  | .hbm => 195
  | .vmem => 0
  | .smem => 0
  | _ => 0

abbrev hbmTy0_0 (i : Nat) : BufTy := match i % 128 with
  | 0 => ⟨S8x2048x1024, .bf16⟩
  | 1 => ⟨S8x2048x2048, .bf16⟩
  | 2 => ⟨S32x8, .f32⟩
  | 3 => ⟨S4x64, .f32⟩
  | 4 => ⟨S128, .f32⟩
  | 5 => ⟨S8x2048x1024, .f32⟩
  | 6 => ⟨S8x2048x8x2x64, .f32⟩
  | 7 => ⟨S8x8x2x2048x64, .f32⟩
  | 8 => ⟨S8x2048x2048, .f32⟩
  | 9 => ⟨S8x2048x1024, .f32⟩
  | 10 => ⟨S8x2048x8x2x64, .f32⟩
  | 11 => ⟨S8x8x2x2048x64, .f32⟩
  | 12 => ⟨S8x2048x1024, .f32⟩
  | 13 => ⟨S8x2048x8x128, .f32⟩
  | 14 => ⟨S8x8x2048x128, .f32⟩
  | 15 => ⟨S1x64, .f32⟩
  | 16 => ⟨S64, .f32⟩
  | 17 => ⟨S1x64, .f32⟩
  | 18 => ⟨S64, .f32⟩
  | 19 => ⟨S64, .f32⟩
  | 20 => ⟨S_, .f32⟩
  | 21 => ⟨S_, .f32⟩
  | 22 => ⟨S_, .f32⟩
  | 23 => ⟨S1x64, .f32⟩
  | 24 => ⟨S64, .f32⟩
  | 25 => ⟨S1x64, .f32⟩
  | 26 => ⟨S64, .f32⟩
  | 27 => ⟨S64, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S2048, .i32⟩
  | 35 => ⟨S8x8x2x2048x2048, .f32⟩
  | 36 => ⟨S1x2048, .i32⟩
  | 37 => ⟨S2048x1, .i32⟩
  | 38 => ⟨S2048x2048, .i32⟩
  | 39 => ⟨S2048x2048, .i32⟩
  | 40 => ⟨S2048x2048, .i32⟩
  | 41 => ⟨S_, .i32⟩
  | 42 => ⟨S2048x2048, .i32⟩
  | 43 => ⟨S2048x2048, .i1⟩
  | 44 => ⟨S_, .i32⟩
  | 45 => ⟨S_, .i32⟩
  | 46 => ⟨S2048x2048, .i32⟩
  | 47 => ⟨S2048x2048, .i32⟩
  | 48 => ⟨S2048x2048, .i32⟩
  | 49 => ⟨S2048x2048, .i32⟩
  | 50 => ⟨S_, .i32⟩
  | 51 => ⟨S2048x2048, .i32⟩
  | 52 => ⟨S2048x2048, .i32⟩
  | 53 => ⟨S2048x2048, .f32⟩
  | 54 => ⟨S_, .f32⟩
  | 55 => ⟨S2048x2048, .f32⟩
  | 56 => ⟨S2048x2048, .f32⟩
  | 57 => ⟨S2048x2048, .f32⟩
  | 58 => ⟨S_, .f32⟩
  | 59 => ⟨S_, .f32⟩
  | 60 => ⟨S2048x2048, .f32⟩
  | 61 => ⟨S2048x2048, .f32⟩
  | 62 => ⟨S_, .f32⟩
  | 63 => ⟨S2048x2048, .f32⟩
  | 64 => ⟨S2048x2048, .f32⟩
  | 65 => ⟨S2048x2048, .i32⟩
  | 66 => ⟨S_, .i32⟩
  | 67 => ⟨S2048x2048, .i32⟩
  | 68 => ⟨S2048x2048, .i32⟩
  | 69 => ⟨S_, .i32⟩
  | 70 => ⟨S2048x2048, .i32⟩
  | 71 => ⟨S2048x2048, .i32⟩
  | 72 => ⟨S_, .i32⟩
  | 73 => ⟨S2048x2048, .i32⟩
  | 74 => ⟨S2048x2048, .i1⟩
  | 75 => ⟨S2048x2048, .i32⟩
  | 76 => ⟨S2048x2048, .i32⟩
  | 77 => ⟨S2048x2048, .i32⟩
  | 78 => ⟨S_, .i32⟩
  | 79 => ⟨S2048x2048, .i32⟩
  | 80 => ⟨S2048x2048, .i1⟩
  | 81 => ⟨S_, .i32⟩
  | 82 => ⟨S2048x2048, .i32⟩
  | 83 => ⟨S2048x2048, .i32⟩
  | 84 => ⟨S2048x2048, .i32⟩
  | 85 => ⟨S2048x2048x1, .i32⟩
  | 86 => ⟨S1, .i32⟩
  | 87 => ⟨S_, .i32⟩
  | 88 => ⟨S2048x2048x1, .i32⟩
  | 89 => ⟨S2048x2048x1, .i1⟩
  | 90 => ⟨S1x1x1, .i32⟩
  | 91 => ⟨S2048x2048x1, .i32⟩
  | 92 => ⟨S2048x2048x1, .i1⟩
  | 93 => ⟨S2048x2048x1, .i1⟩
  | 94 => ⟨S_, .i1⟩
  | 95 => ⟨S2048x2048, .i1⟩
  | 96 => ⟨S2048x2048x8, .f32⟩
  | 97 => ⟨S2048x2048x8, .i1⟩
  | 98 => ⟨S_, .f32⟩
  | 99 => ⟨S2048x2048x8, .f32⟩
  | 100 => ⟨S2048x2048x8, .f32⟩
  | 101 => ⟨S8x2048x2048, .f32⟩
  | 102 => ⟨S1x8x1x2048x2048, .f32⟩
  | 103 => ⟨S8x8x2x2048x2048, .f32⟩
  | 104 => ⟨S8x8x2x2048x2048, .f32⟩
  | 105 => ⟨S1x2048, .i32⟩
  | 106 => ⟨S_, .i32⟩
  | 107 => ⟨S_, .i32⟩
  | 108 => ⟨S1x2048, .i32⟩
  | 109 => ⟨S1x2048, .i32⟩
  | 110 => ⟨S1x2048, .i32⟩
  | 111 => ⟨S_, .i32⟩
  | 112 => ⟨S1x2048, .i32⟩
  | 113 => ⟨S1x2048, .i1⟩
  | 114 => ⟨S1x2048, .i32⟩
  | 115 => ⟨S1x2048, .i32⟩
  | 116 => ⟨S_, .i32⟩
  | 117 => ⟨S1x2048, .i32⟩
  | 118 => ⟨S1x2048, .i1⟩
  | 119 => ⟨S1x2048, .i1⟩
  | 120 => ⟨S_, .i32⟩
  | 121 => ⟨S1x2048, .i32⟩
  | 122 => ⟨S1x2048, .i32⟩
  | 123 => ⟨S1x2048, .i32⟩
  | 124 => ⟨S2048x1, .i32⟩
  | 125 => ⟨S_, .i32⟩
  | 126 => ⟨S_, .i32⟩
  | 127 => ⟨S2048x1, .i32⟩
  | _ => ⟨S8x2048x1024, .bf16⟩

abbrev hbmTy0_1 (i : Nat) : BufTy := match i % 128 with
  | 0 => ⟨S2048x1, .i32⟩
  | 1 => ⟨S2048x1, .i32⟩
  | 2 => ⟨S_, .i32⟩
  | 3 => ⟨S2048x1, .i32⟩
  | 4 => ⟨S2048x1, .i1⟩
  | 5 => ⟨S2048x1, .i32⟩
  | 6 => ⟨S2048x1, .i32⟩
  | 7 => ⟨S_, .i32⟩
  | 8 => ⟨S2048x1, .i32⟩
  | 9 => ⟨S2048x1, .i1⟩
  | 10 => ⟨S2048x1, .i1⟩
  | 11 => ⟨S_, .i32⟩
  | 12 => ⟨S2048x1, .i32⟩
  | 13 => ⟨S2048x1, .i32⟩
  | 14 => ⟨S2048x1, .i32⟩
  | 15 => ⟨S2048x2048, .i32⟩
  | 16 => ⟨S2048x2048, .i32⟩
  | 17 => ⟨S2048x2048, .i1⟩
  | 18 => ⟨S_, .f32⟩
  | 19 => ⟨S_, .f32⟩
  | 20 => ⟨S8x8x2x2048x2048, .i1⟩
  | 21 => ⟨S8x8x2x2048x2048, .f32⟩
  | 22 => ⟨S8x8x2x2048x2048, .f32⟩
  | 23 => ⟨S_, .f32⟩
  | 24 => ⟨S8x8x2x2048, .f32⟩
  | 25 => ⟨S_, .f32⟩
  | 26 => ⟨S8x8x2x2048, .f32⟩
  | 27 => ⟨S8x8x2x2048, .f32⟩
  | 28 => ⟨S8x8x2x2048x1, .f32⟩
  | 29 => ⟨S8x8x2x2048x2048, .f32⟩
  | 30 => ⟨S8x8x2x2048x2048, .f32⟩
  | 31 => ⟨S8x8x2x2048x2048, .f32⟩
  | 32 => ⟨S_, .f32⟩
  | 33 => ⟨S8x8x2x2048, .f32⟩
  | 34 => ⟨S8x8x2x2048x1, .f32⟩
  | 35 => ⟨S8x8x2x2048x2048, .f32⟩
  | 36 => ⟨S8x8x2x2048x2048, .f32⟩
  | 37 => ⟨S8x8x1x2048x2048, .f32⟩
  | 38 => ⟨S8x8x2048x2048, .f32⟩
  | 39 => ⟨S8x8x1x2048x2048, .f32⟩
  | 40 => ⟨S8x8x2048x2048, .f32⟩
  | 41 => ⟨S8x8x2048x2048, .f32⟩
  | 42 => ⟨S8x8x2048x2048, .f32⟩
  | 43 => ⟨S8x8x2048x2048, .f32⟩
  | 44 => ⟨S8x8x128x2048, .f32⟩
  | 45 => ⟨S8x2048x8x128, .f32⟩
  | 46 => ⟨S8x2048x8x128, .f32⟩
  | 47 => ⟨S_, .f32⟩
  | 48 => ⟨S8x2048x8, .f32⟩
  | 49 => ⟨S8x2048x8x1, .f32⟩
  | 50 => ⟨S_, .f32⟩
  | 51 => ⟨S8x2048x8x1, .f32⟩
  | 52 => ⟨S8x2048x8x1, .f32⟩
  | 53 => ⟨S_, .f32⟩
  | 54 => ⟨S8x2048x8x1, .f32⟩
  | 55 => ⟨S8x2048x8x1, .f32⟩
  | 56 => ⟨S8x2048x8x1, .f32⟩
  | 57 => ⟨S8x2048x8x128, .f32⟩
  | 58 => ⟨S8x2048x8x128, .f32⟩
  | 59 => ⟨S1x1x1x128, .f32⟩
  | 60 => ⟨S8x2048x8x128, .f32⟩
  | 61 => ⟨S8x2048x8x128, .f32⟩
  | 62 => ⟨S_, .f32⟩
  | 63 => ⟨S8x2048x8x128, .f32⟩
  | 64 => ⟨S8x2048x8x128, .f32⟩
  | 65 => ⟨S8x2048x8x128, .bf16⟩
  | 66 => ⟨S8x2048x1024, .bf16⟩
  | _ => ⟨S8x2048x1024, .bf16⟩

abbrev hbmTy (i : Nat) : BufTy := match i / 128 with
  | 0 => hbmTy0_0 i
  | 1 => hbmTy0_1 i
  | _ => ⟨S8x2048x1024, .bf16⟩

abbrev bufTy : (tb : Table) → Fin (tcTables nBuf tb) → BufTy
  | .hbm, ⟨i, _⟩ => hbmTy i
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c : Ref sig .tc := ⟨.hbm, 41, rfl⟩
abbrev main_v33 : Ref sig .tc := ⟨.hbm, 42, rfl⟩
abbrev main_v34 : Ref sig .tc := ⟨.hbm, 43, rfl⟩
abbrev main_c_2 : Ref sig .tc := ⟨.hbm, 44, rfl⟩
abbrev main_c_3 : Ref sig .tc := ⟨.hbm, 45, rfl⟩
abbrev main_call0_v0 : Ref sig .tc := ⟨.hbm, 46, rfl⟩
abbrev main_call0_v1 : Ref sig .tc := ⟨.hbm, 47, rfl⟩
abbrev main_v35 : Ref sig .tc := ⟨.hbm, 48, rfl⟩
abbrev main_v36 : Ref sig .tc := ⟨.hbm, 49, rfl⟩
abbrev main_c_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_8 : Ref sig .tc := ⟨.hbm, 66, rfl⟩
abbrev main_v49 : Ref sig .tc := ⟨.hbm, 67, rfl⟩
abbrev main_v50 : Ref sig .tc := ⟨.hbm, 68, rfl⟩
abbrev main_c_9 : Ref sig .tc := ⟨.hbm, 69, rfl⟩
abbrev main_v51 : Ref sig .tc := ⟨.hbm, 70, rfl⟩
abbrev main_v52 : Ref sig .tc := ⟨.hbm, 71, rfl⟩
abbrev main_c_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_call2_c : Ref sig .tc := ⟨.hbm, 78, rfl⟩
abbrev main_call2_v0 : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_c_1 : Ref sig .tc := ⟨.hbm, 86, rfl⟩
abbrev main_call2_c_2 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_c_3 : Ref sig .tc := ⟨.hbm, 94, rfl⟩
abbrev main_call2_v12 : Ref sig .tc := ⟨.hbm, 95, rfl⟩
abbrev main_call2_v13 : Ref sig .tc := ⟨.hbm, 96, rfl⟩
abbrev main_call2_v14 : Ref sig .tc := ⟨.hbm, 97, rfl⟩
abbrev main_call2_cst : Ref sig .tc := ⟨.hbm, 98, rfl⟩
abbrev main_call2_v15 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_c_11 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_call3_v5 : Ref sig .tc := ⟨.hbm, 112, rfl⟩
abbrev main_call3_v6 : Ref sig .tc := ⟨.hbm, 113, rfl⟩
abbrev main_call3_v7 : Ref sig .tc := ⟨.hbm, 114, rfl⟩
abbrev main_call3_v8 : Ref sig .tc := ⟨.hbm, 115, rfl⟩
abbrev main_call3_c : Ref sig .tc := ⟨.hbm, 116, rfl⟩
abbrev main_call3_v9 : Ref sig .tc := ⟨.hbm, 117, rfl⟩
abbrev main_call3_v10 : Ref sig .tc := ⟨.hbm, 118, rfl⟩
abbrev main_call3_v11 : Ref sig .tc := ⟨.hbm, 119, rfl⟩
abbrev main_call3_c_0 : Ref sig .tc := ⟨.hbm, 120, rfl⟩
abbrev main_call3_v12 : Ref sig .tc := ⟨.hbm, 121, rfl⟩
abbrev main_call3_v13 : Ref sig .tc := ⟨.hbm, 122, rfl⟩
abbrev main_v64 : Ref sig .tc := ⟨.hbm, 123, rfl⟩
abbrev main_v65 : Ref sig .tc := ⟨.hbm, 124, rfl⟩
abbrev main_c_12 : Ref sig .tc := ⟨.hbm, 125, rfl⟩
abbrev main_call4_v0 : Ref sig .tc := ⟨.hbm, 126, rfl⟩
abbrev main_call4_v1 : Ref sig .tc := ⟨.hbm, 127, rfl⟩
abbrev main_call4_v2 : Ref sig .tc := ⟨.hbm, 128, rfl⟩
abbrev main_call4_v3 : Ref sig .tc := ⟨.hbm, 129, rfl⟩
abbrev main_call4_v4 : Ref sig .tc := ⟨.hbm, 130, rfl⟩
abbrev main_call4_v5 : Ref sig .tc := ⟨.hbm, 131, rfl⟩
abbrev main_call4_v6 : Ref sig .tc := ⟨.hbm, 132, rfl⟩
abbrev main_call4_v7 : Ref sig .tc := ⟨.hbm, 133, rfl⟩
abbrev main_call4_v8 : Ref sig .tc := ⟨.hbm, 134, rfl⟩
abbrev main_call4_c : Ref sig .tc := ⟨.hbm, 135, rfl⟩
abbrev main_call4_v9 : Ref sig .tc := ⟨.hbm, 136, rfl⟩
abbrev main_call4_v10 : Ref sig .tc := ⟨.hbm, 137, rfl⟩
abbrev main_call4_v11 : Ref sig .tc := ⟨.hbm, 138, rfl⟩
abbrev main_call4_c_0 : Ref sig .tc := ⟨.hbm, 139, rfl⟩
abbrev main_call4_v12 : Ref sig .tc := ⟨.hbm, 140, rfl⟩
abbrev main_call4_v13 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_cst_13 : Ref sig .tc := ⟨.hbm, 146, rfl⟩
abbrev main_call5_v0 : Ref sig .tc := ⟨.hbm, 147, rfl⟩
abbrev main_call5_v1 : Ref sig .tc := ⟨.hbm, 148, rfl⟩
abbrev main_call5_v2 : Ref sig .tc := ⟨.hbm, 149, rfl⟩
abbrev main_v70 : Ref sig .tc := ⟨.hbm, 150, rfl⟩
abbrev main_cst_14 : Ref sig .tc := ⟨.hbm, 151, rfl⟩
abbrev main_v71 : Ref sig .tc := ⟨.hbm, 152, rfl⟩
abbrev main_cst_15 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_cst_16 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_cst_17 : Ref sig .tc := ⟨.hbm, 175, rfl⟩
abbrev main_v92 : Ref sig .tc := ⟨.hbm, 176, rfl⟩
abbrev main_v93 : Ref sig .tc := ⟨.hbm, 177, rfl⟩
abbrev main_cst_18 : Ref sig .tc := ⟨.hbm, 178, rfl⟩
abbrev main_v94 : Ref sig .tc := ⟨.hbm, 179, rfl⟩
abbrev main_v95 : Ref sig .tc := ⟨.hbm, 180, rfl⟩
abbrev main_cst_19 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_cst_20 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩

abbrev nD : Nat := 1
abbrev τ : Topo := Topo.v7x

variable {F : FTy → Type} [FloatOps F]
-- ==== Kernel2.lean ====
abbrev S288 : Shape := ⟨1, ![288]⟩
abbrev S73728x1024 : Shape := ⟨2, ![73728, 1024]⟩
abbrev S2x32x1024x2048 : Shape := ⟨4, ![2, 32, 1024, 2048]⟩
abbrev S2x32x1x2048 : Shape := ⟨4, ![2, 32, 1, 2048]⟩
abbrev S2x32x1024x1024 : Shape := ⟨4, ![2, 32, 1024, 1024]⟩
abbrev S2x32x1x1024 : Shape := ⟨4, ![2, 32, 1, 1024]⟩
abbrev S256x1024 : Shape := ⟨2, ![256, 1024]⟩
abbrev S1x1x1024x2048 : Shape := ⟨4, ![1, 1, 1024, 2048]⟩
abbrev S1 : Shape := ⟨1, ![1]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S73728x1024, .f32⟩
  | .hbm, ⟨1, _⟩ => ⟨S2x32x1024x2048, .f32⟩
  | .hbm, ⟨2, _⟩ => ⟨S2x32x1x2048, .f32⟩
  | .hbm, ⟨3, _⟩ => ⟨S2x32x1024x1024, .f32⟩
  | .hbm, ⟨4, _⟩ => ⟨S2x32x1x1024, .f32⟩
  | .hbm, ⟨5, _⟩ => ⟨S73728x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S288, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .eq v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c1_i32_4 : BitVec 32 := 1#32
  let v18 : BitVec 1 := Scalar.cmpi .eq v17 c1_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S288 : Shape := ⟨1, ![288]⟩
abbrev S73728x1024 : Shape := ⟨2, ![73728, 1024]⟩
abbrev S2x32x1024x2048 : Shape := ⟨4, ![2, 32, 1024, 2048]⟩
abbrev S2x32x1x2048 : Shape := ⟨4, ![2, 32, 1, 2048]⟩
abbrev S2x32x1024x1024 : Shape := ⟨4, ![2, 32, 1024, 1024]⟩
abbrev S2x32x1x1024 : Shape := ⟨4, ![2, 32, 1, 1024]⟩
abbrev S288x256x1024 : Shape := ⟨3, ![288, 256, 1024]⟩
abbrev S1x32x1024x2048 : Shape := ⟨4, ![1, 32, 1024, 2048]⟩
abbrev S32x1024x2048 : Shape := ⟨3, ![32, 1024, 2048]⟩
abbrev S_ : Shape := ⟨0, ![]⟩
abbrev S288x1 : Shape := ⟨2, ![288, 1]⟩
abbrev S288x1024x2048 : Shape := ⟨3, ![288, 1024, 2048]⟩
abbrev S288x256x2048 : Shape := ⟨3, ![288, 256, 2048]⟩
abbrev S1x32x1x2048 : Shape := ⟨4, ![1, 32, 1, 2048]⟩
abbrev S32x1x2048 : Shape := ⟨3, ![32, 1, 2048]⟩
abbrev S288x1x2048 : Shape := ⟨3, ![288, 1, 2048]⟩
abbrev S1x32x1024x1024 : Shape := ⟨4, ![1, 32, 1024, 1024]⟩
abbrev S32x1024x1024 : Shape := ⟨3, ![32, 1024, 1024]⟩
abbrev S288x1024x1024 : Shape := ⟨3, ![288, 1024, 1024]⟩
abbrev S1x32x1x1024 : Shape := ⟨4, ![1, 32, 1, 1024]⟩
abbrev S32x1x1024 : Shape := ⟨3, ![32, 1, 1024]⟩
abbrev S288x1x1024 : Shape := ⟨3, ![288, 1, 1024]⟩
abbrev S288x1x1 : Shape := ⟨3, ![288, 1, 1]⟩

abbrev nBuf : Space → Nat
  | .hbm => 97
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S73728x1024, .f32⟩
  | .hbm, ⟨3, _⟩ => ⟨S2x32x1024x2048, .f32⟩
  | .hbm, ⟨4, _⟩ => ⟨S2x32x1x2048, .f32⟩
  | .hbm, ⟨5, _⟩ => ⟨S2x32x1024x1024, .f32⟩
  | .hbm, ⟨6, _⟩ => ⟨S2x32x1x1024, .f32⟩
  | .hbm, ⟨7, _⟩ => ⟨S288x256x1024, .f32⟩
  | .hbm, ⟨8, _⟩ => ⟨S1x32x1024x2048, .f32⟩
  | .hbm, ⟨9, _⟩ => ⟨S32x1024x2048, .f32⟩
  | .hbm, ⟨10, _⟩ => ⟨S_, .i32⟩
  | .hbm, ⟨11, _⟩ => ⟨S288, .i32⟩
  | .hbm, ⟨12, _⟩ => ⟨S288, .i1⟩
  | .hbm, ⟨13, _⟩ => ⟨S_, .i32⟩
  | .hbm, ⟨14, _⟩ => ⟨S288, .i32⟩
  | .hbm, ⟨15, _⟩ => ⟨S288, .i32⟩
  | .hbm, ⟨16, _⟩ => ⟨S288, .i32⟩
  | .hbm, ⟨17, _⟩ => ⟨S288x1, .i32⟩
  | .hbm, ⟨18, _⟩ => ⟨S288x1024x2048, .f32⟩
  | .hbm, ⟨19, _⟩ => ⟨S288x256x2048, .f32⟩
  | .hbm, ⟨20, _⟩ => ⟨S1x32x1x2048, .f32⟩
  | .hbm, ⟨21, _⟩ => ⟨S32x1x2048, .f32⟩
  | .hbm, ⟨22, _⟩ => ⟨S_, .i32⟩
  | .hbm, ⟨23, _⟩ => ⟨S288, .i32⟩
  | .hbm, ⟨24, _⟩ => ⟨S288, .i1⟩
  | .hbm, ⟨25, _⟩ => ⟨S_, .i32⟩
  | .hbm, ⟨26, _⟩ => ⟨S288, .i32⟩
  | .hbm, ⟨27, _⟩ => ⟨S288, .i32⟩
  | .hbm, ⟨28, _⟩ => ⟨S288, .i32⟩
  | .hbm, ⟨29, _⟩ => ⟨S288x1, .i32⟩
  | .hbm, ⟨30, _⟩ => ⟨S288x1x2048, .f32⟩
  | .hbm, ⟨31, _⟩ => ⟨S288x256x2048, .f32⟩
  | .hbm, ⟨32, _⟩ => ⟨S288x256x2048, .f32⟩
  | .hbm, ⟨33, _⟩ => ⟨S288x256x1024, .f32⟩
  | .hbm, ⟨34, _⟩ => ⟨S288x256x1024, .f32⟩
  | .hbm, ⟨35, _⟩ => ⟨S_, .f32⟩
  | .hbm, ⟨36, _⟩ => ⟨S288x256x1024, .f32⟩
  | .hbm, ⟨37, _⟩ => ⟨S288x256x1024, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S288x256x1024, .f32⟩
  | .hbm, ⟨42, _⟩ => ⟨S288x256x1024, .f32⟩
  | .hbm, ⟨43, _⟩ => ⟨S_, .f32⟩
  | .hbm, ⟨44, _⟩ => ⟨S288x256x1024, .f32⟩
  | .hbm, ⟨45, _⟩ => ⟨S288x256x1024, .f32⟩
  | .hbm, ⟨46, _⟩ => ⟨S_, .f32⟩
  | .hbm, ⟨47, _⟩ => ⟨S288x256x1024, .f32⟩
  | .hbm, ⟨48, _⟩ => ⟨S288x256x1024, .f32⟩
  | .hbm, ⟨49, _⟩ => ⟨S288x256x1024, .f32⟩
  | .hbm, ⟨50, _⟩ => ⟨S288x256x1024, .f32⟩
  | .hbm, ⟨51, _⟩ => ⟨S_, .f32⟩
  | .hbm, ⟨52, _⟩ => ⟨S288x256x1024, .f32⟩
  | .hbm, ⟨53, _⟩ => ⟨S288x256x1024, .f32⟩
  | .hbm, ⟨54, _⟩ => ⟨S_, .f32⟩
  | .hbm, ⟨55, _⟩ => ⟨S288x256x1024, .f32⟩
  | .hbm, ⟨56, _⟩ => ⟨S288x256x1024, .f32⟩
  | .hbm, ⟨57, _⟩ => ⟨S288x256x1024, .f32⟩
  | .hbm, ⟨58, _⟩ => ⟨S_, .f32⟩
  | .hbm, ⟨59, _⟩ => ⟨S288x256x1024, .f32⟩
  | .hbm, ⟨60, _⟩ => ⟨S288x256x1024, .f32⟩
  | .hbm, ⟨61, _⟩ => ⟨S288x256x1024, .f32⟩
  | .hbm, ⟨62, _⟩ => ⟨S1x32x1024x1024, .f32⟩
  | .hbm, ⟨63, _⟩ => ⟨S32x1024x1024, .f32⟩
  | .hbm, ⟨64, _⟩ => ⟨S_, .i32⟩
  | .hbm, ⟨65, _⟩ => ⟨S288, .i32⟩
  | .hbm, ⟨66, _⟩ => ⟨S288, .i1⟩
  | .hbm, ⟨67, _⟩ => ⟨S_, .i32⟩
  | .hbm, ⟨68, _⟩ => ⟨S288, .i32⟩
  | .hbm, ⟨69, _⟩ => ⟨S288, .i32⟩
  | .hbm, ⟨70, _⟩ => ⟨S288, .i32⟩
  | .hbm, ⟨71, _⟩ => ⟨S288x1, .i32⟩
  | .hbm, ⟨72, _⟩ => ⟨S288x1024x1024, .f32⟩
  | .hbm, ⟨73, _⟩ => ⟨S288x256x1024, .f32⟩
  | .hbm, ⟨74, _⟩ => ⟨S1x32x1x1024, .f32⟩
  | .hbm, ⟨75, _⟩ => ⟨S32x1x1024, .f32⟩
  | .hbm, ⟨76, _⟩ => ⟨S_, .i32⟩
  | .hbm, ⟨77, _⟩ => ⟨S288, .i32⟩
  | .hbm, ⟨78, _⟩ => ⟨S288, .i1⟩
  | .hbm, ⟨79, _⟩ => ⟨S_, .i32⟩
  | .hbm, ⟨80, _⟩ => ⟨S288, .i32⟩
  | .hbm, ⟨81, _⟩ => ⟨S288, .i32⟩
  | .hbm, ⟨82, _⟩ => ⟨S288, .i32⟩
  | .hbm, ⟨83, _⟩ => ⟨S288x1, .i32⟩
  | .hbm, ⟨84, _⟩ => ⟨S288x1x1024, .f32⟩
  | .hbm, ⟨85, _⟩ => ⟨S288x256x1024, .f32⟩
  | .hbm, ⟨86, _⟩ => ⟨S288x256x1024, .f32⟩
  | .hbm, ⟨87, _⟩ => ⟨S288x1x1, .i32⟩
  | .hbm, ⟨88, _⟩ => ⟨S_, .i32⟩
  | .hbm, ⟨89, _⟩ => ⟨S288x1x1, .i32⟩
  | .hbm, ⟨90, _⟩ => ⟨S288x1x1, .i1⟩
  | .hbm, ⟨91, _⟩ => ⟨S_, .f32⟩
  | .hbm, ⟨92, _⟩ => ⟨S_, .f32⟩
  | .hbm, ⟨93, _⟩ => ⟨S288x256x1024, .i1⟩
  | .hbm, ⟨94, _⟩ => ⟨S288x256x1024, .f32⟩
  | .hbm, ⟨95, _⟩ => ⟨S288x256x1024, .f32⟩
  | .hbm, ⟨96, _⟩ => ⟨S73728x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_c_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_13 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v63 : Ref sig .tc := ⟨.hbm, 95, rfl⟩
abbrev main_v64 : Ref sig .tc := ⟨.hbm, 96, rfl⟩

abbrev nD : Nat := 1
abbrev τ : Topo := Topo.v7x

variable {F : FTy → Type} [FloatOps F]
-- ==== Kernel3.lean ====
abbrev S288 : Shape := ⟨1, ![288]⟩
abbrev S73728x1024 : Shape := ⟨2, ![73728, 1024]⟩
abbrev S2x32x1024x2048 : Shape := ⟨4, ![2, 32, 1024, 2048]⟩
abbrev S2x32x1x2048 : Shape := ⟨4, ![2, 32, 1, 2048]⟩
abbrev S2x32x1024x1024 : Shape := ⟨4, ![2, 32, 1024, 1024]⟩
abbrev S2x32x1x1024 : Shape := ⟨4, ![2, 32, 1, 1024]⟩
abbrev S256x1024 : Shape := ⟨2, ![256, 1024]⟩
abbrev S1x1x1024x2048 : Shape := ⟨4, ![1, 1, 1024, 2048]⟩
abbrev S1 : Shape := ⟨1, ![1]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S73728x1024, .f32⟩
  | .hbm, ⟨1, _⟩ => ⟨S2x32x1024x2048, .f32⟩
  | .hbm, ⟨2, _⟩ => ⟨S2x32x1x2048, .f32⟩
  | .hbm, ⟨3, _⟩ => ⟨S2x32x1024x1024, .f32⟩
  | .hbm, ⟨4, _⟩ => ⟨S2x32x1x1024, .f32⟩
  | .hbm, ⟨5, _⟩ => ⟨S73728x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S288, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .eq v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c1_i32_4 : BitVec 32 := 1#32
  let v18 : BitVec 1 := Scalar.cmpi .eq v17 c1_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S288 : Shape := ⟨1, ![288]⟩
abbrev S73728x1024 : Shape := ⟨2, ![73728, 1024]⟩
abbrev S2x32x1024x2048 : Shape := ⟨4, ![2, 32, 1024, 2048]⟩
abbrev S2x32x1x2048 : Shape := ⟨4, ![2, 32, 1, 2048]⟩
abbrev S2x32x1024x1024 : Shape := ⟨4, ![2, 32, 1024, 1024]⟩
abbrev S2x32x1x1024 : Shape := ⟨4, ![2, 32, 1, 1024]⟩
abbrev S288x256x1024 : Shape := ⟨3, ![288, 256, 1024]⟩
abbrev S1x32x1024x2048 : Shape := ⟨4, ![1, 32, 1024, 2048]⟩
abbrev S32x1024x2048 : Shape := ⟨3, ![32, 1024, 2048]⟩
abbrev S_ : Shape := ⟨0, ![]⟩
abbrev S288x1 : Shape := ⟨2, ![288, 1]⟩
abbrev S288x1024x2048 : Shape := ⟨3, ![288, 1024, 2048]⟩
abbrev S288x256x2048 : Shape := ⟨3, ![288, 256, 2048]⟩
abbrev S1x32x1x2048 : Shape := ⟨4, ![1, 32, 1, 2048]⟩
abbrev S32x1x2048 : Shape := ⟨3, ![32, 1, 2048]⟩
abbrev S288x1x2048 : Shape := ⟨3, ![288, 1, 2048]⟩
abbrev S1x32x1024x1024 : Shape := ⟨4, ![1, 32, 1024, 1024]⟩
abbrev S32x1024x1024 : Shape := ⟨3, ![32, 1024, 1024]⟩
abbrev S288x1024x1024 : Shape := ⟨3, ![288, 1024, 1024]⟩
abbrev S1x32x1x1024 : Shape := ⟨4, ![1, 32, 1, 1024]⟩
abbrev S32x1x1024 : Shape := ⟨3, ![32, 1, 1024]⟩
abbrev S288x1x1024 : Shape := ⟨3, ![288, 1, 1024]⟩
abbrev S288x1x1 : Shape := ⟨3, ![288, 1, 1]⟩

abbrev nBuf : Space → Nat
  | .hbm => 97
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S73728x1024, .f32⟩
  | .hbm, ⟨3, _⟩ => ⟨S2x32x1024x2048, .f32⟩
  | .hbm, ⟨4, _⟩ => ⟨S2x32x1x2048, .f32⟩
  | .hbm, ⟨5, _⟩ => ⟨S2x32x1024x1024, .f32⟩
  | .hbm, ⟨6, _⟩ => ⟨S2x32x1x1024, .f32⟩
  | .hbm, ⟨7, _⟩ => ⟨S288x256x1024, .f32⟩
  | .hbm, ⟨8, _⟩ => ⟨S1x32x1024x2048, .f32⟩
  | .hbm, ⟨9, _⟩ => ⟨S32x1024x2048, .f32⟩
  | .hbm, ⟨10, _⟩ => ⟨S_, .i32⟩
  | .hbm, ⟨11, _⟩ => ⟨S288, .i32⟩
  | .hbm, ⟨12, _⟩ => ⟨S288, .i1⟩
  | .hbm, ⟨13, _⟩ => ⟨S_, .i32⟩
  | .hbm, ⟨14, _⟩ => ⟨S288, .i32⟩
  | .hbm, ⟨15, _⟩ => ⟨S288, .i32⟩
  | .hbm, ⟨16, _⟩ => ⟨S288, .i32⟩
  | .hbm, ⟨17, _⟩ => ⟨S288x1, .i32⟩
  | .hbm, ⟨18, _⟩ => ⟨S288x1024x2048, .f32⟩
  | .hbm, ⟨19, _⟩ => ⟨S288x256x2048, .f32⟩
  | .hbm, ⟨20, _⟩ => ⟨S1x32x1x2048, .f32⟩
  | .hbm, ⟨21, _⟩ => ⟨S32x1x2048, .f32⟩
  | .hbm, ⟨22, _⟩ => ⟨S_, .i32⟩
  | .hbm, ⟨23, _⟩ => ⟨S288, .i32⟩
  | .hbm, ⟨24, _⟩ => ⟨S288, .i1⟩
  | .hbm, ⟨25, _⟩ => ⟨S_, .i32⟩
  | .hbm, ⟨26, _⟩ => ⟨S288, .i32⟩
  | .hbm, ⟨27, _⟩ => ⟨S288, .i32⟩
  | .hbm, ⟨28, _⟩ => ⟨S288, .i32⟩
  | .hbm, ⟨29, _⟩ => ⟨S288x1, .i32⟩
  | .hbm, ⟨30, _⟩ => ⟨S288x1x2048, .f32⟩
  | .hbm, ⟨31, _⟩ => ⟨S288x256x2048, .f32⟩
  | .hbm, ⟨32, _⟩ => ⟨S288x256x2048, .f32⟩
  | .hbm, ⟨33, _⟩ => ⟨S288x256x1024, .f32⟩
  | .hbm, ⟨34, _⟩ => ⟨S288x256x1024, .f32⟩
  | .hbm, ⟨35, _⟩ => ⟨S_, .f32⟩
  | .hbm, ⟨36, _⟩ => ⟨S288x256x1024, .f32⟩
  | .hbm, ⟨37, _⟩ => ⟨S288x256x1024, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S288x256x1024, .f32⟩
  | .hbm, ⟨42, _⟩ => ⟨S288x256x1024, .f32⟩
  | .hbm, ⟨43, _⟩ => ⟨S_, .f32⟩
  | .hbm, ⟨44, _⟩ => ⟨S288x256x1024, .f32⟩
  | .hbm, ⟨45, _⟩ => ⟨S288x256x1024, .f32⟩
  | .hbm, ⟨46, _⟩ => ⟨S_, .f32⟩
  | .hbm, ⟨47, _⟩ => ⟨S288x256x1024, .f32⟩
  | .hbm, ⟨48, _⟩ => ⟨S288x256x1024, .f32⟩
  | .hbm, ⟨49, _⟩ => ⟨S288x256x1024, .f32⟩
  | .hbm, ⟨50, _⟩ => ⟨S288x256x1024, .f32⟩
  | .hbm, ⟨51, _⟩ => ⟨S_, .f32⟩
  | .hbm, ⟨52, _⟩ => ⟨S288x256x1024, .f32⟩
  | .hbm, ⟨53, _⟩ => ⟨S288x256x1024, .f32⟩
  | .hbm, ⟨54, _⟩ => ⟨S_, .f32⟩
  | .hbm, ⟨55, _⟩ => ⟨S288x256x1024, .f32⟩
  | .hbm, ⟨56, _⟩ => ⟨S288x256x1024, .f32⟩
  | .hbm, ⟨57, _⟩ => ⟨S288x256x1024, .f32⟩
  | .hbm, ⟨58, _⟩ => ⟨S_, .f32⟩
  | .hbm, ⟨59, _⟩ => ⟨S288x256x1024, .f32⟩
  | .hbm, ⟨60, _⟩ => ⟨S288x256x1024, .f32⟩
  | .hbm, ⟨61, _⟩ => ⟨S288x256x1024, .f32⟩
  | .hbm, ⟨62, _⟩ => ⟨S1x32x1024x1024, .f32⟩
  | .hbm, ⟨63, _⟩ => ⟨S32x1024x1024, .f32⟩
  | .hbm, ⟨64, _⟩ => ⟨S_, .i32⟩
  | .hbm, ⟨65, _⟩ => ⟨S288, .i32⟩
  | .hbm, ⟨66, _⟩ => ⟨S288, .i1⟩
  | .hbm, ⟨67, _⟩ => ⟨S_, .i32⟩
  | .hbm, ⟨68, _⟩ => ⟨S288, .i32⟩
  | .hbm, ⟨69, _⟩ => ⟨S288, .i32⟩
  | .hbm, ⟨70, _⟩ => ⟨S288, .i32⟩
  | .hbm, ⟨71, _⟩ => ⟨S288x1, .i32⟩
  | .hbm, ⟨72, _⟩ => ⟨S288x1024x1024, .f32⟩
  | .hbm, ⟨73, _⟩ => ⟨S288x256x1024, .f32⟩
  | .hbm, ⟨74, _⟩ => ⟨S1x32x1x1024, .f32⟩
  | .hbm, ⟨75, _⟩ => ⟨S32x1x1024, .f32⟩
  | .hbm, ⟨76, _⟩ => ⟨S_, .i32⟩
  | .hbm, ⟨77, _⟩ => ⟨S288, .i32⟩
  | .hbm, ⟨78, _⟩ => ⟨S288, .i1⟩
  | .hbm, ⟨79, _⟩ => ⟨S_, .i32⟩
  | .hbm, ⟨80, _⟩ => ⟨S288, .i32⟩
  | .hbm, ⟨81, _⟩ => ⟨S288, .i32⟩
  | .hbm, ⟨82, _⟩ => ⟨S288, .i32⟩
  | .hbm, ⟨83, _⟩ => ⟨S288x1, .i32⟩
  | .hbm, ⟨84, _⟩ => ⟨S288x1x1024, .f32⟩
  | .hbm, ⟨85, _⟩ => ⟨S288x256x1024, .f32⟩
  | .hbm, ⟨86, _⟩ => ⟨S288x256x1024, .f32⟩
  | .hbm, ⟨87, _⟩ => ⟨S288x1x1, .i32⟩
  | .hbm, ⟨88, _⟩ => ⟨S_, .i32⟩
  | .hbm, ⟨89, _⟩ => ⟨S288x1x1, .i32⟩
  | .hbm, ⟨90, _⟩ => ⟨S288x1x1, .i1⟩
  | .hbm, ⟨91, _⟩ => ⟨S_, .f32⟩
  | .hbm, ⟨92, _⟩ => ⟨S_, .f32⟩
  | .hbm, ⟨93, _⟩ => ⟨S288x256x1024, .i1⟩
  | .hbm, ⟨94, _⟩ => ⟨S288x256x1024, .f32⟩
  | .hbm, ⟨95, _⟩ => ⟨S288x256x1024, .f32⟩
  | .hbm, ⟨96, _⟩ => ⟨S73728x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_c_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_13 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v63 : Ref sig .tc := ⟨.hbm, 95, rfl⟩
abbrev main_v64 : Ref sig .tc := ⟨.hbm, 96, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x1x1024 : Shape := ⟨3, ![8, 1, 1024]⟩
abbrev S1024x1024 : Shape := ⟨2, ![1024, 1024]⟩
abbrev S1024x2048 : Shape := ⟨2, ![1024, 2048]⟩
abbrev S8x2048x2048 : Shape := ⟨3, ![8, 2048, 2048]⟩
abbrev S1x512x1024 : Shape := ⟨3, ![1, 512, 1024]⟩
abbrev S1x1x1024 : Shape := ⟨3, ![1, 1, 1024]⟩
abbrev S1x512x2048 : Shape := ⟨3, ![1, 512, 2048]⟩
abbrev S512x1024 : Shape := ⟨2, ![512, 1024]⟩
abbrev S1x1024 : Shape := ⟨2, ![1, 1024]⟩
abbrev S512x2048 : Shape := ⟨2, ![512, 2048]⟩

abbrev nBuf : Space → Nat
  | .hbm => 9
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1024x1024, .f32⟩
  | .hbm, ⟨4, _⟩ => ⟨S1024x2048, .f32⟩
  | .hbm, ⟨5, _⟩ => ⟨S1024x1024, .bf16⟩
  | .hbm, ⟨6, _⟩ => ⟨S1024x2048, .bf16⟩
  | .hbm, ⟨7, _⟩ => ⟨S8x2048x1024, .bf16⟩
  | .hbm, ⟨8, _⟩ => ⟨S8x2048x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x2048, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x2048, .bf16⟩
  | .local _ .vmem, ⟨11, _⟩ => ⟨S1x512x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S8x2048x1024 : Shape := ⟨3, ![8, 2048, 1024]⟩
abbrev S8x1x1024 : Shape := ⟨3, ![8, 1, 1024]⟩
abbrev S1024x1024 : Shape := ⟨2, ![1024, 1024]⟩
abbrev S1024x2048 : Shape := ⟨2, ![1024, 2048]⟩
abbrev S_ : Shape := ⟨0, ![]⟩
abbrev S8x2048x2048 : Shape := ⟨3, ![8, 2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1024x1024, .f32⟩
  | .hbm, ⟨4, _⟩ => ⟨S1024x2048, .f32⟩
  | .hbm, ⟨5, _⟩ => ⟨S_, .f32⟩
  | .hbm, ⟨6, _⟩ => ⟨S8x1x1024, .f32⟩
  | .hbm, ⟨7, _⟩ => ⟨S8x1x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S8x2048x1024, .f32⟩
  | .hbm, ⟨15, _⟩ => ⟨S8x2048x1024, .f32⟩
  | .hbm, ⟨16, _⟩ => ⟨S8x2048x1024, .bf16⟩
  | .hbm, ⟨17, _⟩ => ⟨S8x2048x2048, .f32⟩
  | .hbm, ⟨18, _⟩ => ⟨S8x2048x2048, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Kernel5.lean ====
abbrev S8x2048x1024 : Shape := ⟨3, ![8, 2048, 1024]⟩
abbrev S1024x1024 : Shape := ⟨2, ![1024, 1024]⟩
abbrev S1024 : Shape := ⟨1, ![1024]⟩
abbrev S8x1x1024 : Shape := ⟨3, ![8, 1, 1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x1024 : Shape := ⟨2, ![1, 1024]⟩
abbrev S8x2048x128 : Shape := ⟨3, ![8, 2048, 128]⟩
abbrev S1x512x1024 : Shape := ⟨3, ![1, 512, 1024]⟩
abbrev S1x1x1024 : Shape := ⟨3, ![1, 1, 1024]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S8x2048x32 : Shape := ⟨3, ![8, 2048, 32]⟩

abbrev nBuf : Space → Nat
  | .hbm => 36
  | .vmem => 23
  | .smem => 0
  | _ => 0

abbrev bufTy : (tb : Table) → Fin (tcTables nBuf tb) → BufTy
  | .hbm, ⟨0, _⟩ => ⟨S8x2048x1024, .bf16⟩
  | .hbm, ⟨1, _⟩ => ⟨S1024x1024, .f32⟩
  | .hbm, ⟨2, _⟩ => ⟨S1024, .f32⟩
  | .hbm, ⟨3, _⟩ => ⟨S8x2048x1024, .f32⟩
  | .hbm, ⟨4, _⟩ => ⟨S8x1x1024, .f32⟩
  | .hbm, ⟨5, _⟩ => ⟨S1024, .f32⟩
  | .hbm, ⟨6, _⟩ => ⟨S1024, .f32⟩
  | .hbm, ⟨7, _⟩ => ⟨S8x1x1024, .f32⟩
  | .hbm, ⟨8, _⟩ => ⟨S8x1x1024, .f32⟩
  | .hbm, ⟨9, _⟩ => ⟨S1024x32, .f32⟩
  | .hbm, ⟨10, _⟩ => ⟨S32, .f32⟩
  | .hbm, ⟨11, _⟩ => ⟨S_, .f32⟩
  | .hbm, ⟨12, _⟩ => ⟨S1024x128, .f32⟩
  | .hbm, ⟨13, _⟩ => ⟨S_, .i32⟩
  | .hbm, ⟨14, _⟩ => ⟨S1, .i32⟩
  | .hbm, ⟨15, _⟩ => ⟨S1024x128, .f32⟩
  | .hbm, ⟨16, _⟩ => ⟨S1024x128, .bf16⟩
  | .hbm, ⟨17, _⟩ => ⟨S1024x128, .f32⟩
  | .hbm, ⟨18, _⟩ => ⟨S1024x128, .f32⟩
  | .hbm, ⟨19, _⟩ => ⟨S1024x128, .bf16⟩
  | .hbm, ⟨20, _⟩ => ⟨S_, .f32⟩
  | .hbm, ⟨21, _⟩ => ⟨S1x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S1x128, .f32⟩
  | .hbm, ⟨28, _⟩ => ⟨S1024x1024, .bf16⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S8x2048x1024, .f32⟩
  | .hbm, ⟨33, _⟩ => ⟨S8x2048x1024, .f32⟩
  | .hbm, ⟨34, _⟩ => ⟨S8x2048x128, .f32⟩
  | .hbm, ⟨35, _⟩ => ⟨S8x2048x32, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1024x128, .bf16⟩
  | .local _ .vmem, ⟨15, _⟩ => ⟨S1024x128, .bf16⟩
  | .local _ .vmem, ⟨16, _⟩ => ⟨S1x128, .f32⟩
  | .local _ .vmem, ⟨17, _⟩ => ⟨S1x512x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .f32⟩
  | .local _ .vmem, ⟨21, _⟩ => ⟨S1x512x128, .f32⟩
  | .local _ .vmem, ⟨22, _⟩ => ⟨S1x512x128, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev main_v16_2 : Ref sig .tc := ⟨.hbm, 34, rfl⟩
abbrev main_v17 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference5Ideal.lean ====
abbrev S8x2048x1024 : Shape := ⟨3, ![8, 2048, 1024]⟩
abbrev S1024x1024 : Shape := ⟨2, ![1024, 1024]⟩
abbrev S1024 : Shape := ⟨1, ![1024]⟩
abbrev S8x1x1024 : Shape := ⟨3, ![8, 1, 1024]⟩
abbrev S1024x32 : Shape := ⟨2, ![1024, 32]⟩
abbrev S32 : Shape := ⟨1, ![32]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩
abbrev S8x2048x32 : Shape := ⟨3, ![8, 2048, 32]⟩
abbrev S1x1x32 : Shape := ⟨3, ![1, 1, 32]⟩

abbrev nBuf : Space → Nat
  | .hbm => 62
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S1024x1024, .f32⟩
  | .hbm, ⟨2, _⟩ => ⟨S1024, .f32⟩
  | .hbm, ⟨3, _⟩ => ⟨S8x2048x1024, .f32⟩
  | .hbm, ⟨4, _⟩ => ⟨S8x1x1024, .f32⟩
  | .hbm, ⟨5, _⟩ => ⟨S1024, .f32⟩
  | .hbm, ⟨6, _⟩ => ⟨S1024, .f32⟩
  | .hbm, ⟨7, _⟩ => ⟨S8x1x1024, .f32⟩
  | .hbm, ⟨8, _⟩ => ⟨S8x1x1024, .f32⟩
  | .hbm, ⟨9, _⟩ => ⟨S1024x32, .f32⟩
  | .hbm, ⟨10, _⟩ => ⟨S32, .f32⟩
  | .hbm, ⟨11, _⟩ => ⟨S8x2048x1024, .f32⟩
  | .hbm, ⟨12, _⟩ => ⟨S8x2048x1024, .f32⟩
  | .hbm, ⟨13, _⟩ => ⟨S1x1x1024, .f32⟩
  | .hbm, ⟨14, _⟩ => ⟨S8x2048x1024, .f32⟩
  | .hbm, ⟨15, _⟩ => ⟨S8x2048x1024, .f32⟩
  | .hbm, ⟨16, _⟩ => ⟨S_, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S_, .f32⟩
  | .hbm, ⟨32, _⟩ => ⟨S8x2048, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S8x2048x1024, .f32⟩
  | .hbm, ⟨38, _⟩ => ⟨S8x2048x1024, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S8x2048x1, .f32⟩
  | .hbm, ⟨43, _⟩ => ⟨S8x2048x1024, .f32⟩
  | .hbm, ⟨44, _⟩ => ⟨S8x2048x1024, .f32⟩
  | .hbm, ⟨45, _⟩ => ⟨S1x1x1024, .f32⟩
  | .hbm, ⟨46, _⟩ => ⟨S8x2048x1024, .f32⟩
  | .hbm, ⟨47, _⟩ => ⟨S8x2048x1024, .f32⟩
  | .hbm, ⟨48, _⟩ => ⟨S1x1x1024, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x1x1024, .f32⟩
  | .hbm, ⟨53, _⟩ => ⟨S8x1x1024, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S8x2048x32, .f32⟩
  | .hbm, ⟨59, _⟩ => ⟨S1x1x32, .f32⟩
  | .hbm, ⟨60, _⟩ => ⟨S8x2048x32, .f32⟩
  | .hbm, ⟨61, _⟩ => ⟨S8x2048x32, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Proof.Attn.Softmax.lean ====
/- One row of differential attention over the extended reals: the row of scores with a common finite
   term taken away, and cut off where every further score is masked, gives the same attention row. -/
module

public import Idealize.ShloMosaic.Lib.Pointwise

@[expose] public section

noncomputable section

namespace Cert.Attn

open Idealize.ShloMosaic

/-- The greatest score of a row. -/
def rowMax {n : Nat} (s : Fin n → EReal) : EReal := Finset.univ.fold max ⊥ s

/-- The exponential of a score less the greatest of its row. -/
def rowExp {n : Nat} (s : Fin n → EReal) (k : Fin n) : EReal := Ideal.exp (s k - rowMax s)

/-- The sum of a row's exponentials. -/
def rowSum {n : Nat} (s : Fin n → EReal) : EReal := ∑ k, rowExp s k

/-- The attention row as the kernel computes it: each row of exponentials times the inverse of its sum,
    the second one's already times `lam`. -/
def attnK {n : Nat} (lam : EReal) (s0 s1 : Fin n → EReal) (k : Fin n) : EReal :=
  rowExp s0 k * Ideal.div 1 (rowSum s0) - rowExp s1 k * Ideal.div lam (rowSum s1)

/-- The attention row as the reference states it: the first softmax less `lam` times the second. -/
def attnR {n : Nat} (lam : EReal) (s0 s1 : Fin n → EReal) (k : Fin n) : EReal :=
  Ideal.div (rowExp s0 k) (rowSum s0) - lam * Ideal.div (rowExp s1 k) (rowSum s1)

theorem rowMax_eq_sup {n : Nat} (s : Fin n → EReal) : rowMax s = Finset.univ.sup s := by
  rfl

theorem le_rowMax {n : Nat} (s : Fin n → EReal) (k : Fin n) : s k ≤ rowMax s := by
  rw [rowMax_eq_sup]; exact Finset.le_sup (Finset.mem_univ k)

theorem rowMax_le {n : Nat} (s : Fin n → EReal) (b : EReal) (h : ∀ k, s k ≤ b) : rowMax s ≤ b := by
  rw [rowMax_eq_sup]; exact Finset.sup_le fun k _ => h k

theorem exp_bot : Ideal.exp ⊥ = 0 := rfl

/-- A row with no infinite score, masked scores (−∞) apart, that is not masked whole: its greatest score is one
    of its own and finite. -/
theorem rowMax_coe {n : Nat} (s : Fin n → EReal) (h : ∀ k, s k ≠ ⊤) (k0 : Fin n) (h0 : s k0 ≠ ⊥) :
    ∃ (M : ℝ) (k1 : Fin n), rowMax s = (M : EReal) ∧ s k1 = (M : EReal) := by
  obtain ⟨k1, -, hk1⟩ := Finset.exists_mem_eq_sup Finset.univ ⟨k0, Finset.mem_univ k0⟩ s
  have hb : s k1 ≠ ⊥ := fun hb => h0 (by
    have := le_rowMax s k0
    rw [rowMax_eq_sup, hk1, hb] at this
    exact le_bot_iff.mp this)
  refine ⟨(s k1).toReal, k1, ?_, ?_⟩
  · rw [rowMax_eq_sup, hk1, EReal.coe_toReal (h k1) hb]
  · rw [EReal.coe_toReal (h k1) hb]

/-- Such a row's exponentials are finite, and their sum is finite and not zero. -/
theorem rowSum_coe {n : Nat} (s : Fin n → EReal) (h : ∀ k, s k ≠ ⊤) (k0 : Fin n) (h0 : s k0 ≠ ⊥) :
    ∃ L : ℝ, L ≠ 0 ∧ rowSum s = (L : EReal) := by
  obtain ⟨M, k1, hM, hk1⟩ := rowMax_coe s h k0 h0
  have he : ∀ k, ∃ e : ℝ, 0 ≤ e ∧ rowExp s k = (e : EReal) := by
    intro k
    unfold rowExp
    rw [hM]
    have hk := h k
    induction hs : s k using EReal.rec with
    | bot => exact ⟨0, le_rfl, by simp [exp_bot]⟩
    | top => exact absurd hs hk
    | coe x => exact ⟨Real.exp (x - M), (Real.exp_pos _).le, by rw [← EReal.coe_sub]; rfl⟩
  choose e he0 he using he
  refine ⟨∑ k, e k, ?_, ?_⟩
  · have h1 : e k1 = 1 := by
      have := he k1
      unfold rowExp at this
      rw [hM, hk1, ← EReal.coe_sub, sub_self] at this
      have h2 : Ideal.exp ((0 : ℝ) : EReal) = ((Real.exp 0 : ℝ) : EReal) := rfl
      rw [h2, Real.exp_zero] at this
      exact (EReal.coe_injective this).symm
    have h2 : e k1 ≤ ∑ k, e k := Finset.single_le_sum (fun k _ => he0 k) (Finset.mem_univ k1)
    intro h3
    rw [h1, h3] at h2
    exact absurd h2 (by norm_num)
  · unfold rowSum
    rw [Finset.sum_congr rfl fun k _ => he k]
    exact (map_sum (⟨⟨Real.toEReal, EReal.coe_zero⟩, EReal.coe_add⟩ : ℝ →+ EReal) e Finset.univ).symm

theorem sub_coe_sub (x M : EReal) (t : ℝ) : (x - (t : EReal)) - (M - (t : EReal)) = x - M := by
  induction x using EReal.rec with
  | bot => simp
  | top =>
    induction M using EReal.rec with
    | bot => simp
    | top => simp
    | coe m => rw [EReal.top_sub_coe, ← EReal.coe_sub, EReal.top_sub_coe, EReal.top_sub_coe]
  | coe a =>
    induction M using EReal.rec with
    | bot => rw [EReal.bot_sub, ← EReal.coe_sub, EReal.coe_sub_bot, EReal.coe_sub_bot]
    | top => simp
    | coe m => simp only [← EReal.coe_sub]; congr 1; ring

section Cut

variable {n N : Nat} (hn : n ≤ N) (s : Fin N → EReal) (f : Fin n → EReal) (t : ℝ)
  (hf : ∀ k : Fin n, f k = s ⟨k.val, k.isLt.trans_le hn⟩ - (t : EReal))
  (hs : ∀ k : Fin N, n ≤ k.val → s k = ⊥)

include hf hs

theorem rowMax_cut : rowMax f = rowMax s - (t : EReal) := by
  have hsub : ∀ {a b : EReal}, a ≤ b → a - (t : EReal) ≤ b - (t : EReal) := fun h => EReal.sub_le_sub h le_rfl
  apply le_antisymm
  · refine rowMax_le f _ fun k => ?_
    rw [hf]
    exact hsub (le_rowMax s _)
  · have h : rowMax s ≤ rowMax f + (t : EReal) := by
      refine rowMax_le s _ fun k => ?_
      by_cases hk : k.val < n
      · have h1 := le_rowMax f ⟨k.val, hk⟩
        rw [hf] at h1
        exact (EReal.sub_le_iff_le_add (.inl (EReal.coe_ne_bot t)) (.inl (EReal.coe_ne_top t))).mp h1
      · rw [hs k (Nat.le_of_not_lt hk)]; exact bot_le
    exact (EReal.sub_le_iff_le_add (.inl (EReal.coe_ne_bot t)) (.inl (EReal.coe_ne_top t))).mpr h

theorem rowExp_cut (k : Fin n) : rowExp f k = rowExp s ⟨k.val, k.isLt.trans_le hn⟩ := by
  unfold rowExp
  rw [rowMax_cut hn s f t hf hs, hf, sub_coe_sub]

omit hf in
theorem rowExp_past (k : Fin N) (hk : n ≤ k.val) : rowExp s k = 0 := by
  unfold rowExp
  rw [hs k hk, EReal.bot_sub, exp_bot]

omit hf hs in
/-- A sum whose terms from `n` on are zero is the sum of its first `n` terms. -/
theorem sum_cut (g : Fin N → EReal) (hg : ∀ k : Fin N, n ≤ k.val → g k = 0) :
    ∑ k, g k = ∑ k : Fin n, g ⟨k.val, k.isLt.trans_le hn⟩ := by
  obtain ⟨d, rfl⟩ := Nat.exists_eq_add_of_le hn
  rw [Fin.sum_univ_add]
  have : ∑ i : Fin d, g (Fin.natAdd n i) = 0 := Finset.sum_eq_zero fun i _ => hg _ (by simp)
  rw [this, add_zero]
  rfl

theorem rowSum_cut : rowSum f = rowSum s := by
  unfold rowSum
  rw [sum_cut hn (rowExp s) fun k hk => rowExp_past s hs k hk]
  exact Finset.sum_congr rfl fun k _ => rowExp_cut hn s f t hf hs k

end Cut

/-- The kernel's attention row over the first `n` keys is the reference's there, and the reference's is zero
    from there on. -/
theorem attn_cut {n N : Nat} (hn : n ≤ N) (lam : EReal) (s0 s1 : Fin N → EReal) (f0 f1 : Fin n → EReal) (t : ℝ)
    (hf0 : ∀ k : Fin n, f0 k = s0 ⟨k.val, k.isLt.trans_le hn⟩ - (t : EReal))
    (hf1 : ∀ k : Fin n, f1 k = s1 ⟨k.val, k.isLt.trans_le hn⟩ - (t : EReal))
    (hs0 : ∀ k : Fin N, n ≤ k.val → s0 k = ⊥) (hs1 : ∀ k : Fin N, n ≤ k.val → s1 k = ⊥)
    (ht0 : ∀ k, s0 k ≠ ⊤) (ht1 : ∀ k, s1 k ≠ ⊤) (k0 : Fin N) (hb0 : s0 k0 ≠ ⊥) (hb1 : s1 k0 ≠ ⊥) :
    (∀ k : Fin n, attnK lam f0 f1 k = attnR lam s0 s1 ⟨k.val, k.isLt.trans_le hn⟩)
    ∧ ∀ k : Fin N, n ≤ k.val → attnR lam s0 s1 k = 0 := by
  obtain ⟨L0, hL0, e0⟩ := rowSum_coe s0 ht0 k0 hb0
  obtain ⟨L1, hL1, e1⟩ := rowSum_coe s1 ht1 k0 hb1
  refine ⟨fun k => ?_, fun k hk => ?_⟩
  · unfold attnK attnR
    rw [rowSum_cut hn s0 f0 t hf0 hs0, rowSum_cut hn s1 f1 t hf1 hs1, rowExp_cut hn s0 f0 t hf0 hs0,
      rowExp_cut hn s1 f1 t hf1 hs1, e0, e1, Ideal.div_coe hL0, Ideal.div_coe hL0, Ideal.div_coe hL1,
      Ideal.div_coe hL1, one_mul, mul_left_comm]
  · unfold attnR
    rw [rowExp_past s0 hs0 k hk, rowExp_past s1 hs1 k hk, e0, e1, Ideal.div_coe hL0, Ideal.div_coe hL1]
    simp

/-- So the two rows weigh the values alike. -/
theorem out_cut {n N : Nat} (hn : n ≤ N) (lam : EReal) (s0 s1 : Fin N → EReal) (f0 f1 : Fin n → EReal) (t : ℝ)
    (hf0 : ∀ k : Fin n, f0 k = s0 ⟨k.val, k.isLt.trans_le hn⟩ - (t : EReal))
    (hf1 : ∀ k : Fin n, f1 k = s1 ⟨k.val, k.isLt.trans_le hn⟩ - (t : EReal))
    (hs0 : ∀ k : Fin N, n ≤ k.val → s0 k = ⊥) (hs1 : ∀ k : Fin N, n ≤ k.val → s1 k = ⊥)
    (ht0 : ∀ k, s0 k ≠ ⊤) (ht1 : ∀ k, s1 k ≠ ⊤) (k0 : Fin N) (hb0 : s0 k0 ≠ ⊥) (hb1 : s1 k0 ≠ ⊥)
    (v : Fin N → EReal) :
    ∑ k : Fin n, attnK lam f0 f1 k * v ⟨k.val, k.isLt.trans_le hn⟩ = ∑ k, attnR lam s0 s1 k * v k := by
  obtain ⟨h1, h2⟩ := attn_cut hn lam s0 s1 f0 f1 t hf0 hf1 hs0 hs1 ht0 ht1 k0 hb0 hb1
  rw [sum_cut hn (fun k => attnR lam s0 s1 k * v k) fun k hk => by rw [h2 k hk, zero_mul]]
  exact Finset.sum_congr rfl fun k _ => by rw [h1]

end Cert.Attn

end
-- ==== Proof.Attn.Tile.lean ====
/- One tile of the attention kernel: 256 query rows against the first `n` keys, from the two tiles of scores
   to the attention weights, read at an entry. -/
module

public import proofs.«01_k».proof.Proof.Attn.Softmax
public import Idealize.ShloMosaic.Lib.Pointwise.IndexVar

@[expose] public section

set_option maxRecDepth 16384

noncomputable section

namespace Cert.Attn

open Idealize.ShloMosaic

variable {n : Nat}

section Weights

variable (hr : (⟨2, ![256, n]⟩ : Shape).Reduces [1] ⟨1, ![256]⟩)
  (hc : (⟨1, ![256]⟩ : Shape).ShapeCasts ⟨2, ![256, 1]⟩)
  (hb : (⟨2, ![256, 1]⟩ : Shape).Broadcasts ⟨2, ![256, n]⟩)
  (hl : (⟨2, ![1, 1]⟩ : Shape).Broadcasts ⟨2, ![256, 1]⟩)

/-- A tile of scores as exponentials of each score less its row's greatest. -/
def expV (s : FVec Ideal ⟨2, ![256, n]⟩ .f32) : FVec Ideal ⟨2, ![256, n]⟩ .f32 :=
  exp (subf s (broadcastTo ⟨2, ![256, n]⟩ (shapeCast ⟨2, ![256, 1]⟩
    (multiReduction .maximumf [1] ⟨1, ![256]⟩ s 0xFF800000#32 hr (.inl rfl) rfl) hc) hb))

/-- The row sums of the exponentials, as a column. -/
def sumV (s : FVec Ideal ⟨2, ![256, n]⟩ .f32) : FVec Ideal ⟨2, ![256, 1]⟩ .f32 :=
  shapeCast ⟨2, ![256, 1]⟩
    (multiReduction .add [1] ⟨1, ![256]⟩ (expV hr hc hb s) 0x00000000#32 hr (.inl rfl) rfl) hc

/-- The attention weights of a tile from its two tiles of scores. -/
def attnV (lam : FVec Ideal ⟨2, ![1, 1]⟩ .f32) (s0 s1 : FVec Ideal ⟨2, ![256, n]⟩ .f32) :
    FVec Ideal ⟨2, ![256, n]⟩ .bf16 :=
  truncf .bf16 (subf
    (mulf (expV hr hc hb s0) (broadcastTo ⟨2, ![256, n]⟩
      (divf (broadcast ⟨2, ![256, 1]⟩ (Scalar.ofBits (F := Ideal) .f32 0x3F800000#32)) (sumV hr hc hb s0)) hb))
    (mulf (expV hr hc hb s1) (broadcastTo ⟨2, ![256, n]⟩
      (divf (broadcastTo ⟨2, ![256, 1]⟩ lam hl) (sumV hr hc hb s1)) hb))) (by decide)

theorem negInf : Ideal.ofBits .f32 0xFF800000#32 = ⊥ := by
  simp [Ideal.ofBits, Ideal.ieee]

theorem expV_apply (s : FVec Ideal ⟨2, ![256, n]⟩ .f32) (r : Fin 256) (k : Fin n) :
    expV hr hc hb s (ix2 r k) = rowExp (fun k => s (ix2 r k)) k := by
  unfold expV
  pointwise
  rw [negInf]
  rfl

theorem sumV_apply (s : FVec Ideal ⟨2, ![256, n]⟩ .f32) (r : Fin 256) (z : Fin 1) :
    sumV hr hc hb s (ix2 r z) = rowSum (fun k => s (ix2 r k)) := by
  unfold sumV
  pointwise
  exact Finset.sum_congr rfl fun k _ => expV_apply hr hc hb s r k

theorem attnV_apply (lam : FVec Ideal ⟨2, ![1, 1]⟩ .f32) (s0 s1 : FVec Ideal ⟨2, ![256, n]⟩ .f32) (r : Fin 256)
    (k : Fin n) : attnV hr hc hb hl lam s0 s1 (ix2 r k)
      = attnK (lam (ix2 0 0)) (fun k => s0 (ix2 r k)) (fun k => s1 (ix2 r k)) k := by
  unfold attnV
  pointwise
  rw [expV_apply, expV_apply, sumV_apply, sumV_apply]
  rfl

end Weights

/-- A head's 128 outputs `o`, each over the root of their mean square and times its gain `g` and the constant
    1 − λ_init. -/
def headOut (o g : Fin 128 → EReal) (e : Fin 128) : EReal :=
  o e * Ideal.rsqrt (Ideal.div (∑ x, o x * o x) (Ideal.ofBits .f32 0x43000000#32) + Ideal.ofBits .f32 0x3727C5AC#32)
    * g e * Ideal.ofBits .f32 0x3F24FD5C#32

/-- The inner product of the first 64 of a head's 128 lanes. -/
def dotLo (q κ : Fin 128 → EReal) : EReal := ∑ d : Fin 64, q ⟨d.val, by omega⟩ * κ ⟨d.val, by omega⟩

/-- The inner product of the last 64 of a head's 128 lanes. -/
def dotHi (q κ : Fin 128 → EReal) : EReal := ∑ d : Fin 64, q ⟨64 + d.val, by omega⟩ * κ ⟨64 + d.val, by omega⟩

section Norm

variable (h1 : (⟨2, ![256, 128]⟩ : Shape).Reduces [1] ⟨1, ![256]⟩)
  (h2 : (⟨1, ![256]⟩ : Shape).ShapeCasts ⟨2, ![256, 1]⟩)
  (h3 : (⟨2, ![256, 1]⟩ : Shape).Broadcasts ⟨2, ![256, 128]⟩)
  (h4 : (⟨2, ![1, 128]⟩ : Shape).ShapeCasts ⟨2, ![1, 128]⟩)
  (h5 : (⟨2, ![1, 128]⟩ : Shape).Broadcasts ⟨2, ![256, 128]⟩)
  (h6 : (⟨2, ![256, 128]⟩ : Shape).ShapeCasts ⟨3, ![1, 256, 128]⟩)

/-- A tile's weighted values, normalised row by row. -/
def normV (o : FVec Ideal ⟨2, ![256, 128]⟩ .f32) (g : FVec Ideal ⟨2, ![1, 128]⟩ .f32) :
    FVec Ideal ⟨3, ![1, 256, 128]⟩ .bf16 :=
  shapeCast ⟨3, ![1, 256, 128]⟩ (truncf .bf16 (mulf (mulf (mulf o (broadcastTo ⟨2, ![256, 128]⟩
    (rsqrt (addf (divf (shapeCast ⟨2, ![256, 1]⟩
        (multiReduction .add [1] ⟨1, ![256]⟩ (mulf o o) 0x00000000#32 h1 (.inl rfl) rfl) h2)
        (broadcast ⟨2, ![256, 1]⟩ (Scalar.ofBits (F := Ideal) .f32 0x43000000#32)))
      (broadcast ⟨2, ![256, 1]⟩ (Scalar.ofBits (F := Ideal) .f32 0x3727C5AC#32)))) h3))
    (broadcastTo ⟨2, ![256, 128]⟩ (shapeCast ⟨2, ![1, 128]⟩ g h4) h5))
    (broadcast ⟨2, ![256, 128]⟩ (Scalar.ofBits (F := Ideal) .f32 0x3F24FD5C#32))) (by decide)) h6

theorem normV_apply (o : FVec Ideal ⟨2, ![256, 128]⟩ .f32) (g : FVec Ideal ⟨2, ![1, 128]⟩ .f32) (z : Fin 1)
    (r : Fin 256) (e : Fin 128) : normV h1 h2 h3 h4 h5 h6 o g (ix3 z r e)
      = headOut (fun e => o (ix2 r e)) (fun e => g (ix2 0 e)) e := by
  unfold normV
  pointwise
  rfl

end Norm

end Cert.Attn

end
-- ==== Proof.Attn.Rows.lean ====
/- One query row of the attention: its scores against all keys, and how a tile that has the first keys only, with
   every score less the far bias, weighs the values as the whole row does. -/
module

public import proofs.«01_k».proof.Proof.Attn.Tile

@[expose] public section

set_option maxRecDepth 16384

noncomputable section

namespace Cert.Attn

/-- A row's score against a key: the inner product and the bias of their distance, or nothing where the key's
    block of 64 comes after the query's. -/
def rowScore (dot : (Fin 128 → EReal) → (Fin 128 → EReal) → EReal) (q κ : Fin 2048 → Fin 128 → EReal) (b : ℤ → ℝ)
    (r k : Fin 2048) : EReal :=
  if k.val / 64 ≤ r.val / 64 then dot (q r) (κ k) + ((b ((k.val : ℤ) - r.val) : ℝ) : EReal) else ⊥

/-- The bias of the keys near a tile's queries, less the far bias. -/
def biasTile (b : ℤ → ℝ) (far : ℝ) (i : Fin 256) (j : Fin 512) : EReal :=
  if j.val / 64 ≤ (256 + i.val) / 64 then ((b ((j.val : ℤ) - 256 - i.val) : ℝ) : EReal) - (far : EReal) else ⊥

/-- A tile's score: the bare inner product for the far keys, the near bias added for the others. -/
def cutScore (dot : (Fin 128 → EReal) → (Fin 128 → EReal) → EReal) (q κ : Fin 2048 → Fin 128 → EReal) (b : ℤ → ℝ)
    (far : ℝ) (N n : Nat) (hn : n = 256 * N + 256) (hN : N < 8) (r : Fin 256) (k : Fin n) : EReal :=
  if k.val + 512 < n then dot (q ⟨256 * N + r.val, by omega⟩) (κ ⟨k.val, by omega⟩)
  else dot (q ⟨256 * N + r.val, by omega⟩) (κ ⟨k.val, by omega⟩) + biasTile b far r ⟨k.val + 512 - n, by omega⟩

theorem cutScore_eq (dot : (Fin 128 → EReal) → (Fin 128 → EReal) → EReal) (q κ : Fin 2048 → Fin 128 → EReal)
    (b : ℤ → ℝ) (far : ℝ) (hfar : ∀ d : ℤ, d ≤ -257 → b d = far) (hd : ∀ r k, ∃ x : ℝ, dot (q r) (κ k) = x)
    (N n : Nat) (hn : n = 256 * N + 256) (hN : N < 8) (r : Fin 256) (k : Fin n) :
    cutScore dot q κ b far N n hn hN r k
      = rowScore dot q κ b ⟨256 * N + r.val, by omega⟩ ⟨k.val, by omega⟩ - (far : EReal) := by
  unfold cutScore rowScore
  obtain ⟨x, hx⟩ := hd ⟨256 * N + r.val, by omega⟩ ⟨k.val, by omega⟩
  rw [hx]
  by_cases h : k.val + 512 < n
  · rw [if_pos h, if_pos (by dsimp only; omega), hfar _ (by dsimp only; omega)]
    norm_cast
    ring_nf
  · rw [if_neg h]
    unfold biasTile
    dsimp only
    by_cases hv : k.val / 64 ≤ (256 * N + r.val) / 64
    · rw [if_pos (by omega), if_pos hv]
      have e : ((k.val + 512 - n : ℕ) : ℤ) - 256 - r.val = (k.val : ℤ) - ((256 * N + r.val : ℕ) : ℤ) := by omega
      rw [e]
      norm_cast
      ring_nf
    · rw [if_neg (by omega), if_neg hv, EReal.add_bot, EReal.bot_sub]

theorem rowScore_ne_top (dot : (Fin 128 → EReal) → (Fin 128 → EReal) → EReal) (q κ : Fin 2048 → Fin 128 → EReal)
    (b : ℤ → ℝ) (hd : ∀ r k, ∃ x : ℝ, dot (q r) (κ k) = x) (r k : Fin 2048) : rowScore dot q κ b r k ≠ ⊤ := by
  unfold rowScore
  obtain ⟨x, hx⟩ := hd r k
  rw [hx]
  split
  · rw [← EReal.coe_add]; exact EReal.coe_ne_top _
  · exact bot_ne_top

theorem rowScore_diag (dot : (Fin 128 → EReal) → (Fin 128 → EReal) → EReal) (q κ : Fin 2048 → Fin 128 → EReal)
    (b : ℤ → ℝ) (hd : ∀ r k, ∃ x : ℝ, dot (q r) (κ k) = x) (r : Fin 2048) : rowScore dot q κ b r r ≠ ⊥ := by
  unfold rowScore
  obtain ⟨x, hx⟩ := hd r r
  rw [hx, if_pos le_rfl, ← EReal.coe_add]
  exact EReal.coe_ne_bot _

/-- The tile weighs the values as the whole row does. -/
theorem row_out (q κ : Fin 2048 → Fin 128 → EReal)
    (b : ℤ → ℝ) (far : ℝ) (hfar : ∀ d : ℤ, d ≤ -257 → b d = far) (hlo : ∀ r k, ∃ x : ℝ, dotLo (q r) (κ k) = x)
    (hhi : ∀ r k, ∃ x : ℝ, dotHi (q r) (κ k) = x) (lam : EReal)
    (N n : Nat) (hn : n = 256 * N + 256) (hN : N < 8) (r : Fin 256) (f0 f1 : Fin n → EReal)
    (h0 : ∀ k, f0 k = cutScore dotLo q κ b far N n hn hN r k) (h1 : ∀ k, f1 k = cutScore dotHi q κ b far N n hn hN r k)
    (v : Fin 2048 → EReal) :
    ∑ k : Fin n, attnK lam f0 f1 k * v ⟨k.val, by omega⟩
      = ∑ k, attnR lam (rowScore dotLo q κ b ⟨256 * N + r.val, by omega⟩)
          (rowScore dotHi q κ b ⟨256 * N + r.val, by omega⟩) k * v k := by
  have hc : ∀ dot : (Fin 128 → EReal) → (Fin 128 → EReal) → EReal, ∀ k : Fin 2048, n ≤ k.val →
      rowScore dot q κ b ⟨256 * N + r.val, by omega⟩ k = ⊥ := fun dot k hk => by
    unfold rowScore
    rw [if_neg (by dsimp only; omega)]
  exact out_cut (by omega) lam _ _ f0 f1 far
    (fun k => (h0 k).trans (cutScore_eq dotLo q κ b far hfar hlo N n hn hN r k))
    (fun k => (h1 k).trans (cutScore_eq dotHi q κ b far hfar hhi N n hn hN r k))
    (hc dotLo) (hc dotHi) (rowScore_ne_top dotLo q κ b hlo _) (rowScore_ne_top dotHi q κ b hhi _)
    ⟨256 * N + r.val, by omega⟩ (rowScore_diag dotLo q κ b hlo _) (rowScore_diag dotHi q κ b hhi _) v

/-- The attention's output at a row and a lane. -/
def rowOut (q κ v : Fin 2048 → Fin 128 → EReal) (b : ℤ → ℝ) (lam : EReal) (g : Fin 128 → EReal) (r : Fin 2048)
    (e : Fin 128) : EReal :=
  headOut (fun e => ∑ k, attnR lam (rowScore dotLo q κ b r) (rowScore dotHi q κ b r) k * v k e) g e

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- Finite lanes have finite inner products. -/
theorem dotLo_real (q κ : Fin 128 → EReal) (hq : ∀ d, ∃ x : ℝ, q d = x) (hκ : ∀ d, ∃ x : ℝ, κ d = x) :
    ∃ x : ℝ, dotLo q κ = x := by
  choose u hu using hq
  choose w hw using hκ
  refine ⟨∑ d : Fin 64, u ⟨d.val, by omega⟩ * w ⟨d.val, by omega⟩, ?_⟩
  unfold dotLo
  rw [coe_sum]
  exact Finset.sum_congr rfl fun d _ => by rw [hu, hw, EReal.coe_mul]

theorem dotHi_real (q κ : Fin 128 → EReal) (hq : ∀ d, ∃ x : ℝ, q d = x) (hκ : ∀ d, ∃ x : ℝ, κ d = x) :
    ∃ x : ℝ, dotHi q κ = x := by
  choose u hu using hq
  choose w hw using hκ
  refine ⟨∑ d : Fin 64, u ⟨64 + d.val, by omega⟩ * w ⟨64 + d.val, by omega⟩, ?_⟩
  unfold dotHi
  rw [coe_sum]
  exact Finset.sum_congr rfl fun d _ => by rw [hu, hw, EReal.coe_mul]

end Cert.Attn

end
-- ==== Proof.Attn.Bias.lean ====
module

public import proofs.«01_k».proof.Proof.Attn.Rows
public import proofs.«01_k».proof.Proof.Gen.KernelIdeal.Frame
public import Idealize.ShloMosaic.Lib.Pipeline.Value
public import Idealize.ShloMosaic.Lib.Pointwise.IndexVar

@[expose] public section

set_option maxRecDepth 16384

noncomputable section

namespace Cert.Attn

open Idealize.ShloMosaic Idealize.ShloMosaic.TcCoe Idealize.ShloMosaic.Tactic Cert.KernelIdeal Cert.KernelIdeal.Gen
open Cert.KernelIdeal.Facts

theorem hz3 : (![0, 0, 0] : Fin 3 → Nat) = fun _ => 0 := funext fun a => by fin_cases a <;> rfl

/-- What a head's bias tile holds, from the head's column of the bucket table. -/
def biasPay (l0 l1 l2 l3 l4 l5 l6 l7 l8 l9 l10 l11 l12 l13 l14 l15 l16 l17 l18 l19 l20 l21 l22 l23 l24 l25 l26 l27 l28 l29 l30 l31 : EReal) : FVec Ideal S1x256x512 .f32 :=
  let v57 := k0_pay7 k0_pay3 k0_pay4 k0_pay5 k0_pay6 1#32 0#32
  let v81 := k0_pay8 (F := Ideal) k0_pay3 k0_pay4 k0_pay5 k0_pay6 1#32 0#32 l15 l0 l1 l2
  let v123 := k0_pay10 (F := Ideal) v57 l15 v81 k0_pay9 l3 l4 l5 l6 l7 l8
  let v172 := k0_pay13 (F := Ideal) v57 l15 v123 (k0_pay11 v57) (k0_pay12 (F := Ideal) l15 l9) l10 l11 l12 l13 l14 l15
  let v221 := k0_pay15 (F := Ideal) v57 l15 v172 (k0_pay14 v57) l16 l17 l18 l19 l20 l21 l22
  let v263 := k0_pay17 (F := Ideal) v57 l15 v221 k0_pay16 l23 l24 l25 l26 l27 l28
  k0_pay1 (F := Ideal) (iota .tc S256x512 32 [0] iota_S256x512_d0_w32) k0_pay2 v57 l15 v263 (k0_pay18 v57)
    (k0_pay19 (F := Ideal) l15 l29) l30 l31

theorem ld_at (x : Vec Ideal S32x8 .f32) (off : Fin 2 → Nat) (inb) (y : (Rect.unit (s := S32x8) off S1x1.size inb).shape.Idx)
    (b : Fin 32) (n : Fin 8) (h0 : off 0 = b.val) (h1 : off 1 = n.val) :
    View.ld x (Rect.unit (s := S32x8) off S1x1.size inb) y = x (ix2 b n) := by
  show x _ = _
  congr 1
  funext a
  apply Fin.ext
  match a with
  | ⟨0, _⟩ => show off 0 + 1 * (y 0).val = b.val; have : (y 0).val < 1 := (y 0).isLt; omega
  | ⟨1, _⟩ => show off 1 + 1 * (y 1).val = n.val; have : (y 1).val < 1 := (y 1).isLt; omega

theorem col (n : Fin 8) : (Scalar.indexCast (BitVec.ofNat 32 n.val) : BitVec 32).toNat = n.val := by
  revert n; decide +kernel

theorem out_A (c : Dev nD) (i : grid0.Coords) (n : Fin 8) (hn : n = i 0) (a1 : Memref sig .tc .smem S32x8 .f32) (h1 : a1.IsWhole)
    (a2 : Memref sig .tc .vmem S1x256x512 .f32) (h2 : a2.IsWhole) (x : Vec Ideal S32x8 .f32) :
    out0_A_1 c i a1 h1 a2 h2 x = biasPay (x (ix2 0 n)) (x (ix2 1 n)) (x (ix2 2 n)) (x (ix2 3 n)) (x (ix2 4 n)) (x (ix2 5 n)) (x (ix2 6 n)) (x (ix2 7 n)) (x (ix2 8 n)) (x (ix2 9 n)) (x (ix2 10 n)) (x (ix2 11 n)) (x (ix2 12 n)) (x (ix2 13 n)) (x (ix2 14 n)) (x (ix2 15 n)) (x (ix2 16 n)) (x (ix2 17 n)) (x (ix2 18 n)) (x (ix2 19 n)) (x (ix2 20 n)) (x (ix2 21 n)) (x (ix2 22 n)) (x (ix2 23 n)) (x (ix2 24 n)) (x (ix2 25 n)) (x (ix2 26 n)) (x (ix2 27 n)) (x (ix2 28 n)) (x (ix2 29 n)) (x (ix2 30 n)) (x (ix2 31 n)) := by
  unfold out0_A_1
  rw [View.read_writes_eq_canon _ _ _ (cover0_A_1 c _ a1 h1 a2 h2 x)]
  unfold kernelRun0_A
  dsimp only
  sl_unfold_words
  rw [View.canon_unit_zero hz3]
  simp only [View.readAt_eq_ld, h1.read_unread]
  have hc : (Scalar.indexCast (BitVec.ofNat 32 (i 0).val) : BitVec 32).toNat = n.val := by
    rw [hn]; exact col (i 0)
  show biasPay _ _ _ _ _ _ _ _ _ _ _ _ _ _ _ _ _ _ _ _ _ _ _ _ _ _ _ _ _ _ _ _ = _
  congr 1
  · exact ld_at x _ _ _ 0 n rfl hc
  · exact ld_at x _ _ _ 1 n rfl hc
  · exact ld_at x _ _ _ 2 n rfl hc
  · exact ld_at x _ _ _ 3 n rfl hc
  · exact ld_at x _ _ _ 4 n rfl hc
  · exact ld_at x _ _ _ 5 n rfl hc
  · exact ld_at x _ _ _ 6 n rfl hc
  · exact ld_at x _ _ _ 7 n rfl hc
  · exact ld_at x _ _ _ 8 n rfl hc
  · exact ld_at x _ _ _ 9 n rfl hc
  · exact ld_at x _ _ _ 10 n rfl hc
  · exact ld_at x _ _ _ 11 n rfl hc
  · exact ld_at x _ _ _ 12 n rfl hc
  · exact ld_at x _ _ _ 13 n rfl hc
  · exact ld_at x _ _ _ 14 n rfl hc
  · exact ld_at x _ _ _ 15 n rfl hc
  · exact ld_at x _ _ _ 16 n rfl hc
  · exact ld_at x _ _ _ 17 n rfl hc
  · exact ld_at x _ _ _ 18 n rfl hc
  · exact ld_at x _ _ _ 19 n rfl hc
  · exact ld_at x _ _ _ 20 n rfl hc
  · exact ld_at x _ _ _ 21 n rfl hc
  · exact ld_at x _ _ _ 22 n rfl hc
  · exact ld_at x _ _ _ 23 n rfl hc
  · exact ld_at x _ _ _ 24 n rfl hc
  · exact ld_at x _ _ _ 25 n rfl hc
  · exact ld_at x _ _ _ 26 n rfl hc
  · exact ld_at x _ _ _ 27 n rfl hc
  · exact ld_at x _ _ _ 28 n rfl hc
  · exact ld_at x _ _ _ 29 n rfl hc
  · exact ld_at x _ _ _ 30 n rfl hc
  · exact ld_at x _ _ _ 31 n rfl hc

/-- The bucket of a distance: exact up to 7, then by thresholds, 16 further on for keys after the query. -/
def bucketOf (d : ℤ) : ℕ :=
  (if 0 < d then 16 else 0) + if d.natAbs < 8 then d.natAbs else
    8 + (if 12 ≤ d.natAbs then 1 else 0) + (if 16 ≤ d.natAbs then 1 else 0) + (if 23 ≤ d.natAbs then 1 else 0)
      + (if 32 ≤ d.natAbs then 1 else 0) + (if 46 ≤ d.natAbs then 1 else 0) + (if 64 ≤ d.natAbs then 1 else 0)
      + (if 91 ≤ d.natAbs then 1 else 0)

theorem bucketOf_lt (d : ℤ) : bucketOf d < 32 := by
  unfold bucketOf
  split_ifs <;> omega

/-- The bucket as the kernel computes it on words. -/
def bucketWord (d : BitVec 32) : BitVec 32 :=
  IntOp.addi (Scalar.select (IntOp.cmpi .sgt d 0#32) 16#32 0#32)
    (Scalar.select (IntOp.cmpi .slt (IntOp.absi d) 8#32) (IntOp.absi d)
      (IntOp.addi (IntOp.addi (IntOp.addi (IntOp.addi (IntOp.addi (IntOp.addi (IntOp.addi (8#32)
        (Scalar.select (IntOp.cmpi .sge (IntOp.absi d) 12#32) 1#32 0#32))
        (Scalar.select (IntOp.cmpi .sge (IntOp.absi d) 16#32) 1#32 0#32))
        (Scalar.select (IntOp.cmpi .sge (IntOp.absi d) 23#32) 1#32 0#32))
        (Scalar.select (IntOp.cmpi .sge (IntOp.absi d) 32#32) 1#32 0#32))
        (Scalar.select (IntOp.cmpi .sge (IntOp.absi d) 46#32) 1#32 0#32))
        (Scalar.select (IntOp.cmpi .sge (IntOp.absi d) 64#32) 1#32 0#32))
        (Scalar.select (IntOp.cmpi .sge (IntOp.absi d) 91#32) 1#32 0#32)))

theorem bucketWord_eq : ∀ e : Fin 767, bucketWord (IntOp.subi (BitVec.ofNat 32 e.val) 511#32)
    = BitVec.ofNat 32 (bucketOf ((e.val : ℤ) - 511)) := by decide +kernel

theorem word_apply (r : Fin 256) (j : Fin 512) :
    k0_pay7 k0_pay3 k0_pay4 k0_pay5 k0_pay6 1#32 0#32 (ix2 r j)
      = BitVec.ofNat 32 (bucketOf ((j.val : ℤ) - 256 - r.val)) := by
  have h := bucketWord_eq ⟨j.val + 255 - r.val, by omega⟩
  have e : (((j.val + 255 - r.val : ℕ) : ℤ)) - 511 = (j.val : ℤ) - 256 - r.val := by omega
  have e2 : IntOp.subi (BitVec.ofNat 32 (j.val + 255 - r.val)) 511#32
      = IntOp.subi (IntOp.subi (BitVec.ofNat 32 j.val) 256#32) (BitVec.ofNat 32 r.val) := by
    unfold IntOp.subi
    apply BitVec.eq_of_toNat_eq
    simp only [BitVec.toNat_sub, BitVec.toNat_ofNat]
    omega
  dsimp only at h
  rw [e, e2] at h
  rw [← h]
  unfold_payloads
  pointwise
  rfl

/-- Whether a tile's key is visible, on words. -/
theorem visWord_key : ∀ j : Fin 512, (IntOp.shrsi .vector (IntOp.subi (BitVec.ofNat 32 j.val) 256#32) 6#32).toInt
    = (j.val : ℤ) / 64 - 4 := by decide +kernel
theorem visWord_row : ∀ r : Fin 256, (IntOp.shrsi .vector (BitVec.ofNat 32 r.val) 6#32).toInt
    = (r.val : ℤ) / 64 := by decide +kernel

theorem chain_word (T : Fin 32 → EReal) (w : BitVec 32) (n : Nat) (hn : n < 32) (hw : w = BitVec.ofNat 32 n) :
    (Scalar.select (IntOp.cmpi .eq w 31#32) (T 31 - T 15) (Scalar.select (IntOp.cmpi .eq w 30#32) (T 30 - T 15) (Scalar.select (IntOp.cmpi .eq w 29#32) (T 29 - T 15) (Scalar.select (IntOp.cmpi .eq w 28#32) (T 28 - T 15) (Scalar.select (IntOp.cmpi .eq w 27#32) (T 27 - T 15) (Scalar.select (IntOp.cmpi .eq w 26#32) (T 26 - T 15) (Scalar.select (IntOp.cmpi .eq w 25#32) (T 25 - T 15) (Scalar.select (IntOp.cmpi .eq w 24#32) (T 24 - T 15) (Scalar.select (IntOp.cmpi .eq w 23#32) (T 23 - T 15) (Scalar.select (IntOp.cmpi .eq w 22#32) (T 22 - T 15) (Scalar.select (IntOp.cmpi .eq w 21#32) (T 21 - T 15) (Scalar.select (IntOp.cmpi .eq w 20#32) (T 20 - T 15) (Scalar.select (IntOp.cmpi .eq w 19#32) (T 19 - T 15) (Scalar.select (IntOp.cmpi .eq w 18#32) (T 18 - T 15) (Scalar.select (IntOp.cmpi .eq w 17#32) (T 17 - T 15) (Scalar.select (IntOp.cmpi .eq w 16#32) (T 16 - T 15) (Scalar.select (IntOp.cmpi .eq w 15#32) (T 15 - T 15) (Scalar.select (IntOp.cmpi .eq w 14#32) (T 14 - T 15) (Scalar.select (IntOp.cmpi .eq w 13#32) (T 13 - T 15) (Scalar.select (IntOp.cmpi .eq w 12#32) (T 12 - T 15) (Scalar.select (IntOp.cmpi .eq w 11#32) (T 11 - T 15) (Scalar.select (IntOp.cmpi .eq w 10#32) (T 10 - T 15) (Scalar.select (IntOp.cmpi .eq w 9#32) (T 9 - T 15) (Scalar.select (IntOp.cmpi .eq w 8#32) (T 8 - T 15) (Scalar.select (IntOp.cmpi .eq w 7#32) (T 7 - T 15) (Scalar.select (IntOp.cmpi .eq w 6#32) (T 6 - T 15) (Scalar.select (IntOp.cmpi .eq w 5#32) (T 5 - T 15) (Scalar.select (IntOp.cmpi .eq w 4#32) (T 4 - T 15) (Scalar.select (IntOp.cmpi .eq w 3#32) (T 3 - T 15) (Scalar.select (IntOp.cmpi .eq w 2#32) (T 2 - T 15) (Scalar.select (IntOp.cmpi .eq w 1#32) (T 1 - T 15) (Scalar.select (IntOp.cmpi .eq w 0#32) (T 0 - T 15) 0)))))))))))))))))))))))))))))))) = T ⟨n, hn⟩ - T 15 := by
  subst hw
  interval_cases n <;> rfl

theorem biasPay_read (T : Fin 32 → EReal) (z : Fin 1) (r : Fin 256) (j : Fin 512) (w : BitVec 32)
    (hw : k0_pay7 k0_pay3 k0_pay4 k0_pay5 k0_pay6 1#32 0#32 (ix2 r j) = w) :
    biasPay (T 0) (T 1) (T 2) (T 3) (T 4) (T 5) (T 6) (T 7) (T 8) (T 9) (T 10) (T 11) (T 12) (T 13) (T 14) (T 15) (T 16) (T 17) (T 18) (T 19) (T 20) (T 21) (T 22) (T 23) (T 24) (T 25) (T 26) (T 27) (T 28) (T 29) (T 30) (T 31) (ix3 z r j)
      = Scalar.select (IntOp.cmpi .sle (IntOp.shrsi .vector (IntOp.subi (BitVec.ofNat 32 j.val) 256#32) 6#32)
        (IntOp.shrsi .vector (BitVec.ofNat 32 r.val) 6#32)) (Scalar.select (IntOp.cmpi .eq w 31#32) (T 31 - T 15) (Scalar.select (IntOp.cmpi .eq w 30#32) (T 30 - T 15) (Scalar.select (IntOp.cmpi .eq w 29#32) (T 29 - T 15) (Scalar.select (IntOp.cmpi .eq w 28#32) (T 28 - T 15) (Scalar.select (IntOp.cmpi .eq w 27#32) (T 27 - T 15) (Scalar.select (IntOp.cmpi .eq w 26#32) (T 26 - T 15) (Scalar.select (IntOp.cmpi .eq w 25#32) (T 25 - T 15) (Scalar.select (IntOp.cmpi .eq w 24#32) (T 24 - T 15) (Scalar.select (IntOp.cmpi .eq w 23#32) (T 23 - T 15) (Scalar.select (IntOp.cmpi .eq w 22#32) (T 22 - T 15) (Scalar.select (IntOp.cmpi .eq w 21#32) (T 21 - T 15) (Scalar.select (IntOp.cmpi .eq w 20#32) (T 20 - T 15) (Scalar.select (IntOp.cmpi .eq w 19#32) (T 19 - T 15) (Scalar.select (IntOp.cmpi .eq w 18#32) (T 18 - T 15) (Scalar.select (IntOp.cmpi .eq w 17#32) (T 17 - T 15) (Scalar.select (IntOp.cmpi .eq w 16#32) (T 16 - T 15) (Scalar.select (IntOp.cmpi .eq w 15#32) (T 15 - T 15) (Scalar.select (IntOp.cmpi .eq w 14#32) (T 14 - T 15) (Scalar.select (IntOp.cmpi .eq w 13#32) (T 13 - T 15) (Scalar.select (IntOp.cmpi .eq w 12#32) (T 12 - T 15) (Scalar.select (IntOp.cmpi .eq w 11#32) (T 11 - T 15) (Scalar.select (IntOp.cmpi .eq w 10#32) (T 10 - T 15) (Scalar.select (IntOp.cmpi .eq w 9#32) (T 9 - T 15) (Scalar.select (IntOp.cmpi .eq w 8#32) (T 8 - T 15) (Scalar.select (IntOp.cmpi .eq w 7#32) (T 7 - T 15) (Scalar.select (IntOp.cmpi .eq w 6#32) (T 6 - T 15) (Scalar.select (IntOp.cmpi .eq w 5#32) (T 5 - T 15) (Scalar.select (IntOp.cmpi .eq w 4#32) (T 4 - T 15) (Scalar.select (IntOp.cmpi .eq w 3#32) (T 3 - T 15) (Scalar.select (IntOp.cmpi .eq w 2#32) (T 2 - T 15) (Scalar.select (IntOp.cmpi .eq w 1#32) (T 1 - T 15) (Scalar.select (IntOp.cmpi .eq w 0#32) (T 0 - T 15) 0)))))))))))))))))))))))))))))))) ⊥ := by
  unfold biasPay k0_pay8
  dsimp only
  revert hw
  generalize k0_pay7 k0_pay3 k0_pay4 k0_pay5 k0_pay6 1#32 0#32 = v57
  intro hw
  unfold_payloads
  pointwise
  rw [hw, negInf]

/-- The tile of a head at a row and a key. -/
theorem biasPay_apply (T : Fin 32 → EReal) (z : Fin 1) (r : Fin 256) (j : Fin 512) :
    biasPay (T 0) (T 1) (T 2) (T 3) (T 4) (T 5) (T 6) (T 7) (T 8) (T 9) (T 10) (T 11) (T 12) (T 13) (T 14) (T 15) (T 16) (T 17) (T 18) (T 19) (T 20) (T 21) (T 22) (T 23) (T 24) (T 25) (T 26) (T 27) (T 28) (T 29) (T 30) (T 31) (ix3 z r j)
      = if j.val / 64 ≤ (256 + r.val) / 64 then T ⟨bucketOf ((j.val : ℤ) - 256 - r.val), bucketOf_lt _⟩ - T 15 else ⊥ := by
  rw [biasPay_read T z r j _ (word_apply r j), chain_word T _ _ (bucketOf_lt _) rfl]
  have hk := visWord_key j
  have hr := visWord_row r
  revert hk hr
  generalize IntOp.shrsi .vector (IntOp.subi (BitVec.ofNat 32 j.val) 256#32) 6#32 = a
  generalize IntOp.shrsi .vector (BitVec.ofNat 32 r.val) 6#32 = b
  intro hk hr
  by_cases h : j.val / 64 ≤ (256 + r.val) / 64
  · have : a.toInt ≤ b.toInt := by omega
    rw [if_pos h]
    simp [Scalar.select, IntOp.cmpi, BitVec.sle, this]
  · have : ¬ a.toInt ≤ b.toInt := by omega
    rw [if_neg h]
    simp [Scalar.select, IntOp.cmpi, BitVec.sle, this]

/-! ### The array of tiles after the first call -/

variable (V : (c : Dev nD) → (b : Ref sig .tc) → Buf (Elt Ideal) ((c : Thread nD τ).loc b)) (c : Dev nD)

theorem bidx0 : ∀ t : Fin cfg0.N, win0_0.index t 0 = 0 ∧ win0_0.index t 1 = 0 := by decide +kernel
theorem bidx1 : ∀ t : Fin cfg0.N, win0_1.index t 0 = t.val ∧ win0_1.index t 1 = 0 ∧ win0_1.index t 2 = 0 := by
  decide +kernel
theorem bcoord : ∀ t : Fin cfg0.N, (grid0.coords t 0).val = t.val := by decide +kernel
theorem lt8 (t : Fin cfg0.N) : t.val < 8 := by have : cfg0.N = 8 := N_0; omega

theorem bblk0 (t : Fin cfg0.N) : iblk0 V c 0 t = V c main_arg2 := by
  funext x
  show V c main_arg2 ((win0_0.rect t).emb x) = _
  congr 1
  funext a
  apply Fin.ext
  obtain ⟨h0, h1⟩ := bidx0 t
  match a with
  | ⟨0, _⟩ => show win0_0.index t 0 * 32 + 1 * (x 0).val = (x 0).val; omega
  | ⟨1, _⟩ => show win0_0.index t 1 * 8 + 1 * (x 1).val = (x 1).val; omega

/-- All heads' bias tiles, from the bucket table: the bias of key `j - 256` as seen from row `r`, less the far
    bias, and nothing where the key's block of 64 comes after the row's. -/
def biasArr (T : Vec Ideal S32x8 .f32) : Vec Ideal S8x256x512 .f32 := fun i =>
  if (i 2).val / 64 ≤ (256 + (i 1).val) / 64 then
    T (ix2 ⟨bucketOf (((i 2).val : ℤ) - 256 - (i 1).val), bucketOf_lt _⟩ (i 0)) - T (ix2 15 (i 0)) else ⊥

theorem bias_block (t : Fin cfg0.N) (x : S1x256x512.Idx) :
    outsAt0 V c t x = biasArr (V c main_arg2) ((win0_1.rect t).emb x) := by
  obtain ⟨z, r, j, rfl⟩ : ∃ (z : Fin 1) (r : Fin 256) (j : Fin 512), x = ix3 z r j :=
    ⟨x 0, x 1, x 2, by funext a; fin_cases a <;> rfl⟩
  have ht := lt8 t
  unfold outsAt0
  rw [out_A c (grid0.coords t) ⟨t.val, ht⟩ (Fin.ext (bcoord t).symm), bblk0,
    biasPay_apply (fun b => V c main_arg2 (ix2 b ⟨t.val, ht⟩))]
  have he : ((win0_1.rect t).emb (ix3 z r j) : S8x256x512.Idx) = ix3 ⟨t.val, ht⟩ r j := by
    funext a
    apply Fin.ext
    obtain ⟨h0, h1, h2⟩ := bidx1 t
    match a with
    | ⟨0, _⟩ => show win0_1.index t 0 * 1 + 1 * z.val = t.val; omega
    | ⟨1, _⟩ => show win0_1.index t 1 * 256 + 1 * r.val = r.val; omega
    | ⟨2, _⟩ => show win0_1.index t 2 * 512 + 1 * j.val = j.val; omega
  rw [he]
  rfl

theorem bias_flushed (t : Fin cfg0.N) :
    (dat0 V c).flushed 1 t = (win0_1.blk t).view.read (Elt Ideal) (biasArr (V c main_arg2)) := by
  show (cfg0.win 1).cut (grid0.coords t) ((dat0 V c).after 1 t) = _
  rw [after0_1]
  exact funext (bias_block V c t)

theorem bias_cover (i : S8x256x512.Idx) :
    ∃ t : Fin cfg0.N, (cfg0.win 1).flush t = true ∧ i ∈ ((cfg0.win 1).blk t).view.set := by
  have i0 : (i 0 : Nat) < 8 := (i 0).isLt
  have i1 : (i 1 : Nat) < 256 := (i 1).isLt
  have i2 : (i 2 : Nat) < 512 := (i 2).isLt
  have hN : cfg0.N = 8 := N_0
  obtain ⟨t, ht⟩ : ∃ t : Fin cfg0.N, t.val = (i 0).val := ⟨⟨_, by omega⟩, rfl⟩
  refine ⟨t, flush0_1 _, ?_⟩
  obtain ⟨h0, h1, h2⟩ := bidx1 t
  show i ∈ ((View.whole main_v0).slice (win0_1.rect t)).set
  rw [View.set_slice_whole, Rect.mem_set_unit]
  intro a
  match a with
  | ⟨0, _⟩ => show win0_1.index _ 0 * 1 ≤ (i 0 : Nat) ∧ (i 0 : Nat) < win0_1.index _ 0 * 1 + 1; rw [h0]; omega
  | ⟨1, _⟩ => show win0_1.index _ 1 * 256 ≤ (i 1 : Nat) ∧ (i 1 : Nat) < win0_1.index _ 1 * 256 + 256; rw [h1]; omega
  | ⟨2, _⟩ => show win0_1.index _ 2 * 512 ≤ (i 2 : Nat) ∧ (i 2 : Nat) < win0_1.index _ 2 * 512 + 512; rw [h2]; omega

/-- After the first call the tile array holds all heads' bias tiles. -/
theorem final_b : (dat0 V c).arrAt 1 cfg0.N = biasArr (V c main_arg2) :=
  (dat0 V c).arrAt_eq_of_cover 1 _ (fun t _ => bias_flushed V c t) bias_cover

end Cert.Attn

end
-- ==== Proof.Attn.Tiles.lean ====
/- The attention kernel's eight tiles: what each of its eight stores writes, read at an entry. -/
module

public import proofs.«01_k».proof.Proof.Attn.Tile
public import proofs.«01_k».proof.Proof.Gen.KernelIdeal.Frame

@[expose] public section

set_option maxRecDepth 16384

noncomputable section

namespace Cert.Attn

open Idealize.ShloMosaic Cert.KernelIdeal Cert.KernelIdeal.Gen
open Cert.KernelIdeal.Facts

variable (x0 x1 x2 : Vec Ideal S1x2048x128 .bf16) (x3 : Vec Ideal S1x256x512 .f32) (x4 : Vec Ideal S4x64 .f32)
  (x5 : Vec Ideal S1x128 .f32)

theorem half_lt (d : Fin 128) (a b : EReal) :
    Scalar.select (IntOp.cmpi .slt (BitVec.ofNat 32 d.val) 64#32) a b = if d.val < 64 then a else b := by
  have h : ∀ d : Fin 128, IntOp.cmpi .slt (BitVec.ofNat 32 d.val) 64#32 = BitVec.ofBool (decide (d.val < 64)) := by
    decide +kernel
  rw [h d]
  by_cases hd : d.val < 64 <;> simp [hd, Scalar.select]

/-! ## Query rows 0 to 255, the first 256 keys -/

/-- The tile's scores of the first map. -/
def s0a : FVec Ideal S256x256 .f32 :=
  addf (matmul dot_S256x128_S256x128_S256x256_1_1_0_0_n_n none (select k1_pay3 (shapeCast S256x128 (View.ld x0 r1_1) shapeCasts_S1x256x128_S256x128) (k1_pay4 (F := Ideal)) : FVec Ideal S256x128 .bf16)
      (shapeCast S256x128 (View.ld x1 r1_1) shapeCasts_S1x256x128_S256x128 : FVec Ideal S256x128 .bf16)
      (constant S256x256 .f32 0x00000000#32)) (shapeCast S256x256 (View.ld x3 r1_2) shapeCasts_S1x256x256_S256x256)

/-- One of them. -/
def f0a (r : Fin 256) (k : Fin 256) : EReal :=
  dotLo (fun d => x0 (ix3 0 ⟨0 + r.val, by omega⟩ d)) (fun d => x1 (ix3 0 ⟨k.val, by omega⟩ d)) + x3 (ix3 0 r ⟨256 + k.val, by omega⟩)

theorem s0a_apply (r : Fin 256) (k : Fin 256) : s0a x0 x1 x3 (ix2 r k) = f0a x0 x1 x3 r k := by
  unfold s0a f0a dotLo
  pointwise [k1_pay3, k1_pay4, half_lt]
  simp only [zero_mul, Finset.sum_const_zero, add_zero, zero_add]

/-- The tile's scores of the second map. -/
def s0b : FVec Ideal S256x256 .f32 :=
  addf (matmul dot_S256x128_S256x128_S256x256_1_1_0_0_n_n none (select k1_pay3 (k1_pay4 (F := Ideal)) (shapeCast S256x128 (View.ld x0 r1_1) shapeCasts_S1x256x128_S256x128) : FVec Ideal S256x128 .bf16)
      (shapeCast S256x128 (View.ld x1 r1_1) shapeCasts_S1x256x128_S256x128 : FVec Ideal S256x128 .bf16)
      (constant S256x256 .f32 0x00000000#32)) (shapeCast S256x256 (View.ld x3 r1_2) shapeCasts_S1x256x256_S256x256)

/-- One of them. -/
def f0b (r : Fin 256) (k : Fin 256) : EReal :=
  dotHi (fun d => x0 (ix3 0 ⟨0 + r.val, by omega⟩ d)) (fun d => x1 (ix3 0 ⟨k.val, by omega⟩ d)) + x3 (ix3 0 r ⟨256 + k.val, by omega⟩)

theorem s0b_apply (r : Fin 256) (k : Fin 256) : s0b x0 x1 x3 (ix2 r k) = f0b x0 x1 x3 r k := by
  unfold s0b f0b dotHi
  pointwise [k1_pay3, k1_pay4, half_lt]
  simp only [zero_mul, Finset.sum_const_zero, add_zero, zero_add]

theorem tile0_eq : k1_pay11 (k1_pay53 x0 x1 x2 x3 x4 x5) (k1_pay7 (View.ld x3 r1_2)) (k1_pay8 (View.ld x0 r1_1) (View.ld x1 r1_1) (View.ld x3 r1_2)) (k1_pay9 (View.ld x0 r1_1) (View.ld x1 r1_1) (View.ld x3 r1_2)) (k1_pay10 (View.ld x0 r1_1) (View.ld x1 r1_1)) (View.ld x2 r1_1) (View.ld x5 r1_3)
    = normV reduces_S256x128_S256 shapeCasts_S256_S256x1 broadcasts_S256x1_S256x128 shapeCasts_S1x128_S1x128
      broadcasts_S1x128_S256x128 shapeCasts_S256x128_S1x256x128
      (matmul dot_S256x256_S256x128_S256x128_1_0_0_1_n_n none
        (attnV reduces_S256x256_S256 shapeCasts_S256_S256x1 broadcasts_S256x1_S256x256 broadcasts_S1x1_S256x1
          (k1_pay2 (View.ld x4 r1_0)) (s0a x0 x1 x3) (s0b x0 x1 x3))
        (shapeCast S256x128 (View.ld x2 r1_1) shapeCasts_S1x256x128_S256x128 : FVec Ideal S256x128 .bf16)
        (constant S256x128 .f32 0x00000000#32))
      (View.ld x5 r1_3) := rfl

theorem tile0_apply (z : Fin 1) (r : Fin 256) (e : Fin 128) :
    (k1_pay11 (k1_pay53 x0 x1 x2 x3 x4 x5) (k1_pay7 (View.ld x3 r1_2)) (k1_pay8 (View.ld x0 r1_1) (View.ld x1 r1_1) (View.ld x3 r1_2)) (k1_pay9 (View.ld x0 r1_1) (View.ld x1 r1_1) (View.ld x3 r1_2)) (k1_pay10 (View.ld x0 r1_1) (View.ld x1 r1_1)) (View.ld x2 r1_1) (View.ld x5 r1_3)) (ix3 z r e)
    = headOut (fun e => ∑ k : Fin 256, attnK (k1_pay2 (View.ld x4 r1_0) (ix2 0 0)) (f0a x0 x1 x3 r) (f0b x0 x1 x3 r) k
        * x2 (ix3 0 ⟨k.val, by omega⟩ e)) (fun e => x5 (ix2 0 e)) e := by
  rw [tile0_eq, normV_apply]
  congr 1
  · funext e
    pointwise
    refine Finset.sum_congr rfl fun k _ => ?_
    rw [attnV_apply]
    simp only [s0a_apply, s0b_apply]
  · funext e
    pointwise

/-! ## Query rows 256 to 511, the first 512 keys -/

/-- The tile's scores of the first map. -/
def s1a : FVec Ideal S256x512 .f32 :=
  addf (matmul dot_S256x128_S512x128_S256x512_1_1_0_0_n_n none (select k1_pay3 (shapeCast S256x128 (View.ld x0 r1_4) shapeCasts_S1x256x128_S256x128) (k1_pay4 (F := Ideal)) : FVec Ideal S256x128 .bf16)
      (shapeCast S512x128 (View.ld x1 r1_5) shapeCasts_S1x512x128_S512x128 : FVec Ideal S512x128 .bf16)
      (constant S256x512 .f32 0x00000000#32)) (shapeCast S256x512 (View.ld x3 r1_6) shapeCasts_S1x256x512_S256x512)

/-- One of them. -/
def f1a (r : Fin 256) (k : Fin 512) : EReal :=
  dotLo (fun d => x0 (ix3 0 ⟨256 + r.val, by omega⟩ d)) (fun d => x1 (ix3 0 ⟨k.val, by omega⟩ d)) + x3 (ix3 0 r k)

theorem s1a_apply (r : Fin 256) (k : Fin 512) : s1a x0 x1 x3 (ix2 r k) = f1a x0 x1 x3 r k := by
  unfold s1a f1a dotLo
  pointwise [k1_pay3, k1_pay4, half_lt]
  simp only [zero_mul, Finset.sum_const_zero, add_zero, zero_add]

/-- The tile's scores of the second map. -/
def s1b : FVec Ideal S256x512 .f32 :=
  addf (matmul dot_S256x128_S512x128_S256x512_1_1_0_0_n_n none (select k1_pay3 (k1_pay4 (F := Ideal)) (shapeCast S256x128 (View.ld x0 r1_4) shapeCasts_S1x256x128_S256x128) : FVec Ideal S256x128 .bf16)
      (shapeCast S512x128 (View.ld x1 r1_5) shapeCasts_S1x512x128_S512x128 : FVec Ideal S512x128 .bf16)
      (constant S256x512 .f32 0x00000000#32)) (shapeCast S256x512 (View.ld x3 r1_6) shapeCasts_S1x256x512_S256x512)

/-- One of them. -/
def f1b (r : Fin 256) (k : Fin 512) : EReal :=
  dotHi (fun d => x0 (ix3 0 ⟨256 + r.val, by omega⟩ d)) (fun d => x1 (ix3 0 ⟨k.val, by omega⟩ d)) + x3 (ix3 0 r k)

theorem s1b_apply (r : Fin 256) (k : Fin 512) : s1b x0 x1 x3 (ix2 r k) = f1b x0 x1 x3 r k := by
  unfold s1b f1b dotHi
  pointwise [k1_pay3, k1_pay4, half_lt]
  simp only [zero_mul, Finset.sum_const_zero, add_zero, zero_add]

theorem tile1_eq : k1_pay14 (k1_pay12 (k1_pay53 x0 x1 x2 x3 x4 x5) (k1_pay54 x0 x1 x2 x3 x4 x5) (k1_pay55 x0 x1 x2 x3 x4 x5) (View.ld x0 r1_4) (View.ld x1 r1_5) (View.ld x3 r1_6) (View.ld x2 r1_5)) (k1_pay13 (k1_pay53 x0 x1 x2 x3 x4 x5) (k1_pay54 x0 x1 x2 x3 x4 x5) (k1_pay55 x0 x1 x2 x3 x4 x5) (View.ld x0 r1_4) (View.ld x1 r1_5) (View.ld x3 r1_6) (View.ld x2 r1_5)) (View.ld x5 r1_3)
    = normV reduces_S256x128_S256 shapeCasts_S256_S256x1 broadcasts_S256x1_S256x128 shapeCasts_S1x128_S1x128
      broadcasts_S1x128_S256x128 shapeCasts_S256x128_S1x256x128
      (matmul dot_S256x512_S512x128_S256x128_1_0_0_1_n_n none
        (attnV reduces_S256x512_S256 shapeCasts_S256_S256x1 broadcasts_S256x1_S256x512 broadcasts_S1x1_S256x1
          (k1_pay2 (View.ld x4 r1_0)) (s1a x0 x1 x3) (s1b x0 x1 x3))
        (shapeCast S512x128 (View.ld x2 r1_5) shapeCasts_S1x512x128_S512x128 : FVec Ideal S512x128 .bf16)
        (constant S256x128 .f32 0x00000000#32))
      (View.ld x5 r1_3) := rfl

theorem tile1_apply (z : Fin 1) (r : Fin 256) (e : Fin 128) :
    (k1_pay14 (k1_pay12 (k1_pay53 x0 x1 x2 x3 x4 x5) (k1_pay54 x0 x1 x2 x3 x4 x5) (k1_pay55 x0 x1 x2 x3 x4 x5) (View.ld x0 r1_4) (View.ld x1 r1_5) (View.ld x3 r1_6) (View.ld x2 r1_5)) (k1_pay13 (k1_pay53 x0 x1 x2 x3 x4 x5) (k1_pay54 x0 x1 x2 x3 x4 x5) (k1_pay55 x0 x1 x2 x3 x4 x5) (View.ld x0 r1_4) (View.ld x1 r1_5) (View.ld x3 r1_6) (View.ld x2 r1_5)) (View.ld x5 r1_3)) (ix3 z r e)
    = headOut (fun e => ∑ k : Fin 512, attnK (k1_pay2 (View.ld x4 r1_0) (ix2 0 0)) (f1a x0 x1 x3 r) (f1b x0 x1 x3 r) k
        * x2 (ix3 0 ⟨k.val, by omega⟩ e)) (fun e => x5 (ix2 0 e)) e := by
  rw [tile1_eq, normV_apply]
  congr 1
  · funext e
    pointwise
    refine Finset.sum_congr rfl fun k _ => ?_
    rw [attnV_apply]
    simp only [s1a_apply, s1b_apply]
  · funext e
    pointwise

/-! ## Query rows 512 to 767, the first 768 keys -/

/-- The tile's scores of the first map. -/
def s2a : FVec Ideal S256x768 .f32 :=
  let s : FVec Ideal S256x768 .f32 := matmul dot_S256x128_S768x128_S256x768_1_1_0_0_n_n none (select k1_pay3 (shapeCast S256x128 (View.ld x0 r1_7) shapeCasts_S1x256x128_S256x128) (k1_pay4 (F := Ideal)) : FVec Ideal S256x128 .bf16)
      (shapeCast S768x128 (View.ld x1 r1_8) shapeCasts_S1x768x128_S768x128 : FVec Ideal S768x128 .bf16)
      (constant S256x768 .f32 0x00000000#32)
  concatenate S256x768 1 [⟨S256x256, extractStridedSlice S256x256 ![0, 0] s slices_S256x768_o0_0_S256x256⟩,
    ⟨S256x512, addf (extractStridedSlice S256x512 ![0, 256] s slices_S256x768_o0_256_S256x512) (shapeCast S256x512 (View.ld x3 r1_6) shapeCasts_S1x256x512_S256x512)⟩] concatenates_S256x256_S256x512_S256x768_d1

/-- One of them. -/
def f2a (r : Fin 256) (k : Fin 768) : EReal :=
  if h : k.val < 256 then dotLo (fun d => x0 (ix3 0 ⟨512 + r.val, by omega⟩ d)) (fun d => x1 (ix3 0 ⟨k.val, by omega⟩ d))
  else dotLo (fun d => x0 (ix3 0 ⟨512 + r.val, by omega⟩ d)) (fun d => x1 (ix3 0 ⟨k.val, by omega⟩ d)) + x3 (ix3 0 r ⟨k.val - 256, by omega⟩)

theorem s2a_apply (r : Fin 256) (k : Fin 768) : s2a x0 x1 x3 (ix2 r k) = f2a x0 x1 x3 r k := by
  unfold s2a f2a dotLo
  pointwise [k1_pay3, k1_pay4, half_lt]
  simp only [zero_mul, Finset.sum_const_zero, add_zero, zero_add]
  split
  · rfl
  · have e : 256 + (k.val - 256) = k.val := by omega
    simp only [e]

/-- The tile's scores of the second map. -/
def s2b : FVec Ideal S256x768 .f32 :=
  let s : FVec Ideal S256x768 .f32 := matmul dot_S256x128_S768x128_S256x768_1_1_0_0_n_n none (select k1_pay3 (k1_pay4 (F := Ideal)) (shapeCast S256x128 (View.ld x0 r1_7) shapeCasts_S1x256x128_S256x128) : FVec Ideal S256x128 .bf16)
      (shapeCast S768x128 (View.ld x1 r1_8) shapeCasts_S1x768x128_S768x128 : FVec Ideal S768x128 .bf16)
      (constant S256x768 .f32 0x00000000#32)
  concatenate S256x768 1 [⟨S256x256, extractStridedSlice S256x256 ![0, 0] s slices_S256x768_o0_0_S256x256⟩,
    ⟨S256x512, addf (extractStridedSlice S256x512 ![0, 256] s slices_S256x768_o0_256_S256x512) (shapeCast S256x512 (View.ld x3 r1_6) shapeCasts_S1x256x512_S256x512)⟩] concatenates_S256x256_S256x512_S256x768_d1

/-- One of them. -/
def f2b (r : Fin 256) (k : Fin 768) : EReal :=
  if h : k.val < 256 then dotHi (fun d => x0 (ix3 0 ⟨512 + r.val, by omega⟩ d)) (fun d => x1 (ix3 0 ⟨k.val, by omega⟩ d))
  else dotHi (fun d => x0 (ix3 0 ⟨512 + r.val, by omega⟩ d)) (fun d => x1 (ix3 0 ⟨k.val, by omega⟩ d)) + x3 (ix3 0 r ⟨k.val - 256, by omega⟩)

theorem s2b_apply (r : Fin 256) (k : Fin 768) : s2b x0 x1 x3 (ix2 r k) = f2b x0 x1 x3 r k := by
  unfold s2b f2b dotHi
  pointwise [k1_pay3, k1_pay4, half_lt]
  simp only [zero_mul, Finset.sum_const_zero, add_zero, zero_add]
  split
  · rfl
  · have e : 256 + (k.val - 256) = k.val := by omega
    simp only [e]

theorem tile2_eq : k1_pay22 (k1_pay21 (k1_pay53 x0 x1 x2 x3 x4 x5) (k1_pay16 (View.ld x1 r1_8)) (k1_pay17 (View.ld x3 r1_6)) (k1_pay18 (k1_pay54 x0 x1 x2 x3 x4 x5) (k1_pay55 x0 x1 x2 x3 x4 x5) (View.ld x0 r1_7) (View.ld x1 r1_8) (View.ld x3 r1_6)) (k1_pay19 (k1_pay54 x0 x1 x2 x3 x4 x5) (k1_pay55 x0 x1 x2 x3 x4 x5) (View.ld x0 r1_7) (View.ld x1 r1_8) (View.ld x3 r1_6)) (k1_pay20 (k1_pay54 x0 x1 x2 x3 x4 x5) (k1_pay55 x0 x1 x2 x3 x4 x5) (View.ld x0 r1_7)) (constant S256x768 .f32 0x00000000#32) (View.ld x2 r1_8) (View.ld x5 r1_3))
    = normV reduces_S256x128_S256 shapeCasts_S256_S256x1 broadcasts_S256x1_S256x128 shapeCasts_S1x128_S1x128
      broadcasts_S1x128_S256x128 shapeCasts_S256x128_S1x256x128
      (matmul dot_S256x768_S768x128_S256x128_1_0_0_1_n_n none
        (attnV reduces_S256x768_S256 shapeCasts_S256_S256x1 broadcasts_S256x1_S256x768 broadcasts_S1x1_S256x1
          (k1_pay2 (View.ld x4 r1_0)) (s2a x0 x1 x3) (s2b x0 x1 x3))
        (shapeCast S768x128 (View.ld x2 r1_8) shapeCasts_S1x768x128_S768x128 : FVec Ideal S768x128 .bf16)
        (constant S256x128 .f32 0x00000000#32))
      (View.ld x5 r1_3) := rfl

theorem tile2_apply (z : Fin 1) (r : Fin 256) (e : Fin 128) :
    (k1_pay22 (k1_pay21 (k1_pay53 x0 x1 x2 x3 x4 x5) (k1_pay16 (View.ld x1 r1_8)) (k1_pay17 (View.ld x3 r1_6)) (k1_pay18 (k1_pay54 x0 x1 x2 x3 x4 x5) (k1_pay55 x0 x1 x2 x3 x4 x5) (View.ld x0 r1_7) (View.ld x1 r1_8) (View.ld x3 r1_6)) (k1_pay19 (k1_pay54 x0 x1 x2 x3 x4 x5) (k1_pay55 x0 x1 x2 x3 x4 x5) (View.ld x0 r1_7) (View.ld x1 r1_8) (View.ld x3 r1_6)) (k1_pay20 (k1_pay54 x0 x1 x2 x3 x4 x5) (k1_pay55 x0 x1 x2 x3 x4 x5) (View.ld x0 r1_7)) (constant S256x768 .f32 0x00000000#32) (View.ld x2 r1_8) (View.ld x5 r1_3))) (ix3 z r e)
    = headOut (fun e => ∑ k : Fin 768, attnK (k1_pay2 (View.ld x4 r1_0) (ix2 0 0)) (f2a x0 x1 x3 r) (f2b x0 x1 x3 r) k
        * x2 (ix3 0 ⟨k.val, by omega⟩ e)) (fun e => x5 (ix2 0 e)) e := by
  rw [tile2_eq, normV_apply]
  congr 1
  · funext e
    pointwise
    refine Finset.sum_congr rfl fun k _ => ?_
    rw [attnV_apply]
    simp only [s2a_apply, s2b_apply]
  · funext e
    pointwise

/-! ## Query rows 768 to 1023, the first 1024 keys -/

/-- The tile's scores of the first map. -/
def s3a : FVec Ideal S256x1024 .f32 :=
  let s : FVec Ideal S256x1024 .f32 := matmul dot_S256x128_S1024x128_S256x1024_1_1_0_0_n_n none (select k1_pay3 (shapeCast S256x128 (View.ld x0 r1_9) shapeCasts_S1x256x128_S256x128) (k1_pay4 (F := Ideal)) : FVec Ideal S256x128 .bf16)
      (shapeCast S1024x128 (View.ld x1 r1_10) shapeCasts_S1x1024x128_S1024x128 : FVec Ideal S1024x128 .bf16)
      (constant S256x1024 .f32 0x00000000#32)
  concatenate S256x1024 1 [⟨S256x512, extractStridedSlice S256x512 ![0, 0] s slices_S256x1024_o0_0_S256x512⟩,
    ⟨S256x512, addf (extractStridedSlice S256x512 ![0, 512] s slices_S256x1024_o0_512_S256x512) (shapeCast S256x512 (View.ld x3 r1_6) shapeCasts_S1x256x512_S256x512)⟩] concatenates_S256x512_S256x512_S256x1024_d1

/-- One of them. -/
def f3a (r : Fin 256) (k : Fin 1024) : EReal :=
  if h : k.val < 512 then dotLo (fun d => x0 (ix3 0 ⟨768 + r.val, by omega⟩ d)) (fun d => x1 (ix3 0 ⟨k.val, by omega⟩ d))
  else dotLo (fun d => x0 (ix3 0 ⟨768 + r.val, by omega⟩ d)) (fun d => x1 (ix3 0 ⟨k.val, by omega⟩ d)) + x3 (ix3 0 r ⟨k.val - 512, by omega⟩)

theorem s3a_apply (r : Fin 256) (k : Fin 1024) : s3a x0 x1 x3 (ix2 r k) = f3a x0 x1 x3 r k := by
  unfold s3a f3a dotLo
  pointwise [k1_pay3, k1_pay4, half_lt]
  simp only [zero_mul, Finset.sum_const_zero, add_zero, zero_add]
  split
  · rfl
  · have e : 512 + (k.val - 512) = k.val := by omega
    simp only [e]

/-- The tile's scores of the second map. -/
def s3b : FVec Ideal S256x1024 .f32 :=
  let s : FVec Ideal S256x1024 .f32 := matmul dot_S256x128_S1024x128_S256x1024_1_1_0_0_n_n none (select k1_pay3 (k1_pay4 (F := Ideal)) (shapeCast S256x128 (View.ld x0 r1_9) shapeCasts_S1x256x128_S256x128) : FVec Ideal S256x128 .bf16)
      (shapeCast S1024x128 (View.ld x1 r1_10) shapeCasts_S1x1024x128_S1024x128 : FVec Ideal S1024x128 .bf16)
      (constant S256x1024 .f32 0x00000000#32)
  concatenate S256x1024 1 [⟨S256x512, extractStridedSlice S256x512 ![0, 0] s slices_S256x1024_o0_0_S256x512⟩,
    ⟨S256x512, addf (extractStridedSlice S256x512 ![0, 512] s slices_S256x1024_o0_512_S256x512) (shapeCast S256x512 (View.ld x3 r1_6) shapeCasts_S1x256x512_S256x512)⟩] concatenates_S256x512_S256x512_S256x1024_d1

/-- One of them. -/
def f3b (r : Fin 256) (k : Fin 1024) : EReal :=
  if h : k.val < 512 then dotHi (fun d => x0 (ix3 0 ⟨768 + r.val, by omega⟩ d)) (fun d => x1 (ix3 0 ⟨k.val, by omega⟩ d))
  else dotHi (fun d => x0 (ix3 0 ⟨768 + r.val, by omega⟩ d)) (fun d => x1 (ix3 0 ⟨k.val, by omega⟩ d)) + x3 (ix3 0 r ⟨k.val - 512, by omega⟩)

theorem s3b_apply (r : Fin 256) (k : Fin 1024) : s3b x0 x1 x3 (ix2 r k) = f3b x0 x1 x3 r k := by
  unfold s3b f3b dotHi
  pointwise [k1_pay3, k1_pay4, half_lt]
  simp only [zero_mul, Finset.sum_const_zero, add_zero, zero_add]
  split
  · rfl
  · have e : 512 + (k.val - 512) = k.val := by omega
    simp only [e]

theorem tile3_eq : k1_pay24 (k1_pay23 (k1_pay53 x0 x1 x2 x3 x4 x5) (k1_pay54 x0 x1 x2 x3 x4 x5) (k1_pay55 x0 x1 x2 x3 x4 x5) (View.ld x0 r1_9) (View.ld x1 r1_10) (View.ld x3 r1_6)) (View.ld x2 r1_10) (View.ld x5 r1_3)
    = normV reduces_S256x128_S256 shapeCasts_S256_S256x1 broadcasts_S256x1_S256x128 shapeCasts_S1x128_S1x128
      broadcasts_S1x128_S256x128 shapeCasts_S256x128_S1x256x128
      (matmul dot_S256x1024_S1024x128_S256x128_1_0_0_1_n_n none
        (attnV reduces_S256x1024_S256 shapeCasts_S256_S256x1 broadcasts_S256x1_S256x1024 broadcasts_S1x1_S256x1
          (k1_pay2 (View.ld x4 r1_0)) (s3a x0 x1 x3) (s3b x0 x1 x3))
        (shapeCast S1024x128 (View.ld x2 r1_10) shapeCasts_S1x1024x128_S1024x128 : FVec Ideal S1024x128 .bf16)
        (constant S256x128 .f32 0x00000000#32))
      (View.ld x5 r1_3) := rfl

theorem tile3_apply (z : Fin 1) (r : Fin 256) (e : Fin 128) :
    (k1_pay24 (k1_pay23 (k1_pay53 x0 x1 x2 x3 x4 x5) (k1_pay54 x0 x1 x2 x3 x4 x5) (k1_pay55 x0 x1 x2 x3 x4 x5) (View.ld x0 r1_9) (View.ld x1 r1_10) (View.ld x3 r1_6)) (View.ld x2 r1_10) (View.ld x5 r1_3)) (ix3 z r e)
    = headOut (fun e => ∑ k : Fin 1024, attnK (k1_pay2 (View.ld x4 r1_0) (ix2 0 0)) (f3a x0 x1 x3 r) (f3b x0 x1 x3 r) k
        * x2 (ix3 0 ⟨k.val, by omega⟩ e)) (fun e => x5 (ix2 0 e)) e := by
  rw [tile3_eq, normV_apply]
  congr 1
  · funext e
    pointwise
    refine Finset.sum_congr rfl fun k _ => ?_
    rw [attnV_apply]
    simp only [s3a_apply, s3b_apply]
  · funext e
    pointwise

/-! ## Query rows 1024 to 1279, the first 1280 keys -/

/-- The tile's scores of the first map. -/
def s4a : FVec Ideal S256x1280 .f32 :=
  let s : FVec Ideal S256x1280 .f32 := matmul dot_S256x128_S1280x128_S256x1280_1_1_0_0_n_n none (select k1_pay3 (shapeCast S256x128 (View.ld x0 r1_11) shapeCasts_S1x256x128_S256x128) (k1_pay4 (F := Ideal)) : FVec Ideal S256x128 .bf16)
      (shapeCast S1280x128 (View.ld x1 r1_12) shapeCasts_S1x1280x128_S1280x128 : FVec Ideal S1280x128 .bf16)
      (constant S256x1280 .f32 0x00000000#32)
  concatenate S256x1280 1 [⟨S256x768, extractStridedSlice S256x768 ![0, 0] s slices_S256x1280_o0_0_S256x768⟩,
    ⟨S256x512, addf (extractStridedSlice S256x512 ![0, 768] s slices_S256x1280_o0_768_S256x512) (shapeCast S256x512 (View.ld x3 r1_6) shapeCasts_S1x256x512_S256x512)⟩] concatenates_S256x768_S256x512_S256x1280_d1

/-- One of them. -/
def f4a (r : Fin 256) (k : Fin 1280) : EReal :=
  if h : k.val < 768 then dotLo (fun d => x0 (ix3 0 ⟨1024 + r.val, by omega⟩ d)) (fun d => x1 (ix3 0 ⟨k.val, by omega⟩ d))
  else dotLo (fun d => x0 (ix3 0 ⟨1024 + r.val, by omega⟩ d)) (fun d => x1 (ix3 0 ⟨k.val, by omega⟩ d)) + x3 (ix3 0 r ⟨k.val - 768, by omega⟩)

theorem s4a_apply (r : Fin 256) (k : Fin 1280) : s4a x0 x1 x3 (ix2 r k) = f4a x0 x1 x3 r k := by
  unfold s4a f4a dotLo
  pointwise [k1_pay3, k1_pay4, half_lt]
  simp only [zero_mul, Finset.sum_const_zero, add_zero, zero_add]
  split
  · rfl
  · have e : 768 + (k.val - 768) = k.val := by omega
    simp only [e]

/-- The tile's scores of the second map. -/
def s4b : FVec Ideal S256x1280 .f32 :=
  let s : FVec Ideal S256x1280 .f32 := matmul dot_S256x128_S1280x128_S256x1280_1_1_0_0_n_n none (select k1_pay3 (k1_pay4 (F := Ideal)) (shapeCast S256x128 (View.ld x0 r1_11) shapeCasts_S1x256x128_S256x128) : FVec Ideal S256x128 .bf16)
      (shapeCast S1280x128 (View.ld x1 r1_12) shapeCasts_S1x1280x128_S1280x128 : FVec Ideal S1280x128 .bf16)
      (constant S256x1280 .f32 0x00000000#32)
  concatenate S256x1280 1 [⟨S256x768, extractStridedSlice S256x768 ![0, 0] s slices_S256x1280_o0_0_S256x768⟩,
    ⟨S256x512, addf (extractStridedSlice S256x512 ![0, 768] s slices_S256x1280_o0_768_S256x512) (shapeCast S256x512 (View.ld x3 r1_6) shapeCasts_S1x256x512_S256x512)⟩] concatenates_S256x768_S256x512_S256x1280_d1

/-- One of them. -/
def f4b (r : Fin 256) (k : Fin 1280) : EReal :=
  if h : k.val < 768 then dotHi (fun d => x0 (ix3 0 ⟨1024 + r.val, by omega⟩ d)) (fun d => x1 (ix3 0 ⟨k.val, by omega⟩ d))
  else dotHi (fun d => x0 (ix3 0 ⟨1024 + r.val, by omega⟩ d)) (fun d => x1 (ix3 0 ⟨k.val, by omega⟩ d)) + x3 (ix3 0 r ⟨k.val - 768, by omega⟩)

theorem s4b_apply (r : Fin 256) (k : Fin 1280) : s4b x0 x1 x3 (ix2 r k) = f4b x0 x1 x3 r k := by
  unfold s4b f4b dotHi
  pointwise [k1_pay3, k1_pay4, half_lt]
  simp only [zero_mul, Finset.sum_const_zero, add_zero, zero_add]
  split
  · rfl
  · have e : 768 + (k.val - 768) = k.val := by omega
    simp only [e]

theorem tile4_eq : k1_pay31 (k1_pay29 (k1_pay53 x0 x1 x2 x3 x4 x5) (k1_pay54 x0 x1 x2 x3 x4 x5) (k1_pay55 x0 x1 x2 x3 x4 x5) (k1_pay25 (View.ld x0 r1_11)) (k1_pay26 (View.ld x1 r1_12)) (k1_pay27 (View.ld x3 r1_6)) (k1_pay28 (k1_pay54 x0 x1 x2 x3 x4 x5) (k1_pay55 x0 x1 x2 x3 x4 x5) (View.ld x0 r1_11) (View.ld x1 r1_12) (View.ld x3 r1_6)) (View.ld x2 r1_12)) (k1_pay30 (View.ld x5 r1_3))
    = normV reduces_S256x128_S256 shapeCasts_S256_S256x1 broadcasts_S256x1_S256x128 shapeCasts_S1x128_S1x128
      broadcasts_S1x128_S256x128 shapeCasts_S256x128_S1x256x128
      (matmul dot_S256x1280_S1280x128_S256x128_1_0_0_1_n_n none
        (attnV reduces_S256x1280_S256 shapeCasts_S256_S256x1 broadcasts_S256x1_S256x1280 broadcasts_S1x1_S256x1
          (k1_pay2 (View.ld x4 r1_0)) (s4a x0 x1 x3) (s4b x0 x1 x3))
        (shapeCast S1280x128 (View.ld x2 r1_12) shapeCasts_S1x1280x128_S1280x128 : FVec Ideal S1280x128 .bf16)
        (constant S256x128 .f32 0x00000000#32))
      (View.ld x5 r1_3) := rfl

theorem tile4_apply (z : Fin 1) (r : Fin 256) (e : Fin 128) :
    (k1_pay31 (k1_pay29 (k1_pay53 x0 x1 x2 x3 x4 x5) (k1_pay54 x0 x1 x2 x3 x4 x5) (k1_pay55 x0 x1 x2 x3 x4 x5) (k1_pay25 (View.ld x0 r1_11)) (k1_pay26 (View.ld x1 r1_12)) (k1_pay27 (View.ld x3 r1_6)) (k1_pay28 (k1_pay54 x0 x1 x2 x3 x4 x5) (k1_pay55 x0 x1 x2 x3 x4 x5) (View.ld x0 r1_11) (View.ld x1 r1_12) (View.ld x3 r1_6)) (View.ld x2 r1_12)) (k1_pay30 (View.ld x5 r1_3))) (ix3 z r e)
    = headOut (fun e => ∑ k : Fin 1280, attnK (k1_pay2 (View.ld x4 r1_0) (ix2 0 0)) (f4a x0 x1 x3 r) (f4b x0 x1 x3 r) k
        * x2 (ix3 0 ⟨k.val, by omega⟩ e)) (fun e => x5 (ix2 0 e)) e := by
  rw [tile4_eq, normV_apply]
  congr 1
  · funext e
    pointwise
    refine Finset.sum_congr rfl fun k _ => ?_
    rw [attnV_apply]
    simp only [s4a_apply, s4b_apply]
  · funext e
    pointwise

/-! ## Query rows 1280 to 1535, the first 1536 keys -/

/-- The tile's scores of the first map. -/
def s5a : FVec Ideal S256x1536 .f32 :=
  let s : FVec Ideal S256x1536 .f32 := matmul dot_S256x128_S1536x128_S256x1536_1_1_0_0_n_n none (select k1_pay3 (shapeCast S256x128 (View.ld x0 r1_13) shapeCasts_S1x256x128_S256x128) (k1_pay4 (F := Ideal)) : FVec Ideal S256x128 .bf16)
      (shapeCast S1536x128 (View.ld x1 r1_14) shapeCasts_S1x1536x128_S1536x128 : FVec Ideal S1536x128 .bf16)
      (constant S256x1536 .f32 0x00000000#32)
  concatenate S256x1536 1 [⟨S256x1024, extractStridedSlice S256x1024 ![0, 0] s slices_S256x1536_o0_0_S256x1024⟩,
    ⟨S256x512, addf (extractStridedSlice S256x512 ![0, 1024] s slices_S256x1536_o0_1024_S256x512) (shapeCast S256x512 (View.ld x3 r1_6) shapeCasts_S1x256x512_S256x512)⟩] concatenates_S256x1024_S256x512_S256x1536_d1

/-- One of them. -/
def f5a (r : Fin 256) (k : Fin 1536) : EReal :=
  if h : k.val < 1024 then dotLo (fun d => x0 (ix3 0 ⟨1280 + r.val, by omega⟩ d)) (fun d => x1 (ix3 0 ⟨k.val, by omega⟩ d))
  else dotLo (fun d => x0 (ix3 0 ⟨1280 + r.val, by omega⟩ d)) (fun d => x1 (ix3 0 ⟨k.val, by omega⟩ d)) + x3 (ix3 0 r ⟨k.val - 1024, by omega⟩)

theorem s5a_apply (r : Fin 256) (k : Fin 1536) : s5a x0 x1 x3 (ix2 r k) = f5a x0 x1 x3 r k := by
  unfold s5a f5a dotLo
  pointwise [k1_pay3, k1_pay4, half_lt]
  simp only [zero_mul, Finset.sum_const_zero, add_zero, zero_add]
  split
  · rfl
  · have e : 1024 + (k.val - 1024) = k.val := by omega
    simp only [e]

/-- The tile's scores of the second map. -/
def s5b : FVec Ideal S256x1536 .f32 :=
  let s : FVec Ideal S256x1536 .f32 := matmul dot_S256x128_S1536x128_S256x1536_1_1_0_0_n_n none (select k1_pay3 (k1_pay4 (F := Ideal)) (shapeCast S256x128 (View.ld x0 r1_13) shapeCasts_S1x256x128_S256x128) : FVec Ideal S256x128 .bf16)
      (shapeCast S1536x128 (View.ld x1 r1_14) shapeCasts_S1x1536x128_S1536x128 : FVec Ideal S1536x128 .bf16)
      (constant S256x1536 .f32 0x00000000#32)
  concatenate S256x1536 1 [⟨S256x1024, extractStridedSlice S256x1024 ![0, 0] s slices_S256x1536_o0_0_S256x1024⟩,
    ⟨S256x512, addf (extractStridedSlice S256x512 ![0, 1024] s slices_S256x1536_o0_1024_S256x512) (shapeCast S256x512 (View.ld x3 r1_6) shapeCasts_S1x256x512_S256x512)⟩] concatenates_S256x1024_S256x512_S256x1536_d1

/-- One of them. -/
def f5b (r : Fin 256) (k : Fin 1536) : EReal :=
  if h : k.val < 1024 then dotHi (fun d => x0 (ix3 0 ⟨1280 + r.val, by omega⟩ d)) (fun d => x1 (ix3 0 ⟨k.val, by omega⟩ d))
  else dotHi (fun d => x0 (ix3 0 ⟨1280 + r.val, by omega⟩ d)) (fun d => x1 (ix3 0 ⟨k.val, by omega⟩ d)) + x3 (ix3 0 r ⟨k.val - 1024, by omega⟩)

theorem s5b_apply (r : Fin 256) (k : Fin 1536) : s5b x0 x1 x3 (ix2 r k) = f5b x0 x1 x3 r k := by
  unfold s5b f5b dotHi
  pointwise [k1_pay3, k1_pay4, half_lt]
  simp only [zero_mul, Finset.sum_const_zero, add_zero, zero_add]
  split
  · rfl
  · have e : 1024 + (k.val - 1024) = k.val := by omega
    simp only [e]

theorem tile5_eq : k1_pay39 (k1_pay53 x0 x1 x2 x3 x4 x5) (k1_pay35 (k1_pay54 x0 x1 x2 x3 x4 x5) (k1_pay55 x0 x1 x2 x3 x4 x5) (View.ld x0 r1_13) (View.ld x1 r1_14) (View.ld x3 r1_6)) (k1_pay36 (k1_pay54 x0 x1 x2 x3 x4 x5) (k1_pay55 x0 x1 x2 x3 x4 x5) (View.ld x0 r1_13) (View.ld x1 r1_14) (View.ld x3 r1_6)) (k1_pay37 (k1_pay54 x0 x1 x2 x3 x4 x5) (k1_pay55 x0 x1 x2 x3 x4 x5) (View.ld x0 r1_13) (View.ld x1 r1_14) (View.ld x3 r1_6)) (k1_pay38 (k1_pay54 x0 x1 x2 x3 x4 x5) (k1_pay55 x0 x1 x2 x3 x4 x5) (View.ld x0 r1_13) (View.ld x1 r1_14) (View.ld x3 r1_6)) (Scalar.ofBits .f32 0x3F800000#32) (View.ld x2 r1_14) (View.ld x5 r1_3)
    = normV reduces_S256x128_S256 shapeCasts_S256_S256x1 broadcasts_S256x1_S256x128 shapeCasts_S1x128_S1x128
      broadcasts_S1x128_S256x128 shapeCasts_S256x128_S1x256x128
      (matmul dot_S256x1536_S1536x128_S256x128_1_0_0_1_n_n none
        (attnV reduces_S256x1536_S256 shapeCasts_S256_S256x1 broadcasts_S256x1_S256x1536 broadcasts_S1x1_S256x1
          (k1_pay2 (View.ld x4 r1_0)) (s5a x0 x1 x3) (s5b x0 x1 x3))
        (shapeCast S1536x128 (View.ld x2 r1_14) shapeCasts_S1x1536x128_S1536x128 : FVec Ideal S1536x128 .bf16)
        (constant S256x128 .f32 0x00000000#32))
      (View.ld x5 r1_3) := rfl

theorem tile5_apply (z : Fin 1) (r : Fin 256) (e : Fin 128) :
    (k1_pay39 (k1_pay53 x0 x1 x2 x3 x4 x5) (k1_pay35 (k1_pay54 x0 x1 x2 x3 x4 x5) (k1_pay55 x0 x1 x2 x3 x4 x5) (View.ld x0 r1_13) (View.ld x1 r1_14) (View.ld x3 r1_6)) (k1_pay36 (k1_pay54 x0 x1 x2 x3 x4 x5) (k1_pay55 x0 x1 x2 x3 x4 x5) (View.ld x0 r1_13) (View.ld x1 r1_14) (View.ld x3 r1_6)) (k1_pay37 (k1_pay54 x0 x1 x2 x3 x4 x5) (k1_pay55 x0 x1 x2 x3 x4 x5) (View.ld x0 r1_13) (View.ld x1 r1_14) (View.ld x3 r1_6)) (k1_pay38 (k1_pay54 x0 x1 x2 x3 x4 x5) (k1_pay55 x0 x1 x2 x3 x4 x5) (View.ld x0 r1_13) (View.ld x1 r1_14) (View.ld x3 r1_6)) (Scalar.ofBits .f32 0x3F800000#32) (View.ld x2 r1_14) (View.ld x5 r1_3)) (ix3 z r e)
    = headOut (fun e => ∑ k : Fin 1536, attnK (k1_pay2 (View.ld x4 r1_0) (ix2 0 0)) (f5a x0 x1 x3 r) (f5b x0 x1 x3 r) k
        * x2 (ix3 0 ⟨k.val, by omega⟩ e)) (fun e => x5 (ix2 0 e)) e := by
  rw [tile5_eq, normV_apply]
  congr 1
  · funext e
    pointwise
    refine Finset.sum_congr rfl fun k _ => ?_
    rw [attnV_apply]
    simp only [s5a_apply, s5b_apply]
  · funext e
    pointwise

/-! ## Query rows 1536 to 1791, the first 1792 keys -/

/-- The tile's scores of the first map. -/
def s6a : FVec Ideal S256x1792 .f32 :=
  let s : FVec Ideal S256x1792 .f32 := matmul dot_S256x128_S1792x128_S256x1792_1_1_0_0_n_n none (select k1_pay3 (shapeCast S256x128 (View.ld x0 r1_15) shapeCasts_S1x256x128_S256x128) (k1_pay4 (F := Ideal)) : FVec Ideal S256x128 .bf16)
      (shapeCast S1792x128 (View.ld x1 r1_16) shapeCasts_S1x1792x128_S1792x128 : FVec Ideal S1792x128 .bf16)
      (constant S256x1792 .f32 0x00000000#32)
  concatenate S256x1792 1 [⟨S256x1280, extractStridedSlice S256x1280 ![0, 0] s slices_S256x1792_o0_0_S256x1280⟩,
    ⟨S256x512, addf (extractStridedSlice S256x512 ![0, 1280] s slices_S256x1792_o0_1280_S256x512) (shapeCast S256x512 (View.ld x3 r1_6) shapeCasts_S1x256x512_S256x512)⟩] concatenates_S256x1280_S256x512_S256x1792_d1

/-- One of them. -/
def f6a (r : Fin 256) (k : Fin 1792) : EReal :=
  if h : k.val < 1280 then dotLo (fun d => x0 (ix3 0 ⟨1536 + r.val, by omega⟩ d)) (fun d => x1 (ix3 0 ⟨k.val, by omega⟩ d))
  else dotLo (fun d => x0 (ix3 0 ⟨1536 + r.val, by omega⟩ d)) (fun d => x1 (ix3 0 ⟨k.val, by omega⟩ d)) + x3 (ix3 0 r ⟨k.val - 1280, by omega⟩)

theorem s6a_apply (r : Fin 256) (k : Fin 1792) : s6a x0 x1 x3 (ix2 r k) = f6a x0 x1 x3 r k := by
  unfold s6a f6a dotLo
  pointwise [k1_pay3, k1_pay4, half_lt]
  simp only [zero_mul, Finset.sum_const_zero, add_zero, zero_add]
  split
  · rfl
  · have e : 1280 + (k.val - 1280) = k.val := by omega
    simp only [e]

/-- The tile's scores of the second map. -/
def s6b : FVec Ideal S256x1792 .f32 :=
  let s : FVec Ideal S256x1792 .f32 := matmul dot_S256x128_S1792x128_S256x1792_1_1_0_0_n_n none (select k1_pay3 (k1_pay4 (F := Ideal)) (shapeCast S256x128 (View.ld x0 r1_15) shapeCasts_S1x256x128_S256x128) : FVec Ideal S256x128 .bf16)
      (shapeCast S1792x128 (View.ld x1 r1_16) shapeCasts_S1x1792x128_S1792x128 : FVec Ideal S1792x128 .bf16)
      (constant S256x1792 .f32 0x00000000#32)
  concatenate S256x1792 1 [⟨S256x1280, extractStridedSlice S256x1280 ![0, 0] s slices_S256x1792_o0_0_S256x1280⟩,
    ⟨S256x512, addf (extractStridedSlice S256x512 ![0, 1280] s slices_S256x1792_o0_1280_S256x512) (shapeCast S256x512 (View.ld x3 r1_6) shapeCasts_S1x256x512_S256x512)⟩] concatenates_S256x1280_S256x512_S256x1792_d1

/-- One of them. -/
def f6b (r : Fin 256) (k : Fin 1792) : EReal :=
  if h : k.val < 1280 then dotHi (fun d => x0 (ix3 0 ⟨1536 + r.val, by omega⟩ d)) (fun d => x1 (ix3 0 ⟨k.val, by omega⟩ d))
  else dotHi (fun d => x0 (ix3 0 ⟨1536 + r.val, by omega⟩ d)) (fun d => x1 (ix3 0 ⟨k.val, by omega⟩ d)) + x3 (ix3 0 r ⟨k.val - 1280, by omega⟩)

theorem s6b_apply (r : Fin 256) (k : Fin 1792) : s6b x0 x1 x3 (ix2 r k) = f6b x0 x1 x3 r k := by
  unfold s6b f6b dotHi
  pointwise [k1_pay3, k1_pay4, half_lt]
  simp only [zero_mul, Finset.sum_const_zero, add_zero, zero_add]
  split
  · rfl
  · have e : 1280 + (k.val - 1280) = k.val := by omega
    simp only [e]

theorem tile6_eq : k1_pay44 (k1_pay42 (k1_pay53 x0 x1 x2 x3 x4 x5) (k1_pay54 x0 x1 x2 x3 x4 x5) (k1_pay55 x0 x1 x2 x3 x4 x5) (k1_pay56 x0 x1 x2 x3 x4 x5) (k1_pay57 x0 x1 x2 x3 x4 x5) (View.ld x3 r1_6) (View.ld x2 r1_16)) (k1_pay43 (k1_pay53 x0 x1 x2 x3 x4 x5) (k1_pay54 x0 x1 x2 x3 x4 x5) (k1_pay55 x0 x1 x2 x3 x4 x5) (k1_pay56 x0 x1 x2 x3 x4 x5) (k1_pay57 x0 x1 x2 x3 x4 x5) (View.ld x3 r1_6) (View.ld x2 r1_16)) (Scalar.ofBits .f32 0x3727C5AC#32) (View.ld x5 r1_3)
    = normV reduces_S256x128_S256 shapeCasts_S256_S256x1 broadcasts_S256x1_S256x128 shapeCasts_S1x128_S1x128
      broadcasts_S1x128_S256x128 shapeCasts_S256x128_S1x256x128
      (matmul dot_S256x1792_S1792x128_S256x128_1_0_0_1_n_n none
        (attnV reduces_S256x1792_S256 shapeCasts_S256_S256x1 broadcasts_S256x1_S256x1792 broadcasts_S1x1_S256x1
          (k1_pay2 (View.ld x4 r1_0)) (s6a x0 x1 x3) (s6b x0 x1 x3))
        (shapeCast S1792x128 (View.ld x2 r1_16) shapeCasts_S1x1792x128_S1792x128 : FVec Ideal S1792x128 .bf16)
        (constant S256x128 .f32 0x00000000#32))
      (View.ld x5 r1_3) := rfl

theorem tile6_apply (z : Fin 1) (r : Fin 256) (e : Fin 128) :
    (k1_pay44 (k1_pay42 (k1_pay53 x0 x1 x2 x3 x4 x5) (k1_pay54 x0 x1 x2 x3 x4 x5) (k1_pay55 x0 x1 x2 x3 x4 x5) (k1_pay56 x0 x1 x2 x3 x4 x5) (k1_pay57 x0 x1 x2 x3 x4 x5) (View.ld x3 r1_6) (View.ld x2 r1_16)) (k1_pay43 (k1_pay53 x0 x1 x2 x3 x4 x5) (k1_pay54 x0 x1 x2 x3 x4 x5) (k1_pay55 x0 x1 x2 x3 x4 x5) (k1_pay56 x0 x1 x2 x3 x4 x5) (k1_pay57 x0 x1 x2 x3 x4 x5) (View.ld x3 r1_6) (View.ld x2 r1_16)) (Scalar.ofBits .f32 0x3727C5AC#32) (View.ld x5 r1_3)) (ix3 z r e)
    = headOut (fun e => ∑ k : Fin 1792, attnK (k1_pay2 (View.ld x4 r1_0) (ix2 0 0)) (f6a x0 x1 x3 r) (f6b x0 x1 x3 r) k
        * x2 (ix3 0 ⟨k.val, by omega⟩ e)) (fun e => x5 (ix2 0 e)) e := by
  rw [tile6_eq, normV_apply]
  congr 1
  · funext e
    pointwise
    refine Finset.sum_congr rfl fun k _ => ?_
    rw [attnV_apply]
    simp only [s6a_apply, s6b_apply]
  · funext e
    pointwise

/-! ## Query rows 1792 to 2047, the first 2048 keys -/

/-- The tile's scores of the first map. -/
def s7a : FVec Ideal S256x2048 .f32 :=
  let s : FVec Ideal S256x2048 .f32 := matmul dot_S256x128_S2048x128_S256x2048_1_1_0_0_n_n none (select k1_pay3 (shapeCast S256x128 (View.ld x0 r1_17) shapeCasts_S1x256x128_S256x128) (k1_pay4 (F := Ideal)) : FVec Ideal S256x128 .bf16)
      (shapeCast S2048x128 (View.ld x1 r1_18) shapeCasts_S1x2048x128_S2048x128 : FVec Ideal S2048x128 .bf16)
      (constant S256x2048 .f32 0x00000000#32)
  concatenate S256x2048 1 [⟨S256x1536, extractStridedSlice S256x1536 ![0, 0] s slices_S256x2048_o0_0_S256x1536⟩,
    ⟨S256x512, addf (extractStridedSlice S256x512 ![0, 1536] s slices_S256x2048_o0_1536_S256x512) (shapeCast S256x512 (View.ld x3 r1_6) shapeCasts_S1x256x512_S256x512)⟩] concatenates_S256x1536_S256x512_S256x2048_d1

/-- One of them. -/
def f7a (r : Fin 256) (k : Fin 2048) : EReal :=
  if h : k.val < 1536 then dotLo (fun d => x0 (ix3 0 ⟨1792 + r.val, by omega⟩ d)) (fun d => x1 (ix3 0 ⟨k.val, by omega⟩ d))
  else dotLo (fun d => x0 (ix3 0 ⟨1792 + r.val, by omega⟩ d)) (fun d => x1 (ix3 0 ⟨k.val, by omega⟩ d)) + x3 (ix3 0 r ⟨k.val - 1536, by omega⟩)

theorem s7a_apply (r : Fin 256) (k : Fin 2048) : s7a x0 x1 x3 (ix2 r k) = f7a x0 x1 x3 r k := by
  unfold s7a f7a dotLo
  pointwise [k1_pay3, k1_pay4, half_lt]
  simp only [zero_mul, Finset.sum_const_zero, add_zero, zero_add]
  split
  · rfl
  · have e : 1536 + (k.val - 1536) = k.val := by omega
    simp only [e]

/-- The tile's scores of the second map. -/
def s7b : FVec Ideal S256x2048 .f32 :=
  let s : FVec Ideal S256x2048 .f32 := matmul dot_S256x128_S2048x128_S256x2048_1_1_0_0_n_n none (select k1_pay3 (k1_pay4 (F := Ideal)) (shapeCast S256x128 (View.ld x0 r1_17) shapeCasts_S1x256x128_S256x128) : FVec Ideal S256x128 .bf16)
      (shapeCast S2048x128 (View.ld x1 r1_18) shapeCasts_S1x2048x128_S2048x128 : FVec Ideal S2048x128 .bf16)
      (constant S256x2048 .f32 0x00000000#32)
  concatenate S256x2048 1 [⟨S256x1536, extractStridedSlice S256x1536 ![0, 0] s slices_S256x2048_o0_0_S256x1536⟩,
    ⟨S256x512, addf (extractStridedSlice S256x512 ![0, 1536] s slices_S256x2048_o0_1536_S256x512) (shapeCast S256x512 (View.ld x3 r1_6) shapeCasts_S1x256x512_S256x512)⟩] concatenates_S256x1536_S256x512_S256x2048_d1

/-- One of them. -/
def f7b (r : Fin 256) (k : Fin 2048) : EReal :=
  if h : k.val < 1536 then dotHi (fun d => x0 (ix3 0 ⟨1792 + r.val, by omega⟩ d)) (fun d => x1 (ix3 0 ⟨k.val, by omega⟩ d))
  else dotHi (fun d => x0 (ix3 0 ⟨1792 + r.val, by omega⟩ d)) (fun d => x1 (ix3 0 ⟨k.val, by omega⟩ d)) + x3 (ix3 0 r ⟨k.val - 1536, by omega⟩)

theorem s7b_apply (r : Fin 256) (k : Fin 2048) : s7b x0 x1 x3 (ix2 r k) = f7b x0 x1 x3 r k := by
  unfold s7b f7b dotHi
  pointwise [k1_pay3, k1_pay4, half_lt]
  simp only [zero_mul, Finset.sum_const_zero, add_zero, zero_add]
  split
  · rfl
  · have e : 1536 + (k.val - 1536) = k.val := by omega
    simp only [e]

theorem tile7_eq : k1_pay1 (k1_pay51 (k1_pay53 x0 x1 x2 x3 x4 x5) (k1_pay48 (k1_pay54 x0 x1 x2 x3 x4 x5) (k1_pay55 x0 x1 x2 x3 x4 x5) (View.ld x0 r1_17) (View.ld x1 r1_18) (View.ld x3 r1_6)) (k1_pay49 (k1_pay54 x0 x1 x2 x3 x4 x5) (k1_pay55 x0 x1 x2 x3 x4 x5) (View.ld x0 r1_17) (View.ld x1 r1_18) (View.ld x3 r1_6)) (k1_pay50 (k1_pay54 x0 x1 x2 x3 x4 x5) (k1_pay55 x0 x1 x2 x3 x4 x5) (View.ld x0 r1_17) (View.ld x1 r1_18) (View.ld x3 r1_6)) (View.ld x2 r1_18) (View.ld x5 r1_3)) (k1_pay52 (F := Ideal))
    = normV reduces_S256x128_S256 shapeCasts_S256_S256x1 broadcasts_S256x1_S256x128 shapeCasts_S1x128_S1x128
      broadcasts_S1x128_S256x128 shapeCasts_S256x128_S1x256x128
      (matmul dot_S256x2048_S2048x128_S256x128_1_0_0_1_n_n none
        (attnV reduces_S256x2048_S256 shapeCasts_S256_S256x1 broadcasts_S256x1_S256x2048 broadcasts_S1x1_S256x1
          (k1_pay2 (View.ld x4 r1_0)) (s7a x0 x1 x3) (s7b x0 x1 x3))
        (shapeCast S2048x128 (View.ld x2 r1_18) shapeCasts_S1x2048x128_S2048x128 : FVec Ideal S2048x128 .bf16)
        (constant S256x128 .f32 0x00000000#32))
      (View.ld x5 r1_3) := rfl

theorem tile7_apply (z : Fin 1) (r : Fin 256) (e : Fin 128) :
    (k1_pay1 (k1_pay51 (k1_pay53 x0 x1 x2 x3 x4 x5) (k1_pay48 (k1_pay54 x0 x1 x2 x3 x4 x5) (k1_pay55 x0 x1 x2 x3 x4 x5) (View.ld x0 r1_17) (View.ld x1 r1_18) (View.ld x3 r1_6)) (k1_pay49 (k1_pay54 x0 x1 x2 x3 x4 x5) (k1_pay55 x0 x1 x2 x3 x4 x5) (View.ld x0 r1_17) (View.ld x1 r1_18) (View.ld x3 r1_6)) (k1_pay50 (k1_pay54 x0 x1 x2 x3 x4 x5) (k1_pay55 x0 x1 x2 x3 x4 x5) (View.ld x0 r1_17) (View.ld x1 r1_18) (View.ld x3 r1_6)) (View.ld x2 r1_18) (View.ld x5 r1_3)) (k1_pay52 (F := Ideal))) (ix3 z r e)
    = headOut (fun e => ∑ k : Fin 2048, attnK (k1_pay2 (View.ld x4 r1_0) (ix2 0 0)) (f7a x0 x1 x3 r) (f7b x0 x1 x3 r) k
        * x2 (ix3 0 ⟨k.val, by omega⟩ e)) (fun e => x5 (ix2 0 e)) e := by
  rw [tile7_eq, normV_apply]
  congr 1
  · funext e
    pointwise
    refine Finset.sum_congr rfl fun k _ => ?_
    rw [attnV_apply]
    simp only [s7a_apply, s7b_apply]
  · funext e
    pointwise

end Cert.Attn

end
-- ==== Proof.Attn.Out.lean ====
/- The attention kernel's output block: the eight tiles together are the attention's rows. -/
module

public import proofs.«01_k».proof.Proof.Attn.Rows
public import proofs.«01_k».proof.Proof.Attn.Tiles

@[expose] public section

set_option maxRecDepth 16384

noncomputable section

namespace Cert.Attn

open Idealize.ShloMosaic Cert.KernelIdeal Cert.KernelIdeal.Gen
open Cert.KernelIdeal.Facts

variable (x0 x1 x2 : Vec Ideal S1x2048x128 .bf16) (x3 : Vec Ideal S1x256x512 .f32) (x4 : Vec Ideal S4x64 .f32)
  (x5 : Vec Ideal S1x128 .f32)

/-- An index whose row lies outside a store's 256 rows is not written by it. -/
theorem off_rows (c : Nat) (inb) (z : Fin 1) (r : Fin 2048) (e : Fin 128) (h : r.val < c ∨ c + 256 ≤ r.val) :
    (ix3 z r e : S1x2048x128.Idx) ∉ (Rect.unit (s := S1x2048x128) ![0, c, 0] S1x256x128.size inb).set := by
  rw [Rect.mem_set_unit]
  intro hm
  obtain ⟨h1, h2⟩ := hm 1
  simp at h1 h2
  omega

theorem at_rows (c : Nat) (hc : c + 256 ≤ 2048) (inb) (z : Fin 1) (r : Fin 256) (e : Fin 128) :
    (ix3 z ⟨c + r.val, by omega⟩ e : S1x2048x128.Idx)
      = (Rect.unit (s := S1x2048x128) ![0, c, 0] S1x256x128.size inb).emb (ix3 z r e) := by
  funext a
  apply Fin.ext
  fin_cases a <;> simp

/-- Such a store is passed over, -/
theorem canon_skip (c : Nat) (inb) (w : Vec Ideal S1x256x128 .bf16) (L : List (View.Piece (Elt Ideal) S1x2048x128 .bf16))
    (z : Fin 1) (r : Fin 2048) (e : Fin 128) (h : r.val < c ∨ c + 256 ≤ r.val) :
    View.canon (⟨Rect.unit (s := S1x2048x128) ![0, c, 0] S1x256x128.size inb, w⟩ :: L) (ix3 z r e)
      = View.canon L (ix3 z r e) :=
  View.canon_cons_of_not_mem ⟨Rect.unit (s := S1x2048x128) ![0, c, 0] S1x256x128.size inb, w⟩ L (off_rows c inb z r e h)

/-- and one that holds the row is read. -/
theorem canon_hit (c : Nat) (hc : c + 256 ≤ 2048) (inb) (w : Vec Ideal S1x256x128 .bf16)
    (L : List (View.Piece (Elt Ideal) S1x2048x128 .bf16)) (z : Fin 1) (r : Fin 256) (e : Fin 128) :
    View.canon (⟨Rect.unit (s := S1x2048x128) ![0, c, 0] S1x256x128.size inb, w⟩ :: L) (ix3 z ⟨c + r.val, by omega⟩ e)
      = w (ix3 z r e) := by
  rw [at_rows c hc inb]
  exact View.canon_cons_emb (Rect.unit (s := S1x2048x128) ![0, c, 0] S1x256x128.size inb) w L (ix3 z r e)

/-- A row among a store's 256 is the store's first row and an offset. -/
theorem row_split (c : Nat) (hc : c + 256 ≤ 2048) (r : Fin 2048) (h : c ≤ r.val) (h' : r.val < c + 256) :
    ∃ i : Fin 256, r = ⟨c + i.val, by omega⟩ :=
  ⟨⟨r.val - c, by omega⟩, Fin.ext (by dsimp only; omega)⟩

section
variable (w0 w1 w2 w3 w4 w5 w6 w7 : Vec Ideal S1x256x128 .bf16)

theorem canon0 (z : Fin 1) (i : Fin 256) (e : Fin 128) :
    View.canon (Val := Elt Ideal) (s := S1x2048x128) (e := .bf16) [⟨r1_17, w7⟩, ⟨r1_15, w6⟩, ⟨r1_13, w5⟩, ⟨r1_11, w4⟩, ⟨r1_9, w3⟩, ⟨r1_7, w2⟩, ⟨r1_4, w1⟩, ⟨r1_1, w0⟩] (ix3 z ⟨0 + i.val, by omega⟩ e) = w0 (ix3 z i e) := by
  refine (canon_skip 1792 inb_S1x2048x128_S1x256x128_0_1792_0 w7 _ z ⟨0 + i.val, by omega⟩ e (Or.inl (by dsimp only; omega))).trans ?_
  refine (canon_skip 1536 inb_S1x2048x128_S1x256x128_0_1536_0 w6 _ z ⟨0 + i.val, by omega⟩ e (Or.inl (by dsimp only; omega))).trans ?_
  refine (canon_skip 1280 inb_S1x2048x128_S1x256x128_0_1280_0 w5 _ z ⟨0 + i.val, by omega⟩ e (Or.inl (by dsimp only; omega))).trans ?_
  refine (canon_skip 1024 inb_S1x2048x128_S1x256x128_0_1024_0 w4 _ z ⟨0 + i.val, by omega⟩ e (Or.inl (by dsimp only; omega))).trans ?_
  refine (canon_skip 768 inb_S1x2048x128_S1x256x128_0_768_0 w3 _ z ⟨0 + i.val, by omega⟩ e (Or.inl (by dsimp only; omega))).trans ?_
  refine (canon_skip 512 inb_S1x2048x128_S1x256x128_0_512_0 w2 _ z ⟨0 + i.val, by omega⟩ e (Or.inl (by dsimp only; omega))).trans ?_
  refine (canon_skip 256 inb_S1x2048x128_S1x256x128_0_256_0 w1 _ z ⟨0 + i.val, by omega⟩ e (Or.inl (by dsimp only; omega))).trans ?_
  exact canon_hit 0 (by omega) inb_S1x2048x128_S1x256x128_0_0_0 w0 _ z i e

theorem canon1 (z : Fin 1) (i : Fin 256) (e : Fin 128) :
    View.canon (Val := Elt Ideal) (s := S1x2048x128) (e := .bf16) [⟨r1_17, w7⟩, ⟨r1_15, w6⟩, ⟨r1_13, w5⟩, ⟨r1_11, w4⟩, ⟨r1_9, w3⟩, ⟨r1_7, w2⟩, ⟨r1_4, w1⟩, ⟨r1_1, w0⟩] (ix3 z ⟨256 + i.val, by omega⟩ e) = w1 (ix3 z i e) := by
  refine (canon_skip 1792 inb_S1x2048x128_S1x256x128_0_1792_0 w7 _ z ⟨256 + i.val, by omega⟩ e (Or.inl (by dsimp only; omega))).trans ?_
  refine (canon_skip 1536 inb_S1x2048x128_S1x256x128_0_1536_0 w6 _ z ⟨256 + i.val, by omega⟩ e (Or.inl (by dsimp only; omega))).trans ?_
  refine (canon_skip 1280 inb_S1x2048x128_S1x256x128_0_1280_0 w5 _ z ⟨256 + i.val, by omega⟩ e (Or.inl (by dsimp only; omega))).trans ?_
  refine (canon_skip 1024 inb_S1x2048x128_S1x256x128_0_1024_0 w4 _ z ⟨256 + i.val, by omega⟩ e (Or.inl (by dsimp only; omega))).trans ?_
  refine (canon_skip 768 inb_S1x2048x128_S1x256x128_0_768_0 w3 _ z ⟨256 + i.val, by omega⟩ e (Or.inl (by dsimp only; omega))).trans ?_
  refine (canon_skip 512 inb_S1x2048x128_S1x256x128_0_512_0 w2 _ z ⟨256 + i.val, by omega⟩ e (Or.inl (by dsimp only; omega))).trans ?_
  exact canon_hit 256 (by omega) inb_S1x2048x128_S1x256x128_0_256_0 w1 _ z i e

theorem canon2 (z : Fin 1) (i : Fin 256) (e : Fin 128) :
    View.canon (Val := Elt Ideal) (s := S1x2048x128) (e := .bf16) [⟨r1_17, w7⟩, ⟨r1_15, w6⟩, ⟨r1_13, w5⟩, ⟨r1_11, w4⟩, ⟨r1_9, w3⟩, ⟨r1_7, w2⟩, ⟨r1_4, w1⟩, ⟨r1_1, w0⟩] (ix3 z ⟨512 + i.val, by omega⟩ e) = w2 (ix3 z i e) := by
  refine (canon_skip 1792 inb_S1x2048x128_S1x256x128_0_1792_0 w7 _ z ⟨512 + i.val, by omega⟩ e (Or.inl (by dsimp only; omega))).trans ?_
  refine (canon_skip 1536 inb_S1x2048x128_S1x256x128_0_1536_0 w6 _ z ⟨512 + i.val, by omega⟩ e (Or.inl (by dsimp only; omega))).trans ?_
  refine (canon_skip 1280 inb_S1x2048x128_S1x256x128_0_1280_0 w5 _ z ⟨512 + i.val, by omega⟩ e (Or.inl (by dsimp only; omega))).trans ?_
  refine (canon_skip 1024 inb_S1x2048x128_S1x256x128_0_1024_0 w4 _ z ⟨512 + i.val, by omega⟩ e (Or.inl (by dsimp only; omega))).trans ?_
  refine (canon_skip 768 inb_S1x2048x128_S1x256x128_0_768_0 w3 _ z ⟨512 + i.val, by omega⟩ e (Or.inl (by dsimp only; omega))).trans ?_
  exact canon_hit 512 (by omega) inb_S1x2048x128_S1x256x128_0_512_0 w2 _ z i e

theorem canon3 (z : Fin 1) (i : Fin 256) (e : Fin 128) :
    View.canon (Val := Elt Ideal) (s := S1x2048x128) (e := .bf16) [⟨r1_17, w7⟩, ⟨r1_15, w6⟩, ⟨r1_13, w5⟩, ⟨r1_11, w4⟩, ⟨r1_9, w3⟩, ⟨r1_7, w2⟩, ⟨r1_4, w1⟩, ⟨r1_1, w0⟩] (ix3 z ⟨768 + i.val, by omega⟩ e) = w3 (ix3 z i e) := by
  refine (canon_skip 1792 inb_S1x2048x128_S1x256x128_0_1792_0 w7 _ z ⟨768 + i.val, by omega⟩ e (Or.inl (by dsimp only; omega))).trans ?_
  refine (canon_skip 1536 inb_S1x2048x128_S1x256x128_0_1536_0 w6 _ z ⟨768 + i.val, by omega⟩ e (Or.inl (by dsimp only; omega))).trans ?_
  refine (canon_skip 1280 inb_S1x2048x128_S1x256x128_0_1280_0 w5 _ z ⟨768 + i.val, by omega⟩ e (Or.inl (by dsimp only; omega))).trans ?_
  refine (canon_skip 1024 inb_S1x2048x128_S1x256x128_0_1024_0 w4 _ z ⟨768 + i.val, by omega⟩ e (Or.inl (by dsimp only; omega))).trans ?_
  exact canon_hit 768 (by omega) inb_S1x2048x128_S1x256x128_0_768_0 w3 _ z i e

theorem canon4 (z : Fin 1) (i : Fin 256) (e : Fin 128) :
    View.canon (Val := Elt Ideal) (s := S1x2048x128) (e := .bf16) [⟨r1_17, w7⟩, ⟨r1_15, w6⟩, ⟨r1_13, w5⟩, ⟨r1_11, w4⟩, ⟨r1_9, w3⟩, ⟨r1_7, w2⟩, ⟨r1_4, w1⟩, ⟨r1_1, w0⟩] (ix3 z ⟨1024 + i.val, by omega⟩ e) = w4 (ix3 z i e) := by
  refine (canon_skip 1792 inb_S1x2048x128_S1x256x128_0_1792_0 w7 _ z ⟨1024 + i.val, by omega⟩ e (Or.inl (by dsimp only; omega))).trans ?_
  refine (canon_skip 1536 inb_S1x2048x128_S1x256x128_0_1536_0 w6 _ z ⟨1024 + i.val, by omega⟩ e (Or.inl (by dsimp only; omega))).trans ?_
  refine (canon_skip 1280 inb_S1x2048x128_S1x256x128_0_1280_0 w5 _ z ⟨1024 + i.val, by omega⟩ e (Or.inl (by dsimp only; omega))).trans ?_
  exact canon_hit 1024 (by omega) inb_S1x2048x128_S1x256x128_0_1024_0 w4 _ z i e

theorem canon5 (z : Fin 1) (i : Fin 256) (e : Fin 128) :
    View.canon (Val := Elt Ideal) (s := S1x2048x128) (e := .bf16) [⟨r1_17, w7⟩, ⟨r1_15, w6⟩, ⟨r1_13, w5⟩, ⟨r1_11, w4⟩, ⟨r1_9, w3⟩, ⟨r1_7, w2⟩, ⟨r1_4, w1⟩, ⟨r1_1, w0⟩] (ix3 z ⟨1280 + i.val, by omega⟩ e) = w5 (ix3 z i e) := by
  refine (canon_skip 1792 inb_S1x2048x128_S1x256x128_0_1792_0 w7 _ z ⟨1280 + i.val, by omega⟩ e (Or.inl (by dsimp only; omega))).trans ?_
  refine (canon_skip 1536 inb_S1x2048x128_S1x256x128_0_1536_0 w6 _ z ⟨1280 + i.val, by omega⟩ e (Or.inl (by dsimp only; omega))).trans ?_
  exact canon_hit 1280 (by omega) inb_S1x2048x128_S1x256x128_0_1280_0 w5 _ z i e

theorem canon6 (z : Fin 1) (i : Fin 256) (e : Fin 128) :
    View.canon (Val := Elt Ideal) (s := S1x2048x128) (e := .bf16) [⟨r1_17, w7⟩, ⟨r1_15, w6⟩, ⟨r1_13, w5⟩, ⟨r1_11, w4⟩, ⟨r1_9, w3⟩, ⟨r1_7, w2⟩, ⟨r1_4, w1⟩, ⟨r1_1, w0⟩] (ix3 z ⟨1536 + i.val, by omega⟩ e) = w6 (ix3 z i e) := by
  refine (canon_skip 1792 inb_S1x2048x128_S1x256x128_0_1792_0 w7 _ z ⟨1536 + i.val, by omega⟩ e (Or.inl (by dsimp only; omega))).trans ?_
  exact canon_hit 1536 (by omega) inb_S1x2048x128_S1x256x128_0_1536_0 w6 _ z i e

theorem canon7 (z : Fin 1) (i : Fin 256) (e : Fin 128) :
    View.canon (Val := Elt Ideal) (s := S1x2048x128) (e := .bf16) [⟨r1_17, w7⟩, ⟨r1_15, w6⟩, ⟨r1_13, w5⟩, ⟨r1_11, w4⟩, ⟨r1_9, w3⟩, ⟨r1_7, w2⟩, ⟨r1_4, w1⟩, ⟨r1_1, w0⟩] (ix3 z ⟨1792 + i.val, by omega⟩ e) = w7 (ix3 z i e) := by
  exact canon_hit 1792 (by omega) inb_S1x2048x128_S1x256x128_0_1792_0 w7 _ z i e

end

section
variable (b : ℤ → ℝ) (far : ℝ) (hB : ∀ i j, x3 (ix3 0 i j) = biasTile b far i j)
include hB

theorem f0a_cut (r : Fin 256) (k : Fin 256) : f0a x0 x1 x3 r k
    = cutScore dotLo (fun r d => x0 (ix3 0 r d)) (fun r d => x1 (ix3 0 r d)) b far 0 256 rfl (by omega) r k := by
  unfold f0a cutScore
  rw [if_neg (by omega), hB]
  have e : k.val + 512 - 256 = 256 + k.val := by omega
  simp only [e, Nat.mul_zero, Nat.zero_add]

theorem f0b_cut (r : Fin 256) (k : Fin 256) : f0b x0 x1 x3 r k
    = cutScore dotHi (fun r d => x0 (ix3 0 r d)) (fun r d => x1 (ix3 0 r d)) b far 0 256 rfl (by omega) r k := by
  unfold f0b cutScore
  rw [if_neg (by omega), hB]
  have e : k.val + 512 - 256 = 256 + k.val := by omega
  simp only [e, Nat.mul_zero, Nat.zero_add]

theorem f1a_cut (r : Fin 256) (k : Fin 512) : f1a x0 x1 x3 r k
    = cutScore dotLo (fun r d => x0 (ix3 0 r d)) (fun r d => x1 (ix3 0 r d)) b far 1 512 rfl (by omega) r k := by
  unfold f1a cutScore
  rw [if_neg (by omega), hB]
  have e : k.val + 512 - 512 = k.val := by omega
  simp only [e]

theorem f1b_cut (r : Fin 256) (k : Fin 512) : f1b x0 x1 x3 r k
    = cutScore dotHi (fun r d => x0 (ix3 0 r d)) (fun r d => x1 (ix3 0 r d)) b far 1 512 rfl (by omega) r k := by
  unfold f1b cutScore
  rw [if_neg (by omega), hB]
  have e : k.val + 512 - 512 = k.val := by omega
  simp only [e]

theorem f2a_cut (r : Fin 256) (k : Fin 768) : f2a x0 x1 x3 r k
    = cutScore dotLo (fun r d => x0 (ix3 0 r d)) (fun r d => x1 (ix3 0 r d)) b far 2 768 rfl (by omega) r k := by
  unfold f2a cutScore
  by_cases h : k.val < 256
  · rw [dif_pos h, if_pos (by omega)]
  · rw [dif_neg h, if_neg (by omega), hB]
    have e : k.val + 512 - 768 = k.val - 256 := by omega
    simp only [e]

theorem f2b_cut (r : Fin 256) (k : Fin 768) : f2b x0 x1 x3 r k
    = cutScore dotHi (fun r d => x0 (ix3 0 r d)) (fun r d => x1 (ix3 0 r d)) b far 2 768 rfl (by omega) r k := by
  unfold f2b cutScore
  by_cases h : k.val < 256
  · rw [dif_pos h, if_pos (by omega)]
  · rw [dif_neg h, if_neg (by omega), hB]
    have e : k.val + 512 - 768 = k.val - 256 := by omega
    simp only [e]

theorem f3a_cut (r : Fin 256) (k : Fin 1024) : f3a x0 x1 x3 r k
    = cutScore dotLo (fun r d => x0 (ix3 0 r d)) (fun r d => x1 (ix3 0 r d)) b far 3 1024 rfl (by omega) r k := by
  unfold f3a cutScore
  by_cases h : k.val < 512
  · rw [dif_pos h, if_pos (by omega)]
  · rw [dif_neg h, if_neg (by omega), hB]
    have e : k.val + 512 - 1024 = k.val - 512 := by omega
    simp only [e]

theorem f3b_cut (r : Fin 256) (k : Fin 1024) : f3b x0 x1 x3 r k
    = cutScore dotHi (fun r d => x0 (ix3 0 r d)) (fun r d => x1 (ix3 0 r d)) b far 3 1024 rfl (by omega) r k := by
  unfold f3b cutScore
  by_cases h : k.val < 512
  · rw [dif_pos h, if_pos (by omega)]
  · rw [dif_neg h, if_neg (by omega), hB]
    have e : k.val + 512 - 1024 = k.val - 512 := by omega
    simp only [e]

theorem f4a_cut (r : Fin 256) (k : Fin 1280) : f4a x0 x1 x3 r k
    = cutScore dotLo (fun r d => x0 (ix3 0 r d)) (fun r d => x1 (ix3 0 r d)) b far 4 1280 rfl (by omega) r k := by
  unfold f4a cutScore
  by_cases h : k.val < 768
  · rw [dif_pos h, if_pos (by omega)]
  · rw [dif_neg h, if_neg (by omega), hB]
    have e : k.val + 512 - 1280 = k.val - 768 := by omega
    simp only [e]

theorem f4b_cut (r : Fin 256) (k : Fin 1280) : f4b x0 x1 x3 r k
    = cutScore dotHi (fun r d => x0 (ix3 0 r d)) (fun r d => x1 (ix3 0 r d)) b far 4 1280 rfl (by omega) r k := by
  unfold f4b cutScore
  by_cases h : k.val < 768
  · rw [dif_pos h, if_pos (by omega)]
  · rw [dif_neg h, if_neg (by omega), hB]
    have e : k.val + 512 - 1280 = k.val - 768 := by omega
    simp only [e]

theorem f5a_cut (r : Fin 256) (k : Fin 1536) : f5a x0 x1 x3 r k
    = cutScore dotLo (fun r d => x0 (ix3 0 r d)) (fun r d => x1 (ix3 0 r d)) b far 5 1536 rfl (by omega) r k := by
  unfold f5a cutScore
  by_cases h : k.val < 1024
  · rw [dif_pos h, if_pos (by omega)]
  · rw [dif_neg h, if_neg (by omega), hB]
    have e : k.val + 512 - 1536 = k.val - 1024 := by omega
    simp only [e]

theorem f5b_cut (r : Fin 256) (k : Fin 1536) : f5b x0 x1 x3 r k
    = cutScore dotHi (fun r d => x0 (ix3 0 r d)) (fun r d => x1 (ix3 0 r d)) b far 5 1536 rfl (by omega) r k := by
  unfold f5b cutScore
  by_cases h : k.val < 1024
  · rw [dif_pos h, if_pos (by omega)]
  · rw [dif_neg h, if_neg (by omega), hB]
    have e : k.val + 512 - 1536 = k.val - 1024 := by omega
    simp only [e]

theorem f6a_cut (r : Fin 256) (k : Fin 1792) : f6a x0 x1 x3 r k
    = cutScore dotLo (fun r d => x0 (ix3 0 r d)) (fun r d => x1 (ix3 0 r d)) b far 6 1792 rfl (by omega) r k := by
  unfold f6a cutScore
  by_cases h : k.val < 1280
  · rw [dif_pos h, if_pos (by omega)]
  · rw [dif_neg h, if_neg (by omega), hB]
    have e : k.val + 512 - 1792 = k.val - 1280 := by omega
    simp only [e]

theorem f6b_cut (r : Fin 256) (k : Fin 1792) : f6b x0 x1 x3 r k
    = cutScore dotHi (fun r d => x0 (ix3 0 r d)) (fun r d => x1 (ix3 0 r d)) b far 6 1792 rfl (by omega) r k := by
  unfold f6b cutScore
  by_cases h : k.val < 1280
  · rw [dif_pos h, if_pos (by omega)]
  · rw [dif_neg h, if_neg (by omega), hB]
    have e : k.val + 512 - 1792 = k.val - 1280 := by omega
    simp only [e]

theorem f7a_cut (r : Fin 256) (k : Fin 2048) : f7a x0 x1 x3 r k
    = cutScore dotLo (fun r d => x0 (ix3 0 r d)) (fun r d => x1 (ix3 0 r d)) b far 7 2048 rfl (by omega) r k := by
  unfold f7a cutScore
  by_cases h : k.val < 1536
  · rw [dif_pos h, if_pos (by omega)]
  · rw [dif_neg h, if_neg (by omega), hB]
    have e : k.val + 512 - 2048 = k.val - 1536 := by omega
    simp only [e]

theorem f7b_cut (r : Fin 256) (k : Fin 2048) : f7b x0 x1 x3 r k
    = cutScore dotHi (fun r d => x0 (ix3 0 r d)) (fun r d => x1 (ix3 0 r d)) b far 7 2048 rfl (by omega) r k := by
  unfold f7b cutScore
  by_cases h : k.val < 1536
  · rw [dif_pos h, if_pos (by omega)]
  · rw [dif_neg h, if_neg (by omega), hB]
    have e : k.val + 512 - 2048 = k.val - 1536 := by omega
    simp only [e]

variable (hfar : ∀ d : ℤ, d ≤ -257 → b d = far) (hq : ∀ r d, ∃ x : ℝ, x0 (ix3 0 r d) = x)
  (hk : ∀ r d, ∃ x : ℝ, x1 (ix3 0 r d) = x)
include hfar hq hk

omit hB in
/-- A tile's rows are the attention's. -/
theorem key (N n : Nat) (hn : n = 256 * N + 256) (hN : N < 8) (i : Fin 256) (f0 f1 : Fin n → EReal) (e : Fin 128)
    (h0 : ∀ k, f0 k = cutScore dotLo (fun r d => x0 (ix3 0 r d)) (fun r d => x1 (ix3 0 r d)) b far N n hn hN i k)
    (h1 : ∀ k, f1 k = cutScore dotHi (fun r d => x0 (ix3 0 r d)) (fun r d => x1 (ix3 0 r d)) b far N n hn hN i k) :
    headOut (fun e => ∑ k : Fin n, attnK (k1_pay2 (View.ld x4 r1_0) (ix2 0 0)) f0 f1 k * x2 (ix3 0 ⟨k.val, by omega⟩ e))
        (fun e => x5 (ix2 0 e)) e
      = rowOut (fun r d => x0 (ix3 0 r d)) (fun r d => x1 (ix3 0 r d)) (fun r d => x2 (ix3 0 r d)) b
        (k1_pay2 (View.ld x4 r1_0) (ix2 0 0)) (fun e => x5 (ix2 0 e)) ⟨256 * N + i.val, by omega⟩ e := by
  have hlo := fun r k => dotLo_real (fun d => x0 (ix3 0 r d)) (fun d => x1 (ix3 0 k d)) (hq r) (hk k)
  have hhi := fun r k => dotHi_real (fun d => x0 (ix3 0 r d)) (fun d => x1 (ix3 0 k d)) (hq r) (hk k)
  unfold rowOut
  congr 1
  funext e
  exact row_out _ _ b far hfar hlo hhi _ N n hn hN i f0 f1 h0 h1 (fun k => x2 (ix3 0 k e))

theorem out0_apply (z : Fin 1) (i : Fin 256) (e : Fin 128) :
    out1_6 x0 x1 x2 x3 x4 x5 (ix3 z ⟨0 + i.val, by omega⟩ e)
      = rowOut (fun r d => x0 (ix3 0 r d)) (fun r d => x1 (ix3 0 r d)) (fun r d => x2 (ix3 0 r d)) b
          (k1_pay2 (View.ld x4 r1_0) (ix2 0 0)) (fun e => x5 (ix2 0 e)) ⟨0 + i.val, by omega⟩ e := by
  unfold out1_6
  refine (canon0 _ _ _ _ _ _ _ _ z i e).trans ?_
  refine (tile0_apply x0 x1 x2 x3 x4 x5 z i e).trans ?_
  exact key x0 x1 x2 x4 x5 b far hfar hq hk 0 256 rfl (by omega) i _ _ e (f0a_cut x0 x1 x3 b far hB i) (f0b_cut x0 x1 x3 b far hB i)

theorem out1_apply (z : Fin 1) (i : Fin 256) (e : Fin 128) :
    out1_6 x0 x1 x2 x3 x4 x5 (ix3 z ⟨256 + i.val, by omega⟩ e)
      = rowOut (fun r d => x0 (ix3 0 r d)) (fun r d => x1 (ix3 0 r d)) (fun r d => x2 (ix3 0 r d)) b
          (k1_pay2 (View.ld x4 r1_0) (ix2 0 0)) (fun e => x5 (ix2 0 e)) ⟨256 + i.val, by omega⟩ e := by
  unfold out1_6
  refine (canon1 _ _ _ _ _ _ _ _ z i e).trans ?_
  refine (tile1_apply x0 x1 x2 x3 x4 x5 z i e).trans ?_
  exact key x0 x1 x2 x4 x5 b far hfar hq hk 1 512 rfl (by omega) i _ _ e (f1a_cut x0 x1 x3 b far hB i) (f1b_cut x0 x1 x3 b far hB i)

theorem out2_apply (z : Fin 1) (i : Fin 256) (e : Fin 128) :
    out1_6 x0 x1 x2 x3 x4 x5 (ix3 z ⟨512 + i.val, by omega⟩ e)
      = rowOut (fun r d => x0 (ix3 0 r d)) (fun r d => x1 (ix3 0 r d)) (fun r d => x2 (ix3 0 r d)) b
          (k1_pay2 (View.ld x4 r1_0) (ix2 0 0)) (fun e => x5 (ix2 0 e)) ⟨512 + i.val, by omega⟩ e := by
  unfold out1_6
  refine (canon2 _ _ _ _ _ _ _ _ z i e).trans ?_
  refine (tile2_apply x0 x1 x2 x3 x4 x5 z i e).trans ?_
  exact key x0 x1 x2 x4 x5 b far hfar hq hk 2 768 rfl (by omega) i _ _ e (f2a_cut x0 x1 x3 b far hB i) (f2b_cut x0 x1 x3 b far hB i)

theorem out3_apply (z : Fin 1) (i : Fin 256) (e : Fin 128) :
    out1_6 x0 x1 x2 x3 x4 x5 (ix3 z ⟨768 + i.val, by omega⟩ e)
      = rowOut (fun r d => x0 (ix3 0 r d)) (fun r d => x1 (ix3 0 r d)) (fun r d => x2 (ix3 0 r d)) b
          (k1_pay2 (View.ld x4 r1_0) (ix2 0 0)) (fun e => x5 (ix2 0 e)) ⟨768 + i.val, by omega⟩ e := by
  unfold out1_6
  refine (canon3 _ _ _ _ _ _ _ _ z i e).trans ?_
  refine (tile3_apply x0 x1 x2 x3 x4 x5 z i e).trans ?_
  exact key x0 x1 x2 x4 x5 b far hfar hq hk 3 1024 rfl (by omega) i _ _ e (f3a_cut x0 x1 x3 b far hB i) (f3b_cut x0 x1 x3 b far hB i)

theorem out4_apply (z : Fin 1) (i : Fin 256) (e : Fin 128) :
    out1_6 x0 x1 x2 x3 x4 x5 (ix3 z ⟨1024 + i.val, by omega⟩ e)
      = rowOut (fun r d => x0 (ix3 0 r d)) (fun r d => x1 (ix3 0 r d)) (fun r d => x2 (ix3 0 r d)) b
          (k1_pay2 (View.ld x4 r1_0) (ix2 0 0)) (fun e => x5 (ix2 0 e)) ⟨1024 + i.val, by omega⟩ e := by
  unfold out1_6
  refine (canon4 _ _ _ _ _ _ _ _ z i e).trans ?_
  refine (tile4_apply x0 x1 x2 x3 x4 x5 z i e).trans ?_
  exact key x0 x1 x2 x4 x5 b far hfar hq hk 4 1280 rfl (by omega) i _ _ e (f4a_cut x0 x1 x3 b far hB i) (f4b_cut x0 x1 x3 b far hB i)

theorem out5_apply (z : Fin 1) (i : Fin 256) (e : Fin 128) :
    out1_6 x0 x1 x2 x3 x4 x5 (ix3 z ⟨1280 + i.val, by omega⟩ e)
      = rowOut (fun r d => x0 (ix3 0 r d)) (fun r d => x1 (ix3 0 r d)) (fun r d => x2 (ix3 0 r d)) b
          (k1_pay2 (View.ld x4 r1_0) (ix2 0 0)) (fun e => x5 (ix2 0 e)) ⟨1280 + i.val, by omega⟩ e := by
  unfold out1_6
  refine (canon5 _ _ _ _ _ _ _ _ z i e).trans ?_
  refine (tile5_apply x0 x1 x2 x3 x4 x5 z i e).trans ?_
  exact key x0 x1 x2 x4 x5 b far hfar hq hk 5 1536 rfl (by omega) i _ _ e (f5a_cut x0 x1 x3 b far hB i) (f5b_cut x0 x1 x3 b far hB i)

theorem out6_apply (z : Fin 1) (i : Fin 256) (e : Fin 128) :
    out1_6 x0 x1 x2 x3 x4 x5 (ix3 z ⟨1536 + i.val, by omega⟩ e)
      = rowOut (fun r d => x0 (ix3 0 r d)) (fun r d => x1 (ix3 0 r d)) (fun r d => x2 (ix3 0 r d)) b
          (k1_pay2 (View.ld x4 r1_0) (ix2 0 0)) (fun e => x5 (ix2 0 e)) ⟨1536 + i.val, by omega⟩ e := by
  unfold out1_6
  refine (canon6 _ _ _ _ _ _ _ _ z i e).trans ?_
  refine (tile6_apply x0 x1 x2 x3 x4 x5 z i e).trans ?_
  exact key x0 x1 x2 x4 x5 b far hfar hq hk 6 1792 rfl (by omega) i _ _ e (f6a_cut x0 x1 x3 b far hB i) (f6b_cut x0 x1 x3 b far hB i)

theorem out7_apply (z : Fin 1) (i : Fin 256) (e : Fin 128) :
    out1_6 x0 x1 x2 x3 x4 x5 (ix3 z ⟨1792 + i.val, by omega⟩ e)
      = rowOut (fun r d => x0 (ix3 0 r d)) (fun r d => x1 (ix3 0 r d)) (fun r d => x2 (ix3 0 r d)) b
          (k1_pay2 (View.ld x4 r1_0) (ix2 0 0)) (fun e => x5 (ix2 0 e)) ⟨1792 + i.val, by omega⟩ e := by
  unfold out1_6
  refine (canon7 _ _ _ _ _ _ _ _ z i e).trans ?_
  refine (tile7_apply x0 x1 x2 x3 x4 x5 z i e).trans ?_
  exact key x0 x1 x2 x4 x5 b far hfar hq hk 7 2048 rfl (by omega) i _ _ e (f7a_cut x0 x1 x3 b far hB i) (f7b_cut x0 x1 x3 b far hB i)

/-- The output block at a row and a lane is the attention's. -/
theorem out_apply (z : Fin 1) (r : Fin 2048) (e : Fin 128) :
    out1_6 x0 x1 x2 x3 x4 x5 (ix3 z r e)
      = rowOut (fun r d => x0 (ix3 0 r d)) (fun r d => x1 (ix3 0 r d)) (fun r d => x2 (ix3 0 r d)) b
          (k1_pay2 (View.ld x4 r1_0) (ix2 0 0)) (fun e => x5 (ix2 0 e)) r e := by
  by_cases h7 : 1792 ≤ r.val
  · obtain ⟨i, hi⟩ := row_split 1792 (by omega) r h7 (by omega)
    rw [hi]
    exact out7_apply x0 x1 x2 x3 x4 x5 b far hB hfar hq hk z i e
  by_cases h6 : 1536 ≤ r.val
  · obtain ⟨i, hi⟩ := row_split 1536 (by omega) r h6 (by omega)
    rw [hi]
    exact out6_apply x0 x1 x2 x3 x4 x5 b far hB hfar hq hk z i e
  by_cases h5 : 1280 ≤ r.val
  · obtain ⟨i, hi⟩ := row_split 1280 (by omega) r h5 (by omega)
    rw [hi]
    exact out5_apply x0 x1 x2 x3 x4 x5 b far hB hfar hq hk z i e
  by_cases h4 : 1024 ≤ r.val
  · obtain ⟨i, hi⟩ := row_split 1024 (by omega) r h4 (by omega)
    rw [hi]
    exact out4_apply x0 x1 x2 x3 x4 x5 b far hB hfar hq hk z i e
  by_cases h3 : 768 ≤ r.val
  · obtain ⟨i, hi⟩ := row_split 768 (by omega) r h3 (by omega)
    rw [hi]
    exact out3_apply x0 x1 x2 x3 x4 x5 b far hB hfar hq hk z i e
  by_cases h2 : 512 ≤ r.val
  · obtain ⟨i, hi⟩ := row_split 512 (by omega) r h2 (by omega)
    rw [hi]
    exact out2_apply x0 x1 x2 x3 x4 x5 b far hB hfar hq hk z i e
  by_cases h1 : 256 ≤ r.val
  · obtain ⟨i, hi⟩ := row_split 256 (by omega) r h1 (by omega)
    rw [hi]
    exact out1_apply x0 x1 x2 x3 x4 x5 b far hB hfar hq hk z i e
  obtain ⟨i, hi⟩ := row_split 0 (by omega) r (by omega) (by omega)
  rw [hi]
  exact out0_apply x0 x1 x2 x3 x4 x5 b far hB hfar hq hk z i e

end

end Cert.Attn

end
-- ==== Proof.Attn.Array.lean ====
/- The attention call's result array: what the grid of batches and heads leaves in it. -/
module

public import proofs.«01_k».proof.Proof.Attn.Out
public import Idealize.ShloMosaic.Lib.Pipeline.Value

@[expose] public section

set_option maxRecDepth 16384

noncomputable section

namespace Cert.Attn

open Idealize.ShloMosaic Idealize.ShloMosaic.TcCoe Cert.KernelIdeal Cert.KernelIdeal.Gen
open Idealize.ShloMosaic.Pipeline (Dat)
open Cert.KernelIdeal.Facts

/-- The attention's output at batch `B`, row `r`, column `c`: head `c / 128`, lane `c % 128`. -/
def attnAt (q : Vec Ideal S8x2048x1024 .bf16) (kv : Vec Ideal S8x2048x2048 .bf16) (b : Fin 8 → ℤ → ℝ) (lam : EReal)
    (g : Fin 128 → EReal) (B : Fin 8) (r : Fin 2048) (h : Fin 8) (e : Fin 128) : EReal :=
  rowOut (fun r d => q (ix3 B r ⟨128 * h.val + d.val, by omega⟩)) (fun r d => kv (ix3 B r ⟨128 * h.val + d.val, by omega⟩))
    (fun r d => kv (ix3 B r ⟨1024 + 128 * h.val + d.val, by omega⟩)) (b h) lam g r e

/-- The attention's output array. -/
def attnArr (q : Vec Ideal S8x2048x1024 .bf16) (kv : Vec Ideal S8x2048x2048 .bf16) (b : Fin 8 → ℤ → ℝ) (lam : EReal)
    (g : Fin 128 → EReal) : Vec Ideal S8x2048x1024 .bf16 := fun i =>
  attnAt q kv b lam g (i 0) (i 1) ⟨(i 2).val / 128, by have : (i 2).val < 1024 := (i 2).isLt; omega⟩
    ⟨(i 2).val % 128, by omega⟩

variable (V : (c : Dev nD) → (b : Ref sig .tc) → Buf (Elt Ideal) ((c : Thread nD τ).loc b)) (c : Dev nD)

theorem idx0 : ∀ t : Fin cfg1.N, win1_0.index t 0 = t.val / 8 ∧ win1_0.index t 1 = 0 ∧ win1_0.index t 2 = t.val % 8 := by
  decide +kernel
theorem idx1 : ∀ t : Fin cfg1.N, win1_1.index t 0 = t.val / 8 ∧ win1_1.index t 1 = 0 ∧ win1_1.index t 2 = t.val % 8 := by
  decide +kernel
theorem idx2 : ∀ t : Fin cfg1.N, win1_2.index t 0 = t.val / 8 ∧ win1_2.index t 1 = 0 ∧ win1_2.index t 2 = 8 + t.val % 8 := by
  decide +kernel
theorem idx3 : ∀ t : Fin cfg1.N, win1_3.index t 0 = t.val % 8 ∧ win1_3.index t 1 = 0 ∧ win1_3.index t 2 = 0 := by
  decide +kernel
theorem idx4 : ∀ t : Fin cfg1.N, win1_4.index t 0 = 0 ∧ win1_4.index t 1 = 0 := by
  decide +kernel
theorem idx5 : ∀ t : Fin cfg1.N, win1_5.index t 0 = 0 ∧ win1_5.index t 1 = 0 := by
  decide +kernel
theorem idx6 : ∀ t : Fin cfg1.N, win1_6.index t 0 = t.val / 8 ∧ win1_6.index t 1 = 0 ∧ win1_6.index t 2 = t.val % 8 := by
  decide +kernel

theorem lt64 (t : Fin cfg1.N) : t.val < 64 := by have : cfg1.N = 64 := N_1; omega

theorem blk0 (t : Fin cfg1.N) (r : Fin 2048) (d : Fin 128) :
    iblk1 V c 0 t (ix3 0 r d) = V c main_arg0 (ix3 ⟨t.val / 8, by have := lt64 t; omega⟩ r ⟨128 * (t.val % 8) + d.val, by omega⟩) := by
  show V c main_arg0 ((win1_0.rect t).emb (ix3 0 r d)) = _
  congr 1
  funext a
  apply Fin.ext
  obtain ⟨h0, h1, h2⟩ := idx0 t
  match a with
  | ⟨0, _⟩ => show win1_0.index t 0 * 1 + 1 * 0 = t.val / 8; omega
  | ⟨1, _⟩ => show win1_0.index t 1 * 2048 + 1 * r.val = r.val; omega
  | ⟨2, _⟩ => show win1_0.index t 2 * 128 + 1 * d.val = 128 * (t.val % 8) + d.val; omega

theorem blk1 (t : Fin cfg1.N) (r : Fin 2048) (d : Fin 128) :
    iblk1 V c 1 t (ix3 0 r d) = V c main_arg1 (ix3 ⟨t.val / 8, by have := lt64 t; omega⟩ r ⟨128 * (t.val % 8) + d.val, by omega⟩) := by
  show V c main_arg1 ((win1_1.rect t).emb (ix3 0 r d)) = _
  congr 1
  funext a
  apply Fin.ext
  obtain ⟨h0, h1, h2⟩ := idx1 t
  match a with
  | ⟨0, _⟩ => show win1_1.index t 0 * 1 + 1 * 0 = t.val / 8; omega
  | ⟨1, _⟩ => show win1_1.index t 1 * 2048 + 1 * r.val = r.val; omega
  | ⟨2, _⟩ => show win1_1.index t 2 * 128 + 1 * d.val = 128 * (t.val % 8) + d.val; omega

theorem blk2 (t : Fin cfg1.N) (r : Fin 2048) (d : Fin 128) :
    iblk1 V c 2 t (ix3 0 r d)
      = V c main_arg1 (ix3 ⟨t.val / 8, by have := lt64 t; omega⟩ r ⟨1024 + 128 * (t.val % 8) + d.val, by omega⟩) := by
  show V c main_arg1 ((win1_2.rect t).emb (ix3 0 r d)) = _
  congr 1
  funext a
  apply Fin.ext
  obtain ⟨h0, h1, h2⟩ := idx2 t
  match a with
  | ⟨0, _⟩ => show win1_2.index t 0 * 1 + 1 * 0 = t.val / 8; omega
  | ⟨1, _⟩ => show win1_2.index t 1 * 2048 + 1 * r.val = r.val; omega
  | ⟨2, _⟩ => show win1_2.index t 2 * 128 + 1 * d.val = 1024 + 128 * (t.val % 8) + d.val; omega

theorem blk3 (t : Fin cfg1.N) (i : Fin 256) (j : Fin 512) :
    iblk1 V c 3 t (ix3 0 i j) = V c main_v0 (ix3 ⟨t.val % 8, by omega⟩ i j) := by
  show V c main_v0 ((win1_3.rect t).emb (ix3 0 i j)) = _
  congr 1
  funext a
  apply Fin.ext
  obtain ⟨h0, h1, h2⟩ := idx3 t
  match a with
  | ⟨0, _⟩ => show win1_3.index t 0 * 1 + 1 * 0 = t.val % 8; omega
  | ⟨1, _⟩ => show win1_3.index t 1 * 256 + 1 * i.val = i.val; omega
  | ⟨2, _⟩ => show win1_3.index t 2 * 512 + 1 * j.val = j.val; omega

theorem blk4 (t : Fin cfg1.N) : iblk1 V c 4 t = V c main_arg3 := by
  funext x
  show V c main_arg3 ((win1_4.rect t).emb x) = _
  congr 1
  funext a
  apply Fin.ext
  obtain ⟨h0, h1⟩ := idx4 t
  match a with
  | ⟨0, _⟩ => show win1_4.index t 0 * 4 + 1 * (x 0).val = (x 0).val; omega
  | ⟨1, _⟩ => show win1_4.index t 1 * 64 + 1 * (x 1).val = (x 1).val; omega

theorem blk5 (t : Fin cfg1.N) (e : Fin 128) : iblk1 V c 5 t (ix2 0 e) = V c main_v1 (ix2 0 e) := by
  show V c main_v1 ((win1_5.rect t).emb (ix2 0 e)) = _
  congr 1
  funext a
  apply Fin.ext
  obtain ⟨h0, h1⟩ := idx5 t
  match a with
  | ⟨0, _⟩ => show win1_5.index t 0 * 1 + 1 * 0 = 0; omega
  | ⟨1, _⟩ => show win1_5.index t 1 * 128 + 1 * e.val = e.val; omega

/-- The output blocks cover the result array. -/
theorem cover (i : S8x2048x1024.Idx) :
    ∃ t : Fin cfg1.N, (cfg1.win 6).flush t = true ∧ i ∈ ((cfg1.win 6).blk t).view.set := by
  have i0 : (i 0 : Nat) < 8 := (i 0).isLt
  have i1 : (i 1 : Nat) < 2048 := (i 1).isLt
  have i2 : (i 2 : Nat) < 1024 := (i 2).isLt
  have hN : cfg1.N = 64 := N_1
  obtain ⟨t, ht⟩ : ∃ t : Fin cfg1.N, t.val = 8 * (i 0).val + (i 2).val / 128 := ⟨⟨_, by omega⟩, rfl⟩
  refine ⟨t, flush1_6 _, ?_⟩
  obtain ⟨h0, h1, h2⟩ := idx6 t
  show i ∈ ((View.whole main_v2).slice (win1_6.rect t)).set
  rw [View.set_slice_whole, Rect.mem_set_unit]
  intro a
  match a with
  | ⟨0, _⟩ => show win1_6.index _ 0 * 1 ≤ (i 0 : Nat) ∧ (i 0 : Nat) < win1_6.index _ 0 * 1 + 1; rw [h0]; omega
  | ⟨1, _⟩ => show win1_6.index _ 1 * 2048 ≤ (i 1 : Nat) ∧ (i 1 : Nat) < win1_6.index _ 1 * 2048 + 2048; rw [h1]; omega
  | ⟨2, _⟩ => show win1_6.index _ 2 * 128 ≤ (i 2 : Nat) ∧ (i 2 : Nat) < win1_6.index _ 2 * 128 + 128; rw [h2]; omega

section
variable (b : Fin 8 → ℤ → ℝ) (far : Fin 8 → ℝ)
  (hB : ∀ h i j, V c main_v0 (ix3 h i j) = biasTile (b h) (far h) i j)
  (hfar : ∀ h, ∀ d : ℤ, d ≤ -257 → b h d = far h)
  (hq : ∀ i, ∃ x : ℝ, V c main_arg0 i = (x : EReal))
  (hk : ∀ (B : Fin 8) (r : Fin 2048) (d : Fin 2048), d.val < 1024 → ∃ x : ℝ, V c main_arg1 (ix3 B r d) = (x : EReal))
include hB hfar hq hk

/-- A point's output block is its block of the attention's output array. -/
theorem block_eq (t : Fin cfg1.N) (x : S1x2048x128.Idx) :
    out1_6 (iblk1 V c 0 t) (iblk1 V c 1 t) (iblk1 V c 2 t) (iblk1 V c 3 t) (iblk1 V c 4 t) (iblk1 V c 5 t) x
      = attnArr (V c main_arg0) (V c main_arg1) b (k1_pay2 (View.ld (V c main_arg3) r1_0) (ix2 0 0))
        (fun e => V c main_v1 (ix2 0 e)) ((win1_6.rect t).emb x) := by
  obtain ⟨z, r, e, rfl⟩ : ∃ (z : Fin 1) (r : Fin 2048) (e : Fin 128), x = ix3 z r e :=
    ⟨x 0, x 1, x 2, by funext a; fin_cases a <;> rfl⟩
  have ht := lt64 t
  rw [out_apply _ _ _ _ _ _ (b ⟨t.val % 8, by omega⟩) (far ⟨t.val % 8, by omega⟩)
    (fun i j => (blk3 V c t i j).trans (hB _ i j)) (hfar _)
    (fun r d => by rw [blk0]; exact hq _) (fun r d => by rw [blk1]; exact hk _ _ _ (by dsimp only; omega))]
  have he : ((win1_6.rect t).emb (ix3 z r e) : S8x2048x1024.Idx)
      = ix3 ⟨t.val / 8, by omega⟩ r ⟨128 * (t.val % 8) + e.val, by omega⟩ := by
    funext a
    apply Fin.ext
    obtain ⟨h0, h1, h2⟩ := idx6 t
    match a with
    | ⟨0, _⟩ => show win1_6.index t 0 * 1 + 1 * z.val = t.val / 8; omega
    | ⟨1, _⟩ => show win1_6.index t 1 * 2048 + 1 * r.val = r.val; omega
    | ⟨2, _⟩ => show win1_6.index t 2 * 128 + 1 * e.val = 128 * (t.val % 8) + e.val; omega
  rw [he]
  show _ = attnAt _ _ _ _ _ ⟨t.val / 8, _⟩ r ⟨(128 * (t.val % 8) + e.val) / 128, _⟩ ⟨(128 * (t.val % 8) + e.val) % 128, _⟩
  have h1 : (⟨(128 * (t.val % 8) + e.val) / 128, by omega⟩ : Fin 8) = ⟨t.val % 8, by omega⟩ := Fin.ext (by dsimp only; omega)
  have h2 : (⟨(128 * (t.val % 8) + e.val) % 128, by omega⟩ : Fin 128) = e := Fin.ext (by dsimp only; omega)
  rw [h1, h2, blk4]
  unfold attnAt
  simp only [blk0, blk1, blk2, blk5]
  rfl

/-- What a point of the grid writes back is its block of the attention's output array. -/
theorem flushed_eq (t : Fin cfg1.N) :
    (dat1 V c).flushed 6 t = (win1_6.blk t).view.read (Elt Ideal)
      (attnArr (V c main_arg0) (V c main_arg1) b (k1_pay2 (View.ld (V c main_arg3) r1_0) (ix2 0 0))
        (fun e => V c main_v1 (ix2 0 e))) := by
  show (cfg1.win 6).cut (grid1.coords t) ((dat1 V c).after 6 t) = _
  rw [after1_6]
  exact funext (block_eq V c b far hB hfar hq hk t)

/-- The result array ends holding the attention's output. -/
theorem final_o : (dat1 V c).arrAt 6 cfg1.N
    = attnArr (V c main_arg0) (V c main_arg1) b (k1_pay2 (View.ld (V c main_arg3) r1_0) (ix2 0 0))
        (fun e => V c main_v1 (ix2 0 e)) :=
  (dat1 V c).arrAt_eq_of_cover 6 _ (fun t _ => flushed_eq V c b far hB hfar hq hk t) cover
end

end Cert.Attn

end
-- ==== Proof.Attn.Kernel.lean ====
/- The kernel's run: its result array ends holding the attention's output, from finite queries, keys and bias
   table. -/
module

public import proofs.«01_k».proof.Proof.Attn.Bias
public import proofs.«01_k».proof.Proof.Attn.Array

@[expose] public section

set_option maxRecDepth 16384

noncomputable section

namespace Cert.Attn

open Idealize.ShloMosaic Idealize.ShloMosaic.TcCoe Idealize.ShloMosaic.Tactic Idealize.SL.Sem Cert.KernelIdeal Cert.KernelIdeal.Gen
open Cert.KernelIdeal.Facts

/-- The two maps' mixing weight, from the four vectors it is learnt by. -/
def lamOf (x : Vec Ideal S4x64 .f32) : EReal :=
  Ideal.exp (∑ d : Fin 64, x (ix2 0 d) * x (ix2 1 d)) - Ideal.exp (∑ d : Fin 64, x (ix2 2 d) * x (ix2 3 d))
    + Ideal.ofBits .f32 0x3EB60549#32

theorem lam_eq (x : Vec Ideal S4x64 .f32) : k1_pay2 (View.ld x r1_0) (ix2 0 0) = lamOf x := by
  have hx : View.ld x r1_0 = x := by
    funext y
    show x _ = _
    congr 1
    funext a
    apply Fin.ext
    match a with
    | ⟨0, _⟩ => show 0 + 1 * (y 0).val = (y 0).val; omega
    | ⟨1, _⟩ => show 0 + 1 * (y 1).val = (y 1).val; omega
  rw [hx]
  unfold_payloads
  pointwise
  rfl

/-- The bias of a head at a distance, from a bucket table of finite entries. -/
def biasOf (T : Vec Ideal S32x8 .f32) (h : Fin 8) (d : ℤ) : ℝ := (T (ix2 ⟨bucketOf d, bucketOf_lt d⟩ h)).toReal

theorem bucket_far (d : ℤ) (hd : d ≤ -257) : bucketOf d = 15 := by
  unfold bucketOf
  rw [if_neg (by omega), if_neg (by omega), if_pos (by omega), if_pos (by omega), if_pos (by omega), if_pos (by omega),
    if_pos (by omega), if_pos (by omega), if_pos (by omega)]

theorem biasArr_eq (T : Vec Ideal S32x8 .f32) (hT : ∀ i, ∃ x : ℝ, T i = (x : EReal)) (h : Fin 8) (i : Fin 256)
    (j : Fin 512) : biasArr T (ix3 h i j) = biasTile (biasOf T h) (T (ix2 15 h)).toReal i j := by
  show (if j.val / 64 ≤ (256 + i.val) / 64 then
    T (ix2 ⟨bucketOf ((j.val : ℤ) - 256 - i.val), bucketOf_lt _⟩ h) - T (ix2 15 h) else ⊥) = _
  unfold biasTile biasOf
  obtain ⟨x, hx⟩ := hT (ix2 ⟨bucketOf ((j.val : ℤ) - 256 - i.val), bucketOf_lt _⟩ h)
  obtain ⟨y, hy⟩ := hT (ix2 15 h)
  rw [hx, hy]
  rfl

variable (m : (ℓ : Loc nD τ sig) → Buf (Elt Ideal) ℓ) (ρ : Dev nD → PrngReg)

/-- What the kernel's result array ends holding, from the arguments. -/
def attnOut (q : Vec Ideal S8x2048x1024 .bf16) (kv : Vec Ideal S8x2048x2048 .bf16) (T : Vec Ideal S32x8 .f32)
    (lp : Vec Ideal S4x64 .f32) (g : Vec Ideal S128 .f32) : Vec Ideal S8x2048x1024 .bf16 :=
  attnArr q kv (biasOf T) (lamOf lp) (fun e => g (ix1 e))

theorem gain_eq (c : Dev nD) (e : Fin 128) :
    V2 m ρ c main_v1 (ix2 0 e) = m ((c : Thread nD τ).loc main_arg4) (ix1 e) := by
  have h : (V2 m ρ c main_v1 : Vec Ideal S1x128 .f32)
      = shapeCast S1x128 (W1 m ρ c (Proc.devRef .tc main_arg4) : Vec Ideal S128 .f32) shapeCasts_S128_S1x128 :=
    by
    show StableHlo.after [StableHlo.reshape main_arg4 main_v1 rfl shapeCasts_S128_S1x128] (W1 m ρ c) (Proc.devRef .tc main_v1) = _
    rw [StableHlo.after_cons, StableHlo.after_nil, StableHlo.reshape_result]
    rfl
  rw [h, W1_args m ρ c main_arg4 (by decide)]
  pointwise

theorem result_eq (c : Dev nD)
    (hq : ∀ i, ∃ x : ℝ, m ((c : Thread nD τ).loc main_arg0) i = (x : EReal))
    (hk : ∀ (B : Fin 8) (r : Fin 2048) (d : Fin 2048), d.val < 1024 →
      ∃ x : ℝ, m ((c : Thread nD τ).loc main_arg1) (ix3 B r d) = (x : EReal))
    (hT : ∀ i, ∃ x : ℝ, m ((c : Thread nD τ).loc main_arg2) i = (x : EReal)) :
    W3 m ρ c (Proc.devRef .tc main_v2)
      = attnOut (m ((c : Thread nD τ).loc main_arg0)) (m ((c : Thread nD τ).loc main_arg1))
          (m ((c : Thread nD τ).loc main_arg2)) (m ((c : Thread nD τ).loc main_arg3)) (m ((c : Thread nD τ).loc main_arg4)) := by
  have e0 : V2 m ρ c main_arg0 = m ((c : Thread nD τ).loc main_arg0) := W2_args m ρ c main_arg0 (by decide)
  have e1 : V2 m ρ c main_arg1 = m ((c : Thread nD τ).loc main_arg1) := W2_args m ρ c main_arg1 (by decide)
  have e3 : V2 m ρ c main_arg3 = m ((c : Thread nD τ).loc main_arg3) := W2_args m ρ c main_arg3 (by decide)
  have eb : V2 m ρ c main_v0 = biasArr (m ((c : Thread nD τ).loc main_arg2)) :=
    (W2_of m ρ c main_v0 (by decide)).trans ((W1_arr m ρ c 1).trans (final_b (V0 m ρ) c))
  refine (W3_arr m ρ c 6).trans ?_
  rw [final_o (V2 m ρ) c (biasOf (m ((c : Thread nD τ).loc main_arg2)))
    (fun h => (m ((c : Thread nD τ).loc main_arg2) (ix2 15 h)).toReal)
    (fun h i j => by rw [eb]; exact biasArr_eq _ hT h i j)
    (fun h d hd => by
      unfold biasOf
      have : (⟨bucketOf d, bucketOf_lt d⟩ : Fin 32) = 15 := Fin.ext (bucket_far d hd)
      rw [this])
    (by rw [e0]; exact hq) (by rw [e1]; exact hk), e0, e1, e3, lam_eq]
  unfold attnOut
  exact congrArg _ (funext fun e => gain_eq m ρ c e)

open Idealize.SL Idealize.SL.RA Idealize.SL.BI
open scoped Idealize.SL.BI
open Idealize.SL.BI.BIBase Idealize.SL.BI.Laws Idealize.SL.ProofMode Idealize.SL.Sem
open Idealize.ShloMosaic.Rounds

-- the launch theorem's implicit arguments are found by unification through plain definitions
set_option backward.isDefEq.respectTransparency.types false in
/-- From finite queries, keys and table the program ends with the result array at the attention's output, the
    arguments as launched and every counter at zero. -/
theorem run (hq : ∀ c : Dev nD, ∀ i, ∃ x : ℝ, m ((c : Thread nD τ).loc main_arg0) i = (x : EReal))
    (hk : ∀ c : Dev nD, ∀ (B : Fin 8) (r : Fin 2048) (d : Fin 2048), d.val < 1024 →
      ∃ x : ℝ, m ((c : Thread nD τ).loc main_arg1) (ix3 B r d) = (x : EReal))
    (hT : ∀ c : Dev nD, ∀ i, ∃ x : ℝ, m ((c : Thread nD τ).loc main_arg2) i = (x : EReal)) :
    θ_run defs (onTc (τ := τ) (main (F := Ideal))) ⟨m, fun _ => 0, ρ⟩ (fun r => (∀ c : Dev nD,
      r.2.mem ((c.tc : Thread nD τ).loc main_v2)
        = attnOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨((h c _ (mem_uc main_v2 (by decide))).trans (result_eq m ρ c (hq c) (hk c) (hT c))), (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩), funext fun g => hz g (.inr (no_unscoped g.2))⟩)

end Cert.Attn

end
-- ==== Proof.Attn.RefBucket.lean ====
/- The reference's buckets: the logarithmic scale as thresholds. -/
module

public import proofs.«01_k».proof.Proof.Attn.Rows
public import proofs.«01_k».proof.Proof.Gen.ReferenceIdeal.Read
public import Idealize.ShloMosaic.Lib.Pointwise.IndexVar
public import Idealize.ShloMosaic.Lib.Tactic.CleanTypes
public import proofs.«01_k».proof.Proof.Attn.Bias

@[expose] public section

set_option maxRecDepth 16384

noncomputable section

namespace Cert.Attn.Ref

open Idealize.ShloMosaic Idealize.ShloMosaic.TcCoe Idealize.ShloMosaic.Tactic Cert.ReferenceIdeal Cert.ReferenceIdeal.Read
open Cert.ReferenceIdeal.Facts

variable (q : Vec Ideal S8x2048x1024 .bf16) (kv : Vec Ideal S8x2048x2048 .bf16) (T : Vec Ideal S32x8 .f32)
  (lp : Vec Ideal S4x64 .f32) (g : Vec Ideal S128 .f32)

/-- The size and the sign of a distance between positions, on words. -/
theorem dist : ∀ e : Fin 4095, IntOp.absi (BitVec.ofInt 32 ((e.val : ℤ) - 2047)) = BitVec.ofNat 32 ((e.val : ℤ) - 2047).natAbs
    ∧ IntOp.cmpi .sgt (BitVec.ofInt 32 ((e.val : ℤ) - 2047)) 0#32 = (if 0 < (e.val : ℤ) - 2047 then 1#1 else 0#1) := by decide +kernel

/-- A size below 2048 on words: at least one, and its comparison with 8. -/
theorem small : ∀ n : Fin 2048, (IntOp.maxsi (BitVec.ofNat 32 n.val) 1#32).toInt = (max n.val 1 : ℕ)
    ∧ IntOp.cmpi .slt (BitVec.ofNat 32 n.val) 8#32 = (if n.val < 8 then 1#1 else 0#1) := by decide +kernel

/-- A step of the logarithmic scale, counted from 8 and held at 15. -/
theorem cap : ∀ f : Fin 17, IntOp.minsi (IntOp.addi 8#32 (BitVec.ofInt 32 (f.val : ℤ))) 15#32 = BitVec.ofNat 32 (8 + min f.val 7) := by decide +kernel

/-- The pattern of 8. -/
theorem eight : Ideal.ofBits .f32 0x41000000#32 = ((8 : ℝ) : EReal) := by
  simp [Ideal.ofBits, Ideal.ieee]
  rw [← EReal.coe_mul]
  norm_num

/-- The pattern of 16. -/
theorem sixteen : Ideal.ofBits .f32 0x41800000#32 = ((16 : ℝ) : EReal) := by
  simp [Ideal.ofBits, Ideal.ieee]
  rw [← EReal.coe_mul]
  norm_num

/-- How far a distance lies on the logarithmic scale: a step is reached as soon as the eighth power of the distance is. -/
theorem step_iff (n t : ℕ) (hn : 8 ≤ n) :
    (t : ℝ) ≤ Real.log ((n : ℝ) / 8) / Real.log 16 * 8 ↔ 16 ^ t * 8 ^ 8 ≤ n ^ 8 := by
  have hp : (0 : ℝ) < n := by positivity
  have h16 : 0 < Real.log 16 := Real.log_pos (by norm_num)
  have e1 : Real.log ((n : ℝ) / 8) / Real.log 16 * 8 = Real.log (((n : ℝ) / 8) ^ 8) / Real.log 16 := by
    rw [Real.log_pow]; push_cast; ring
  rw [e1, le_div_iff₀ h16, ← Real.log_pow, Real.log_le_log_iff (by positivity) (by positivity), div_pow, le_div_iff₀ (by positivity)]
  exact_mod_cast Iff.rfl

/-- The truncated logarithm of a size from 8 on is a step of the scale: a step is reached as soon as the eighth power of the size is. -/
theorem floorWord (n : ℕ) (hn : 8 ≤ n) (hn' : n < 2048) :
    ∃ f : Fin 17, Ideal.fptosi 32 (Ideal.div (Ideal.log (Ideal.div ((n : ℝ) : EReal) ((8 : ℝ) : EReal))) (Ideal.log ((16 : ℝ) : EReal)) * ((8 : ℝ) : EReal)) = BitVec.ofInt 32 (f.val : ℤ)
      ∧ ∀ t : ℕ, t ≤ f.val ↔ 16 ^ t * 8 ^ 8 ≤ n ^ 8 := by
  have hp : (0 : ℝ) < n := by positivity
  have h16 : 0 < Real.log 16 := Real.log_pos (by norm_num)
  have e : Ideal.div (Ideal.log (Ideal.div ((n : ℝ) : EReal) ((8 : ℝ) : EReal))) (Ideal.log ((16 : ℝ) : EReal)) * ((8 : ℝ) : EReal)
      = ((Real.log ((n : ℝ) / 8) / Real.log 16 * 8 : ℝ) : EReal) := by
    rw [Ideal.div_coe (by norm_num : (8 : ℝ) ≠ 0), ← EReal.coe_mul, Ideal.log_coe, if_neg (not_le.2 (by positivity)), Ideal.log_coe,
      if_neg (by norm_num), Ideal.div_coe h16.ne', ← EReal.coe_mul, ← EReal.coe_mul]
    congr 1
    rw [show (n : ℝ) * (1 / 8) = n / 8 by ring]
    ring
  have h0 : 0 ≤ Real.log ((n : ℝ) / 8) / Real.log 16 * 8 := by
    have := (step_iff n 0 hn).2 (by
      calc 16 ^ 0 * 8 ^ 8 = 8 ^ 8 := by norm_num
        _ ≤ n ^ 8 := Nat.pow_le_pow_left hn 8)
    simpa using this
  have hf : ∀ t : ℕ, t ≤ ⌊Real.log ((n : ℝ) / 8) / Real.log 16 * 8⌋₊ ↔ 16 ^ t * 8 ^ 8 ≤ n ^ 8 := fun t => by
    rw [Nat.le_floor_iff h0]; exact step_iff n t hn
  have hlt : ⌊Real.log ((n : ℝ) / 8) / Real.log 16 * 8⌋₊ < 17 := by
    by_contra hc
    have h1 := (hf 17).1 (by omega)
    have h2 : n ^ 8 ≤ 2048 ^ 8 := Nat.pow_le_pow_left hn'.le 8
    have h3 : (2048 : ℕ) ^ 8 < 16 ^ 17 * 8 ^ 8 := by norm_num
    omega
  refine ⟨⟨_, hlt⟩, ?_, hf⟩
  rw [e, Ideal.fptosi, Ideal.toIntClamped_coe, if_pos h0]
  have hz : ⌊Real.log ((n : ℝ) / 8) / Real.log 16 * 8⌋ = ((⌊Real.log ((n : ℝ) / 8) / Real.log 16 * 8⌋₊ : ℕ) : ℤ) := (Int.natCast_floor_eq_floor h0).symm
  rw [hz]
  congr 1
  norm_num
  omega

/-- From 8 on the logarithmic bucket is the staircase over the thresholds 12, 16, 23, 32, 46, 64, 91. -/
theorem bigWord (n : ℕ) (hn : 8 ≤ n) (hn' : n < 2048) :
    IntOp.minsi (IntOp.addi 8#32 (Ideal.fptosi 32 (Ideal.div (Ideal.log (Ideal.div ((n : ℝ) : EReal) ((8 : ℝ) : EReal))) (Ideal.log ((16 : ℝ) : EReal)) * ((8 : ℝ) : EReal)))) 15#32
      = BitVec.ofNat 32 (8 + (if 12 ≤ n then 1 else 0) + (if 16 ≤ n then 1 else 0) + (if 23 ≤ n then 1 else 0)
      + (if 32 ≤ n then 1 else 0) + (if 46 ≤ n then 1 else 0) + (if 64 ≤ n then 1 else 0)
      + (if 91 ≤ n then 1 else 0)) := by
  obtain ⟨f, hf, ht⟩ := floorWord n hn hn'
  rw [hf, cap]
  congr 1
  have key : ∀ t a : ℕ, (a ^ 8 < 16 ^ t * 8 ^ 8) → (16 ^ t * 8 ^ 8 ≤ (a + 1) ^ 8) → (t ≤ f.val ↔ a + 1 ≤ n) := fun t a h1 h2 => by
    rw [ht]
    constructor
    · intro h
      by_contra hc
      have := Nat.pow_le_pow_left (show n ≤ a by omega) 8
      omega
    · intro h
      exact h2.trans (Nat.pow_le_pow_left h 8)
  have k1 := key 1 11 (by norm_num) (by norm_num)
  have k2 := key 2 15 (by norm_num) (by norm_num)
  have k3 := key 3 22 (by norm_num) (by norm_num)
  have k4 := key 4 31 (by norm_num) (by norm_num)
  have k5 := key 5 45 (by norm_num) (by norm_num)
  have k6 := key 6 63 (by norm_num) (by norm_num)
  have k7 := key 7 90 (by norm_num) (by norm_num)
  norm_num at k1 k2 k3 k4 k5 k6 k7
  split_ifs <;> omega

/-- The offset for keys after the query. -/
theorem v35_at (r k : Fin 2048) :
    val_main_v35 (F := Ideal) (ix2 r k) = Scalar.select (IntOp.cmpi .sgt (IntOp.subi (BitVec.ofNat 32 k.val) (BitVec.ofNat 32 r.val)) 0#32) 16#32 0#32 := by
  unfold val_main_v35 val_main_call0_v1 val_main_call0_v0 val_main_c_3 val_main_c_2 val_main_v34 val_main_v33 val_main_c val_main_v32 val_main_v31 val_main_v30 val_main_v29 val_main_v28 val_main_v26
  clean_types
  pointwise

/-- The bucket of the size. -/
theorem v55_at (r k : Fin 2048) :
    val_main_v55 (F := Ideal) (ix2 r k) =
      Scalar.select (IntOp.cmpi .slt (IntOp.absi (IntOp.subi (BitVec.ofNat 32 k.val) (BitVec.ofNat 32 r.val))) 8#32)
        (IntOp.absi (IntOp.subi (BitVec.ofNat 32 k.val) (BitVec.ofNat 32 r.val)))
        (IntOp.minsi (IntOp.addi 8#32 (Ideal.fptosi 32 (Ideal.div (Ideal.log (Ideal.div
          ((((IntOp.maxsi (IntOp.absi (IntOp.subi (BitVec.ofNat 32 k.val) (BitVec.ofNat 32 r.val))) 1#32).toInt : ℝ)) : EReal) (Ideal.ofBits .f32 0x41000000#32))) (Ideal.log (Ideal.ofBits .f32 0x41800000#32)) * Ideal.ofBits .f32 0x41000000#32))) 15#32) := by
  unfold val_main_v55 val_main_v54 val_main_v53 val_main_c_10 val_main_v52 val_main_v51 val_main_c_9 val_main_v50 val_main_v49 val_main_c_8 val_main_v48 val_main_v47 val_main_v46 val_main_cst_7 val_main_v45 val_main_v44 val_main_v43 val_main_cst_6 val_main_v42 val_main_v41 val_main_v40 val_main_cst_5 val_main_v39 val_main_v38 val_main_v37 val_main_c_4 val_main_v36 val_main_v32 val_main_v31 val_main_v30 val_main_v29 val_main_v28 val_main_v26
  clean_types
  pointwise
  rfl

/-- The reference's bucket, with its logarithm, is `bucketOf` of the distance. -/
theorem v57_at (r k : Fin 2048) :
    val_main_v57 (F := Ideal) (ix2 r k) = BitVec.ofNat 32 (bucketOf ((k.val : ℤ) - r.val)) := by
  have h : val_main_v57 (F := Ideal) (ix2 r k) = IntOp.addi (val_main_v35 (F := Ideal) (ix2 r k)) (val_main_v55 (F := Ideal) (ix2 r k)) := by
    unfold val_main_v57 val_main_v56
    generalize val_main_v35 (F := Ideal) = x
    generalize val_main_v55 (F := Ideal) = y
    clean_types
    pointwise
    rfl
  have hd : IntOp.subi (BitVec.ofNat 32 k.val) (BitVec.ofNat 32 r.val) = BitVec.ofInt 32 ((k.val : ℤ) - r.val) := by
    show BitVec.ofNat 32 k.val - BitVec.ofNat 32 r.val = _
    rw [Int.sub_eq_add_neg, BitVec.ofInt_add, BitVec.ofInt_neg, BitVec.sub_eq_add_neg]
    rfl
  obtain ⟨ha, hs⟩ := dist ⟨k.val + 2047 - r.val, by omega⟩
  have hc : (((k.val + 2047 - r.val : ℕ) : ℤ) - 2047) = (k.val : ℤ) - r.val := by omega
  simp only [hc] at ha hs
  rw [h, v35_at, v55_at, hd, ha, hs]
  unfold bucketOf
  have hn : ((k.val : ℤ) - r.val).natAbs < 2048 := by omega
  revert hn
  generalize ((k.val : ℤ) - r.val).natAbs = n
  intro hn
  obtain ⟨hm, hl⟩ := small ⟨n, hn⟩
  simp only at hm hl
  rw [hl, hm, eight, sixteen]
  have sum : ∀ (a b : ℕ), IntOp.addi (BitVec.ofNat 32 a) (BitVec.ofNat 32 b) = BitVec.ofNat 32 (a + b) := fun a b => (BitVec.ofNat_add a b).symm
  rw [← sum]
  congr 1
  · split <;> rfl
  · by_cases h8 : n < 8
    · rw [if_pos h8, if_pos h8]; rfl
    · rw [if_neg h8, if_neg h8, show max n 1 = n by omega]
      exact bigWord n (by omega) hn

end Cert.Attn.Ref

end
-- ==== Proof.Attn.RefScore.lean ====
/- The reference read at an entry: queries, keys, values, bias, scores. -/
module

public import proofs.«01_k».proof.Proof.Attn.Rows
public import proofs.«01_k».proof.Proof.Gen.ReferenceIdeal.Read
public import Idealize.ShloMosaic.Lib.Pointwise.IndexVar
public import Idealize.ShloMosaic.Lib.Tactic.CleanTypes
public import Idealize.ShloMosaic.Lib.ReduceAll
public import proofs.«01_k».proof.Proof.Attn.RefBucket

@[expose] public section

set_option maxRecDepth 16384

noncomputable section

namespace Cert.Attn.Ref

open Idealize.ShloMosaic Idealize.ShloMosaic.TcCoe Idealize.ShloMosaic.Tactic Cert.ReferenceIdeal Cert.ReferenceIdeal.Read
open Cert.ReferenceIdeal.Facts

variable (q : Vec Ideal S8x2048x1024 .bf16) (kv : Vec Ideal S8x2048x2048 .bf16) (T : Vec Ideal S32x8 .f32)
  (lp : Vec Ideal S4x64 .f32) (g : Vec Ideal S128 .f32)

/-- The queries of a half of a head. -/
theorem v2_at (B h : Fin 8) (mm : Fin 2) (r : Fin 2048) (d : Fin 64) :
    val_main_v2 (F := Ideal) q (ix5 B h mm r d) = q (ix3 B r ⟨128 * h.val + (64 * mm.val + d.val), by omega⟩) := by
  unfold val_main_v2 val_main_v1 val_main_v0
  clean_types
  pointwise
  refine congrArg q (funext fun a => ?_)
  fin_cases a <;> apply Fin.ext <;> simp [ix3] <;> omega

/-- The keys of a half of a head. -/
theorem v6_at (B h : Fin 8) (mm : Fin 2) (k : Fin 2048) (d : Fin 64) :
    val_main_v6 (F := Ideal) kv (ix5 B h mm k d) = kv (ix3 B k ⟨128 * h.val + (64 * mm.val + d.val), by omega⟩) := by
  unfold val_main_v6 val_main_v5 val_main_v4 val_main_v3
  clean_types
  pointwise
  refine congrArg kv (funext fun a => ?_)
  fin_cases a <;> apply Fin.ext <;> simp [ix3] <;> omega

/-- The product of a query row and a key over the 64 lanes of a half. -/
theorem v27_at (B h : Fin 8) (mm : Fin 2) (r k : Fin 2048) :
    val_main_v27 (F := Ideal) q kv (ix5 B h mm r k) = ∑ d : Fin 64, val_main_v2 (F := Ideal) q (ix5 B h mm r d) * val_main_v6 (F := Ideal) kv (ix5 B h mm k d) := by
  unfold val_main_v27
  generalize val_main_v2 (F := Ideal) q = x
  generalize val_main_v6 (F := Ideal) kv = y
  clean_types
  pointwise

/-- The values of a head. -/
theorem v9_at (B h : Fin 8) (k : Fin 2048) (e : Fin 128) :
    val_main_v9 (F := Ideal) kv (ix4 B h k e) = kv (ix3 B k ⟨1024 + (128 * h.val + e.val), by omega⟩) := by
  unfold val_main_v9 val_main_v8 val_main_v7 val_main_v3
  clean_types
  pointwise
  refine congrArg kv (funext fun a => ?_)
  fin_cases a <;> apply Fin.ext <;> simp [ix3] <;> omega

/-- The weight of the second softmax. -/
theorem v25_at :
    val_main_v25 (F := Ideal) lp ix0 = Ideal.exp (∑ d : Fin 64, lp (ix2 0 d) * lp (ix2 1 d)) - Ideal.exp (∑ d : Fin 64, lp (ix2 2 d) * lp (ix2 3 d)) + Ideal.ofBits .f32 0x3EB60549#32 := by
  unfold val_main_v25 val_main_v24 val_main_v23 val_main_v22 val_main_v21 val_main_v20 val_main_v19 val_main_v18 val_main_v17 val_main_v16 val_main_v15 val_main_v14 val_main_v13 val_main_v12 val_main_v11 val_main_v10 val_main_cst val_main_cst_0 val_main_cst_1
  clean_types
  pointwise

/-- The bucket as the index of the lookup: it is not negative. -/
theorem v5_at (r k : Fin 2048) (z : Fin 1) :
    val_main_call2_v5 (F := Ideal) (ix3 r k z) = BitVec.ofNat 32 (bucketOf ((k.val : ℤ) - r.val)) := by
  have h : val_main_call2_v5 (F := Ideal) (ix3 r k z) = Scalar.select (IntOp.cmpi CmpIPredicate.slt (val_main_v57 (F := Ideal) (ix2 r k)) 0#32) (IntOp.addi (val_main_v57 (F := Ideal) (ix2 r k)) 32#32) (val_main_v57 (F := Ideal) (ix2 r k)) := by
    unfold val_main_call2_v5 val_main_call2_v4 val_main_call2_v3 val_main_call2_v2 val_main_call2_c_0 val_main_call2_v1 val_main_call2_v0 val_main_call2_c
    generalize val_main_v57 (F := Ideal) = x
    clean_types
    pointwise
  rw [h, v57_at]
  have e : ∀ n : Fin 32, Scalar.select (IntOp.cmpi CmpIPredicate.slt (BitVec.ofNat 32 n.val) 0#32) (IntOp.addi (BitVec.ofNat 32 n.val) 32#32) (BitVec.ofNat 32 n.val) = BitVec.ofNat 32 n.val := by decide +kernel
  exact e ⟨_, bucketOf_lt _⟩

/-- Every index of the lookup is in range. -/
theorem v11_at (i : S2048x2048x1.Idx) :
    val_main_call2_v11 (F := Ideal) i = 1#1 := by
  obtain ⟨r, k, z, rfl⟩ : ∃ (r k : Fin 2048) (z : Fin 1), i = ix3 r k z :=
    ⟨i 0, i 1, i 2, by funext a; fin_cases a <;> rfl⟩
  have h : val_main_call2_v11 (F := Ideal) (ix3 r k z) = IntOp.andi (IntOp.cmpi .sge (val_main_call2_v5 (F := Ideal) (ix3 r k z)) 0#32) (IntOp.cmpi .sle (val_main_call2_v5 (F := Ideal) (ix3 r k z)) 31#32) := by
    unfold val_main_call2_v11 val_main_call2_v10 val_main_call2_v9 val_main_call2_v8 val_main_call2_v7 val_main_call2_v6 val_main_call2_c_2 val_main_call2_c_1
    generalize val_main_call2_v5 (F := Ideal) = x
    clean_types
    pointwise
  rw [h, v5_at]
  have e : ∀ n : Fin 32, IntOp.andi (IntOp.cmpi .sge (BitVec.ofNat 32 n.val) 0#32) (IntOp.cmpi .sle (BitVec.ofNat 32 n.val) 31#32) = 1#1 := by decide +kernel
  exact e ⟨_, bucketOf_lt _⟩

/-- The bias of a head for a query row and a key: the table's entry of the bucket. -/
theorem v58_at (r k : Fin 2048) (h : Fin 8) :
    val_main_v58 (F := Ideal) T (ix3 r k h) = T (ix2 ⟨bucketOf ((k.val : ℤ) - r.val), bucketOf_lt _⟩ h) := by
  have hm : ∀ i, val_main_call2_v12 (F := Ideal) i = 1#1 := fun i =>
    Host.reduce_andi_one _ _ _ _ _ rfl (v11_at)
  rw [val_main_v58_apply, val_main_call2_v14_apply, hm]
  show val_main_call2_v13 (F := Ideal) T (ix3 r k h) = _
  unfold val_main_call2_v13
  have hi := v5_at r k 0
  revert hi
  generalize val_main_call2_v5 (F := Ideal) = idx
  intro hi
  unfold Host.gather
  congr 1
  funext a
  refine Fin.ext ?_
  show GatherDims.start _ (ix3 r k h) idx a + GatherDims.batchCoord _ (ix3 r k h) a + GatherDims.offCoord _ (ix3 r k h) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (by exact fun h => by simp [gather_S32x8_S2048x2048x1_S2048x2048x8_2_0_n_n_0_2_18] at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x8_S2048x2048x1_S2048x2048x8_2_0_n_n_0_2_18.startIndexMap from List.mem_singleton.mpr rfl)]
    have hsi : GatherDims.siIdx gather_S32x8_S2048x2048x1_S2048x2048x8_2_0_n_n_0_2_18 (ix3 r k h) ⟨List.idxOf (0 : Fin 2) gather_S32x8_S2048x2048x1_S2048x2048x8_2_0_n_n_0_2_18.startIndexMap,
        List.idxOf_lt_length_iff.2 (List.mem_singleton.mpr rfl)⟩ = ix3 r k 0 := by
      funext b; refine Fin.ext ?_
      match b with
      | ⟨0, _⟩ => rfl
      | ⟨1, _⟩ => rfl
      | ⟨2, _⟩ => rfl
    have e : ∀ n : Fin 32, min (BitVec.ofNat 32 n.val).toInt.toNat 31 = n.val := by decide +kernel
    refine Eq.trans ?_ (e ⟨_, bucketOf_lt ((k.val : ℤ) - r.val)⟩)
    rw [← hi]
    show min (idx _).toInt.toNat 31 = _
    exact congrArg (fun i => min (idx i).toInt.toNat 31) hsi
  · rw [GatherDims.batchCoord_eq_zero _ _ _ (by exact fun h => by simp [gather_S32x8_S2048x2048x1_S2048x2048x8_2_0_n_n_0_2_18] at h)]
    have hs : GatherDims.start gather_S32x8_S2048x2048x1_S2048x2048x8_2_0_n_n_0_2_18 (ix3 r k h) idx 1 = 0 := by
      unfold GatherDims.start
      rw [dif_neg (by decide)]
    rw [hs]
    simp only [Nat.zero_add]
    rfl

/-- Floor division by 64 of a position, on words. -/
theorem divW : ∀ k : Fin 2048, Scalar.select
      (IntOp.andi
        (IntOp.cmpi CmpIPredicate.ne
          (if BitVec.ofNat 32 k.val = 0 then (0 : BitVec 32) else if (BitVec.ofNat 32 k.val).msb = true then -1 else 1)
          (if (64#32 : BitVec 32) = 0 then (0 : BitVec 32) else if BitVec.msb (64#32) = true then -1 else 1))
        (IntOp.cmpi CmpIPredicate.ne (IntOp.remsi ArithUnit.host (BitVec.ofNat 32 k.val) 64#32)
          0#32))
      (IntOp.subi (IntOp.divsi ArithUnit.host (BitVec.ofNat 32 k.val) 64#32) 1#32)
      (IntOp.divsi ArithUnit.host (BitVec.ofNat 32 k.val) 64#32) = BitVec.ofNat 32 (k.val / 64) := by decide +kernel

/-- The key's chunk. -/
theorem v64_at (z : Fin 1) (k : Fin 2048) :
    val_main_v64 (F := Ideal) (ix2 z k) = BitVec.ofNat 32 (k.val / 64) := by
  unfold val_main_v64 val_main_call3_v13 val_main_call3_v12 val_main_call3_c_0 val_main_call3_v11 val_main_call3_v10 val_main_call3_v9 val_main_call3_c val_main_call3_v8 val_main_call3_v7 val_main_call3_v6 val_main_call3_v5 val_main_call3_v4 val_main_call3_v3 val_main_call3_v2 val_main_call3_v1 val_main_call3_v0 val_main_c_11 val_main_v63 val_main_v26
  clean_types
  pointwise
  exact divW k

/-- The query row's chunk. -/
theorem v66_at (z : Fin 1) (k : Fin 2048) :
    val_main_v66 (F := Ideal) (ix2 k z) = BitVec.ofNat 32 (k.val / 64) := by
  unfold val_main_v66 val_main_call4_v13 val_main_call4_v12 val_main_call4_c_0 val_main_call4_v11 val_main_call4_v10 val_main_call4_v9 val_main_call4_c val_main_call4_v8 val_main_call4_v7 val_main_call4_v6 val_main_call4_v5 val_main_call4_v4 val_main_call4_v3 val_main_call4_v2 val_main_call4_v1 val_main_call4_v0 val_main_c_12 val_main_v65 val_main_v26
  clean_types
  pointwise
  exact divW k

/-- Whether a key's chunk is seen by a query row. -/
theorem v69_at (r k : Fin 2048) :
    val_main_v69 (F := Ideal) (ix2 r k) = if k.val / 64 ≤ r.val / 64 then 1#1 else 0#1 := by
  have h : val_main_v69 (F := Ideal) (ix2 r k) = IntOp.cmpi .sle (val_main_v64 (F := Ideal) (ix2 0 k)) (val_main_v66 (F := Ideal) (ix2 r 0)) := by
    unfold val_main_v69 val_main_v68 val_main_v67
    generalize val_main_v64 (F := Ideal) = x
    generalize val_main_v66 (F := Ideal) = y
    clean_types
    pointwise
  rw [h, v64_at, v66_at]
  have e : ∀ a b : Fin 32, IntOp.cmpi .sle (BitVec.ofNat 32 a.val) (BitVec.ofNat 32 b.val) = if a.val ≤ b.val then 1#1 else 0#1 := by decide +kernel
  exact e ⟨k.val / 64, by omega⟩ ⟨r.val / 64, by omega⟩

/-- A score: the product and the bias where the key is seen, minus infinity elsewhere. -/
theorem v70_at (B h : Fin 8) (mm : Fin 2) (r k : Fin 2048) :
    val_main_v70 (F := Ideal) q kv T (ix5 B h mm r k)
      = if k.val / 64 ≤ r.val / 64 then val_main_v27 (F := Ideal) q kv (ix5 B h mm r k) + val_main_v58 (F := Ideal) T (ix3 r k h) else ⊥ := by
  have e : val_main_v70 (F := Ideal) q kv T (ix5 B h mm r k)
      = Scalar.select (val_main_v69 (F := Ideal) (ix2 r k)) (val_main_v27 (F := Ideal) q kv (ix5 B h mm r k) + val_main_v58 (F := Ideal) T (ix3 r k h)) (Ideal.ofBits .f32 0xFF800000#32) := by
    unfold val_main_v70 val_main_call5_v2 val_main_call5_v1 val_main_call5_v0 val_main_cst_13 val_main_v62 val_main_v61 val_main_v60 val_main_v59
    generalize val_main_v69 (F := Ideal) = x
    generalize val_main_v27 (F := Ideal) q kv = y
    generalize val_main_v58 (F := Ideal) T = z
    clean_types
    pointwise
    rfl
  rw [e, v69_at, negInf]
  split <;> rfl

end Cert.Attn.Ref

end
-- ==== Proof.Attn.RefOut.lean ====
/- The reference read at an entry: softmaxes, output, norm. -/
module

public import proofs.«01_k».proof.Proof.Attn.Rows
public import proofs.«01_k».proof.Proof.Gen.ReferenceIdeal.Read
public import Idealize.ShloMosaic.Lib.Pointwise.IndexVar
public import Idealize.ShloMosaic.Lib.Tactic.CleanTypes

@[expose] public section

set_option maxRecDepth 16384

noncomputable section

namespace Cert.Attn.Ref

open Idealize.ShloMosaic Idealize.ShloMosaic.TcCoe Idealize.ShloMosaic.Tactic Cert.ReferenceIdeal Cert.ReferenceIdeal.Read
open Cert.ReferenceIdeal.Facts

variable (q : Vec Ideal S8x2048x1024 .bf16) (kv : Vec Ideal S8x2048x2048 .bf16) (T : Vec Ideal S32x8 .f32)
  (lp : Vec Ideal S4x64 .f32) (g : Vec Ideal S128 .f32)

/-- The greatest score of a row. -/
theorem v71_at (B h : Fin 8) (mm : Fin 2) (r : Fin 2048) :
    val_main_v71 (F := Ideal) q kv T (ix4 B h mm r) = Finset.fold max (Ideal.ofBits .f32 0xFF800000#32) (fun k => val_main_v70 (F := Ideal) q kv T (ix5 B h mm r k)) Finset.univ := by
  unfold val_main_v71
  generalize val_main_v70 (F := Ideal) q kv T = x
  unfold val_main_cst_14
  clean_types
  pointwise

/-- The same, held above minus infinity. -/
theorem v73_at (B h : Fin 8) (mm : Fin 2) (r : Fin 2048) :
    val_main_v73 (F := Ideal) q kv T (ix4 B h mm r) = max (Ideal.ofBits .f32 0xFF800000#32) (val_main_v71 (F := Ideal) q kv T (ix4 B h mm r)) := by
  rw [val_main_v73_apply, val_main_v72_apply, val_main_cst_15_apply]
  rfl

/-- The exponential of a score less the greatest. -/
theorem v77_at (B h : Fin 8) (mm : Fin 2) (r k : Fin 2048) :
    val_main_v77 (F := Ideal) q kv T (ix5 B h mm r k) = Ideal.exp (val_main_v70 (F := Ideal) q kv T (ix5 B h mm r k) - val_main_v73 (F := Ideal) q kv T (ix4 B h mm r)) := by
  rw [val_main_v77_apply, val_main_v76_apply, val_main_v75_apply, val_main_v74_apply]
  have e : idx_main_v74 (idx_main_v75 (ix5 B h mm r k)) = ix4 B h mm r := funext fun a => by fin_cases a <;> rfl
  rw [e]
  rfl

/-- The sum of the exponentials of a row. -/
theorem v78_at (B h : Fin 8) (mm : Fin 2) (r : Fin 2048) :
    val_main_v78 (F := Ideal) q kv T (ix4 B h mm r) = ∑ k, val_main_v77 (F := Ideal) q kv T (ix5 B h mm r k) := by
  rw [val_main_v78_apply, val_main_cst_16_apply]
  show Ideal.ofBits .f32 0#32 + _ = _
  rw [Ideal.ofBits_zero, zero_add]
  refine Finset.sum_congr rfl fun k _ => congrArg _ (funext fun a => ?_)
  fin_cases a <;> rfl

/-- The softmax. -/
theorem v81_at (B h : Fin 8) (mm : Fin 2) (r k : Fin 2048) :
    val_main_v81 (F := Ideal) q kv T (ix5 B h mm r k) = Ideal.div (val_main_v77 (F := Ideal) q kv T (ix5 B h mm r k)) (val_main_v78 (F := Ideal) q kv T (ix4 B h mm r)) := by
  unfold val_main_v81 val_main_v80 val_main_v79
  generalize val_main_v77 (F := Ideal) q kv T = x
  generalize val_main_v78 (F := Ideal) q kv T = y
  clean_types
  pointwise

/-- The first softmax. -/
theorem v83_at (B h : Fin 8) (r k : Fin 2048) :
    val_main_v83 (F := Ideal) q kv T (ix4 B h r k) = val_main_v81 (F := Ideal) q kv T (ix5 B h 0 r k) := by
  rw [val_main_v83_apply, val_main_v82_apply]
  have e : idx_main_v82 (idx_main_v83 (ix4 B h r k)) = ix5 B h 0 r k := funext fun a => by
    fin_cases a <;> apply Fin.ext <;> simp [idx_main_v82, idx_main_v83, ix4, ix5] <;> omega
  rw [e]

/-- The second softmax. -/
theorem v85_at (B h : Fin 8) (r k : Fin 2048) :
    val_main_v85 (F := Ideal) q kv T (ix4 B h r k) = val_main_v81 (F := Ideal) q kv T (ix5 B h 1 r k) := by
  rw [val_main_v85_apply, val_main_v84_apply]
  have e : idx_main_v84 (idx_main_v85 (ix4 B h r k)) = ix5 B h 1 r k := funext fun a => by
    fin_cases a <;> apply Fin.ext <;> simp [idx_main_v84, idx_main_v85, ix4, ix5] <;> omega
  rw [e]

/-- The difference of the two softmaxes. -/
theorem v88_at (B h : Fin 8) (r k : Fin 2048) :
    val_main_v88 (F := Ideal) q kv T lp (ix4 B h r k)
      = val_main_v83 (F := Ideal) q kv T (ix4 B h r k) - val_main_v25 (F := Ideal) lp ix0 * val_main_v85 (F := Ideal) q kv T (ix4 B h r k) := by
  rw [val_main_v88_apply, val_main_v87_apply, val_main_v86_apply]
  have e : idx_main_v86 (ix4 B h r k) = ix0 := funext fun a => a.elim0
  rw [e]
  rfl

/-- The weighted sum of the values. -/
theorem v90_at (B h : Fin 8) (r : Fin 2048) (e : Fin 128) :
    val_main_v90 (F := Ideal) q kv T lp (ix4 B r h e)
      = ∑ k, val_main_v9 (F := Ideal) kv (ix4 B h k e) * val_main_v88 (F := Ideal) q kv T lp (ix4 B h r k) := by
  rw [val_main_v90_apply, val_main_v89_apply]
  refine Finset.sum_congr rfl fun k _ => ?_
  have e1 : lidx_main_v89 (idx_main_v90 (ix4 B r h e)) k = ix4 B h k e := funext fun a => by fin_cases a <;> rfl
  have e2 : ridx_main_v89 (idx_main_v90 (ix4 B r h e)) k = ix4 B h r k := funext fun a => by fin_cases a <;> rfl
  rw [e1, e2]

/-- The sum of squares of a head. -/
theorem v92_at (B : Fin 8) (r : Fin 2048) (h : Fin 8) :
    val_main_v92 (F := Ideal) q kv T lp (ix3 B r h) = ∑ e : Fin 128, val_main_v90 (F := Ideal) q kv T lp (ix4 B r h e) * val_main_v90 (F := Ideal) q kv T lp (ix4 B r h e) := by
  rw [val_main_v92_apply, val_main_cst_17_apply]
  show Ideal.ofBits .f32 0#32 + _ = _
  rw [Ideal.ofBits_zero, zero_add]
  refine Finset.sum_congr rfl fun k _ => ?_
  have e : idx_main_v92 (ix3 B r h) k = ix4 B r h k := funext fun a => by fin_cases a <;> rfl
  rw [e]
  unfold val_main_v91
  generalize val_main_v90 (F := Ideal) q kv T lp = x
  clean_types
  pointwise

/-- The result, its lanes split by head. -/
theorem v107_at (B : Fin 8) (r : Fin 2048) (n : Fin 1024) :
    val_main_v107 (F := Ideal) q kv T lp g (ix3 B r n) = val_main_v105 (F := Ideal) q kv T lp g (ix4 B r ⟨n.val / 128, by omega⟩ ⟨n.val % 128, by omega⟩) := by
  unfold val_main_v107 val_main_v106
  generalize val_main_v105 (F := Ideal) q kv T lp g = x
  clean_types
  pointwise

/-- A head's row, normalized and scaled. -/
theorem v105_at (B : Fin 8) (r : Fin 2048) (h : Fin 8) (e : Fin 128) :
    val_main_v105 (F := Ideal) q kv T lp g (ix4 B r h e) = val_main_v90 (F := Ideal) q kv T lp (ix4 B r h e) * Ideal.rsqrt (Ideal.div (val_main_v92 (F := Ideal) q kv T lp (ix3 B r h)) (Ideal.ofBits .f32 0x43000000#32) + Ideal.ofBits .f32 0x3727C5AC#32)
    * g (ix1 e) * Ideal.ofBits .f32 0x3F24FD5C#32 := by
  unfold val_main_v105 val_main_v104 val_main_v103 val_main_v102 val_main_v101 val_main_v100 val_main_v99 val_main_v98 val_main_v97 val_main_v96 val_main_cst_19 val_main_v95 val_main_v94 val_main_cst_18 val_main_v93 val_main_cst_20
  generalize val_main_v90 (F := Ideal) q kv T lp = x
  generalize val_main_v92 (F := Ideal) q kv T lp = y
  clean_types
  pointwise

end Cert.Attn.Ref

end
-- ==== Proof.Attn.Equal.lean ====
/- The reference's result is the attention the kernel leaves. -/
module

public import proofs.«01_k».proof.Proof.Attn.Kernel
public import proofs.«01_k».proof.Proof.Attn.RefScore
public import proofs.«01_k».proof.Proof.Attn.RefOut
public import proofs.«01_k».proof.Proof.Gen.ReferenceIdeal.Run

@[expose] public section

set_option maxRecDepth 16384

noncomputable section

namespace Cert.Attn.Ref

open Idealize.ShloMosaic Idealize.ShloMosaic.TcCoe Idealize.ShloMosaic.Tactic Cert.ReferenceIdeal Cert.ReferenceIdeal.Read
open Cert.ReferenceIdeal.Facts

variable (q : Vec Ideal S8x2048x1024 .bf16) (kv : Vec Ideal S8x2048x2048 .bf16) (T : Vec Ideal S32x8 .f32)
  (lp : Vec Ideal S4x64 .f32) (g : Vec Ideal S128 .f32)

/-- The lanes of a head's queries. -/
abbrev qH (B h : Fin 8) : Fin 2048 → Fin 128 → EReal := fun r d => q (ix3 B r ⟨128 * h.val + d.val, by omega⟩)
/-- The lanes of a head's keys. -/
abbrev kH (B h : Fin 8) : Fin 2048 → Fin 128 → EReal := fun r d => kv (ix3 B r ⟨128 * h.val + d.val, by omega⟩)
/-- The lanes of a head's values. -/
abbrev vH (B h : Fin 8) : Fin 2048 → Fin 128 → EReal := fun r d => kv (ix3 B r ⟨1024 + 128 * h.val + d.val, by omega⟩)

/-- A finite table's bias, as a real number. -/
theorem bias_at (hT : ∀ i, ∃ x : ℝ, T i = (x : EReal)) (r k : Fin 2048) (h : Fin 8) :
    val_main_v58 (F := Ideal) T (ix3 r k h) = ((biasOf T h ((k.val : ℤ) - r.val) : ℝ) : EReal) := by
  rw [v58_at]
  unfold biasOf
  obtain ⟨x, hx⟩ := hT (ix2 ⟨bucketOf ((k.val : ℤ) - r.val), bucketOf_lt _⟩ h)
  rw [hx]
  rfl

/-- The scores of the first half of a head. -/
theorem score_lo (hT : ∀ i, ∃ x : ℝ, T i = (x : EReal)) (B h : Fin 8) (r k : Fin 2048) :
    val_main_v70 (F := Ideal) q kv T (ix5 B h 0 r k) = rowScore dotLo (qH q B h) (kH kv B h) (biasOf T h) r k := by
  rw [v70_at, v27_at, bias_at T hT]
  unfold rowScore dotLo
  simp only [v2_at, v6_at]
  simp

/-- The scores of the second half of a head. -/
theorem score_hi (hT : ∀ i, ∃ x : ℝ, T i = (x : EReal)) (B h : Fin 8) (r k : Fin 2048) :
    val_main_v70 (F := Ideal) q kv T (ix5 B h 1 r k) = rowScore dotHi (qH q B h) (kH kv B h) (biasOf T h) r k := by
  rw [v70_at, v27_at, bias_at T hT]
  unfold rowScore dotHi
  simp only [v2_at, v6_at]
  simp

/-- A softmax of the reference, from its row of scores. -/
theorem soft (B h : Fin 8) (mm : Fin 2) (r k : Fin 2048) (s : Fin 2048 → EReal)
    (hs : ∀ k, val_main_v70 (F := Ideal) q kv T (ix5 B h mm r k) = s k) :
    val_main_v81 (F := Ideal) q kv T (ix5 B h mm r k) = Ideal.div (rowExp s k) (rowSum s) := by
  have hm : val_main_v73 (F := Ideal) q kv T (ix4 B h mm r) = rowMax s := by
    rw [v73_at, v71_at, negInf, max_eq_right bot_le]
    simp only [hs]
    rfl
  have he : ∀ k, val_main_v77 (F := Ideal) q kv T (ix5 B h mm r k) = rowExp s k := fun k => by
    rw [v77_at, hs, hm]
    rfl
  rw [v81_at, he, v78_at]
  simp only [he]
  rfl

/-- The weighted values of a head. -/
theorem out_at (hT : ∀ i, ∃ x : ℝ, T i = (x : EReal)) (B h : Fin 8) (r : Fin 2048) (e : Fin 128) :
    val_main_v90 (F := Ideal) q kv T lp (ix4 B r h e)
      = ∑ k, attnR (lamOf lp) (rowScore dotLo (qH q B h) (kH kv B h) (biasOf T h) r)
          (rowScore dotHi (qH q B h) (kH kv B h) (biasOf T h) r) k * vH kv B h k e := by
  rw [v90_at]
  refine Finset.sum_congr rfl fun k _ => ?_
  rw [v88_at, v83_at, v85_at, soft q kv T B h 0 r k _ (score_lo q kv T hT B h r), soft q kv T B h 1 r k _ (score_hi q kv T hT B h r),
    v25_at, v9_at, mul_comm]
  congr 1
  exact congrArg kv (congrArg (ix3 B k) (Fin.ext (by simp; omega)))

/-- The reference's result is the attention, from the queries, keys, values, table, weights and gain. -/
theorem result_eq (hT : ∀ i, ∃ x : ℝ, T i = (x : EReal)) : val_main_v107 (F := Ideal) q kv T lp g = attnOut q kv T lp g := by
  funext i
  obtain ⟨B, r, n, rfl⟩ : ∃ (B : Fin 8) (r : Fin 2048) (n : Fin 1024), i = ix3 B r n :=
    ⟨i 0, i 1, i 2, by funext a; fin_cases a <;> rfl⟩
  rw [v107_at, v105_at, v92_at]
  simp only [out_at q kv T lp hT]
  rfl

/-- The reference's run leaves the attention. -/
theorem run (m : (ℓ : Loc nD τ sig) → Buf (Elt Ideal) ℓ) (ρ : Dev nD → PrngReg)
    (hT : ∀ c : Dev nD, ∀ i, ∃ x : ℝ, m ((c.tc : Thread nD τ).loc main_arg2) i = (x : EReal)) :
    θ_run defs (onTc (τ := τ) (main (F := Ideal))) ⟨m, fun _ => 0, ρ⟩ fun r => ∀ c : Dev nD,
      r.2.mem ((c.tc : Thread nD τ).loc main_v107)
        = attnOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v107_eq (StableHlo.launchContents m c)).trans (result_eq _ _ _ _ _ (hT c))), (h c).2⟩)
    (Cert.ReferenceIdeal.Value.run m ρ)

end Cert.Attn.Ref

end
-- ==== Proof.Attn.Finite.lean ====
/- The precondition read: the queries, the keys and the bias table are finite. -/
module

public import proofs.«01_k».proof.Pre_finite_scores
public import Idealize.ShloMosaic.Lib.ReduceAll
public import Idealize.ShloMosaic.Lib.Decide
public import Idealize.ShloMosaic.Lib.Pointwise.IndexVar
public import Idealize.ShloMosaic.Lib.Tactic.CleanTypes

@[expose] public section

set_option maxRecDepth 16384

noncomputable section

namespace Cert.Attn.Finite

open Idealize.ShloMosaic Idealize.ShloMosaic.TcCoe Idealize.ShloMosaic.Tactic Cert.Pre_finite_scores
open Cert.Pre_finite_scores.Facts

/-- A number whose size is below infinity is real. -/
theorem real_of (x : EReal) (h : Ideal.cmp .olt (max x (-x)) (Ideal.ofBits .f32 0x7F800000#32) = 1#1) : ∃ y : ℝ, x = y := by
  have ht : Ideal.ofBits .f32 0x7F800000#32 = ⊤ := by simp [Ideal.ofBits, Ideal.ieee]
  rw [ht] at h
  induction x with
  | bot => exact absurd h (by simp [Ideal.cmp])
  | coe x => exact ⟨x, rfl⟩
  | top => exact absurd h (by simp [Ideal.cmp])

variable [Cert.Pre_finite_scores.Facts]
variable (q : Vec Ideal S8x2048x1024 .bf16) (kv : Vec Ideal S8x2048x2048 .bf16) (T : Vec Ideal S32x8 .f32)
  (lp : Vec Ideal S4x64 .f32) (g : Vec Ideal S128 .f32)

instance : Subsingleton S_.Idx := ⟨fun a b => funext fun x => x.elim0⟩

/-- What the precondition says. -/
theorem read (h : Cert.Pre_finite_scores.fn (F := Ideal) q kv T lp g = fun _ => 1#1) :
    (∀ i, ∃ x : ℝ, q i = (x : EReal)) ∧ (∀ (B : Fin 8) (r d : Fin 2048), d.val < 1024 → ∃ x : ℝ, kv (ix3 B r d) = (x : EReal))
      ∧ ∀ i, ∃ x : ℝ, T i = (x : EReal) := by
  have h0 := congrFun h ix0
  unfold Cert.Pre_finite_scores.fn at h0
  dsimp only at h0
  have hand : ∀ a b : BitVec 1, IntOp.andi a b = 1#1 → a = 1#1 ∧ b = 1#1 := by decide
  obtain ⟨h1, h3⟩ := hand _ _ h0
  obtain ⟨h1, h2⟩ := hand _ _ h1
  refine ⟨fun i => ?_, fun B r d hd => ?_, fun i => ?_⟩
  · exact real_of (q i) (Host.reduce_andi_all _ _ _ _ _ h1 i)
  · obtain ⟨y, hy⟩ : ∃ y : FVec Ideal S8x2048x1024 .bf16, y = extractStridedSlice S8x2048x1024 ![0, 0, 0] kv slices_S8x2048x2048_S8x2048x1024_0_0_0 :=
      ⟨_, rfl⟩
    have e : y (ix3 B r ⟨d.val, hd⟩) = kv (ix3 B r d) := by
      rw [hy]
      clean_types
      pointwise
    rw [← hy] at h2
    rw [← e]
    exact real_of (y _) (Host.reduce_andi_all _ _ _ _ _ h2 (ix3 B r ⟨d.val, hd⟩))
  · exact real_of (T i) (Host.reduce_andi_all _ _ _ _ _ h3 i)

end Cert.Attn.Finite

end
-- ==== Proof.Ffn.IdealRun.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Claim

/-! The expert layer's kernel body on its staging buffers: the words of the prefetched tables that choose its
branches, and what a run of the body leaves in each branch. -/

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The two prefetched tables as the body is handed them. -/
abbrev tbM0 : Memref sig .tc .smem S288 .i32 := Memref.whole main_arg0
abbrev tbM1 : Memref sig .tc .smem S288 .i32 := Memref.whole main_arg1

/-- A table's contents on a core, and half of its ownership. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp (MT nD τ sig Unit (Elt F) ℕ (UR sig nD τ) ℕ) :=
  M.view.loc (c : Thread nD τ) ↦{fullShare.right} f

/-- The expert of this block, the expert of the block before, and the block's mark, as the body reads them. -/
abbrev wExpert (c : Dev nD) (i : grid0.Coords) (x : TbBuf (F := F) c tbM0) : BitVec 32 :=
  View.readAt (Elt F) tbM0.view (Rect.unit (s := S288) (k0_off1 i) S1.size (k0_off1_inb i)).toLoadRect x (Shape.Idx.first (numel1_S1.symm ▸ Nat.one_pos))
abbrev wBefore (c : Dev nD) (i : grid0.Coords) (x : TbBuf (F := F) c tbM0) : BitVec 32 :=
  View.readAt (Elt F) tbM0.view (Rect.unit (s := S288) (k0_off2 i) S1.size (k0_off2_inb i)).toLoadRect x (Shape.Idx.first (numel1_S1.symm ▸ Nat.one_pos))
abbrev wMark (c : Dev nD) (i : grid0.Coords) (x : TbBuf (F := F) c tbM1) : BitVec 32 :=
  View.readAt (Elt F) tbM1.view (Rect.unit (s := S288) (k0_off3 i) S1.size (k0_off3_inb i)).toLoadRect x (Shape.Idx.first (numel1_S1.symm ▸ Nat.one_pos))
abbrev wMark' (c : Dev nD) (i : grid0.Coords) (x : TbBuf (F := F) c tbM1) : BitVec 32 :=
  View.readAt (Elt F) tbM1.view (Rect.unit (s := S288) (k0_off4 i) S1.size (k0_off4_inb i)).toLoadRect x (Shape.Idx.first (numel1_S1.symm ▸ Nat.one_pos))

/-- The body fetches the weights: at the first block, and where the expert is not the one of the block before. -/
abbrev fetches (c : Dev nD) (i : grid0.Coords) (x : TbBuf (F := F) c tbM0) : Prop :=
  (Scalar.cmpi .ne (Scalar.extui (Scalar.ori (Scalar.cmpi .eq (BitVec.ofNat 32 (i 0).val) 0#32) (Scalar.cmpi .ne (wExpert c i x) (wBefore c i x)))) 0#32) = 1#1
/-- The block is marked unused, and the block is marked used. -/
abbrev unused (c : Dev nD) (i : grid0.Coords) (x : TbBuf (F := F) c tbM1) : Prop := k0_cond2 (wMark c i x) = 1#1
abbrev used (c : Dev nD) (i : grid0.Coords) (x : TbBuf (F := F) c tbM1) : Prop := k0_cond3 (wMark' c i x) = 1#1

set_option maxHeartbeats 4000000 in
/-- At an unused block where the weights are fetched the body stores zeros and both scratch buffers take the fetched weights. -/
theorem run_A (c : Dev nD) (i : grid0.Coords) (arg3 : Memref sig .tc .vmem S256x1024 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .f32) (x1 : Vec F S1x1x1024x2048 .f32) (x2 : Vec F S1x1x1x2048 .f32) (x3 : Vec F S1x1x1024x1024 .f32) (x4 : Vec F S1x1x1x1024 .f32) (xt0 : TbBuf (F := F) c tbM0) (xt1 : TbBuf (F := F) c tbM1)
    (hc0 : fetches c i xt0) (hc1 : unused c i xt1) (hc2 : ¬used c i xt1) (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ tbPt c tbM0 xt0 ∗ tbPt c tbM1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay3) ∗ owns (c : Thread nD τ) arg9 fullShare (k0_pay1 x1) ∗ owns (c : Thread nD τ) arg10 fullShare (k0_pay2 x3) ∗ tbPt c tbM0 xt0 ∗ tbPt c tbM1 xt1) -∗ K ⟨⟩))
      ⊢ wp frame (wpE (defs₀ (F := F)) Variants.none c none) E (cc0_expert_ffn i tbM0 (Memref.isWhole_whole _) tbM1 (Memref.isWhole_whole _) arg3 harg3 arg4 harg4 arg5 harg5 arg6 harg6 arg7 harg7 arg8 harg8 arg9 harg9 arg10 harg10) K := by
  simp only [cc0_expert_ffn_eq_skeleton]; unfold cc0_expert_ffn_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, Hk⟩
  obtain rfl := harg3.eq_unread hf0; obtain rfl := harg4.eq_unread hf1; obtain rfl := harg5.eq_unread hf2; obtain rfl := harg6.eq_unread hf3; obtain rfl := harg7.eq_unread hf4
  have hT0 : tbM0.IsWhole := Memref.isWhole_whole _
  have hT1 : tbM1.IsWhole := Memref.isWhole_whole _
  sl_exec! (disch := first | (guard_target = Scalar.cmpi = _; exact hc0) | (guard_target = k0_cond2 _ = _; exact hc1) | (guard_target = ¬(k0_cond3 _ = _); exact hc2))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    exact View.read_writes_full _ _ _ _ _
  isplitl [HS0]
  · iexists _; isplitr
    swap; · iexact HS0
    ipureintro
    exact (View.read_writes_full _ _ _ _ _).trans (congrArg k0_pay1 ((View.readAt_full _ _ _).trans (harg4.read_unread _)))
  isplitl [HS1]
  · iexists _; isplitr
    swap; · iexact HS1
    ipureintro
    exact (View.read_writes_full _ _ _ _ _).trans (congrArg k0_pay2 ((View.readAt_full _ _ _).trans (harg6.read_unread _)))
  isplitl [HT0]; · iexact HT0
  iexact HT1

set_option maxHeartbeats 4000000 in
/-- At a used block where the weights are fetched the body stores the expert layer of its rows over the fetched weights, which the scratch buffers keep. -/
theorem run_B (c : Dev nD) (i : grid0.Coords) (arg3 : Memref sig .tc .vmem S256x1024 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .f32) (x1 : Vec F S1x1x1024x2048 .f32) (x2 : Vec F S1x1x1x2048 .f32) (x3 : Vec F S1x1x1024x1024 .f32) (x4 : Vec F S1x1x1x1024 .f32) (xt0 : TbBuf (F := F) c tbM0) (xt1 : TbBuf (F := F) c tbM1)
    (hc0 : fetches c i xt0) (hc1 : ¬unused c i xt1) (hc2 : used c i xt1) (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ tbPt c tbM0 xt0 ∗ tbPt c tbM1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay4 x0 (k0_pay1 x1) x2 (k0_pay2 x3) x4) ∗ owns (c : Thread nD τ) arg9 fullShare (k0_pay1 x1) ∗ owns (c : Thread nD τ) arg10 fullShare (k0_pay2 x3) ∗ tbPt c tbM0 xt0 ∗ tbPt c tbM1 xt1) -∗ K ⟨⟩))
      ⊢ wp frame (wpE (defs₀ (F := F)) Variants.none c none) E (cc0_expert_ffn i tbM0 (Memref.isWhole_whole _) tbM1 (Memref.isWhole_whole _) arg3 harg3 arg4 harg4 arg5 harg5 arg6 harg6 arg7 harg7 arg8 harg8 arg9 harg9 arg10 harg10) K := by
  simp only [cc0_expert_ffn_eq_skeleton]; unfold cc0_expert_ffn_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, Hk⟩
  obtain rfl := harg3.eq_unread hf0; obtain rfl := harg4.eq_unread hf1; obtain rfl := harg5.eq_unread hf2; obtain rfl := harg6.eq_unread hf3; obtain rfl := harg7.eq_unread hf4
  have hT0 : tbM0.IsWhole := Memref.isWhole_whole _
  have hT1 : tbM1.IsWhole := Memref.isWhole_whole _
  sl_exec! (disch := first | (guard_target = Scalar.cmpi = _; exact hc0) | (guard_target = ¬(k0_cond2 _ = _); exact hc1) | (guard_target = k0_cond3 _ = _; exact hc2))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    refine (View.read_writes_full _ _ _ _ _).trans ?_
    show k0_pay4 _ _ _ _ _ = k0_pay4 _ _ _ _ _
    refine congr (congr (congr (congr (congrArg k0_pay4 ?_) ?_) ?_) ?_) ?_
    · exact (View.readAt_full _ _ _).trans (harg3.read_unread _)
    · exact (View.readCov_full _ _ _ _ _).trans (congrArg k0_pay1 ((View.readAt_full _ _ _).trans (harg4.read_unread _)))
    · exact (View.readAt_full _ _ _).trans (harg5.read_unread _)
    · exact (View.readCov_full _ _ _ _ _).trans (congrArg k0_pay2 ((View.readAt_full _ _ _).trans (harg6.read_unread _)))
    · exact (View.readAt_full _ _ _).trans (harg7.read_unread _)
  isplitl [HS0]
  · iexists _; isplitr
    swap; · iexact HS0
    ipureintro
    exact (View.read_writes_full _ _ _ _ _).trans (congrArg k0_pay1 ((View.readAt_full _ _ _).trans (harg4.read_unread _)))
  isplitl [HS1]
  · iexists _; isplitr
    swap; · iexact HS1
    ipureintro
    exact (View.read_writes_full _ _ _ _ _).trans (congrArg k0_pay2 ((View.readAt_full _ _ _).trans (harg6.read_unread _)))
  isplitl [HT0]; · iexact HT0
  iexact HT1

set_option maxHeartbeats 4000000 in
/-- At an unused block whose weights are kept the body stores zeros. -/
theorem run_C (c : Dev nD) (i : grid0.Coords) (arg3 : Memref sig .tc .vmem S256x1024 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .f32) (x1 : Vec F S1x1x1024x2048 .f32) (x2 : Vec F S1x1x1x2048 .f32) (x3 : Vec F S1x1x1024x1024 .f32) (x4 : Vec F S1x1x1x1024 .f32) (xt0 : TbBuf (F := F) c tbM0) (xt1 : TbBuf (F := F) c tbM1) (xs0 : Vec F S1024x2048 .bf16) (xs1 : Vec F S1024x1024 .bf16)
    (hc0 : ¬fetches c i xt0) (hc1 : unused c i xt1) (hc2 : ¬used c i xt1) (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ tbPt c tbM0 xt0 ∗ tbPt c tbM1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay3) ∗ owns (c : Thread nD τ) arg9 fullShare xs0 ∗ owns (c : Thread nD τ) arg10 fullShare xs1 ∗ tbPt c tbM0 xt0 ∗ tbPt c tbM1 xt1) -∗ K ⟨⟩))
      ⊢ wp frame (wpE (defs₀ (F := F)) Variants.none c none) E (cc0_expert_ffn i tbM0 (Memref.isWhole_whole _) tbM1 (Memref.isWhole_whole _) arg3 harg3 arg4 harg4 arg5 harg5 arg6 harg6 arg7 harg7 arg8 harg8 arg9 harg9 arg10 harg10) K := by
  simp only [cc0_expert_ffn_eq_skeleton]; unfold cc0_expert_ffn_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
  have hT0 : tbM0.IsWhole := Memref.isWhole_whole _
  have hT1 : tbM1.IsWhole := Memref.isWhole_whole _
  sl_exec! (disch := first | (guard_target = ¬(Scalar.cmpi = _); exact hc0) | (guard_target = k0_cond2 _ = _; exact hc1) | (guard_target = ¬(k0_cond3 _ = _); exact hc2))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    exact View.read_writes_full _ _ _ _ _
  isplitl [HS0]
  · iexists _; isplitr; · ipureintro; exact harg9.read_unread _
    iexact HS0
  isplitl [HS1]
  · iexists _; isplitr; · ipureintro; exact harg10.read_unread _
    iexact HS1
  isplitl [HT0]; · iexact HT0
  iexact HT1

set_option maxHeartbeats 4000000 in
/-- At a used block whose weights are kept the body stores the expert layer of its rows over the weights in the scratch buffers. -/
theorem run_D (c : Dev nD) (i : grid0.Coords) (arg3 : Memref sig .tc .vmem S256x1024 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .f32) (x1 : Vec F S1x1x1024x2048 .f32) (x2 : Vec F S1x1x1x2048 .f32) (x3 : Vec F S1x1x1024x1024 .f32) (x4 : Vec F S1x1x1x1024 .f32) (xt0 : TbBuf (F := F) c tbM0) (xt1 : TbBuf (F := F) c tbM1) (xs0 : Vec F S1024x2048 .bf16) (xs1 : Vec F S1024x1024 .bf16)
    (hc0 : ¬fetches c i xt0) (hc1 : ¬unused c i xt1) (hc2 : used c i xt1) (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ tbPt c tbM0 xt0 ∗ tbPt c tbM1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay4 x0 xs0 x2 xs1 x4) ∗ owns (c : Thread nD τ) arg9 fullShare xs0 ∗ owns (c : Thread nD τ) arg10 fullShare xs1 ∗ tbPt c tbM0 xt0 ∗ tbPt c tbM1 xt1) -∗ K ⟨⟩))
      ⊢ wp frame (wpE (defs₀ (F := F)) Variants.none c none) E (cc0_expert_ffn i tbM0 (Memref.isWhole_whole _) tbM1 (Memref.isWhole_whole _) arg3 harg3 arg4 harg4 arg5 harg5 arg6 harg6 arg7 harg7 arg8 harg8 arg9 harg9 arg10 harg10) K := by
  simp only [cc0_expert_ffn_eq_skeleton]; unfold cc0_expert_ffn_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
  have hT0 : tbM0.IsWhole := Memref.isWhole_whole _
  have hT1 : tbM1.IsWhole := Memref.isWhole_whole _
  sl_exec! (disch := first | (guard_target = ¬(Scalar.cmpi = _); exact hc0) | (guard_target = ¬(k0_cond2 _ = _); exact hc1) | (guard_target = k0_cond3 _ = _; exact hc2))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    refine (View.read_writes_full _ _ _ _ _).trans ?_
    show k0_pay4 _ _ _ _ _ = k0_pay4 _ _ _ _ _
    refine congr (congr (congr (congr (congrArg k0_pay4 ?_) ?_) ?_) ?_) ?_
    · exact (View.readAt_full _ _ _).trans (harg3.read_unread _)
    · exact (View.readAt_full _ _ _).trans (harg9.read_unread _)
    · exact (View.readAt_full _ _ _).trans (harg5.read_unread _)
    · exact (View.readAt_full _ _ _).trans (harg10.read_unread _)
    · exact (View.readAt_full _ _ _).trans (harg7.read_unread _)
  isplitl [HS0]
  · iexists _; isplitr; · ipureintro; exact harg9.read_unread _
    iexact HS0
  isplitl [HS1]
  · iexists _; isplitr; · ipureintro; exact harg10.read_unread _
    iexact HS1
  isplitl [HT0]; · iexact HT0
  iexact HT1

end Cert.Kernel2Ideal.Experts

end
-- ==== Proof.Ffn.IdealFrame.lean ====
module

public import proofs.«01_k».proof.Proof.Ffn.IdealRun
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Claim

/-! The expert layer's kernel over its grid: what the staging buffers and the scratch buffers hold after each block, and
the run of the whole program, for tables that name experts and mark every block 0 or 1. -/

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (`ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).1 4).trans (((dats 0 c).arrAt_in 4 rfl _).trans ((hA c 4).trans (V_main_arg6 m c)))⟩) h

/-! ## The tables' words -/

theorem grid_lt (i : grid0.Coords) : (i 0).val < 288 := (i 0).isLt
/-- The place of block `i` in a table, and of the block before it (of the first block: its own). -/
def here (i : grid0.Coords) : S288.Idx := fun | 0 => ⟨(i 0).val, grid_lt i⟩
def prev (i : grid0.Coords) : S288.Idx := fun | 0 => ⟨(i 0).val - 1, lt_of_le_of_lt (Nat.sub_le _ _) (grid_lt i)⟩

/-- The grid point of block `n`. -/
def point (n : Fin 288) : grid0.Coords := fun | 0 => n

theorem offs (n : Fin 288) : k0_off1 (point n) = ![n.val] ∧ k0_off2 (point n) = ![n.val - 1] ∧ k0_off3 (point n) = ![n.val] ∧ k0_off4 (point n) = ![n.val] := by
  revert n; decide +kernel
theorem coords_eq (i : grid0.Coords) : i = point ⟨(i 0).val, grid_lt i⟩ := by
  refine funext fun (a : Fin 1) => ?_
  obtain rfl : a = 0 := Subsingleton.elim _ _
  rfl
theorem off1_eq (i : grid0.Coords) : k0_off1 i = ![(i 0).val] := by rw [coords_eq i]; exact (offs _).1
theorem off2_eq (i : grid0.Coords) : k0_off2 i = ![(i 0).val - 1] := by rw [coords_eq i]; exact (offs _).2.1
theorem off3_eq (i : grid0.Coords) : k0_off3 i = ![(i 0).val] := by rw [coords_eq i]; exact (offs _).2.2.1
theorem off4_eq (i : grid0.Coords) : k0_off4 i = ![(i 0).val] := by rw [coords_eq i]; exact (offs _).2.2.2

/-- The words the body loads are the tables' words at the block and at the block before. -/
theorem wExpert_eq (c : Dev nD) (i : grid0.Coords) (x : TbBuf (F := F) c tbM0) : wExpert c i x = x (here i) := by
  refine congrArg x (funext fun (a : Fin 1) => Fin.ext ?_)
  obtain rfl : a = 0 := Subsingleton.elim _ _
  show k0_off1 i 0 + 1 * 0 = (i 0).val
  rw [off1_eq]; rfl
theorem wBefore_eq (c : Dev nD) (i : grid0.Coords) (x : TbBuf (F := F) c tbM0) : wBefore c i x = x (prev i) := by
  refine congrArg x (funext fun (a : Fin 1) => Fin.ext ?_)
  obtain rfl : a = 0 := Subsingleton.elim _ _
  show k0_off2 i 0 + 1 * 0 = (i 0).val - 1
  rw [off2_eq]; rfl
theorem wMark_eq (c : Dev nD) (i : grid0.Coords) (x : TbBuf (F := F) c tbM1) : wMark c i x = x (here i) := by
  refine congrArg x (funext fun (a : Fin 1) => Fin.ext ?_)
  obtain rfl : a = 0 := Subsingleton.elim _ _
  show k0_off3 i 0 + 1 * 0 = (i 0).val
  rw [off3_eq]; rfl
theorem wMark'_eq (c : Dev nD) (i : grid0.Coords) (x : TbBuf (F := F) c tbM1) : wMark' c i x = x (here i) := by
  refine congrArg x (funext fun (a : Fin 1) => Fin.ext ?_)
  obtain rfl : a = 0 := Subsingleton.elim _ _
  show k0_off4 i 0 + 1 * 0 = (i 0).val
  rw [off4_eq]; rfl

theorem or_bit (a b : BitVec 1) : Scalar.cmpi .ne (Scalar.extui (Scalar.ori a b) : BitVec 32) 0#32 = 1#1 ↔ a = 1#1 ∨ b = 1#1 := by
  revert a b; decide
theorem bit_ofBool (b : Bool) : BitVec.ofBool b = 1#1 ↔ b = true := by revert b; decide
theorem eq_bit (a b : BitVec 32) : Scalar.cmpi .eq a b = 1#1 ↔ a = b := by
  by_cases h : a = b <;> simp [Scalar.cmpi, IntOp.cmpi, h, bit_ofBool]
theorem ne_bit (a b : BitVec 32) : Scalar.cmpi .ne a b = 1#1 ↔ a ≠ b := by
  by_cases h : a = b <;> simp [Scalar.cmpi, IntOp.cmpi, h, bit_ofBool]
theorem wide_bit (a : BitVec 1) : Scalar.cmpi .ne (Scalar.extui a : BitVec 32) 0#32 = 1#1 ↔ a = 1#1 := by
  revert a; decide
theorem first_bit (n : Fin 288) : Scalar.cmpi .eq (BitVec.ofNat 32 n.val) 0#32 = 1#1 ↔ n.val = 0 := by
  revert n; decide +kernel

/-- The weights are fetched exactly at the first block and where the expert changes. -/
theorem fetches_iff (c : Dev nD) (i : grid0.Coords) (x : TbBuf (F := F) c tbM0) : fetches c i x ↔ (i 0).val = 0 ∨ x (here i) ≠ x (prev i) := by
  unfold fetches
  refine (or_bit _ _).trans (or_congr (first_bit ⟨(i 0).val, grid_lt i⟩) ?_)
  refine (ne_bit _ _).trans ?_
  rw [wExpert_eq, wBefore_eq]
/-- A block is unused exactly where its mark is 0, and used exactly where it is 1. -/
theorem unused_iff (c : Dev nD) (i : grid0.Coords) (x : TbBuf (F := F) c tbM1) : unused c i x ↔ x (here i) = (0#32 : BitVec 32) := by
  unfold unused k0_cond2
  refine (wide_bit _).trans ((eq_bit _ _).trans ?_)
  rw [wMark_eq]
theorem used_iff (c : Dev nD) (i : grid0.Coords) (x : TbBuf (F := F) c tbM1) : used c i x ↔ x (here i) = (1#32 : BitVec 32) := by
  unfold used k0_cond3
  refine (wide_bit _).trans ((eq_bit _ _).trans ?_)
  rw [wMark'_eq]

theorem mark_ne : (0#32 : BitVec 32) ≠ 1#32 := by decide

/-- Every block is marked 0 or 1. -/
abbrev Marked : Prop := ∀ i : grid0.Coords, tbl m 1 (here i) = (0#32 : BitVec 32) ∨ tbl m 1 (here i) = (1#32 : BitVec 32)

theorem atD_eq (i : grid0.Coords) (off : Fin 1 → Nat) (h : off = ![(i 0).val]) : (tbl m).atD 1 off = tbl m 1 (here i) := by
  subst h
  refine (dif_pos ?_).trans ?_
  · exact fun (a : Fin 1) => by obtain rfl : a = 0 := Subsingleton.elim _ _; exact grid_lt i
  · exact congrArg (tbl m 1) (funext fun (a : Fin 1) => by obtain rfl : a = 0 := Subsingleton.elim _ _; rfl)

/-- Where every block is marked 0 or 1 the body stores its result at every block. -/
theorem live5 (hM : Marked m) (i : grid0.Coords) : idle0 (tbl m) 5 i = false := by
  show (!(k0_cond2 ((tbl m).atD 1 (k0_off3 i)) == 1#1) && !(k0_cond3 ((tbl m).atD 1 (k0_off4 i)) == 1#1)) = false
  rw [atD_eq m i _ (off3_eq i), atD_eq m i _ (off4_eq i)]
  rcases hM i with h | h <;> rw [h] <;> decide

/-! ## Where the windows are idle -/

/-- Window 0 is never idle (an input). -/
theorem liveAt0_0 (hO : Ok m) : ∀ t : Fin (cfgM m hO).N, (cfgM m hO).idle 0 (grid0.coords t) = false :=
  (fun _ => rfl : ∀ t : Fin grid0.N, idle0 (tbl m) 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 (tbl m) 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 (tbl m) 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 (tbl m) 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 (tbl m) 4 (grid0.coords t) = false)
/-- Window 5 (result 0 (%0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_ffn (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-! ## The staging and scratch buffers -/

/-- Each window's current staging memref at point `t`, spelled as the pipeline passes it (`bodyAt0`). -/
abbrev ms0_0 (hO : Ok m) (t : Fin (cfgM m hO).N) : Memref sig .tc .vmem S256x1024 .f32 := spec0_0.stage ((cfgM m hO).slots t 0)
abbrev ms0_1 (hO : Ok m) (t : Fin (cfgM m hO).N) : Memref sig .tc .vmem S1x1x1024x2048 .f32 := spec0_1.stage ((cfgM m hO).slots t 1)
abbrev ms0_2 (hO : Ok m) (t : Fin (cfgM m hO).N) : Memref sig .tc .vmem S1x1x1x2048 .f32 := spec0_2.stage ((cfgM m hO).slots t 2)
abbrev ms0_3 (hO : Ok m) (t : Fin (cfgM m hO).N) : Memref sig .tc .vmem S1x1x1024x1024 .f32 := spec0_3.stage ((cfgM m hO).slots t 3)
abbrev ms0_4 (hO : Ok m) (t : Fin (cfgM m hO).N) : Memref sig .tc .vmem S1x1x1x1024 .f32 := spec0_4.stage ((cfgM m hO).slots t 4)
abbrev ms0_5 (hO : Ok m) (t : Fin (cfgM m hO).N) : Memref sig .tc .vmem S256x1024 .f32 := spec0_5.stage ((cfgM m hO).slots t 5)
/-- The scratch operands: whole scoped buffers of the kernel's own, passed beside the windows. -/
abbrev scM0_0 : Memref sig .tc .vmem S1024x2048 .bf16 := Memref.whole cc0_scratch0
abbrev scM0_1 : Memref sig .tc .vmem S1024x1024 .bf16 := Memref.whole cc0_scratch1
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the buffers hold after each block -/

/-- What the two scratch buffers hold after block `n`: the weights fetched at the last block that fetched. -/
def kept (hO : Ok m) (c : Dev nD) : (n : ℕ) → n < (cfgM m hO).N → Vec F S1024x2048 .bf16 × Vec F S1024x1024 .bf16
  | 0, hn => (k0_pay1 (iblk m hO c 1 ⟨0, hn⟩), k0_pay2 (iblk m hO c 3 ⟨0, hn⟩))
  | n + 1, hn =>
    if fetches c (grid0.coords ⟨n + 1, hn⟩) (tbl m 0) then (k0_pay1 (iblk m hO c 1 ⟨n + 1, hn⟩), k0_pay2 (iblk m hO c 3 ⟨n + 1, hn⟩))
    else kept hO c n (Nat.lt_of_succ_lt hn)

/-- What the result's staging buffer holds after block `t`: zeros at an unused block, the expert layer of the block's rows at a
    used one. -/
def stored (hO : Ok m) (c : Dev nD) (t : Fin (cfgM m hO).N) : Vec F S256x1024 .f32 :=
  if unused c (grid0.coords t) (tbl m 1) then k0_pay3
  else k0_pay4 (iblk m hO c 0 t) (kept m hO c t.val t.isLt).1 (iblk m hO c 2 t) (kept m hO c t.val t.isLt).2 (iblk m hO c 4 t)

theorem coords_zero (t : Fin grid0.N) : ((grid0.coords t) 0).val = t.val :=
  (by decide +kernel : ∀ t : Fin grid0.N, ((grid0.coords t) 0).val = t.val) t

/-- A block that fetches leaves its own weights. -/
theorem kept_fetch (hO : Ok m) (c : Dev nD) (t : Fin (cfgM m hO).N) (h : fetches c (grid0.coords t) (tbl m 0)) :
    kept m hO c t.val t.isLt = (k0_pay1 (iblk m hO c 1 t), k0_pay2 (iblk m hO c 3 t)) := by
  obtain ⟨n, hn⟩ := t
  cases n with
  | zero => rfl
  | succ n => exact if_pos h

/-- A block that does not leaves what the block before left. -/
theorem kept_keep (hO : Ok m) (c : Dev nD) (t : Fin (cfgM m hO).N) (h : ¬fetches c (grid0.coords t) (tbl m 0)) :
    t.val ≠ 0 ∧ kept m hO c t.val t.isLt = kept m hO c (t.val - 1) (Nat.lt_of_le_of_lt (Nat.sub_le _ _) t.isLt) := by
  obtain ⟨n, hn⟩ := t
  cases n with
  | zero => exact absurd ((fetches_iff c _ _).mpr (.inl (coords_zero ⟨0, hn⟩))) h
  | succ n => exact ⟨Nat.succ_ne_zero n, if_neg h⟩

/-- The region invariant before position `n` with a scratch the kernel CARRIES between points: before the first point the
    class's (Lib/Pipeline/Frame.lean `ΦA`: every scratch at anything); afterwards the scoped rest with each carried scratch
    at what the point before left in it (`kept`'s scratch components), the others at anything, and the generator register
    at some state. -/
def PhiS (hO : Ok m) (c : Dev nD) : (n : ℕ) → n ≤ (cfgM m hO).N → sProp (MT nD τ sig Unit (Elt F) ℕ (UR sig nD τ) ℕ)
  | 0, _ => iprop(Pipeline.ΦA spec0 c ∗ Pipeline.ΦT pre0 (tbl m) c)
  | n + 1, hn => iprop(iprop(iprop(owns (c : Thread nD τ) scM0_0 fullShare ((kept m hO c n hn).1) ∗ owns (c : Thread nD τ) scM0_1 fullShare ((kept m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((kept m hO c n hn).1) ∗ owns (c : Thread nD τ) scM0_1 fullShare ((kept m hO c n hn).2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((kept m hO c (n - 1) (by omega)).1) ∗ owns (c : Thread nD τ) scM0_1 fullShare ((kept m hO c (n - 1) (by omega)).2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `kept`; the invariant the one of
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => stored m hO c t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = stored m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation -/

/-- What the body is called with at point `t` (Lib/Pipeline.lean `BodyObligation`'s precondition, the windows one by one), -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

set_option maxHeartbeats 12800000 in
/-- The body at any block: it fetches or keeps the weights, and stores zeros or the layer's rows; in each of the four cases the
    run of that case applies. -/
theorem sound_body (hO : Ok m) (hM : Marked m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [show (cfgM m hO).idle 5 (grid0.coords t) = false from live5 m hM _]; try rfl, after0_5]
  rcases hM (grid0.coords t) with hw | hw
  · have hu : unused c (grid0.coords t) (tbl m 1) := (unused_iff c _ _).mpr hw
    have hv : ¬used c (grid0.coords t) (tbl m 1) := fun h => absurd (hw.symm.trans ((used_iff c _ _).mp h)) mark_ne
    by_cases hf : fetches c (grid0.coords t) (tbl m 0)
    · rw [show stored m hO c t = _ from if_pos hu, kept_fetch m hO c t hf]; dsimp only
      by_cases hz : t.val = 0
      · rw [PhiS_castSucc m hO c t, PhiS_zero m hO c _ _ hz, PhiT0_eq, PhiA0_eq]
        iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
        iapply (run_A c (grid0.coords t) _ _ _ _ _ _ _ _ _ _ _ _ _ _ _ _ (iblk m hO c 0 t) (iblk m hO c 1 t) (iblk m hO c 2 t) (iblk m hO c 3 t) (iblk m hO c 4 t) (tbl m 0) (tbl m 1) hf hu hv Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HT0]; · iexact HT0
        isplitl [HT1]; · iexact HT1
        iintro ⟨H0, H1, H2, H3, H4, H5, HS0, HS1, HT0, HT1⟩
        isplitl [HS0 HS1 Hg HT0 HT1]
        · isplitl [HS0 HS1 Hg]
          · isplitl [HS0 HS1]
            · isplitl [HS0]
              · iexact HS0
              iexact HS1
            iexact Hg
          isplitl [HT0]; · iexact HT0
          iexact HT1
        isplitl [Ho]; · iexact Ho
        isplitl [H0]; · iexact H0
        isplitl [H1]; · iexact H1
        isplitl [H2]; · iexact H2
        isplitl [H3]; · iexact H3
        isplitl [H4]; · iexact H4
        iexact H5
      · rw [PhiS_castSucc m hO c t, PhiS_pos m hO c _ _ hz, PhiT0_eq]
        iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
        iapply (run_A c (grid0.coords t) _ _ _ _ _ _ _ _ _ _ _ _ _ _ _ _ (iblk m hO c 0 t) (iblk m hO c 1 t) (iblk m hO c 2 t) (iblk m hO c 3 t) (iblk m hO c 4 t) (tbl m 0) (tbl m 1) hf hu hv Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexists _; iexact HS0
        isplitl [HS1]; · iexists _; iexact HS1
        isplitl [HT0]; · iexact HT0
        isplitl [HT1]; · iexact HT1
        iintro ⟨H0, H1, H2, H3, H4, H5, HS0, HS1, HT0, HT1⟩
        isplitl [HS0 HS1 Hg HT0 HT1]
        · isplitl [HS0 HS1 Hg]
          · isplitl [HS0 HS1]
            · isplitl [HS0]
              · iexact HS0
              iexact HS1
            iexact Hg
          isplitl [HT0]; · iexact HT0
          iexact HT1
        isplitl [Ho]; · iexact Ho
        isplitl [H0]; · iexact H0
        isplitl [H1]; · iexact H1
        isplitl [H2]; · iexact H2
        isplitl [H3]; · iexact H3
        isplitl [H4]; · iexact H4
        iexact H5
    · obtain ⟨hz, hk⟩ := kept_keep m hO c t hf
      rw [show stored m hO c t = _ from if_pos hu, hk]
      rw [PhiS_castSucc m hO c t, PhiS_pos m hO c _ _ hz, PhiT0_eq]
      iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
      iapply (run_C c (grid0.coords t) _ _ _ _ _ _ _ _ _ _ _ _ _ _ _ _ (iblk m hO c 0 t) (iblk m hO c 1 t) (iblk m hO c 2 t) (iblk m hO c 3 t) (iblk m hO c 4 t) (tbl m 0) (tbl m 1) _ _ hf hu hv Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HT0]; · iexact HT0
      isplitl [HT1]; · iexact HT1
      iintro ⟨H0, H1, H2, H3, H4, H5, HS0, HS1, HT0, HT1⟩
      isplitl [HS0 HS1 Hg HT0 HT1]
      · isplitl [HS0 HS1 Hg]
        · isplitl [HS0 HS1]
          · isplitl [HS0]
            · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      iexact H5
  · have hu : ¬unused c (grid0.coords t) (tbl m 1) := fun h => absurd (hw.symm.trans ((unused_iff c _ _).mp h)) mark_ne.symm
    have hv : used c (grid0.coords t) (tbl m 1) := (used_iff c _ _).mpr hw
    by_cases hf : fetches c (grid0.coords t) (tbl m 0)
    · rw [show stored m hO c t = _ from if_neg hu, kept_fetch m hO c t hf]; dsimp only
      by_cases hz : t.val = 0
      · rw [PhiS_castSucc m hO c t, PhiS_zero m hO c _ _ hz, PhiT0_eq, PhiA0_eq]
        iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
        iapply (run_B c (grid0.coords t) _ _ _ _ _ _ _ _ _ _ _ _ _ _ _ _ (iblk m hO c 0 t) (iblk m hO c 1 t) (iblk m hO c 2 t) (iblk m hO c 3 t) (iblk m hO c 4 t) (tbl m 0) (tbl m 1) hf hu hv Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HT0]; · iexact HT0
        isplitl [HT1]; · iexact HT1
        iintro ⟨H0, H1, H2, H3, H4, H5, HS0, HS1, HT0, HT1⟩
        isplitl [HS0 HS1 Hg HT0 HT1]
        · isplitl [HS0 HS1 Hg]
          · isplitl [HS0 HS1]
            · isplitl [HS0]
              · iexact HS0
              iexact HS1
            iexact Hg
          isplitl [HT0]; · iexact HT0
          iexact HT1
        isplitl [Ho]; · iexact Ho
        isplitl [H0]; · iexact H0
        isplitl [H1]; · iexact H1
        isplitl [H2]; · iexact H2
        isplitl [H3]; · iexact H3
        isplitl [H4]; · iexact H4
        iexact H5
      · rw [PhiS_castSucc m hO c t, PhiS_pos m hO c _ _ hz, PhiT0_eq]
        iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
        iapply (run_B c (grid0.coords t) _ _ _ _ _ _ _ _ _ _ _ _ _ _ _ _ (iblk m hO c 0 t) (iblk m hO c 1 t) (iblk m hO c 2 t) (iblk m hO c 3 t) (iblk m hO c 4 t) (tbl m 0) (tbl m 1) hf hu hv Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexists _; iexact HS0
        isplitl [HS1]; · iexists _; iexact HS1
        isplitl [HT0]; · iexact HT0
        isplitl [HT1]; · iexact HT1
        iintro ⟨H0, H1, H2, H3, H4, H5, HS0, HS1, HT0, HT1⟩
        isplitl [HS0 HS1 Hg HT0 HT1]
        · isplitl [HS0 HS1 Hg]
          · isplitl [HS0 HS1]
            · isplitl [HS0]
              · iexact HS0
              iexact HS1
            iexact Hg
          isplitl [HT0]; · iexact HT0
          iexact HT1
        isplitl [Ho]; · iexact Ho
        isplitl [H0]; · iexact H0
        isplitl [H1]; · iexact H1
        isplitl [H2]; · iexact H2
        isplitl [H3]; · iexact H3
        isplitl [H4]; · iexact H4
        iexact H5
    · obtain ⟨hz, hk⟩ := kept_keep m hO c t hf
      rw [show stored m hO c t = _ from if_neg hu, hk]
      rw [PhiS_castSucc m hO c t, PhiS_pos m hO c _ _ hz, PhiT0_eq]
      iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
      iapply (run_D c (grid0.coords t) _ _ _ _ _ _ _ _ _ _ _ _ _ _ _ _ (iblk m hO c 0 t) (iblk m hO c 1 t) (iblk m hO c 2 t) (iblk m hO c 3 t) (iblk m hO c 4 t) (tbl m 0) (tbl m 1) _ _ hf hu hv Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HT0]; · iexact HT0
      isplitl [HT1]; · iexact HT1
      iintro ⟨H0, H1, H2, H3, H4, H5, HS0, HS1, HT0, HT1⟩
      isplitl [HS0 HS1 Hg HT0 HT1]
      · isplitl [HS0 HS1 Hg]
        · isplitl [HS0 HS1]
          · isplitl [HS0]
            · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hM : Marked m) (c : Dev nD) : BodyObligation (dats (F := F) m hO 0 c) (defs₀ (F := F)) Variants.none () Set.univ := fun t => by
  rw [bigSep_W0, bigSep_W0, defs₀_row m hO]
  exact triple_restated (sound_body m hO hM c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexists _; iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 288 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hM : Marked m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hM c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hM : Marked m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hM)

/-- `frame` without the counters: the argument arrays end unchanged. -/
theorem unchanged (hO : Ok m) (hM : Marked m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO hM)

/-- THE FRAME: the program ends, its arguments unchanged and its semaphores at zero, for tables that are in range and mark every
    block 0 or 1. -/
theorem frame (hO : Ok m) (hM : Marked m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hM) ((θ_run defs _ _).mono (fun _ h => h.2) (run_main_quiescent m ρ hO hM))

end Cert.Kernel2Ideal.Experts

end
-- ==== Proof.Ffn.IdealTables.lean ====
/- The tables a run admits: where every block names one of the 32 experts, every window lies inside its array. -/
module

public import proofs.«01_k».proof.Proof.Ffn.IdealFrame

@[expose] public section

set_option maxRecDepth 16384

noncomputable section

namespace Cert.Kernel2Ideal.Experts

open Cert.Kernel2Ideal Cert.Kernel2Ideal.Gen
open Idealize.ShloMosaic Idealize.ShloMosaic.TcCoe
open Cert.Kernel2Ideal.Facts

variable {F : FTy → Type} [FloatOps F] (m : (ℓ : Loc nD τ sig) → Buf (Elt F) ℓ)

/-- The word the index maps read at a grid point is the expert of its block. -/
theorem at_eq (i : grid0.Coords) :
    (tbl m).at 0 (Rect.unit (s := S288) ![(Scalar.indexCast (BitVec.ofNat 32 (i 0).val)).toNat] S1.size (k0_off1_inb i)) numel1_S1
      = tbl m 0 (here i) := by
  refine congrArg (tbl m 0) (funext fun (a : Fin 1) => Fin.ext ?_)
  obtain rfl : a = 0 := Subsingleton.elim _ _
  show k0_off1 i 0 + 1 * 0 = (i 0).val
  rw [off1_eq]; rfl

/-- The block index of each table-read window: the layer, the expert of the block, and zeros. -/
theorem map1 (i : grid0.Coords) : cc0_transform_1 k0_off1_inb numel1_S1 (tbl m) i = ![0, (tbl m 0 (here i)).toNat, 0, 0] := by
  rw [← at_eq]; rfl
theorem map2 (i : grid0.Coords) : cc0_transform_2 k0_off1_inb numel1_S1 (tbl m) i = ![0, (tbl m 0 (here i)).toNat, 0, 0] := by
  rw [← at_eq]; rfl
theorem map3 (i : grid0.Coords) : cc0_transform_3 k0_off1_inb numel1_S1 (tbl m) i = ![0, (tbl m 0 (here i)).toNat, 0, 0] := by
  rw [← at_eq]; rfl
theorem map4 (i : grid0.Coords) : cc0_transform_4 k0_off1_inb numel1_S1 (tbl m) i = ![0, (tbl m 0 (here i)).toNat, 0, 0] := by
  rw [← at_eq]; rfl

/-- Tables naming experts are admitted. -/
theorem ok_of (h : ∀ i : S288.Idx, (tbl m 0 i : BitVec 32).toNat < 32) : Ok m := by
  refine ⟨fun i => ⟨fun a => ?_, .inl rfl⟩, fun i => ⟨fun a => ?_, .inl rfl⟩, fun i => ⟨fun a => ?_, .inl rfl⟩, fun i => ⟨fun a => ?_, .inl rfl⟩⟩
  · rw [map1]
    have := h (here i)
    match a with
    | ⟨0, _⟩ => show (0 + 1) * 1 ≤ 2; omega
    | ⟨1, _⟩ => show ((tbl m 0 (here i)).toNat + 1) * 1 ≤ 32; omega
    | ⟨2, _⟩ => show (0 + 1) * 1024 ≤ 1024; omega
    | ⟨3, _⟩ => show (0 + 1) * 2048 ≤ 2048; omega
  · rw [map2]
    have := h (here i)
    match a with
    | ⟨0, _⟩ => show (0 + 1) * 1 ≤ 2; omega
    | ⟨1, _⟩ => show ((tbl m 0 (here i)).toNat + 1) * 1 ≤ 32; omega
    | ⟨2, _⟩ => show (0 + 1) * 1 ≤ 1; omega
    | ⟨3, _⟩ => show (0 + 1) * 2048 ≤ 2048; omega
  · rw [map3]
    have := h (here i)
    match a with
    | ⟨0, _⟩ => show (0 + 1) * 1 ≤ 2; omega
    | ⟨1, _⟩ => show ((tbl m 0 (here i)).toNat + 1) * 1 ≤ 32; omega
    | ⟨2, _⟩ => show (0 + 1) * 1024 ≤ 1024; omega
    | ⟨3, _⟩ => show (0 + 1) * 1024 ≤ 1024; omega
  · rw [map4]
    have := h (here i)
    match a with
    | ⟨0, _⟩ => show (0 + 1) * 1 ≤ 2; omega
    | ⟨1, _⟩ => show ((tbl m 0 (here i)).toNat + 1) * 1 ≤ 32; omega
    | ⟨2, _⟩ => show (0 + 1) * 1 ≤ 1; omega
    | ⟨3, _⟩ => show (0 + 1) * 1024 ≤ 1024; omega

end Cert.Kernel2Ideal.Experts

end
-- ==== Proof.Ffn.Layer.lean ====
/- The expert layer on one row: what both the kernel and the reference compute. -/
module

public import Idealize.ShloMosaic.Lib.Pointwise
public import Idealize.ShloMosaic.Lib.Pointwise.IndexVar
public import Idealize.ShloMosaic.Lib.Tactic.CleanTypes

@[expose] public section

noncomputable section

namespace Cert.Ffn

open Idealize.ShloMosaic Idealize.ShloMosaic.TcCoe

/-- The gated activation of a gate and a linear value: the gate is cut at 7 from above, the linear value at 7 on both
    sides, and the result is `gate · sigmoid (1.702 gate) · (linear + 1)`; the bit patterns are 7, 1.702 and -7. -/
def gated (g l : EReal) : EReal :=
  min g (Ideal.ofBits .f32 0x40E00000#32)
      * Ideal.div 1 (1 + Ideal.exp (-(Ideal.ofBits .f32 0x3FD9DB23#32 * min g (Ideal.ofBits .f32 0x40E00000#32))))
    * (min (Ideal.ofBits .f32 0x40E00000#32) (max (Ideal.ofBits .f32 0xC0E00000#32) l) + 1)

/-- The first matrix of an expert on a row, with its bias. -/
def hiddenRow (x : Fin 1024 → EReal) (w : Fin 1024 → Fin 2048 → EReal) (b : Fin 2048 → EReal) (f : Fin 2048) : EReal :=
  (∑ d, x d * w d f) + b f

/-- An expert's layer on a row `x`: the first matrix and bias, the gated activation of its two halves, the second matrix
    and bias. -/
def expertRow (x : Fin 1024 → EReal) (wgu : Fin 1024 → Fin 2048 → EReal) (bgu : Fin 2048 → EReal)
    (wdn : Fin 1024 → Fin 1024 → EReal) (bdn : Fin 1024 → EReal) (j : Fin 1024) : EReal :=
  (∑ f : Fin 1024, gated (hiddenRow x wgu bgu ⟨f.val, by omega⟩) (hiddenRow x wgu bgu ⟨1024 + f.val, by omega⟩) * wdn f j) + bdn j

/-- The layer depends on the row, the weights and the biases only through their entries. -/
theorem expertRow_congr {x x' : Fin 1024 → EReal} {wgu wgu' : Fin 1024 → Fin 2048 → EReal} {bgu bgu' : Fin 2048 → EReal}
    {wdn wdn' : Fin 1024 → Fin 1024 → EReal} {bdn bdn' : Fin 1024 → EReal} (hx : ∀ d, x d = x' d)
    (hwgu : ∀ d f, wgu d f = wgu' d f) (hbgu : ∀ f, bgu f = bgu' f) (hwdn : ∀ f j, wdn f j = wdn' f j)
    (hbdn : ∀ j, bdn j = bdn' j) (j : Fin 1024) : expertRow x wgu bgu wdn bdn j = expertRow x' wgu' bgu' wdn' bdn' j := by
  obtain rfl : x = x' := funext hx
  obtain rfl : wgu = wgu' := funext fun d => funext (hwgu d)
  obtain rfl : bgu = bgu' := funext hbgu
  obtain rfl : wdn = wdn' := funext fun f => funext (hwdn f)
  obtain rfl : bdn = bdn' := funext hbdn
  rfl

/-- The expert a word names, among the 32. -/
def expertOf (w : BitVec 32) : Fin 32 := ⟨w.toNat % 32, Nat.mod_lt _ (by norm_num)⟩

/-- The layer `ℓ` of experts over the rows: row `i` lies in block `i / 256`; a block marked 1 has its expert applied to its
    rows, another is zero. -/
def expertsOut (ℓ : Fin 2) (be bv : IVec ⟨1, ![288]⟩ 32) (xs : Vec Ideal ⟨2, ![73728, 1024]⟩ .f32)
    (wgu : Vec Ideal ⟨4, ![2, 32, 1024, 2048]⟩ .f32) (bgu : Vec Ideal ⟨4, ![2, 32, 1, 2048]⟩ .f32)
    (wdn : Vec Ideal ⟨4, ![2, 32, 1024, 1024]⟩ .f32) (bdn : Vec Ideal ⟨4, ![2, 32, 1, 1024]⟩ .f32) (n : Fin 288) (r : Fin 256)
    (j : Fin 1024) : EReal :=
  if bv (ix1 n) = 1#32 then
    expertRow (fun d => xs (ix2 ⟨n.val * 256 + r.val, by omega⟩ d)) (fun d f => wgu (ix4 ℓ (expertOf (be (ix1 n))) d f))
      (fun f => bgu (ix4 ℓ (expertOf (be (ix1 n))) 0 f)) (fun f j => wdn (ix4 ℓ (expertOf (be (ix1 n))) f j))
      (fun j => bdn (ix4 ℓ (expertOf (be (ix1 n))) 0 j)) j
  else 0

/-- The same as an array over all rows. -/
def expertsArr (ℓ : Fin 2) (be bv : IVec ⟨1, ![288]⟩ 32) (xs : Vec Ideal ⟨2, ![73728, 1024]⟩ .f32)
    (wgu : Vec Ideal ⟨4, ![2, 32, 1024, 2048]⟩ .f32) (bgu : Vec Ideal ⟨4, ![2, 32, 1, 2048]⟩ .f32)
    (wdn : Vec Ideal ⟨4, ![2, 32, 1024, 1024]⟩ .f32) (bdn : Vec Ideal ⟨4, ![2, 32, 1, 1024]⟩ .f32) :
    Vec Ideal ⟨2, ![73728, 1024]⟩ .f32 := fun i =>
  expertsOut ℓ be bv xs wgu bgu wdn bdn ⟨(i 0).val / 256, by have : (i 0).val < 73728 := (i 0).isLt; omega⟩
    ⟨(i 0).val % 256, by omega⟩ (i 1)

end Cert.Ffn

end
-- ==== Proof.Ffn.IdealValue.lean ====
/- The kernel's result array: the layer of experts over the rows. -/
module

public import proofs.«01_k».proof.Proof.Ffn.IdealTables
public import proofs.«01_k».proof.Proof.Ffn.Layer
public import Idealize.ShloMosaic.Lib.Pipeline.Value

@[expose] public section

set_option maxRecDepth 16384

noncomputable section

namespace Cert.Kernel2Ideal.Experts

open Cert.Kernel2Ideal Cert.Kernel2Ideal.Gen
open Idealize.ShloMosaic Idealize.ShloMosaic.TcCoe Idealize.ShloMosaic.Tactic Idealize.SL.Sem
open Idealize.ShloMosaic.Pipeline (Dat)
open Cert.Kernel2Ideal.Facts
open Cert.Ffn

/-- The first weights as the scratch buffer keeps them: a block's matrix. -/
theorem pay1_at (v : Vec Ideal S1x1x1024x2048 .f32) (d : Fin 1024) (f : Fin 2048) :
    k0_pay1 (F := Ideal) v (ix2 d f) = v (ix4 0 0 d f) := by
  unfold_payloads
  pointwise

/-- The second weights likewise. -/
theorem pay2_at (v : Vec Ideal S1x1x1024x1024 .f32) (f j : Fin 1024) :
    k0_pay2 (F := Ideal) v (ix2 f j) = v (ix4 0 0 f j) := by
  unfold_payloads
  pointwise

/-- An unused block is zero. -/
theorem pay3_at (r : Fin 256) (j : Fin 1024) : k0_pay3 (F := Ideal) (ix2 r j) = 0 := by
  unfold_payloads
  pointwise

/-- A used block is the expert's layer of its rows. -/
theorem pay4_at (x : Vec Ideal S256x1024 .f32) (wgu : Vec Ideal S1024x2048 .bf16) (bgu : Vec Ideal S1x1x1x2048 .f32)
    (wdn : Vec Ideal S1024x1024 .bf16) (bdn : Vec Ideal S1x1x1x1024 .f32) (r : Fin 256) (j : Fin 1024) :
    k0_pay4 (F := Ideal) x wgu bgu wdn bdn (ix2 r j)
      = expertRow (fun d => x (ix2 r d)) (fun d f => wgu (ix2 d f)) (fun f => bgu (ix4 0 0 0 f)) (fun f j => wdn (ix2 f j))
          (fun j => bdn (ix4 0 0 0 j)) j := by
  unfold_payloads
  pointwise
  unfold expertRow gated hiddenRow
  simp only [Ideal.ofBits_zero, zero_add, add_zero, sub_eq_add_neg]

variable (m : (ℓ : Loc nD τ sig) → Buf (Elt Ideal) ℓ) (hO : Ok m) (c : Dev nD)

/-- The number of a grid point. -/
theorem lt288 (t : Fin (cfgM m hO).N) : t.val < 288 := grid_lt (grid0.coords t) |> fun h => (coords_zero t) ▸ h

/-- The expert of a block. -/
abbrev expertAt (t : Fin (cfgM m hO).N) : BitVec 32 := tbl m 0 (here (grid0.coords t))

theorem here_eq (t : Fin (cfgM m hO).N) : here (grid0.coords t) = ix1 ⟨t.val, lt288 m hO t⟩ :=
  funext fun (a : Fin 1) => Fin.ext (by obtain rfl : a = 0 := Subsingleton.elim _ _; exact coords_zero t)

theorem map0 (t : Fin (cfgM m hO).N) : cc0_transform_0 (grid0.coords t) = ![t.val, 0] := by
  have h : cc0_transform_0 (grid0.coords t) = ![((grid0.coords t) 0).val % 2 ^ 32, 0] := rfl
  rw [h, coords_zero, Nat.mod_eq_of_lt (lt_trans (lt288 m hO t) (by norm_num))]
theorem map5 (t : Fin (cfgM m hO).N) : cc0_transform_5 (grid0.coords t) = ![t.val, 0] := by
  have h : cc0_transform_5 (grid0.coords t) = ![((grid0.coords t) 0).val % 2 ^ 32, 0] := rfl
  rw [h, coords_zero, Nat.mod_eq_of_lt (lt_trans (lt288 m hO t) (by norm_num))]

/-- The rows of a block. -/
theorem blk0 (t : Fin (cfgM m hO).N) (r : Fin 256) (d : Fin 1024) :
    iblk m hO c 0 t (ix2 r d) = V m c main_arg2 (ix2 ⟨t.val * 256 + r.val, by have := lt288 m hO t; omega⟩ d) := by
  show V m c main_arg2 ((((cfgM m hO).win 0).rect t).emb (ix2 r d)) = _
  congr 1
  funext a
  apply Fin.ext
  have h := map0 m hO t
  match a with
  | ⟨0, _⟩ => show cc0_transform_0 (grid0.coords t) 0 * 256 + 1 * r.val = t.val * 256 + r.val; rw [h]; show t.val * 256 + 1 * r.val = _; omega
  | ⟨1, _⟩ => show cc0_transform_0 (grid0.coords t) 1 * 1024 + 1 * d.val = d.val; rw [h]; show 0 * 1024 + 1 * d.val = _; omega

variable (he : ∀ i : S288.Idx, (tbl m 0 i : BitVec 32).toNat < 32)
include he

theorem expertOf_val (t : Fin (cfgM m hO).N) : (expertOf (expertAt m hO t)).val = (expertAt m hO t).toNat :=
  Nat.mod_eq_of_lt (he _)

/-- A block's first matrix: its expert's. -/
theorem blk1 (t : Fin (cfgM m hO).N) (x : Fin 1024) (y : Fin 2048) :
    iblk m hO c 1 t (ix4 0 0 x y) = V m c main_arg3 (ix4 0 (expertOf (expertAt m hO t)) x y) := by
  show V m c main_arg3 ((((cfgM m hO).win 1).rect t).emb (ix4 0 0 x y)) = _
  congr 1
  funext a
  apply Fin.ext
  have h := map1 m (grid0.coords t)
  have hv := expertOf_val m hO he t
  match a with
  | ⟨0, _⟩ => show cc0_transform_1 k0_off1_inb numel1_S1 (tbl m) (grid0.coords t) 0 * 1 + 1 * 0 = 0; rw [h]; rfl
  | ⟨1, _⟩ => show cc0_transform_1 k0_off1_inb numel1_S1 (tbl m) (grid0.coords t) 1 * 1 + 1 * 0 = (expertOf (expertAt m hO t)).val; rw [h, hv]; show (expertAt m hO t).toNat * 1 + 1 * 0 = _; omega
  | ⟨2, _⟩ => show cc0_transform_1 k0_off1_inb numel1_S1 (tbl m) (grid0.coords t) 2 * 1024 + 1 * x.val = x.val; rw [h]; show 0 * 1024 + 1 * x.val = _; omega
  | ⟨3, _⟩ => show cc0_transform_1 k0_off1_inb numel1_S1 (tbl m) (grid0.coords t) 3 * 2048 + 1 * y.val = y.val; rw [h]; show 0 * 2048 + 1 * y.val = _; omega

/-- A block's first bias: its expert's. -/
theorem blk2 (t : Fin (cfgM m hO).N) (y : Fin 2048) :
    iblk m hO c 2 t (ix4 0 0 0 y) = V m c main_arg4 (ix4 0 (expertOf (expertAt m hO t)) 0 y) := by
  show V m c main_arg4 ((((cfgM m hO).win 2).rect t).emb (ix4 0 0 0 y)) = _
  congr 1
  funext a
  apply Fin.ext
  have h := map2 m (grid0.coords t)
  have hv := expertOf_val m hO he t
  match a with
  | ⟨0, _⟩ => show cc0_transform_2 k0_off1_inb numel1_S1 (tbl m) (grid0.coords t) 0 * 1 + 1 * 0 = 0; rw [h]; rfl
  | ⟨1, _⟩ => show cc0_transform_2 k0_off1_inb numel1_S1 (tbl m) (grid0.coords t) 1 * 1 + 1 * 0 = (expertOf (expertAt m hO t)).val; rw [h, hv]; show (expertAt m hO t).toNat * 1 + 1 * 0 = _; omega
  | ⟨2, _⟩ => show cc0_transform_2 k0_off1_inb numel1_S1 (tbl m) (grid0.coords t) 2 * 1 + 1 * 0 = 0; rw [h]; show 0 * 1 + 1 * 0 = _; omega
  | ⟨3, _⟩ => show cc0_transform_2 k0_off1_inb numel1_S1 (tbl m) (grid0.coords t) 3 * 2048 + 1 * y.val = y.val; rw [h]; show 0 * 2048 + 1 * y.val = _; omega

/-- A block's second matrix: its expert's. -/
theorem blk3 (t : Fin (cfgM m hO).N) (x : Fin 1024) (y : Fin 1024) :
    iblk m hO c 3 t (ix4 0 0 x y) = V m c main_arg5 (ix4 0 (expertOf (expertAt m hO t)) x y) := by
  show V m c main_arg5 ((((cfgM m hO).win 3).rect t).emb (ix4 0 0 x y)) = _
  congr 1
  funext a
  apply Fin.ext
  have h := map3 m (grid0.coords t)
  have hv := expertOf_val m hO he t
  match a with
  | ⟨0, _⟩ => show cc0_transform_3 k0_off1_inb numel1_S1 (tbl m) (grid0.coords t) 0 * 1 + 1 * 0 = 0; rw [h]; rfl
  | ⟨1, _⟩ => show cc0_transform_3 k0_off1_inb numel1_S1 (tbl m) (grid0.coords t) 1 * 1 + 1 * 0 = (expertOf (expertAt m hO t)).val; rw [h, hv]; show (expertAt m hO t).toNat * 1 + 1 * 0 = _; omega
  | ⟨2, _⟩ => show cc0_transform_3 k0_off1_inb numel1_S1 (tbl m) (grid0.coords t) 2 * 1024 + 1 * x.val = x.val; rw [h]; show 0 * 1024 + 1 * x.val = _; omega
  | ⟨3, _⟩ => show cc0_transform_3 k0_off1_inb numel1_S1 (tbl m) (grid0.coords t) 3 * 1024 + 1 * y.val = y.val; rw [h]; show 0 * 1024 + 1 * y.val = _; omega

/-- A block's second bias: its expert's. -/
theorem blk4 (t : Fin (cfgM m hO).N) (y : Fin 1024) :
    iblk m hO c 4 t (ix4 0 0 0 y) = V m c main_arg6 (ix4 0 (expertOf (expertAt m hO t)) 0 y) := by
  show V m c main_arg6 ((((cfgM m hO).win 4).rect t).emb (ix4 0 0 0 y)) = _
  congr 1
  funext a
  apply Fin.ext
  have h := map4 m (grid0.coords t)
  have hv := expertOf_val m hO he t
  match a with
  | ⟨0, _⟩ => show cc0_transform_4 k0_off1_inb numel1_S1 (tbl m) (grid0.coords t) 0 * 1 + 1 * 0 = 0; rw [h]; rfl
  | ⟨1, _⟩ => show cc0_transform_4 k0_off1_inb numel1_S1 (tbl m) (grid0.coords t) 1 * 1 + 1 * 0 = (expertOf (expertAt m hO t)).val; rw [h, hv]; show (expertAt m hO t).toNat * 1 + 1 * 0 = _; omega
  | ⟨2, _⟩ => show cc0_transform_4 k0_off1_inb numel1_S1 (tbl m) (grid0.coords t) 2 * 1 + 1 * 0 = 0; rw [h]; show 0 * 1 + 1 * 0 = _; omega
  | ⟨3, _⟩ => show cc0_transform_4 k0_off1_inb numel1_S1 (tbl m) (grid0.coords t) 3 * 1024 + 1 * y.val = y.val; rw [h]; show 0 * 1024 + 1 * y.val = _; omega

/-- A block that fetches leaves the weights of its expert in the scratch buffers. -/
theorem fetched_eq (t : Fin (cfgM m hO).N) (h : fetches c (grid0.coords t) (tbl m 0)) :
    (∀ d f, (kept m hO c t.val t.isLt).1 (ix2 d f) = V m c main_arg3 (ix4 0 (expertOf (expertAt m hO t)) d f))
      ∧ ∀ f j, (kept m hO c t.val t.isLt).2 (ix2 f j) = V m c main_arg5 (ix4 0 (expertOf (expertAt m hO t)) f j) := by
  rw [kept_fetch m hO c t h]
  exact ⟨fun d f => (pay1_at (iblk m hO c 1 t) d f).trans (blk1 m hO c he t d f),
    fun f j => (pay2_at (iblk m hO c 3 t) f j).trans (blk3 m hO c he t f j)⟩

/-- The expert of a block that does not fetch is that of the block before. -/
theorem same_expert (n : ℕ) (hn : n + 1 < (cfgM m hO).N) (h : ¬fetches c (grid0.coords ⟨n + 1, hn⟩) (tbl m 0)) :
    expertAt m hO ⟨n + 1, hn⟩ = expertAt m hO ⟨n, Nat.lt_of_succ_lt hn⟩ := by
  have hx : tbl m 0 (here (grid0.coords ⟨n + 1, hn⟩)) = tbl m 0 (prev (grid0.coords ⟨n + 1, hn⟩)) := by
    by_contra hne
    exact h ((fetches_iff c _ _).mpr (.inr hne))
  refine Eq.trans hx (congrArg (tbl m 0) (funext fun (a : Fin 1) => Fin.ext ?_))
  obtain rfl : a = 0 := Subsingleton.elim _ _
  show ((grid0.coords ⟨n + 1, hn⟩) 0).val - 1 = ((grid0.coords ⟨n, Nat.lt_of_succ_lt hn⟩) 0).val
  rw [coords_zero, coords_zero]
  rfl

/-- The scratch buffers hold, after every block, the weights of the block's expert. -/
theorem kept_eq : ∀ (n : ℕ) (hn : n < (cfgM m hO).N),
    (∀ d f, (kept m hO c n hn).1 (ix2 d f) = V m c main_arg3 (ix4 0 (expertOf (expertAt m hO ⟨n, hn⟩)) d f))
      ∧ ∀ f j, (kept m hO c n hn).2 (ix2 f j) = V m c main_arg5 (ix4 0 (expertOf (expertAt m hO ⟨n, hn⟩)) f j) := by
  intro n
  induction n with
  | zero => exact fun hn => fetched_eq m hO c he ⟨0, hn⟩ ((fetches_iff c _ _).mpr (.inl (coords_zero ⟨0, hn⟩)))
  | succ n ih =>
    intro hn
    by_cases h : fetches c (grid0.coords ⟨n + 1, hn⟩) (tbl m 0)
    · exact fetched_eq m hO c he ⟨n + 1, hn⟩ h
    · have hk : kept m hO c (n + 1) hn = kept m hO c n (Nat.lt_of_succ_lt hn) := (kept_keep m hO c ⟨n + 1, hn⟩ h).2
      rw [hk, same_expert m hO c he n hn h]
      exact ih (Nat.lt_of_succ_lt hn)

variable (hM : Marked m)
include hM

/-- What a block leaves in the result's staging buffer. -/
theorem stored_at (t : Fin (cfgM m hO).N) (r : Fin 256) (j : Fin 1024) :
    stored m hO c t (ix2 r j)
      = expertsOut 0 (tbl m 0) (tbl m 1) (V m c main_arg2) (V m c main_arg3) (V m c main_arg4) (V m c main_arg5) (V m c main_arg6)
          ⟨t.val, lt288 m hO t⟩ r j := by
  have hh := here_eq m hO t
  unfold expertsOut
  by_cases h : unused c (grid0.coords t) (tbl m 1)
  · refine (congrFun (by unfold stored; rw [if_pos h] : stored m hO c t = k0_pay3 (F := Ideal)) (ix2 r j)).trans ((pay3_at r j).trans (if_neg ?_).symm)
    rw [← hh, (unused_iff c _ _).mp h]
    exact mark_ne
  · have h1 : tbl m 1 (here (grid0.coords t)) = (1#32 : BitVec 32) := (hM (grid0.coords t)).resolve_left fun h0 => h ((unused_iff c _ _).mpr h0)
    obtain ⟨k1, k2⟩ := kept_eq m hO c he t.val t.isLt
    have hx : expertAt m hO t = tbl m 0 (ix1 ⟨t.val, lt288 m hO t⟩) := congrArg (tbl m 0) hh
    rw [if_pos (by rw [← hh]; exact h1), ← hx]
    refine (congrFun (if_neg h) (ix2 r j)).trans ((pay4_at (iblk m hO c 0 t) (kept m hO c t.val t.isLt).1 (iblk m hO c 2 t)
      (kept m hO c t.val t.isLt).2 (iblk m hO c 4 t) r j).trans ?_)
    exact expertRow_congr (fun d => blk0 m hO c t r d) k1 (fun f => blk2 m hO c he t f) k2 (fun j => blk4 m hO c he t j) j

/-- What a block writes back is its block of the layer's result. -/
theorem block_eq (t : Fin (cfgM m hO).N) (x : S256x1024.Idx) :
    stored m hO c t x
      = expertsArr 0 (tbl m 0) (tbl m 1) (V m c main_arg2) (V m c main_arg3) (V m c main_arg4) (V m c main_arg5) (V m c main_arg6)
          ((((cfgM m hO).win 5).rect t).emb x) := by
  obtain ⟨r, j, rfl⟩ : ∃ (r : Fin 256) (j : Fin 1024), x = ix2 r j := ⟨x 0, x 1, by funext a; fin_cases a <;> rfl⟩
  have ht := lt288 m hO t
  have hx : ((((cfgM m hO).win 5).rect t).emb (ix2 r j) : S73728x1024.Idx) = ix2 ⟨t.val * 256 + r.val, by omega⟩ j := by
    funext a
    apply Fin.ext
    have h := map5 m hO t
    match a with
    | ⟨0, _⟩ => show cc0_transform_5 (grid0.coords t) 0 * 256 + 1 * r.val = t.val * 256 + r.val; rw [h]; show t.val * 256 + 1 * r.val = _; omega
    | ⟨1, _⟩ => show cc0_transform_5 (grid0.coords t) 1 * 1024 + 1 * j.val = j.val; rw [h]; show 0 * 1024 + 1 * j.val = _; omega
  rw [hx, stored_at m hO c he hM]
  show _ = expertsOut _ _ _ _ _ _ _ _ ⟨(t.val * 256 + r.val) / 256, _⟩ ⟨(t.val * 256 + r.val) % 256, _⟩ j
  have h1 : (⟨(t.val * 256 + r.val) / 256, by omega⟩ : Fin 288) = ⟨t.val, ht⟩ := Fin.ext (by dsimp only; omega)
  have h2 : (⟨(t.val * 256 + r.val) % 256, by omega⟩ : Fin 256) = r := Fin.ext (by dsimp only; omega)
  rw [h1, h2]

theorem flushed_eq (t : Fin (cfgM m hO).N) :
    (dats m hO 0 c).flushed 5 t = (((cfgM m hO).win 5).blk t).view.read (Elt Ideal)
      (expertsArr 0 (tbl m 0) (tbl m 1) (V m c main_arg2) (V m c main_arg3) (V m c main_arg4) (V m c main_arg5) (V m c main_arg6)) := by
  show ((cfgM m hO).win 5).cut (grid0.coords t) ((dats m hO 0 c).after 5 t) = _
  rw [after0_5]
  exact funext (block_eq m hO c he hM t)

omit he hM in
/-- The blocks cover the result array. -/
theorem cover (i : S73728x1024.Idx) :
    ∃ t : Fin (cfgM m hO).N, ((cfgM m hO).win 5).flush t = true ∧ i ∈ (((cfgM m hO).win 5).blk t).view.set := by
  have i0 : (i 0 : Nat) < 73728 := (i 0).isLt
  have i1 : (i 1 : Nat) < 1024 := (i 1).isLt
  have hN : (cfgM m hO).N = 288 := by show grid0.N = 288; decide +kernel
  obtain ⟨t, ht⟩ : ∃ t : Fin (cfgM m hO).N, t.val = (i 0).val / 256 := ⟨⟨_, by omega⟩, rfl⟩
  refine ⟨t, flush0_5 _ _, ?_⟩
  have h := map5 m hO t
  show i ∈ ((View.whole main_v0).slice (((cfgM m hO).win 5).rect t)).set
  refine (congrArg (i ∈ ·) (View.set_slice_whole main_v0 (((cfgM m hO).win 5).rect t))).mpr (Rect.mem_set_unit.mpr ?_)
  intro a
  match a with
  | ⟨0, _⟩ => show cc0_transform_5 (grid0.coords t) 0 * 256 ≤ (i 0 : Nat) ∧ (i 0 : Nat) < cc0_transform_5 (grid0.coords t) 0 * 256 + 256; rw [h]; show t.val * 256 ≤ (i 0 : Nat) ∧ (i 0 : Nat) < t.val * 256 + 256; omega
  | ⟨1, _⟩ => show cc0_transform_5 (grid0.coords t) 1 * 1024 ≤ (i 1 : Nat) ∧ (i 1 : Nat) < cc0_transform_5 (grid0.coords t) 1 * 1024 + 1024; rw [h]; show 0 * 1024 ≤ (i 1 : Nat) ∧ (i 1 : Nat) < 0 * 1024 + 1024; omega

/-- The result array ends holding the layer of experts over the rows. -/
theorem final : (dats m hO 0 c).arrAt 5 (cfgM m hO).N
    = expertsArr 0 (tbl m 0) (tbl m 1) (V m c main_arg2) (V m c main_arg3) (V m c main_arg4) (V m c main_arg5) (V m c main_arg6) :=
  (dats m hO 0 c).arrAt_eq_of_cover 5 _ (fun t _ => flushed_eq m hO c he hM t) (cover m hO)

omit he hM in
/-- From tables naming experts and marking blocks 0 or 1 the program ends with the layer of experts in its result array, the
    arguments as launched. -/
theorem run (ρ : Dev nD → PrngReg) (he : ∀ i : S288.Idx, (tbl m 0 i : BitVec 32).toNat < 32) (hM : Marked m) :
    θ_run defs (onTc (τ := τ) (main (F := Ideal))) ⟨m, fun _ => 0, ρ⟩ fun r => ∀ c : Dev nD,
      r.2.mem ((c.tc : Thread nD τ).loc main_v0)
        = expertsArr 0 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have hO := ok_of m he
  have hv : θ_run defs (onTc (τ := τ) (main (F := Ideal))) ⟨m, fun _ => 0, ρ⟩ fun r => ∀ c : Dev nD,
      r.2.mem ((c.tc : Thread nD τ).loc main_v0)
        = expertsArr 0 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
    (θ_run defs _ _).mono (fun r h c => by
      obtain rfl : c = 0 := Subsingleton.elim _ _
      exact ((h 0).1 5).trans (final m hO 0 he hM)) (run_main m ρ hO hM)
  exact (θ_run defs _ _).mono (fun r h c => ⟨h.1 c, h.2 c⟩) (θ_run_and hv (unchanged m ρ hO hM))

end Cert.Kernel2Ideal.Experts

end
-- ==== Proof.Ffn.RefValue.lean ====
/- The reference's result: the layer of experts over the rows. -/
module

public import proofs.«01_k».proof.Proof.Ffn.Layer
public import proofs.«01_k».proof.Proof.Gen.Reference2Ideal.Run
public import proofs.«01_k».proof.Proof.Gen.Reference2Ideal.Read
public import Idealize.ShloMosaic.Lib.Pointwise.IndexVar
public import Idealize.ShloMosaic.Lib.Tactic.CleanTypes

@[expose] public section

set_option maxRecDepth 16384

noncomputable section

namespace Cert.Ffn.RefValue

open Idealize.ShloMosaic Idealize.ShloMosaic.TcCoe Idealize.ShloMosaic.Tactic Idealize.SL.Sem Cert.Reference2Ideal Cert.Reference2Ideal.Read
open Cert.Reference2Ideal.Facts
open Cert.Ffn

variable (x0 x1 : Vec Ideal S288 .i32) (x2 : Vec Ideal S73728x1024 .f32) (x3 : Vec Ideal S2x32x1024x2048 .f32)
  (x4 : Vec Ideal S2x32x1x2048 .f32) (x5 : Vec Ideal S2x32x1024x1024 .f32) (x6 : Vec Ideal S2x32x1x1024 .f32)

/-- An expert's number is not negative, so the wrap of negative indices leaves it. -/
theorem unwrapped (w : BitVec 32) (h : w.toNat < 32) :
    Scalar.select (IntOp.cmpi .slt w 0#32) (IntOp.addi w 32#32) w = w := by
  have hc : IntOp.cmpi .slt w 0#32 = 0#1 := by
    have : w.slt 0#32 = false := by
      simp [BitVec.slt, BitVec.toInt_eq_toNat_cond]
      omega
    simp [IntOp.cmpi, this]
  rw [hc]
  rfl

/-- An expert's number is below 32, so the clamp of a gather's start leaves it. -/
theorem unclamped (w : BitVec 32) (h : w.toNat < 32) : min w.toInt.toNat 31 = (expertOf w).val := by
  have hi : w.toInt = (w.toNat : ℤ) := by rw [BitVec.toInt_eq_toNat_cond, if_pos (by omega)]
  show _ = w.toNat % 32
  rw [hi, Nat.mod_eq_of_lt h]
  omega

/-- The expert a block's gather of argument 3 reads. -/
theorem v8_at (he : ∀ i, (x0 i).toNat < 32) (n : Fin 288) : val_main_v8 (F := Ideal) x0 (ix2 n 0) = x0 (ix1 n) := by
  refine Eq.trans ?_ (unwrapped (x0 (ix1 n)) (he _))
  unfold val_main_v8 val_main_v7 val_main_v4 val_main_v3 val_main_v6 val_main_v5 val_main_c val_main_c_0
  clean_types
  pointwise

/-- The layer's part of argument 3. -/
theorem v2_at (e : Fin 32) (x : Fin 1024) (y : Fin 2048) : val_main_v2 (F := Ideal) x3 (ix3 e x y) = x3 (ix4 0 e x y) := by
  unfold val_main_v2 val_main_v1
  clean_types
  pointwise

/-- The gather of argument 3: the block's expert's part. -/
theorem v9_at (he : ∀ i, (x0 i).toNat < 32) (n : Fin 288) (x : Fin 1024) (y : Fin 2048) :
    val_main_v9 (F := Ideal) x0 x3 (ix3 n x y) = x3 (ix4 0 (expertOf (x0 (ix1 n))) x y) := by
  rw [← v2_at x3 (expertOf (x0 (ix1 n))) x y]
  unfold val_main_v9
  have hi := v8_at x0 he n
  have hw := he (ix1 n)
  revert hi hw
  generalize val_main_v8 (F := Ideal) x0 = idx
  generalize val_main_v2 (F := Ideal) x3 = z
  generalize x0 (ix1 n) = w
  intro hi hw
  unfold Host.gather
  congr 1
  funext a
  refine Fin.ext ?_
  show GatherDims.start _ (ix3 n x y) idx a + GatherDims.batchCoord _ (ix3 n x y) a + GatherDims.offCoord _ (ix3 n x y) a = _
  have h01 : a = 0 ∨ a = 1 ∨ a = 2 := by revert a; decide
  rcases h01 with rfl | rfl | rfl
  · rw [GatherDims.batchCoord_eq_zero _ _ _ (by exact fun h => by simp [gather_S32x1024x2048_S288x1_S288x1024x2048_12_0_n_n_0_1_110242048] at h),
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S32x1024x2048_S288x1_S288x1024x2048_12_0_n_n_0_1_110242048.startIndexMap from List.mem_singleton.mpr rfl)]
    have hsi : GatherDims.siIdx gather_S32x1024x2048_S288x1_S288x1024x2048_12_0_n_n_0_1_110242048 (ix3 n x y)
        ⟨List.idxOf (0 : Fin 3) gather_S32x1024x2048_S288x1_S288x1024x2048_12_0_n_n_0_1_110242048.startIndexMap,
          List.idxOf_lt_length_iff.2 (List.mem_singleton.mpr rfl)⟩ = ix2 n 0 := by
      funext b; refine Fin.ext ?_
      match b with
      | ⟨0, _⟩ => rfl
      | ⟨1, _⟩ => rfl
    refine Eq.trans ?_ (unclamped w hw)
    rw [← hi]
    show min (idx _).toInt.toNat 31 = _
    exact congrArg (fun i => min (idx i).toInt.toNat 31) hsi
  · rw [GatherDims.batchCoord_eq_zero _ _ _ (by exact fun h => by simp [gather_S32x1024x2048_S288x1_S288x1024x2048_12_0_n_n_0_1_110242048] at h)]
    have hs : GatherDims.start gather_S32x1024x2048_S288x1_S288x1024x2048_12_0_n_n_0_1_110242048 (ix3 n x y) idx 1 = 0 := by
      unfold GatherDims.start
      rw [dif_neg (by decide)]
    rw [hs]
    simp only [Nat.zero_add]
    rfl
  · rw [GatherDims.batchCoord_eq_zero _ _ _ (by exact fun h => by simp [gather_S32x1024x2048_S288x1_S288x1024x2048_12_0_n_n_0_1_110242048] at h)]
    have hs : GatherDims.start gather_S32x1024x2048_S288x1_S288x1024x2048_12_0_n_n_0_1_110242048 (ix3 n x y) idx 2 = 0 := by
      unfold GatherDims.start
      rw [dif_neg (by decide)]
    rw [hs]
    simp only [Nat.zero_add]
    rfl

/-- The expert a block's gather of argument 4 reads. -/
theorem v18_at (he : ∀ i, (x0 i).toNat < 32) (n : Fin 288) : val_main_v18 (F := Ideal) x0 (ix2 n 0) = x0 (ix1 n) := by
  refine Eq.trans ?_ (unwrapped (x0 (ix1 n)) (he _))
  unfold val_main_v18 val_main_v17 val_main_v14 val_main_v13 val_main_v16 val_main_v15 val_main_c_1 val_main_c_2
  clean_types
  pointwise

/-- The layer's part of argument 4. -/
theorem v12_at (e : Fin 32) (y : Fin 2048) : val_main_v12 (F := Ideal) x4 (ix3 e 0 y) = x4 (ix4 0 e 0 y) := by
  unfold val_main_v12 val_main_v11
  clean_types
  pointwise

/-- The gather of argument 4: the block's expert's part. -/
theorem v19_at (he : ∀ i, (x0 i).toNat < 32) (n : Fin 288) (y : Fin 2048) :
    val_main_v19 (F := Ideal) x0 x4 (ix3 n 0 y) = x4 (ix4 0 (expertOf (x0 (ix1 n))) 0 y) := by
  rw [← v12_at x4 (expertOf (x0 (ix1 n))) y]
  unfold val_main_v19
  have hi := v18_at x0 he n
  have hw := he (ix1 n)
  revert hi hw
  generalize val_main_v18 (F := Ideal) x0 = idx
  generalize val_main_v12 (F := Ideal) x4 = z
  generalize x0 (ix1 n) = w
  intro hi hw
  unfold Host.gather
  congr 1
  funext a
  refine Fin.ext ?_
  show GatherDims.start _ (ix3 n 0 y) idx a + GatherDims.batchCoord _ (ix3 n 0 y) a + GatherDims.offCoord _ (ix3 n 0 y) a = _
  have h01 : a = 0 ∨ a = 1 ∨ a = 2 := by revert a; decide
  rcases h01 with rfl | rfl | rfl
  · rw [GatherDims.batchCoord_eq_zero _ _ _ (by exact fun h => by simp [gather_S32x1x2048_S288x1_S288x1x2048_12_0_n_n_0_1_112048] at h),
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S32x1x2048_S288x1_S288x1x2048_12_0_n_n_0_1_112048.startIndexMap from List.mem_singleton.mpr rfl)]
    have hsi : GatherDims.siIdx gather_S32x1x2048_S288x1_S288x1x2048_12_0_n_n_0_1_112048 (ix3 n 0 y)
        ⟨List.idxOf (0 : Fin 3) gather_S32x1x2048_S288x1_S288x1x2048_12_0_n_n_0_1_112048.startIndexMap,
          List.idxOf_lt_length_iff.2 (List.mem_singleton.mpr rfl)⟩ = ix2 n 0 := by
      funext b; refine Fin.ext ?_
      match b with
      | ⟨0, _⟩ => rfl
      | ⟨1, _⟩ => rfl
    refine Eq.trans ?_ (unclamped w hw)
    rw [← hi]
    show min (idx _).toInt.toNat 31 = _
    exact congrArg (fun i => min (idx i).toInt.toNat 31) hsi
  · rw [GatherDims.batchCoord_eq_zero _ _ _ (by exact fun h => by simp [gather_S32x1x2048_S288x1_S288x1x2048_12_0_n_n_0_1_112048] at h)]
    have hs : GatherDims.start gather_S32x1x2048_S288x1_S288x1x2048_12_0_n_n_0_1_112048 (ix3 n 0 y) idx 1 = 0 := by
      unfold GatherDims.start
      rw [dif_neg (by decide)]
    rw [hs]
    simp only [Nat.zero_add]
    rfl
  · rw [GatherDims.batchCoord_eq_zero _ _ _ (by exact fun h => by simp [gather_S32x1x2048_S288x1_S288x1x2048_12_0_n_n_0_1_112048] at h)]
    have hs : GatherDims.start gather_S32x1x2048_S288x1_S288x1x2048_12_0_n_n_0_1_112048 (ix3 n 0 y) idx 2 = 0 := by
      unfold GatherDims.start
      rw [dif_neg (by decide)]
    rw [hs]
    simp only [Nat.zero_add]
    rfl

/-- The expert a block's gather of argument 5 reads. -/
theorem v46_at (he : ∀ i, (x0 i).toNat < 32) (n : Fin 288) : val_main_v46 (F := Ideal) x0 (ix2 n 0) = x0 (ix1 n) := by
  refine Eq.trans ?_ (unwrapped (x0 (ix1 n)) (he _))
  unfold val_main_v46 val_main_v45 val_main_v42 val_main_v41 val_main_v44 val_main_v43 val_main_c_9 val_main_c_10
  clean_types
  pointwise

/-- The layer's part of argument 5. -/
theorem v40_at (e : Fin 32) (x : Fin 1024) (y : Fin 1024) : val_main_v40 (F := Ideal) x5 (ix3 e x y) = x5 (ix4 0 e x y) := by
  unfold val_main_v40 val_main_v39
  clean_types
  pointwise

/-- The gather of argument 5: the block's expert's part. -/
theorem v47_at (he : ∀ i, (x0 i).toNat < 32) (n : Fin 288) (x : Fin 1024) (y : Fin 1024) :
    val_main_v47 (F := Ideal) x0 x5 (ix3 n x y) = x5 (ix4 0 (expertOf (x0 (ix1 n))) x y) := by
  rw [← v40_at x5 (expertOf (x0 (ix1 n))) x y]
  unfold val_main_v47
  have hi := v46_at x0 he n
  have hw := he (ix1 n)
  revert hi hw
  generalize val_main_v46 (F := Ideal) x0 = idx
  generalize val_main_v40 (F := Ideal) x5 = z
  generalize x0 (ix1 n) = w
  intro hi hw
  unfold Host.gather
  congr 1
  funext a
  refine Fin.ext ?_
  show GatherDims.start _ (ix3 n x y) idx a + GatherDims.batchCoord _ (ix3 n x y) a + GatherDims.offCoord _ (ix3 n x y) a = _
  have h01 : a = 0 ∨ a = 1 ∨ a = 2 := by revert a; decide
  rcases h01 with rfl | rfl | rfl
  · rw [GatherDims.batchCoord_eq_zero _ _ _ (by exact fun h => by simp [gather_S32x1024x1024_S288x1_S288x1024x1024_12_0_n_n_0_1_110241024] at h),
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S32x1024x1024_S288x1_S288x1024x1024_12_0_n_n_0_1_110241024.startIndexMap from List.mem_singleton.mpr rfl)]
    have hsi : GatherDims.siIdx gather_S32x1024x1024_S288x1_S288x1024x1024_12_0_n_n_0_1_110241024 (ix3 n x y)
        ⟨List.idxOf (0 : Fin 3) gather_S32x1024x1024_S288x1_S288x1024x1024_12_0_n_n_0_1_110241024.startIndexMap,
          List.idxOf_lt_length_iff.2 (List.mem_singleton.mpr rfl)⟩ = ix2 n 0 := by
      funext b; refine Fin.ext ?_
      match b with
      | ⟨0, _⟩ => rfl
      | ⟨1, _⟩ => rfl
    refine Eq.trans ?_ (unclamped w hw)
    rw [← hi]
    show min (idx _).toInt.toNat 31 = _
    exact congrArg (fun i => min (idx i).toInt.toNat 31) hsi
  · rw [GatherDims.batchCoord_eq_zero _ _ _ (by exact fun h => by simp [gather_S32x1024x1024_S288x1_S288x1024x1024_12_0_n_n_0_1_110241024] at h)]
    have hs : GatherDims.start gather_S32x1024x1024_S288x1_S288x1024x1024_12_0_n_n_0_1_110241024 (ix3 n x y) idx 1 = 0 := by
      unfold GatherDims.start
      rw [dif_neg (by decide)]
    rw [hs]
    simp only [Nat.zero_add]
    rfl
  · rw [GatherDims.batchCoord_eq_zero _ _ _ (by exact fun h => by simp [gather_S32x1024x1024_S288x1_S288x1024x1024_12_0_n_n_0_1_110241024] at h)]
    have hs : GatherDims.start gather_S32x1024x1024_S288x1_S288x1024x1024_12_0_n_n_0_1_110241024 (ix3 n x y) idx 2 = 0 := by
      unfold GatherDims.start
      rw [dif_neg (by decide)]
    rw [hs]
    simp only [Nat.zero_add]
    rfl

/-- The expert a block's gather of argument 6 reads. -/
theorem v56_at (he : ∀ i, (x0 i).toNat < 32) (n : Fin 288) : val_main_v56 (F := Ideal) x0 (ix2 n 0) = x0 (ix1 n) := by
  refine Eq.trans ?_ (unwrapped (x0 (ix1 n)) (he _))
  unfold val_main_v56 val_main_v55 val_main_v52 val_main_v51 val_main_v54 val_main_v53 val_main_c_11 val_main_c_12
  clean_types
  pointwise

/-- The layer's part of argument 6. -/
theorem v50_at (e : Fin 32) (y : Fin 1024) : val_main_v50 (F := Ideal) x6 (ix3 e 0 y) = x6 (ix4 0 e 0 y) := by
  unfold val_main_v50 val_main_v49
  clean_types
  pointwise

/-- The gather of argument 6: the block's expert's part. -/
theorem v57_at (he : ∀ i, (x0 i).toNat < 32) (n : Fin 288) (y : Fin 1024) :
    val_main_v57 (F := Ideal) x0 x6 (ix3 n 0 y) = x6 (ix4 0 (expertOf (x0 (ix1 n))) 0 y) := by
  rw [← v50_at x6 (expertOf (x0 (ix1 n))) y]
  unfold val_main_v57
  have hi := v56_at x0 he n
  have hw := he (ix1 n)
  revert hi hw
  generalize val_main_v56 (F := Ideal) x0 = idx
  generalize val_main_v50 (F := Ideal) x6 = z
  generalize x0 (ix1 n) = w
  intro hi hw
  unfold Host.gather
  congr 1
  funext a
  refine Fin.ext ?_
  show GatherDims.start _ (ix3 n 0 y) idx a + GatherDims.batchCoord _ (ix3 n 0 y) a + GatherDims.offCoord _ (ix3 n 0 y) a = _
  have h01 : a = 0 ∨ a = 1 ∨ a = 2 := by revert a; decide
  rcases h01 with rfl | rfl | rfl
  · rw [GatherDims.batchCoord_eq_zero _ _ _ (by exact fun h => by simp [gather_S32x1x1024_S288x1_S288x1x1024_12_0_n_n_0_1_111024] at h),
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S32x1x1024_S288x1_S288x1x1024_12_0_n_n_0_1_111024.startIndexMap from List.mem_singleton.mpr rfl)]
    have hsi : GatherDims.siIdx gather_S32x1x1024_S288x1_S288x1x1024_12_0_n_n_0_1_111024 (ix3 n 0 y)
        ⟨List.idxOf (0 : Fin 3) gather_S32x1x1024_S288x1_S288x1x1024_12_0_n_n_0_1_111024.startIndexMap,
          List.idxOf_lt_length_iff.2 (List.mem_singleton.mpr rfl)⟩ = ix2 n 0 := by
      funext b; refine Fin.ext ?_
      match b with
      | ⟨0, _⟩ => rfl
      | ⟨1, _⟩ => rfl
    refine Eq.trans ?_ (unclamped w hw)
    rw [← hi]
    show min (idx _).toInt.toNat 31 = _
    exact congrArg (fun i => min (idx i).toInt.toNat 31) hsi
  · rw [GatherDims.batchCoord_eq_zero _ _ _ (by exact fun h => by simp [gather_S32x1x1024_S288x1_S288x1x1024_12_0_n_n_0_1_111024] at h)]
    have hs : GatherDims.start gather_S32x1x1024_S288x1_S288x1x1024_12_0_n_n_0_1_111024 (ix3 n 0 y) idx 1 = 0 := by
      unfold GatherDims.start
      rw [dif_neg (by decide)]
    rw [hs]
    simp only [Nat.zero_add]
    rfl
  · rw [GatherDims.batchCoord_eq_zero _ _ _ (by exact fun h => by simp [gather_S32x1x1024_S288x1_S288x1x1024_12_0_n_n_0_1_111024] at h)]
    have hs : GatherDims.start gather_S32x1x1024_S288x1_S288x1x1024_12_0_n_n_0_1_111024 (ix3 n 0 y) idx 2 = 0 := by
      unfold GatherDims.start
      rw [dif_neg (by decide)]
    rw [hs]
    simp only [Nat.zero_add]
    rfl

/-- The rows by block. -/
theorem v0_at (n : Fin 288) (r : Fin 256) (d : Fin 1024) :
    val_main_v0 (F := Ideal) x2 (ix3 n r d) = x2 (ix2 ⟨n.val * 256 + r.val, by omega⟩ d) := by
  rw [val_main_v0_apply]
  congr 1
  funext a
  fin_cases a <;> apply Fin.ext <;> simp [ix2, ix3] <;> omega

variable (he : ∀ i, (x0 i).toNat < 32)
include he

/-- The first matrix and bias of a block's expert on a row. -/
theorem v21_at (n : Fin 288) (r : Fin 256) (f : Fin 2048) :
    val_main_v21 (F := Ideal) x0 x2 x3 x4 (ix3 n r f)
      = hiddenRow (fun d => x2 (ix2 ⟨n.val * 256 + r.val, by omega⟩ d)) (fun d f => x3 (ix4 0 (expertOf (x0 (ix1 n))) d f))
          (fun f => x4 (ix4 0 (expertOf (x0 (ix1 n))) 0 f)) f := by
  have h10 : val_main_v10 (F := Ideal) x0 x2 x3 (ix3 n r f)
      = ∑ d : Fin 1024, x2 (ix2 ⟨n.val * 256 + r.val, by omega⟩ d) * x3 (ix4 0 (expertOf (x0 (ix1 n))) d f) := by
    rw [val_main_v10_apply]
    refine Finset.sum_congr rfl fun d _ => ?_
    have el : lidx_main_v10 (ix3 n r f) d = ix3 n r d := funext fun a => by fin_cases a <;> rfl
    have er : ridx_main_v10 (ix3 n r f) d = ix3 n d f := funext fun a => by fin_cases a <;> rfl
    rw [el, er, v0_at, v9_at x0 x3 he]
  have h20 : val_main_v20 (F := Ideal) x0 x4 (ix3 n r f) = x4 (ix4 0 (expertOf (x0 (ix1 n))) 0 f) := by
    rw [val_main_v20_apply]
    have e : idx_main_v20 (ix3 n r f) = ix3 n 0 f := funext fun a => by fin_cases a <;> rfl
    rw [e, v19_at x0 x4 he]
  rw [val_main_v21_apply, h10, h20]
  rfl

/-- The gated activation of a row. -/
theorem v38_at (n : Fin 288) (r : Fin 256) (f : Fin 1024) :
    val_main_v38 (F := Ideal) x0 x2 x3 x4 (ix3 n r f)
      = gated (val_main_v21 (F := Ideal) x0 x2 x3 x4 (ix3 n r ⟨f.val, by omega⟩))
          (val_main_v21 (F := Ideal) x0 x2 x3 x4 (ix3 n r ⟨1024 + f.val, by omega⟩)) := by
  unfold val_main_v38 val_main_v37 val_main_v36 val_main_cst_8 val_main_v35 val_main_v34 val_main_v33 val_main_cst_7 val_main_v32
    val_main_v31 val_main_cst_6 val_main_v30 val_main_v29 val_main_v28 val_main_v27 val_main_cst_5 val_main_v26 val_main_call0_v4
    val_main_call0_v3 val_main_cst_4 val_main_call0_v2 val_main_call0_v1 val_main_call0_v0 val_main_cst_3 val_main_v25
    val_main_v24 val_main_cst val_main_v23 val_main_v22
  generalize val_main_v21 (F := Ideal) x0 x2 x3 x4 = y
  clean_types
  pointwise
  unfold gated
  rfl

/-- The second matrix and bias: the expert's layer of a row. -/
theorem v59_at (n : Fin 288) (r : Fin 256) (j : Fin 1024) :
    val_main_v59 (F := Ideal) x0 x2 x3 x4 x5 x6 (ix3 n r j)
      = expertRow (fun d => x2 (ix2 ⟨n.val * 256 + r.val, by omega⟩ d)) (fun d f => x3 (ix4 0 (expertOf (x0 (ix1 n))) d f))
          (fun f => x4 (ix4 0 (expertOf (x0 (ix1 n))) 0 f)) (fun f j => x5 (ix4 0 (expertOf (x0 (ix1 n))) f j))
          (fun j => x6 (ix4 0 (expertOf (x0 (ix1 n))) 0 j)) j := by
  have h48 : val_main_v48 (F := Ideal) x0 x2 x3 x4 x5 (ix3 n r j)
      = ∑ f : Fin 1024, val_main_v38 (F := Ideal) x0 x2 x3 x4 (ix3 n r f) * x5 (ix4 0 (expertOf (x0 (ix1 n))) f j) := by
    rw [val_main_v48_apply]
    refine Finset.sum_congr rfl fun f _ => ?_
    have el : lidx_main_v48 (ix3 n r j) f = ix3 n r f := funext fun a => by fin_cases a <;> rfl
    have er : ridx_main_v48 (ix3 n r j) f = ix3 n f j := funext fun a => by fin_cases a <;> rfl
    rw [el, er, v47_at x0 x5 he]
  have h58 : val_main_v58 (F := Ideal) x0 x6 (ix3 n r j) = x6 (ix4 0 (expertOf (x0 (ix1 n))) 0 j) := by
    rw [val_main_v58_apply]
    have e : idx_main_v58 (ix3 n r j) = ix3 n 0 j := funext fun a => by fin_cases a <;> rfl
    rw [e, v57_at x0 x6 he]
  rw [val_main_v59_apply, h48, h58]
  simp only [v38_at x0 x2 x3 x4 he, v21_at x0 x2 x3 x4 he]
  rfl

/-- A block marked 1 keeps its rows; another is zero. -/
theorem v63_at (n : Fin 288) (r : Fin 256) (j : Fin 1024) :
    val_main_v63 (F := Ideal) x0 x1 x2 x3 x4 x5 x6 (ix3 n r j) = expertsOut 0 x0 x1 x2 x3 x4 x5 x6 n r j := by
  have h : val_main_v63 (F := Ideal) x0 x1 x2 x3 x4 x5 x6 (ix3 n r j)
      = Scalar.select (IntOp.cmpi .eq (x1 (ix1 n)) 1#32) (val_main_v59 (F := Ideal) x0 x2 x3 x4 x5 x6 (ix3 n r j)) (0 : EReal) := by
    unfold val_main_v63 val_main_call1_v2 val_main_call1_v1 val_main_call1_v0 val_main_cst_14 val_main_v62 val_main_v61 val_main_v60
      val_main_c_13
    generalize val_main_v59 (F := Ideal) x0 x2 x3 x4 x5 x6 = y
    clean_types
    pointwise
    exact congrArg (Scalar.select _ _) (Ideal.ofBits_zero .f32)
  rw [h, v59_at x0 x2 x3 x4 x5 x6 he]
  unfold expertsOut
  by_cases h1 : x1 (ix1 n) = 1#32
  · rw [if_pos h1, h1]
    rfl
  · rw [if_neg h1]
    have : IntOp.cmpi .eq (x1 (ix1 n)) 1#32 = 0#1 := by
      show BitVec.ofBool (x1 (ix1 n) == 1#32) = 0#1
      rw [beq_eq_false_iff_ne.mpr h1]
      rfl
    rw [this]
    rfl

/-- The reference's array is the layer of experts over the rows. -/
theorem v64_eq : val_main_v64 (F := Ideal) x0 x1 x2 x3 x4 x5 x6 = expertsArr 0 x0 x1 x2 x3 x4 x5 x6 := by
  funext i
  have i0 : (i 0 : Nat) < 73728 := (i 0).isLt
  have i1 : (i 1 : Nat) < 1024 := (i 1).isLt
  rw [val_main_v64_apply]
  have e : idx_main_v64 i = ix3 ⟨(i 0).val / 256, by omega⟩ ⟨(i 0).val % 256, by omega⟩ (i 1) := by
    funext a
    fin_cases a <;> apply Fin.ext <;> simp [ix3] <;> omega
  exact (congrArg (val_main_v63 (F := Ideal) x0 x1 x2 x3 x4 x5 x6) e).trans (v63_at x0 x1 x2 x3 x4 x5 x6 he _ _ (i 1))

omit he in
/-- From tables naming experts the reference ends with the layer of experts in its result array, the arguments as launched. -/
theorem run (m : (ℓ : Loc nD τ sig) → Buf (Elt Ideal) ℓ) (ρ : Dev nD → PrngReg)
    (he : ∀ c : Dev nD, ∀ i : S288.Idx, (m ((c.tc : Thread nD τ).loc main_arg0) i : BitVec 32).toNat < 32) :
    θ_run defs (onTc (τ := τ) (main (F := Ideal))) ⟨m, fun _ => 0, ρ⟩ fun r => ∀ c : Dev nD,
      r.2.mem ((c.tc : Thread nD τ).loc main_v64)
        = expertsArr 0 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans ((val_main_v64_eq m c).trans (v64_eq _ _ _ _ _ _ _ (he c))), (h c).2⟩)
    (Cert.Reference2Ideal.Value.run m ρ)

end Cert.Ffn.RefValue

end
-- ==== Proof.Ffn.Ideal1Run.lean ====
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Claim

/-! The expert layer's kernel body on its staging buffers: the words of the prefetched tables that choose its
branches, and what a run of the body leaves in each branch. -/

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The two prefetched tables as the body is handed them. -/
abbrev tbM0 : Memref sig .tc .smem S288 .i32 := Memref.whole main_arg0
abbrev tbM1 : Memref sig .tc .smem S288 .i32 := Memref.whole main_arg1

/-- A table's contents on a core, and half of its ownership. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp (MT nD τ sig Unit (Elt F) ℕ (UR sig nD τ) ℕ) :=
  M.view.loc (c : Thread nD τ) ↦{fullShare.right} f

/-- The expert of this block, the expert of the block before, and the block's mark, as the body reads them. -/
abbrev wExpert (c : Dev nD) (i : grid0.Coords) (x : TbBuf (F := F) c tbM0) : BitVec 32 :=
  View.readAt (Elt F) tbM0.view (Rect.unit (s := S288) (k0_off1 i) S1.size (k0_off1_inb i)).toLoadRect x (Shape.Idx.first (numel1_S1.symm ▸ Nat.one_pos))
abbrev wBefore (c : Dev nD) (i : grid0.Coords) (x : TbBuf (F := F) c tbM0) : BitVec 32 :=
  View.readAt (Elt F) tbM0.view (Rect.unit (s := S288) (k0_off2 i) S1.size (k0_off2_inb i)).toLoadRect x (Shape.Idx.first (numel1_S1.symm ▸ Nat.one_pos))
abbrev wMark (c : Dev nD) (i : grid0.Coords) (x : TbBuf (F := F) c tbM1) : BitVec 32 :=
  View.readAt (Elt F) tbM1.view (Rect.unit (s := S288) (k0_off3 i) S1.size (k0_off3_inb i)).toLoadRect x (Shape.Idx.first (numel1_S1.symm ▸ Nat.one_pos))
abbrev wMark' (c : Dev nD) (i : grid0.Coords) (x : TbBuf (F := F) c tbM1) : BitVec 32 :=
  View.readAt (Elt F) tbM1.view (Rect.unit (s := S288) (k0_off4 i) S1.size (k0_off4_inb i)).toLoadRect x (Shape.Idx.first (numel1_S1.symm ▸ Nat.one_pos))

/-- The body fetches the weights: at the first block, and where the expert is not the one of the block before. -/
abbrev fetches (c : Dev nD) (i : grid0.Coords) (x : TbBuf (F := F) c tbM0) : Prop :=
  (Scalar.cmpi .ne (Scalar.extui (Scalar.ori (Scalar.cmpi .eq (BitVec.ofNat 32 (i 0).val) 0#32) (Scalar.cmpi .ne (wExpert c i x) (wBefore c i x)))) 0#32) = 1#1
/-- The block is marked unused, and the block is marked used. -/
abbrev unused (c : Dev nD) (i : grid0.Coords) (x : TbBuf (F := F) c tbM1) : Prop := k0_cond2 (wMark c i x) = 1#1
abbrev used (c : Dev nD) (i : grid0.Coords) (x : TbBuf (F := F) c tbM1) : Prop := k0_cond3 (wMark' c i x) = 1#1

set_option maxHeartbeats 4000000 in
/-- At an unused block where the weights are fetched the body stores zeros and both scratch buffers take the fetched weights. -/
theorem run_A (c : Dev nD) (i : grid0.Coords) (arg3 : Memref sig .tc .vmem S256x1024 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .f32) (x1 : Vec F S1x1x1024x2048 .f32) (x2 : Vec F S1x1x1x2048 .f32) (x3 : Vec F S1x1x1024x1024 .f32) (x4 : Vec F S1x1x1x1024 .f32) (xt0 : TbBuf (F := F) c tbM0) (xt1 : TbBuf (F := F) c tbM1)
    (hc0 : fetches c i xt0) (hc1 : unused c i xt1) (hc2 : ¬used c i xt1) (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ tbPt c tbM0 xt0 ∗ tbPt c tbM1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay3) ∗ owns (c : Thread nD τ) arg9 fullShare (k0_pay1 x1) ∗ owns (c : Thread nD τ) arg10 fullShare (k0_pay2 x3) ∗ tbPt c tbM0 xt0 ∗ tbPt c tbM1 xt1) -∗ K ⟨⟩))
      ⊢ wp frame (wpE (defs₀ (F := F)) Variants.none c none) E (cc0_expert_ffn i tbM0 (Memref.isWhole_whole _) tbM1 (Memref.isWhole_whole _) arg3 harg3 arg4 harg4 arg5 harg5 arg6 harg6 arg7 harg7 arg8 harg8 arg9 harg9 arg10 harg10) K := by
  simp only [cc0_expert_ffn_eq_skeleton]; unfold cc0_expert_ffn_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, Hk⟩
  obtain rfl := harg3.eq_unread hf0; obtain rfl := harg4.eq_unread hf1; obtain rfl := harg5.eq_unread hf2; obtain rfl := harg6.eq_unread hf3; obtain rfl := harg7.eq_unread hf4
  have hT0 : tbM0.IsWhole := Memref.isWhole_whole _
  have hT1 : tbM1.IsWhole := Memref.isWhole_whole _
  sl_exec! (disch := first | (guard_target = Scalar.cmpi = _; exact hc0) | (guard_target = k0_cond2 _ = _; exact hc1) | (guard_target = ¬(k0_cond3 _ = _); exact hc2))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    exact View.read_writes_full _ _ _ _ _
  isplitl [HS0]
  · iexists _; isplitr
    swap; · iexact HS0
    ipureintro
    exact (View.read_writes_full _ _ _ _ _).trans (congrArg k0_pay1 ((View.readAt_full _ _ _).trans (harg4.read_unread _)))
  isplitl [HS1]
  · iexists _; isplitr
    swap; · iexact HS1
    ipureintro
    exact (View.read_writes_full _ _ _ _ _).trans (congrArg k0_pay2 ((View.readAt_full _ _ _).trans (harg6.read_unread _)))
  isplitl [HT0]; · iexact HT0
  iexact HT1

set_option maxHeartbeats 4000000 in
/-- At a used block where the weights are fetched the body stores the expert layer of its rows over the fetched weights, which the scratch buffers keep. -/
theorem run_B (c : Dev nD) (i : grid0.Coords) (arg3 : Memref sig .tc .vmem S256x1024 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .f32) (x1 : Vec F S1x1x1024x2048 .f32) (x2 : Vec F S1x1x1x2048 .f32) (x3 : Vec F S1x1x1024x1024 .f32) (x4 : Vec F S1x1x1x1024 .f32) (xt0 : TbBuf (F := F) c tbM0) (xt1 : TbBuf (F := F) c tbM1)
    (hc0 : fetches c i xt0) (hc1 : ¬unused c i xt1) (hc2 : used c i xt1) (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ tbPt c tbM0 xt0 ∗ tbPt c tbM1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay4 x0 (k0_pay1 x1) x2 (k0_pay2 x3) x4) ∗ owns (c : Thread nD τ) arg9 fullShare (k0_pay1 x1) ∗ owns (c : Thread nD τ) arg10 fullShare (k0_pay2 x3) ∗ tbPt c tbM0 xt0 ∗ tbPt c tbM1 xt1) -∗ K ⟨⟩))
      ⊢ wp frame (wpE (defs₀ (F := F)) Variants.none c none) E (cc0_expert_ffn i tbM0 (Memref.isWhole_whole _) tbM1 (Memref.isWhole_whole _) arg3 harg3 arg4 harg4 arg5 harg5 arg6 harg6 arg7 harg7 arg8 harg8 arg9 harg9 arg10 harg10) K := by
  simp only [cc0_expert_ffn_eq_skeleton]; unfold cc0_expert_ffn_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, HT0, HT1, Hk⟩
  obtain rfl := harg3.eq_unread hf0; obtain rfl := harg4.eq_unread hf1; obtain rfl := harg5.eq_unread hf2; obtain rfl := harg6.eq_unread hf3; obtain rfl := harg7.eq_unread hf4
  have hT0 : tbM0.IsWhole := Memref.isWhole_whole _
  have hT1 : tbM1.IsWhole := Memref.isWhole_whole _
  sl_exec! (disch := first | (guard_target = Scalar.cmpi = _; exact hc0) | (guard_target = ¬(k0_cond2 _ = _); exact hc1) | (guard_target = k0_cond3 _ = _; exact hc2))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    refine (View.read_writes_full _ _ _ _ _).trans ?_
    show k0_pay4 _ _ _ _ _ = k0_pay4 _ _ _ _ _
    refine congr (congr (congr (congr (congrArg k0_pay4 ?_) ?_) ?_) ?_) ?_
    · exact (View.readAt_full _ _ _).trans (harg3.read_unread _)
    · exact (View.readCov_full _ _ _ _ _).trans (congrArg k0_pay1 ((View.readAt_full _ _ _).trans (harg4.read_unread _)))
    · exact (View.readAt_full _ _ _).trans (harg5.read_unread _)
    · exact (View.readCov_full _ _ _ _ _).trans (congrArg k0_pay2 ((View.readAt_full _ _ _).trans (harg6.read_unread _)))
    · exact (View.readAt_full _ _ _).trans (harg7.read_unread _)
  isplitl [HS0]
  · iexists _; isplitr
    swap; · iexact HS0
    ipureintro
    exact (View.read_writes_full _ _ _ _ _).trans (congrArg k0_pay1 ((View.readAt_full _ _ _).trans (harg4.read_unread _)))
  isplitl [HS1]
  · iexists _; isplitr
    swap; · iexact HS1
    ipureintro
    exact (View.read_writes_full _ _ _ _ _).trans (congrArg k0_pay2 ((View.readAt_full _ _ _).trans (harg6.read_unread _)))
  isplitl [HT0]; · iexact HT0
  iexact HT1

set_option maxHeartbeats 4000000 in
/-- At an unused block whose weights are kept the body stores zeros. -/
theorem run_C (c : Dev nD) (i : grid0.Coords) (arg3 : Memref sig .tc .vmem S256x1024 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .f32) (x1 : Vec F S1x1x1024x2048 .f32) (x2 : Vec F S1x1x1x2048 .f32) (x3 : Vec F S1x1x1024x1024 .f32) (x4 : Vec F S1x1x1x1024 .f32) (xt0 : TbBuf (F := F) c tbM0) (xt1 : TbBuf (F := F) c tbM1) (xs0 : Vec F S1024x2048 .bf16) (xs1 : Vec F S1024x1024 .bf16)
    (hc0 : ¬fetches c i xt0) (hc1 : unused c i xt1) (hc2 : ¬used c i xt1) (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ tbPt c tbM0 xt0 ∗ tbPt c tbM1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay3) ∗ owns (c : Thread nD τ) arg9 fullShare xs0 ∗ owns (c : Thread nD τ) arg10 fullShare xs1 ∗ tbPt c tbM0 xt0 ∗ tbPt c tbM1 xt1) -∗ K ⟨⟩))
      ⊢ wp frame (wpE (defs₀ (F := F)) Variants.none c none) E (cc0_expert_ffn i tbM0 (Memref.isWhole_whole _) tbM1 (Memref.isWhole_whole _) arg3 harg3 arg4 harg4 arg5 harg5 arg6 harg6 arg7 harg7 arg8 harg8 arg9 harg9 arg10 harg10) K := by
  simp only [cc0_expert_ffn_eq_skeleton]; unfold cc0_expert_ffn_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
  have hT0 : tbM0.IsWhole := Memref.isWhole_whole _
  have hT1 : tbM1.IsWhole := Memref.isWhole_whole _
  sl_exec! (disch := first | (guard_target = ¬(Scalar.cmpi = _); exact hc0) | (guard_target = k0_cond2 _ = _; exact hc1) | (guard_target = ¬(k0_cond3 _ = _); exact hc2))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    exact View.read_writes_full _ _ _ _ _
  isplitl [HS0]
  · iexists _; isplitr; · ipureintro; exact harg9.read_unread _
    iexact HS0
  isplitl [HS1]
  · iexists _; isplitr; · ipureintro; exact harg10.read_unread _
    iexact HS1
  isplitl [HT0]; · iexact HT0
  iexact HT1

set_option maxHeartbeats 4000000 in
/-- At a used block whose weights are kept the body stores the expert layer of its rows over the weights in the scratch buffers. -/
theorem run_D (c : Dev nD) (i : grid0.Coords) (arg3 : Memref sig .tc .vmem S256x1024 .f32) (harg3 : arg3.IsWhole) (arg4 : Memref sig .tc .vmem S1x1x1024x2048 .f32) (harg4 : arg4.IsWhole) (arg5 : Memref sig .tc .vmem S1x1x1x2048 .f32) (harg5 : arg5.IsWhole) (arg6 : Memref sig .tc .vmem S1x1x1024x1024 .f32) (harg6 : arg6.IsWhole) (arg7 : Memref sig .tc .vmem S1x1x1x1024 .f32) (harg7 : arg7.IsWhole) (arg8 : Memref sig .tc .vmem S256x1024 .f32) (harg8 : arg8.IsWhole) (arg9 : Memref sig .tc .vmem S1024x2048 .bf16) (harg9 : arg9.IsWhole) (arg10 : Memref sig .tc .vmem S1024x1024 .bf16) (harg10 : arg10.IsWhole)
    (x0 : Vec F S256x1024 .f32) (x1 : Vec F S1x1x1024x2048 .f32) (x2 : Vec F S1x1x1x2048 .f32) (x3 : Vec F S1x1x1024x1024 .f32) (x4 : Vec F S1x1x1x1024 .f32) (xt0 : TbBuf (F := F) c tbM0) (xt1 : TbBuf (F := F) c tbM1) (xs0 : Vec F S1024x2048 .bf16) (xs1 : Vec F S1024x1024 .bf16)
    (hc0 : ¬fetches c i xt0) (hc1 : ¬unused c i xt1) (hc2 : used c i xt1) (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ tbPt c tbM0 xt0 ∗ tbPt c tbM1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay4 x0 xs0 x2 xs1 x4) ∗ owns (c : Thread nD τ) arg9 fullShare xs0 ∗ owns (c : Thread nD τ) arg10 fullShare xs1 ∗ tbPt c tbM0 xt0 ∗ tbPt c tbM1 xt1) -∗ K ⟨⟩))
      ⊢ wp frame (wpE (defs₀ (F := F)) Variants.none c none) E (cc0_expert_ffn i tbM0 (Memref.isWhole_whole _) tbM1 (Memref.isWhole_whole _) arg3 harg3 arg4 harg4 arg5 harg5 arg6 harg6 arg7 harg7 arg8 harg8 arg9 harg9 arg10 harg10) K := by
  simp only [cc0_expert_ffn_eq_skeleton]; unfold cc0_expert_ffn_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, Hk⟩
  obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
  have hT0 : tbM0.IsWhole := Memref.isWhole_whole _
  have hT1 : tbM1.IsWhole := Memref.isWhole_whole _
  sl_exec! (disch := first | (guard_target = ¬(Scalar.cmpi = _); exact hc0) | (guard_target = ¬(k0_cond2 _ = _); exact hc1) | (guard_target = k0_cond3 _ = _; exact hc2))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    refine (View.read_writes_full _ _ _ _ _).trans ?_
    show k0_pay4 _ _ _ _ _ = k0_pay4 _ _ _ _ _
    refine congr (congr (congr (congr (congrArg k0_pay4 ?_) ?_) ?_) ?_) ?_
    · exact (View.readAt_full _ _ _).trans (harg3.read_unread _)
    · exact (View.readAt_full _ _ _).trans (harg9.read_unread _)
    · exact (View.readAt_full _ _ _).trans (harg5.read_unread _)
    · exact (View.readAt_full _ _ _).trans (harg10.read_unread _)
    · exact (View.readAt_full _ _ _).trans (harg7.read_unread _)
  isplitl [HS0]
  · iexists _; isplitr; · ipureintro; exact harg9.read_unread _
    iexact HS0
  isplitl [HS1]
  · iexists _; isplitr; · ipureintro; exact harg10.read_unread _
    iexact HS1
  isplitl [HT0]; · iexact HT0
  iexact HT1

end Cert.Kernel3Ideal.Experts

end
-- ==== Proof.Ffn.Ideal1Frame.lean ====
module

public import proofs.«01_k».proof.Proof.Ffn.Ideal1Run
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Claim

/-! The expert layer's kernel over its grid: what the staging buffers and the scratch buffers hold after each block, and
the run of the whole program, for tables that name experts and mark every block 0 or 1. -/

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (`ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).1 4).trans (((dats 0 c).arrAt_in 4 rfl _).trans ((hA c 4).trans (V_main_arg6 m c)))⟩) h

/-! ## The tables' words -/

theorem grid_lt (i : grid0.Coords) : (i 0).val < 288 := (i 0).isLt
/-- The place of block `i` in a table, and of the block before it (of the first block: its own). -/
def here (i : grid0.Coords) : S288.Idx := fun | 0 => ⟨(i 0).val, grid_lt i⟩
def prev (i : grid0.Coords) : S288.Idx := fun | 0 => ⟨(i 0).val - 1, lt_of_le_of_lt (Nat.sub_le _ _) (grid_lt i)⟩

/-- The grid point of block `n`. -/
def point (n : Fin 288) : grid0.Coords := fun | 0 => n

theorem offs (n : Fin 288) : k0_off1 (point n) = ![n.val] ∧ k0_off2 (point n) = ![n.val - 1] ∧ k0_off3 (point n) = ![n.val] ∧ k0_off4 (point n) = ![n.val] := by
  revert n; decide +kernel
theorem coords_eq (i : grid0.Coords) : i = point ⟨(i 0).val, grid_lt i⟩ := by
  refine funext fun (a : Fin 1) => ?_
  obtain rfl : a = 0 := Subsingleton.elim _ _
  rfl
theorem off1_eq (i : grid0.Coords) : k0_off1 i = ![(i 0).val] := by rw [coords_eq i]; exact (offs _).1
theorem off2_eq (i : grid0.Coords) : k0_off2 i = ![(i 0).val - 1] := by rw [coords_eq i]; exact (offs _).2.1
theorem off3_eq (i : grid0.Coords) : k0_off3 i = ![(i 0).val] := by rw [coords_eq i]; exact (offs _).2.2.1
theorem off4_eq (i : grid0.Coords) : k0_off4 i = ![(i 0).val] := by rw [coords_eq i]; exact (offs _).2.2.2

/-- The words the body loads are the tables' words at the block and at the block before. -/
theorem wExpert_eq (c : Dev nD) (i : grid0.Coords) (x : TbBuf (F := F) c tbM0) : wExpert c i x = x (here i) := by
  refine congrArg x (funext fun (a : Fin 1) => Fin.ext ?_)
  obtain rfl : a = 0 := Subsingleton.elim _ _
  show k0_off1 i 0 + 1 * 0 = (i 0).val
  rw [off1_eq]; rfl
theorem wBefore_eq (c : Dev nD) (i : grid0.Coords) (x : TbBuf (F := F) c tbM0) : wBefore c i x = x (prev i) := by
  refine congrArg x (funext fun (a : Fin 1) => Fin.ext ?_)
  obtain rfl : a = 0 := Subsingleton.elim _ _
  show k0_off2 i 0 + 1 * 0 = (i 0).val - 1
  rw [off2_eq]; rfl
theorem wMark_eq (c : Dev nD) (i : grid0.Coords) (x : TbBuf (F := F) c tbM1) : wMark c i x = x (here i) := by
  refine congrArg x (funext fun (a : Fin 1) => Fin.ext ?_)
  obtain rfl : a = 0 := Subsingleton.elim _ _
  show k0_off3 i 0 + 1 * 0 = (i 0).val
  rw [off3_eq]; rfl
theorem wMark'_eq (c : Dev nD) (i : grid0.Coords) (x : TbBuf (F := F) c tbM1) : wMark' c i x = x (here i) := by
  refine congrArg x (funext fun (a : Fin 1) => Fin.ext ?_)
  obtain rfl : a = 0 := Subsingleton.elim _ _
  show k0_off4 i 0 + 1 * 0 = (i 0).val
  rw [off4_eq]; rfl

theorem or_bit (a b : BitVec 1) : Scalar.cmpi .ne (Scalar.extui (Scalar.ori a b) : BitVec 32) 0#32 = 1#1 ↔ a = 1#1 ∨ b = 1#1 := by
  revert a b; decide
theorem bit_ofBool (b : Bool) : BitVec.ofBool b = 1#1 ↔ b = true := by revert b; decide
theorem eq_bit (a b : BitVec 32) : Scalar.cmpi .eq a b = 1#1 ↔ a = b := by
  by_cases h : a = b <;> simp [Scalar.cmpi, IntOp.cmpi, h, bit_ofBool]
theorem ne_bit (a b : BitVec 32) : Scalar.cmpi .ne a b = 1#1 ↔ a ≠ b := by
  by_cases h : a = b <;> simp [Scalar.cmpi, IntOp.cmpi, h, bit_ofBool]
theorem wide_bit (a : BitVec 1) : Scalar.cmpi .ne (Scalar.extui a : BitVec 32) 0#32 = 1#1 ↔ a = 1#1 := by
  revert a; decide
theorem first_bit (n : Fin 288) : Scalar.cmpi .eq (BitVec.ofNat 32 n.val) 0#32 = 1#1 ↔ n.val = 0 := by
  revert n; decide +kernel

/-- The weights are fetched exactly at the first block and where the expert changes. -/
theorem fetches_iff (c : Dev nD) (i : grid0.Coords) (x : TbBuf (F := F) c tbM0) : fetches c i x ↔ (i 0).val = 0 ∨ x (here i) ≠ x (prev i) := by
  unfold fetches
  refine (or_bit _ _).trans (or_congr (first_bit ⟨(i 0).val, grid_lt i⟩) ?_)
  refine (ne_bit _ _).trans ?_
  rw [wExpert_eq, wBefore_eq]
/-- A block is unused exactly where its mark is 0, and used exactly where it is 1. -/
theorem unused_iff (c : Dev nD) (i : grid0.Coords) (x : TbBuf (F := F) c tbM1) : unused c i x ↔ x (here i) = (0#32 : BitVec 32) := by
  unfold unused k0_cond2
  refine (wide_bit _).trans ((eq_bit _ _).trans ?_)
  rw [wMark_eq]
theorem used_iff (c : Dev nD) (i : grid0.Coords) (x : TbBuf (F := F) c tbM1) : used c i x ↔ x (here i) = (1#32 : BitVec 32) := by
  unfold used k0_cond3
  refine (wide_bit _).trans ((eq_bit _ _).trans ?_)
  rw [wMark'_eq]

theorem mark_ne : (0#32 : BitVec 32) ≠ 1#32 := by decide

/-- Every block is marked 0 or 1. -/
abbrev Marked : Prop := ∀ i : grid0.Coords, tbl m 1 (here i) = (0#32 : BitVec 32) ∨ tbl m 1 (here i) = (1#32 : BitVec 32)

theorem atD_eq (i : grid0.Coords) (off : Fin 1 → Nat) (h : off = ![(i 0).val]) : (tbl m).atD 1 off = tbl m 1 (here i) := by
  subst h
  refine (dif_pos ?_).trans ?_
  · exact fun (a : Fin 1) => by obtain rfl : a = 0 := Subsingleton.elim _ _; exact grid_lt i
  · exact congrArg (tbl m 1) (funext fun (a : Fin 1) => by obtain rfl : a = 0 := Subsingleton.elim _ _; rfl)

/-- Where every block is marked 0 or 1 the body stores its result at every block. -/
theorem live5 (hM : Marked m) (i : grid0.Coords) : idle0 (tbl m) 5 i = false := by
  show (!(k0_cond2 ((tbl m).atD 1 (k0_off3 i)) == 1#1) && !(k0_cond3 ((tbl m).atD 1 (k0_off4 i)) == 1#1)) = false
  rw [atD_eq m i _ (off3_eq i), atD_eq m i _ (off4_eq i)]
  rcases hM i with h | h <;> rw [h] <;> decide

/-! ## Where the windows are idle -/

/-- Window 0 is never idle (an input). -/
theorem liveAt0_0 (hO : Ok m) : ∀ t : Fin (cfgM m hO).N, (cfgM m hO).idle 0 (grid0.coords t) = false :=
  (fun _ => rfl : ∀ t : Fin grid0.N, idle0 (tbl m) 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 (tbl m) 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 (tbl m) 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 (tbl m) 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 (tbl m) 4 (grid0.coords t) = false)
/-- Window 5 (result 0 (%0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_ffn (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-! ## The staging and scratch buffers -/

/-- Each window's current staging memref at point `t`, spelled as the pipeline passes it (`bodyAt0`). -/
abbrev ms0_0 (hO : Ok m) (t : Fin (cfgM m hO).N) : Memref sig .tc .vmem S256x1024 .f32 := spec0_0.stage ((cfgM m hO).slots t 0)
abbrev ms0_1 (hO : Ok m) (t : Fin (cfgM m hO).N) : Memref sig .tc .vmem S1x1x1024x2048 .f32 := spec0_1.stage ((cfgM m hO).slots t 1)
abbrev ms0_2 (hO : Ok m) (t : Fin (cfgM m hO).N) : Memref sig .tc .vmem S1x1x1x2048 .f32 := spec0_2.stage ((cfgM m hO).slots t 2)
abbrev ms0_3 (hO : Ok m) (t : Fin (cfgM m hO).N) : Memref sig .tc .vmem S1x1x1024x1024 .f32 := spec0_3.stage ((cfgM m hO).slots t 3)
abbrev ms0_4 (hO : Ok m) (t : Fin (cfgM m hO).N) : Memref sig .tc .vmem S1x1x1x1024 .f32 := spec0_4.stage ((cfgM m hO).slots t 4)
abbrev ms0_5 (hO : Ok m) (t : Fin (cfgM m hO).N) : Memref sig .tc .vmem S256x1024 .f32 := spec0_5.stage ((cfgM m hO).slots t 5)
/-- The scratch operands: whole scoped buffers of the kernel's own, passed beside the windows. -/
abbrev scM0_0 : Memref sig .tc .vmem S1024x2048 .bf16 := Memref.whole cc0_scratch0
abbrev scM0_1 : Memref sig .tc .vmem S1024x1024 .bf16 := Memref.whole cc0_scratch1
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the buffers hold after each block -/

/-- What the two scratch buffers hold after block `n`: the weights fetched at the last block that fetched. -/
def kept (hO : Ok m) (c : Dev nD) : (n : ℕ) → n < (cfgM m hO).N → Vec F S1024x2048 .bf16 × Vec F S1024x1024 .bf16
  | 0, hn => (k0_pay1 (iblk m hO c 1 ⟨0, hn⟩), k0_pay2 (iblk m hO c 3 ⟨0, hn⟩))
  | n + 1, hn =>
    if fetches c (grid0.coords ⟨n + 1, hn⟩) (tbl m 0) then (k0_pay1 (iblk m hO c 1 ⟨n + 1, hn⟩), k0_pay2 (iblk m hO c 3 ⟨n + 1, hn⟩))
    else kept hO c n (Nat.lt_of_succ_lt hn)

/-- What the result's staging buffer holds after block `t`: zeros at an unused block, the expert layer of the block's rows at a
    used one. -/
def stored (hO : Ok m) (c : Dev nD) (t : Fin (cfgM m hO).N) : Vec F S256x1024 .f32 :=
  if unused c (grid0.coords t) (tbl m 1) then k0_pay3
  else k0_pay4 (iblk m hO c 0 t) (kept m hO c t.val t.isLt).1 (iblk m hO c 2 t) (kept m hO c t.val t.isLt).2 (iblk m hO c 4 t)

theorem coords_zero (t : Fin grid0.N) : ((grid0.coords t) 0).val = t.val :=
  (by decide +kernel : ∀ t : Fin grid0.N, ((grid0.coords t) 0).val = t.val) t

/-- A block that fetches leaves its own weights. -/
theorem kept_fetch (hO : Ok m) (c : Dev nD) (t : Fin (cfgM m hO).N) (h : fetches c (grid0.coords t) (tbl m 0)) :
    kept m hO c t.val t.isLt = (k0_pay1 (iblk m hO c 1 t), k0_pay2 (iblk m hO c 3 t)) := by
  obtain ⟨n, hn⟩ := t
  cases n with
  | zero => rfl
  | succ n => exact if_pos h

/-- A block that does not leaves what the block before left. -/
theorem kept_keep (hO : Ok m) (c : Dev nD) (t : Fin (cfgM m hO).N) (h : ¬fetches c (grid0.coords t) (tbl m 0)) :
    t.val ≠ 0 ∧ kept m hO c t.val t.isLt = kept m hO c (t.val - 1) (Nat.lt_of_le_of_lt (Nat.sub_le _ _) t.isLt) := by
  obtain ⟨n, hn⟩ := t
  cases n with
  | zero => exact absurd ((fetches_iff c _ _).mpr (.inl (coords_zero ⟨0, hn⟩))) h
  | succ n => exact ⟨Nat.succ_ne_zero n, if_neg h⟩

/-- The region invariant before position `n` with a scratch the kernel CARRIES between points: before the first point the
    class's (Lib/Pipeline/Frame.lean `ΦA`: every scratch at anything); afterwards the scoped rest with each carried scratch
    at what the point before left in it (`kept`'s scratch components), the others at anything, and the generator register
    at some state. -/
def PhiS (hO : Ok m) (c : Dev nD) : (n : ℕ) → n ≤ (cfgM m hO).N → sProp (MT nD τ sig Unit (Elt F) ℕ (UR sig nD τ) ℕ)
  | 0, _ => iprop(Pipeline.ΦA spec0 c ∗ Pipeline.ΦT pre0 (tbl m) c)
  | n + 1, hn => iprop(iprop(iprop(owns (c : Thread nD τ) scM0_0 fullShare ((kept m hO c n hn).1) ∗ owns (c : Thread nD τ) scM0_1 fullShare ((kept m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((kept m hO c n hn).1) ∗ owns (c : Thread nD τ) scM0_1 fullShare ((kept m hO c n hn).2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((kept m hO c (n - 1) (by omega)).1) ∗ owns (c : Thread nD τ) scM0_1 fullShare ((kept m hO c (n - 1) (by omega)).2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `kept`; the invariant the one of
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => stored m hO c t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = stored m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation -/

/-- What the body is called with at point `t` (Lib/Pipeline.lean `BodyObligation`'s precondition, the windows one by one), -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

set_option maxHeartbeats 12800000 in
/-- The body at any block: it fetches or keeps the weights, and stores zeros or the layer's rows; in each of the four cases the
    run of that case applies. -/
theorem sound_body (hO : Ok m) (hM : Marked m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [show (cfgM m hO).idle 5 (grid0.coords t) = false from live5 m hM _]; try rfl, after0_5]
  rcases hM (grid0.coords t) with hw | hw
  · have hu : unused c (grid0.coords t) (tbl m 1) := (unused_iff c _ _).mpr hw
    have hv : ¬used c (grid0.coords t) (tbl m 1) := fun h => absurd (hw.symm.trans ((used_iff c _ _).mp h)) mark_ne
    by_cases hf : fetches c (grid0.coords t) (tbl m 0)
    · rw [show stored m hO c t = _ from if_pos hu, kept_fetch m hO c t hf]; dsimp only
      by_cases hz : t.val = 0
      · rw [PhiS_castSucc m hO c t, PhiS_zero m hO c _ _ hz, PhiT0_eq, PhiA0_eq]
        iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
        iapply (run_A c (grid0.coords t) _ _ _ _ _ _ _ _ _ _ _ _ _ _ _ _ (iblk m hO c 0 t) (iblk m hO c 1 t) (iblk m hO c 2 t) (iblk m hO c 3 t) (iblk m hO c 4 t) (tbl m 0) (tbl m 1) hf hu hv Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HT0]; · iexact HT0
        isplitl [HT1]; · iexact HT1
        iintro ⟨H0, H1, H2, H3, H4, H5, HS0, HS1, HT0, HT1⟩
        isplitl [HS0 HS1 Hg HT0 HT1]
        · isplitl [HS0 HS1 Hg]
          · isplitl [HS0 HS1]
            · isplitl [HS0]
              · iexact HS0
              iexact HS1
            iexact Hg
          isplitl [HT0]; · iexact HT0
          iexact HT1
        isplitl [Ho]; · iexact Ho
        isplitl [H0]; · iexact H0
        isplitl [H1]; · iexact H1
        isplitl [H2]; · iexact H2
        isplitl [H3]; · iexact H3
        isplitl [H4]; · iexact H4
        iexact H5
      · rw [PhiS_castSucc m hO c t, PhiS_pos m hO c _ _ hz, PhiT0_eq]
        iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
        iapply (run_A c (grid0.coords t) _ _ _ _ _ _ _ _ _ _ _ _ _ _ _ _ (iblk m hO c 0 t) (iblk m hO c 1 t) (iblk m hO c 2 t) (iblk m hO c 3 t) (iblk m hO c 4 t) (tbl m 0) (tbl m 1) hf hu hv Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexists _; iexact HS0
        isplitl [HS1]; · iexists _; iexact HS1
        isplitl [HT0]; · iexact HT0
        isplitl [HT1]; · iexact HT1
        iintro ⟨H0, H1, H2, H3, H4, H5, HS0, HS1, HT0, HT1⟩
        isplitl [HS0 HS1 Hg HT0 HT1]
        · isplitl [HS0 HS1 Hg]
          · isplitl [HS0 HS1]
            · isplitl [HS0]
              · iexact HS0
              iexact HS1
            iexact Hg
          isplitl [HT0]; · iexact HT0
          iexact HT1
        isplitl [Ho]; · iexact Ho
        isplitl [H0]; · iexact H0
        isplitl [H1]; · iexact H1
        isplitl [H2]; · iexact H2
        isplitl [H3]; · iexact H3
        isplitl [H4]; · iexact H4
        iexact H5
    · obtain ⟨hz, hk⟩ := kept_keep m hO c t hf
      rw [show stored m hO c t = _ from if_pos hu, hk]
      rw [PhiS_castSucc m hO c t, PhiS_pos m hO c _ _ hz, PhiT0_eq]
      iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
      iapply (run_C c (grid0.coords t) _ _ _ _ _ _ _ _ _ _ _ _ _ _ _ _ (iblk m hO c 0 t) (iblk m hO c 1 t) (iblk m hO c 2 t) (iblk m hO c 3 t) (iblk m hO c 4 t) (tbl m 0) (tbl m 1) _ _ hf hu hv Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HT0]; · iexact HT0
      isplitl [HT1]; · iexact HT1
      iintro ⟨H0, H1, H2, H3, H4, H5, HS0, HS1, HT0, HT1⟩
      isplitl [HS0 HS1 Hg HT0 HT1]
      · isplitl [HS0 HS1 Hg]
        · isplitl [HS0 HS1]
          · isplitl [HS0]
            · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      iexact H5
  · have hu : ¬unused c (grid0.coords t) (tbl m 1) := fun h => absurd (hw.symm.trans ((unused_iff c _ _).mp h)) mark_ne.symm
    have hv : used c (grid0.coords t) (tbl m 1) := (used_iff c _ _).mpr hw
    by_cases hf : fetches c (grid0.coords t) (tbl m 0)
    · rw [show stored m hO c t = _ from if_neg hu, kept_fetch m hO c t hf]; dsimp only
      by_cases hz : t.val = 0
      · rw [PhiS_castSucc m hO c t, PhiS_zero m hO c _ _ hz, PhiT0_eq, PhiA0_eq]
        iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
        iapply (run_B c (grid0.coords t) _ _ _ _ _ _ _ _ _ _ _ _ _ _ _ _ (iblk m hO c 0 t) (iblk m hO c 1 t) (iblk m hO c 2 t) (iblk m hO c 3 t) (iblk m hO c 4 t) (tbl m 0) (tbl m 1) hf hu hv Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HT0]; · iexact HT0
        isplitl [HT1]; · iexact HT1
        iintro ⟨H0, H1, H2, H3, H4, H5, HS0, HS1, HT0, HT1⟩
        isplitl [HS0 HS1 Hg HT0 HT1]
        · isplitl [HS0 HS1 Hg]
          · isplitl [HS0 HS1]
            · isplitl [HS0]
              · iexact HS0
              iexact HS1
            iexact Hg
          isplitl [HT0]; · iexact HT0
          iexact HT1
        isplitl [Ho]; · iexact Ho
        isplitl [H0]; · iexact H0
        isplitl [H1]; · iexact H1
        isplitl [H2]; · iexact H2
        isplitl [H3]; · iexact H3
        isplitl [H4]; · iexact H4
        iexact H5
      · rw [PhiS_castSucc m hO c t, PhiS_pos m hO c _ _ hz, PhiT0_eq]
        iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
        iapply (run_B c (grid0.coords t) _ _ _ _ _ _ _ _ _ _ _ _ _ _ _ _ (iblk m hO c 0 t) (iblk m hO c 1 t) (iblk m hO c 2 t) (iblk m hO c 3 t) (iblk m hO c 4 t) (tbl m 0) (tbl m 1) hf hu hv Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexists _; iexact HS0
        isplitl [HS1]; · iexists _; iexact HS1
        isplitl [HT0]; · iexact HT0
        isplitl [HT1]; · iexact HT1
        iintro ⟨H0, H1, H2, H3, H4, H5, HS0, HS1, HT0, HT1⟩
        isplitl [HS0 HS1 Hg HT0 HT1]
        · isplitl [HS0 HS1 Hg]
          · isplitl [HS0 HS1]
            · isplitl [HS0]
              · iexact HS0
              iexact HS1
            iexact Hg
          isplitl [HT0]; · iexact HT0
          iexact HT1
        isplitl [Ho]; · iexact Ho
        isplitl [H0]; · iexact H0
        isplitl [H1]; · iexact H1
        isplitl [H2]; · iexact H2
        isplitl [H3]; · iexact H3
        isplitl [H4]; · iexact H4
        iexact H5
    · obtain ⟨hz, hk⟩ := kept_keep m hO c t hf
      rw [show stored m hO c t = _ from if_neg hu, hk]
      rw [PhiS_castSucc m hO c t, PhiS_pos m hO c _ _ hz, PhiT0_eq]
      iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
      iapply (run_D c (grid0.coords t) _ _ _ _ _ _ _ _ _ _ _ _ _ _ _ _ (iblk m hO c 0 t) (iblk m hO c 1 t) (iblk m hO c 2 t) (iblk m hO c 3 t) (iblk m hO c 4 t) (tbl m 0) (tbl m 1) _ _ hf hu hv Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HT0]; · iexact HT0
      isplitl [HT1]; · iexact HT1
      iintro ⟨H0, H1, H2, H3, H4, H5, HS0, HS1, HT0, HT1⟩
      isplitl [HS0 HS1 Hg HT0 HT1]
      · isplitl [HS0 HS1 Hg]
        · isplitl [HS0 HS1]
          · isplitl [HS0]
            · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hM : Marked m) (c : Dev nD) : BodyObligation (dats (F := F) m hO 0 c) (defs₀ (F := F)) Variants.none () Set.univ := fun t => by
  rw [bigSep_W0, bigSep_W0, defs₀_row m hO]
  exact triple_restated (sound_body m hO hM c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexists _; iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 288 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hM : Marked m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hM c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hM : Marked m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hM)

/-- `frame` without the counters: the argument arrays end unchanged. -/
theorem unchanged (hO : Ok m) (hM : Marked m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO hM)

/-- THE FRAME: the program ends, its arguments unchanged and its semaphores at zero, for tables that are in range and mark every
    block 0 or 1. -/
theorem frame (hO : Ok m) (hM : Marked m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hM) ((θ_run defs _ _).mono (fun _ h => h.2) (run_main_quiescent m ρ hO hM))

end Cert.Kernel3Ideal.Experts

end
-- ==== Proof.Ffn.Ideal1Tables.lean ====
/- The tables a run admits: where every block names one of the 32 experts, every window lies inside its array. -/
module

public import proofs.«01_k».proof.Proof.Ffn.Ideal1Frame

@[expose] public section

set_option maxRecDepth 16384

noncomputable section

namespace Cert.Kernel3Ideal.Experts

open Cert.Kernel3Ideal Cert.Kernel3Ideal.Gen
open Idealize.ShloMosaic Idealize.ShloMosaic.TcCoe
open Cert.Kernel3Ideal.Facts

variable {F : FTy → Type} [FloatOps F] (m : (ℓ : Loc nD τ sig) → Buf (Elt F) ℓ)

/-- The word the index maps read at a grid point is the expert of its block. -/
theorem at_eq (i : grid0.Coords) :
    (tbl m).at 0 (Rect.unit (s := S288) ![(Scalar.indexCast (BitVec.ofNat 32 (i 0).val)).toNat] S1.size (k0_off1_inb i)) numel1_S1
      = tbl m 0 (here i) := by
  refine congrArg (tbl m 0) (funext fun (a : Fin 1) => Fin.ext ?_)
  obtain rfl : a = 0 := Subsingleton.elim _ _
  show k0_off1 i 0 + 1 * 0 = (i 0).val
  rw [off1_eq]; rfl

/-- The block index of each table-read window: the layer, the expert of the block, and zeros. -/
theorem map1 (i : grid0.Coords) : cc0_transform_1 k0_off1_inb numel1_S1 (tbl m) i = ![1, (tbl m 0 (here i)).toNat, 0, 0] := by
  rw [← at_eq]; rfl
theorem map2 (i : grid0.Coords) : cc0_transform_2 k0_off1_inb numel1_S1 (tbl m) i = ![1, (tbl m 0 (here i)).toNat, 0, 0] := by
  rw [← at_eq]; rfl
theorem map3 (i : grid0.Coords) : cc0_transform_3 k0_off1_inb numel1_S1 (tbl m) i = ![1, (tbl m 0 (here i)).toNat, 0, 0] := by
  rw [← at_eq]; rfl
theorem map4 (i : grid0.Coords) : cc0_transform_4 k0_off1_inb numel1_S1 (tbl m) i = ![1, (tbl m 0 (here i)).toNat, 0, 0] := by
  rw [← at_eq]; rfl

/-- Tables naming experts are admitted. -/
theorem ok_of (h : ∀ i : S288.Idx, (tbl m 0 i : BitVec 32).toNat < 32) : Ok m := by
  refine ⟨fun i => ⟨fun a => ?_, .inl rfl⟩, fun i => ⟨fun a => ?_, .inl rfl⟩, fun i => ⟨fun a => ?_, .inl rfl⟩, fun i => ⟨fun a => ?_, .inl rfl⟩⟩
  · rw [map1]
    have := h (here i)
    match a with
    | ⟨0, _⟩ => show (1 + 1) * 1 ≤ 2; omega
    | ⟨1, _⟩ => show ((tbl m 0 (here i)).toNat + 1) * 1 ≤ 32; omega
    | ⟨2, _⟩ => show (0 + 1) * 1024 ≤ 1024; omega
    | ⟨3, _⟩ => show (0 + 1) * 2048 ≤ 2048; omega
  · rw [map2]
    have := h (here i)
    match a with
    | ⟨0, _⟩ => show (1 + 1) * 1 ≤ 2; omega
    | ⟨1, _⟩ => show ((tbl m 0 (here i)).toNat + 1) * 1 ≤ 32; omega
    | ⟨2, _⟩ => show (0 + 1) * 1 ≤ 1; omega
    | ⟨3, _⟩ => show (0 + 1) * 2048 ≤ 2048; omega
  · rw [map3]
    have := h (here i)
    match a with
    | ⟨0, _⟩ => show (1 + 1) * 1 ≤ 2; omega
    | ⟨1, _⟩ => show ((tbl m 0 (here i)).toNat + 1) * 1 ≤ 32; omega
    | ⟨2, _⟩ => show (0 + 1) * 1024 ≤ 1024; omega
    | ⟨3, _⟩ => show (0 + 1) * 1024 ≤ 1024; omega
  · rw [map4]
    have := h (here i)
    match a with
    | ⟨0, _⟩ => show (1 + 1) * 1 ≤ 2; omega
    | ⟨1, _⟩ => show ((tbl m 0 (here i)).toNat + 1) * 1 ≤ 32; omega
    | ⟨2, _⟩ => show (0 + 1) * 1 ≤ 1; omega
    | ⟨3, _⟩ => show (0 + 1) * 1024 ≤ 1024; omega

end Cert.Kernel3Ideal.Experts

end
-- ==== Proof.Ffn.Ideal1Value.lean ====
/- The kernel's result array: the layer of experts over the rows. -/
module

public import proofs.«01_k».proof.Proof.Ffn.Ideal1Tables
public import proofs.«01_k».proof.Proof.Ffn.Layer
public import Idealize.ShloMosaic.Lib.Pipeline.Value

@[expose] public section

set_option maxRecDepth 16384

noncomputable section

namespace Cert.Kernel3Ideal.Experts

open Cert.Kernel3Ideal Cert.Kernel3Ideal.Gen
open Idealize.ShloMosaic Idealize.ShloMosaic.TcCoe Idealize.ShloMosaic.Tactic Idealize.SL.Sem
open Idealize.ShloMosaic.Pipeline (Dat)
open Cert.Kernel3Ideal.Facts
open Cert.Ffn

/-- The first weights as the scratch buffer keeps them: a block's matrix. -/
theorem pay1_at (v : Vec Ideal S1x1x1024x2048 .f32) (d : Fin 1024) (f : Fin 2048) :
    k0_pay1 (F := Ideal) v (ix2 d f) = v (ix4 0 0 d f) := by
  unfold_payloads
  pointwise

/-- The second weights likewise. -/
theorem pay2_at (v : Vec Ideal S1x1x1024x1024 .f32) (f j : Fin 1024) :
    k0_pay2 (F := Ideal) v (ix2 f j) = v (ix4 0 0 f j) := by
  unfold_payloads
  pointwise

/-- An unused block is zero. -/
theorem pay3_at (r : Fin 256) (j : Fin 1024) : k0_pay3 (F := Ideal) (ix2 r j) = 0 := by
  unfold_payloads
  pointwise

/-- A used block is the expert's layer of its rows. -/
theorem pay4_at (x : Vec Ideal S256x1024 .f32) (wgu : Vec Ideal S1024x2048 .bf16) (bgu : Vec Ideal S1x1x1x2048 .f32)
    (wdn : Vec Ideal S1024x1024 .bf16) (bdn : Vec Ideal S1x1x1x1024 .f32) (r : Fin 256) (j : Fin 1024) :
    k0_pay4 (F := Ideal) x wgu bgu wdn bdn (ix2 r j)
      = expertRow (fun d => x (ix2 r d)) (fun d f => wgu (ix2 d f)) (fun f => bgu (ix4 0 0 0 f)) (fun f j => wdn (ix2 f j))
          (fun j => bdn (ix4 0 0 0 j)) j := by
  unfold_payloads
  pointwise
  unfold expertRow gated hiddenRow
  simp only [Ideal.ofBits_zero, zero_add, add_zero, sub_eq_add_neg]

variable (m : (ℓ : Loc nD τ sig) → Buf (Elt Ideal) ℓ) (hO : Ok m) (c : Dev nD)

/-- The number of a grid point. -/
theorem lt288 (t : Fin (cfgM m hO).N) : t.val < 288 := grid_lt (grid0.coords t) |> fun h => (coords_zero t) ▸ h

/-- The expert of a block. -/
abbrev expertAt (t : Fin (cfgM m hO).N) : BitVec 32 := tbl m 0 (here (grid0.coords t))

theorem here_eq (t : Fin (cfgM m hO).N) : here (grid0.coords t) = ix1 ⟨t.val, lt288 m hO t⟩ :=
  funext fun (a : Fin 1) => Fin.ext (by obtain rfl : a = 0 := Subsingleton.elim _ _; exact coords_zero t)

theorem map0 (t : Fin (cfgM m hO).N) : cc0_transform_0 (grid0.coords t) = ![t.val, 0] := by
  have h : cc0_transform_0 (grid0.coords t) = ![((grid0.coords t) 0).val % 2 ^ 32, 0] := rfl
  rw [h, coords_zero, Nat.mod_eq_of_lt (lt_trans (lt288 m hO t) (by norm_num))]
theorem map5 (t : Fin (cfgM m hO).N) : cc0_transform_5 (grid0.coords t) = ![t.val, 0] := by
  have h : cc0_transform_5 (grid0.coords t) = ![((grid0.coords t) 0).val % 2 ^ 32, 0] := rfl
  rw [h, coords_zero, Nat.mod_eq_of_lt (lt_trans (lt288 m hO t) (by norm_num))]

/-- The rows of a block. -/
theorem blk0 (t : Fin (cfgM m hO).N) (r : Fin 256) (d : Fin 1024) :
    iblk m hO c 0 t (ix2 r d) = V m c main_arg2 (ix2 ⟨t.val * 256 + r.val, by have := lt288 m hO t; omega⟩ d) := by
  show V m c main_arg2 ((((cfgM m hO).win 0).rect t).emb (ix2 r d)) = _
  congr 1
  funext a
  apply Fin.ext
  have h := map0 m hO t
  match a with
  | ⟨0, _⟩ => show cc0_transform_0 (grid0.coords t) 0 * 256 + 1 * r.val = t.val * 256 + r.val; rw [h]; show t.val * 256 + 1 * r.val = _; omega
  | ⟨1, _⟩ => show cc0_transform_0 (grid0.coords t) 1 * 1024 + 1 * d.val = d.val; rw [h]; show 0 * 1024 + 1 * d.val = _; omega

variable (he : ∀ i : S288.Idx, (tbl m 0 i : BitVec 32).toNat < 32)
include he

theorem expertOf_val (t : Fin (cfgM m hO).N) : (expertOf (expertAt m hO t)).val = (expertAt m hO t).toNat :=
  Nat.mod_eq_of_lt (he _)

/-- A block's first matrix: its expert's. -/
theorem blk1 (t : Fin (cfgM m hO).N) (x : Fin 1024) (y : Fin 2048) :
    iblk m hO c 1 t (ix4 0 0 x y) = V m c main_arg3 (ix4 1 (expertOf (expertAt m hO t)) x y) := by
  show V m c main_arg3 ((((cfgM m hO).win 1).rect t).emb (ix4 0 0 x y)) = _
  congr 1
  funext a
  apply Fin.ext
  have h := map1 m (grid0.coords t)
  have hv := expertOf_val m hO he t
  match a with
  | ⟨0, _⟩ => show cc0_transform_1 k0_off1_inb numel1_S1 (tbl m) (grid0.coords t) 0 * 1 + 1 * 0 = 1; rw [h]; rfl
  | ⟨1, _⟩ => show cc0_transform_1 k0_off1_inb numel1_S1 (tbl m) (grid0.coords t) 1 * 1 + 1 * 0 = (expertOf (expertAt m hO t)).val; rw [h, hv]; show (expertAt m hO t).toNat * 1 + 1 * 0 = _; omega
  | ⟨2, _⟩ => show cc0_transform_1 k0_off1_inb numel1_S1 (tbl m) (grid0.coords t) 2 * 1024 + 1 * x.val = x.val; rw [h]; show 0 * 1024 + 1 * x.val = _; omega
  | ⟨3, _⟩ => show cc0_transform_1 k0_off1_inb numel1_S1 (tbl m) (grid0.coords t) 3 * 2048 + 1 * y.val = y.val; rw [h]; show 0 * 2048 + 1 * y.val = _; omega

/-- A block's first bias: its expert's. -/
theorem blk2 (t : Fin (cfgM m hO).N) (y : Fin 2048) :
    iblk m hO c 2 t (ix4 0 0 0 y) = V m c main_arg4 (ix4 1 (expertOf (expertAt m hO t)) 0 y) := by
  show V m c main_arg4 ((((cfgM m hO).win 2).rect t).emb (ix4 0 0 0 y)) = _
  congr 1
  funext a
  apply Fin.ext
  have h := map2 m (grid0.coords t)
  have hv := expertOf_val m hO he t
  match a with
  | ⟨0, _⟩ => show cc0_transform_2 k0_off1_inb numel1_S1 (tbl m) (grid0.coords t) 0 * 1 + 1 * 0 = 1; rw [h]; rfl
  | ⟨1, _⟩ => show cc0_transform_2 k0_off1_inb numel1_S1 (tbl m) (grid0.coords t) 1 * 1 + 1 * 0 = (expertOf (expertAt m hO t)).val; rw [h, hv]; show (expertAt m hO t).toNat * 1 + 1 * 0 = _; omega
  | ⟨2, _⟩ => show cc0_transform_2 k0_off1_inb numel1_S1 (tbl m) (grid0.coords t) 2 * 1 + 1 * 0 = 0; rw [h]; show 0 * 1 + 1 * 0 = _; omega
  | ⟨3, _⟩ => show cc0_transform_2 k0_off1_inb numel1_S1 (tbl m) (grid0.coords t) 3 * 2048 + 1 * y.val = y.val; rw [h]; show 0 * 2048 + 1 * y.val = _; omega

/-- A block's second matrix: its expert's. -/
theorem blk3 (t : Fin (cfgM m hO).N) (x : Fin 1024) (y : Fin 1024) :
    iblk m hO c 3 t (ix4 0 0 x y) = V m c main_arg5 (ix4 1 (expertOf (expertAt m hO t)) x y) := by
  show V m c main_arg5 ((((cfgM m hO).win 3).rect t).emb (ix4 0 0 x y)) = _
  congr 1
  funext a
  apply Fin.ext
  have h := map3 m (grid0.coords t)
  have hv := expertOf_val m hO he t
  match a with
  | ⟨0, _⟩ => show cc0_transform_3 k0_off1_inb numel1_S1 (tbl m) (grid0.coords t) 0 * 1 + 1 * 0 = 1; rw [h]; rfl
  | ⟨1, _⟩ => show cc0_transform_3 k0_off1_inb numel1_S1 (tbl m) (grid0.coords t) 1 * 1 + 1 * 0 = (expertOf (expertAt m hO t)).val; rw [h, hv]; show (expertAt m hO t).toNat * 1 + 1 * 0 = _; omega
  | ⟨2, _⟩ => show cc0_transform_3 k0_off1_inb numel1_S1 (tbl m) (grid0.coords t) 2 * 1024 + 1 * x.val = x.val; rw [h]; show 0 * 1024 + 1 * x.val = _; omega
  | ⟨3, _⟩ => show cc0_transform_3 k0_off1_inb numel1_S1 (tbl m) (grid0.coords t) 3 * 1024 + 1 * y.val = y.val; rw [h]; show 0 * 1024 + 1 * y.val = _; omega

/-- A block's second bias: its expert's. -/
theorem blk4 (t : Fin (cfgM m hO).N) (y : Fin 1024) :
    iblk m hO c 4 t (ix4 0 0 0 y) = V m c main_arg6 (ix4 1 (expertOf (expertAt m hO t)) 0 y) := by
  show V m c main_arg6 ((((cfgM m hO).win 4).rect t).emb (ix4 0 0 0 y)) = _
  congr 1
  funext a
  apply Fin.ext
  have h := map4 m (grid0.coords t)
  have hv := expertOf_val m hO he t
  match a with
  | ⟨0, _⟩ => show cc0_transform_4 k0_off1_inb numel1_S1 (tbl m) (grid0.coords t) 0 * 1 + 1 * 0 = 1; rw [h]; rfl
  | ⟨1, _⟩ => show cc0_transform_4 k0_off1_inb numel1_S1 (tbl m) (grid0.coords t) 1 * 1 + 1 * 0 = (expertOf (expertAt m hO t)).val; rw [h, hv]; show (expertAt m hO t).toNat * 1 + 1 * 0 = _; omega
  | ⟨2, _⟩ => show cc0_transform_4 k0_off1_inb numel1_S1 (tbl m) (grid0.coords t) 2 * 1 + 1 * 0 = 0; rw [h]; show 0 * 1 + 1 * 0 = _; omega
  | ⟨3, _⟩ => show cc0_transform_4 k0_off1_inb numel1_S1 (tbl m) (grid0.coords t) 3 * 1024 + 1 * y.val = y.val; rw [h]; show 0 * 1024 + 1 * y.val = _; omega

/-- A block that fetches leaves the weights of its expert in the scratch buffers. -/
theorem fetched_eq (t : Fin (cfgM m hO).N) (h : fetches c (grid0.coords t) (tbl m 0)) :
    (∀ d f, (kept m hO c t.val t.isLt).1 (ix2 d f) = V m c main_arg3 (ix4 1 (expertOf (expertAt m hO t)) d f))
      ∧ ∀ f j, (kept m hO c t.val t.isLt).2 (ix2 f j) = V m c main_arg5 (ix4 1 (expertOf (expertAt m hO t)) f j) := by
  rw [kept_fetch m hO c t h]
  exact ⟨fun d f => (pay1_at (iblk m hO c 1 t) d f).trans (blk1 m hO c he t d f),
    fun f j => (pay2_at (iblk m hO c 3 t) f j).trans (blk3 m hO c he t f j)⟩

/-- The expert of a block that does not fetch is that of the block before. -/
theorem same_expert (n : ℕ) (hn : n + 1 < (cfgM m hO).N) (h : ¬fetches c (grid0.coords ⟨n + 1, hn⟩) (tbl m 0)) :
    expertAt m hO ⟨n + 1, hn⟩ = expertAt m hO ⟨n, Nat.lt_of_succ_lt hn⟩ := by
  have hx : tbl m 0 (here (grid0.coords ⟨n + 1, hn⟩)) = tbl m 0 (prev (grid0.coords ⟨n + 1, hn⟩)) := by
    by_contra hne
    exact h ((fetches_iff c _ _).mpr (.inr hne))
  refine Eq.trans hx (congrArg (tbl m 0) (funext fun (a : Fin 1) => Fin.ext ?_))
  obtain rfl : a = 0 := Subsingleton.elim _ _
  show ((grid0.coords ⟨n + 1, hn⟩) 0).val - 1 = ((grid0.coords ⟨n, Nat.lt_of_succ_lt hn⟩) 0).val
  rw [coords_zero, coords_zero]
  rfl

/-- The scratch buffers hold, after every block, the weights of the block's expert. -/
theorem kept_eq : ∀ (n : ℕ) (hn : n < (cfgM m hO).N),
    (∀ d f, (kept m hO c n hn).1 (ix2 d f) = V m c main_arg3 (ix4 1 (expertOf (expertAt m hO ⟨n, hn⟩)) d f))
      ∧ ∀ f j, (kept m hO c n hn).2 (ix2 f j) = V m c main_arg5 (ix4 1 (expertOf (expertAt m hO ⟨n, hn⟩)) f j) := by
  intro n
  induction n with
  | zero => exact fun hn => fetched_eq m hO c he ⟨0, hn⟩ ((fetches_iff c _ _).mpr (.inl (coords_zero ⟨0, hn⟩)))
  | succ n ih =>
    intro hn
    by_cases h : fetches c (grid0.coords ⟨n + 1, hn⟩) (tbl m 0)
    · exact fetched_eq m hO c he ⟨n + 1, hn⟩ h
    · have hk : kept m hO c (n + 1) hn = kept m hO c n (Nat.lt_of_succ_lt hn) := (kept_keep m hO c ⟨n + 1, hn⟩ h).2
      rw [hk, same_expert m hO c he n hn h]
      exact ih (Nat.lt_of_succ_lt hn)

variable (hM : Marked m)
include hM

/-- What a block leaves in the result's staging buffer. -/
theorem stored_at (t : Fin (cfgM m hO).N) (r : Fin 256) (j : Fin 1024) :
    stored m hO c t (ix2 r j)
      = expertsOut 1 (tbl m 0) (tbl m 1) (V m c main_arg2) (V m c main_arg3) (V m c main_arg4) (V m c main_arg5) (V m c main_arg6)
          ⟨t.val, lt288 m hO t⟩ r j := by
  have hh := here_eq m hO t
  unfold expertsOut
  by_cases h : unused c (grid0.coords t) (tbl m 1)
  · refine (congrFun (by unfold stored; rw [if_pos h] : stored m hO c t = k0_pay3 (F := Ideal)) (ix2 r j)).trans ((pay3_at r j).trans (if_neg ?_).symm)
    rw [← hh, (unused_iff c _ _).mp h]
    exact mark_ne
  · have h1 : tbl m 1 (here (grid0.coords t)) = (1#32 : BitVec 32) := (hM (grid0.coords t)).resolve_left fun h0 => h ((unused_iff c _ _).mpr h0)
    obtain ⟨k1, k2⟩ := kept_eq m hO c he t.val t.isLt
    have hx : expertAt m hO t = tbl m 0 (ix1 ⟨t.val, lt288 m hO t⟩) := congrArg (tbl m 0) hh
    rw [if_pos (by rw [← hh]; exact h1), ← hx]
    refine (congrFun (if_neg h) (ix2 r j)).trans ((pay4_at (iblk m hO c 0 t) (kept m hO c t.val t.isLt).1 (iblk m hO c 2 t)
      (kept m hO c t.val t.isLt).2 (iblk m hO c 4 t) r j).trans ?_)
    exact expertRow_congr (fun d => blk0 m hO c t r d) k1 (fun f => blk2 m hO c he t f) k2 (fun j => blk4 m hO c he t j) j

/-- What a block writes back is its block of the layer's result. -/
theorem block_eq (t : Fin (cfgM m hO).N) (x : S256x1024.Idx) :
    stored m hO c t x
      = expertsArr 1 (tbl m 0) (tbl m 1) (V m c main_arg2) (V m c main_arg3) (V m c main_arg4) (V m c main_arg5) (V m c main_arg6)
          ((((cfgM m hO).win 5).rect t).emb x) := by
  obtain ⟨r, j, rfl⟩ : ∃ (r : Fin 256) (j : Fin 1024), x = ix2 r j := ⟨x 0, x 1, by funext a; fin_cases a <;> rfl⟩
  have ht := lt288 m hO t
  have hx : ((((cfgM m hO).win 5).rect t).emb (ix2 r j) : S73728x1024.Idx) = ix2 ⟨t.val * 256 + r.val, by omega⟩ j := by
    funext a
    apply Fin.ext
    have h := map5 m hO t
    match a with
    | ⟨0, _⟩ => show cc0_transform_5 (grid0.coords t) 0 * 256 + 1 * r.val = t.val * 256 + r.val; rw [h]; show t.val * 256 + 1 * r.val = _; omega
    | ⟨1, _⟩ => show cc0_transform_5 (grid0.coords t) 1 * 1024 + 1 * j.val = j.val; rw [h]; show 0 * 1024 + 1 * j.val = _; omega
  rw [hx, stored_at m hO c he hM]
  show _ = expertsOut _ _ _ _ _ _ _ _ ⟨(t.val * 256 + r.val) / 256, _⟩ ⟨(t.val * 256 + r.val) % 256, _⟩ j
  have h1 : (⟨(t.val * 256 + r.val) / 256, by omega⟩ : Fin 288) = ⟨t.val, ht⟩ := Fin.ext (by dsimp only; omega)
  have h2 : (⟨(t.val * 256 + r.val) % 256, by omega⟩ : Fin 256) = r := Fin.ext (by dsimp only; omega)
  rw [h1, h2]

theorem flushed_eq (t : Fin (cfgM m hO).N) :
    (dats m hO 0 c).flushed 5 t = (((cfgM m hO).win 5).blk t).view.read (Elt Ideal)
      (expertsArr 1 (tbl m 0) (tbl m 1) (V m c main_arg2) (V m c main_arg3) (V m c main_arg4) (V m c main_arg5) (V m c main_arg6)) := by
  show ((cfgM m hO).win 5).cut (grid0.coords t) ((dats m hO 0 c).after 5 t) = _
  rw [after0_5]
  exact funext (block_eq m hO c he hM t)

omit he hM in
/-- The blocks cover the result array. -/
theorem cover (i : S73728x1024.Idx) :
    ∃ t : Fin (cfgM m hO).N, ((cfgM m hO).win 5).flush t = true ∧ i ∈ (((cfgM m hO).win 5).blk t).view.set := by
  have i0 : (i 0 : Nat) < 73728 := (i 0).isLt
  have i1 : (i 1 : Nat) < 1024 := (i 1).isLt
  have hN : (cfgM m hO).N = 288 := by show grid0.N = 288; decide +kernel
  obtain ⟨t, ht⟩ : ∃ t : Fin (cfgM m hO).N, t.val = (i 0).val / 256 := ⟨⟨_, by omega⟩, rfl⟩
  refine ⟨t, flush0_5 _ _, ?_⟩
  have h := map5 m hO t
  show i ∈ ((View.whole main_v0).slice (((cfgM m hO).win 5).rect t)).set
  refine (congrArg (i ∈ ·) (View.set_slice_whole main_v0 (((cfgM m hO).win 5).rect t))).mpr (Rect.mem_set_unit.mpr ?_)
  intro a
  match a with
  | ⟨0, _⟩ => show cc0_transform_5 (grid0.coords t) 0 * 256 ≤ (i 0 : Nat) ∧ (i 0 : Nat) < cc0_transform_5 (grid0.coords t) 0 * 256 + 256; rw [h]; show t.val * 256 ≤ (i 0 : Nat) ∧ (i 0 : Nat) < t.val * 256 + 256; omega
  | ⟨1, _⟩ => show cc0_transform_5 (grid0.coords t) 1 * 1024 ≤ (i 1 : Nat) ∧ (i 1 : Nat) < cc0_transform_5 (grid0.coords t) 1 * 1024 + 1024; rw [h]; show 0 * 1024 ≤ (i 1 : Nat) ∧ (i 1 : Nat) < 0 * 1024 + 1024; omega

/-- The result array ends holding the layer of experts over the rows. -/
theorem final : (dats m hO 0 c).arrAt 5 (cfgM m hO).N
    = expertsArr 1 (tbl m 0) (tbl m 1) (V m c main_arg2) (V m c main_arg3) (V m c main_arg4) (V m c main_arg5) (V m c main_arg6) :=
  (dats m hO 0 c).arrAt_eq_of_cover 5 _ (fun t _ => flushed_eq m hO c he hM t) (cover m hO)

omit he hM in
/-- From tables naming experts and marking blocks 0 or 1 the program ends with the layer of experts in its result array, the
    arguments as launched. -/
theorem run (ρ : Dev nD → PrngReg) (he : ∀ i : S288.Idx, (tbl m 0 i : BitVec 32).toNat < 32) (hM : Marked m) :
    θ_run defs (onTc (τ := τ) (main (F := Ideal))) ⟨m, fun _ => 0, ρ⟩ fun r => ∀ c : Dev nD,
      r.2.mem ((c.tc : Thread nD τ).loc main_v0)
        = expertsArr 1 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have hO := ok_of m he
  have hv : θ_run defs (onTc (τ := τ) (main (F := Ideal))) ⟨m, fun _ => 0, ρ⟩ fun r => ∀ c : Dev nD,
      r.2.mem ((c.tc : Thread nD τ).loc main_v0)
        = expertsArr 1 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
    (θ_run defs _ _).mono (fun r h c => by
      obtain rfl : c = 0 := Subsingleton.elim _ _
      exact ((h 0).1 5).trans (final m hO 0 he hM)) (run_main m ρ hO hM)
  exact (θ_run defs _ _).mono (fun r h c => ⟨h.1 c, h.2 c⟩) (θ_run_and hv (unchanged m ρ hO hM))

end Cert.Kernel3Ideal.Experts

end
-- ==== Proof.Ffn.RefValue1.lean ====
/- The reference's result: the layer of experts over the rows. -/
module

public import proofs.«01_k».proof.Proof.Ffn.Layer
public import proofs.«01_k».proof.Proof.Gen.Reference3Ideal.Run
public import proofs.«01_k».proof.Proof.Gen.Reference3Ideal.Read
public import Idealize.ShloMosaic.Lib.Pointwise.IndexVar
public import Idealize.ShloMosaic.Lib.Tactic.CleanTypes

@[expose] public section

set_option maxRecDepth 16384

noncomputable section

namespace Cert.Ffn.RefValue1

open Idealize.ShloMosaic Idealize.ShloMosaic.TcCoe Idealize.ShloMosaic.Tactic Idealize.SL.Sem Cert.Reference3Ideal Cert.Reference3Ideal.Read
open Cert.Reference3Ideal.Facts
open Cert.Ffn

variable (x0 x1 : Vec Ideal S288 .i32) (x2 : Vec Ideal S73728x1024 .f32) (x3 : Vec Ideal S2x32x1024x2048 .f32)
  (x4 : Vec Ideal S2x32x1x2048 .f32) (x5 : Vec Ideal S2x32x1024x1024 .f32) (x6 : Vec Ideal S2x32x1x1024 .f32)

/-- An expert's number is not negative, so the wrap of negative indices leaves it. -/
theorem unwrapped (w : BitVec 32) (h : w.toNat < 32) :
    Scalar.select (IntOp.cmpi .slt w 0#32) (IntOp.addi w 32#32) w = w := by
  have hc : IntOp.cmpi .slt w 0#32 = 0#1 := by
    have : w.slt 0#32 = false := by
      simp [BitVec.slt, BitVec.toInt_eq_toNat_cond]
      omega
    simp [IntOp.cmpi, this]
  rw [hc]
  rfl

/-- An expert's number is below 32, so the clamp of a gather's start leaves it. -/
theorem unclamped (w : BitVec 32) (h : w.toNat < 32) : min w.toInt.toNat 31 = (expertOf w).val := by
  have hi : w.toInt = (w.toNat : ℤ) := by rw [BitVec.toInt_eq_toNat_cond, if_pos (by omega)]
  show _ = w.toNat % 32
  rw [hi, Nat.mod_eq_of_lt h]
  omega

/-- The expert a block's gather of argument 3 reads. -/
theorem v8_at (he : ∀ i, (x0 i).toNat < 32) (n : Fin 288) : val_main_v8 (F := Ideal) x0 (ix2 n 0) = x0 (ix1 n) := by
  refine Eq.trans ?_ (unwrapped (x0 (ix1 n)) (he _))
  unfold val_main_v8 val_main_v7 val_main_v4 val_main_v3 val_main_v6 val_main_v5 val_main_c val_main_c_0
  clean_types
  pointwise

/-- The layer's part of argument 3. -/
theorem v2_at (e : Fin 32) (x : Fin 1024) (y : Fin 2048) : val_main_v2 (F := Ideal) x3 (ix3 e x y) = x3 (ix4 1 e x y) := by
  unfold val_main_v2 val_main_v1
  clean_types
  pointwise

/-- The gather of argument 3: the block's expert's part. -/
theorem v9_at (he : ∀ i, (x0 i).toNat < 32) (n : Fin 288) (x : Fin 1024) (y : Fin 2048) :
    val_main_v9 (F := Ideal) x0 x3 (ix3 n x y) = x3 (ix4 1 (expertOf (x0 (ix1 n))) x y) := by
  rw [← v2_at x3 (expertOf (x0 (ix1 n))) x y]
  unfold val_main_v9
  have hi := v8_at x0 he n
  have hw := he (ix1 n)
  revert hi hw
  generalize val_main_v8 (F := Ideal) x0 = idx
  generalize val_main_v2 (F := Ideal) x3 = z
  generalize x0 (ix1 n) = w
  intro hi hw
  unfold Host.gather
  congr 1
  funext a
  refine Fin.ext ?_
  show GatherDims.start _ (ix3 n x y) idx a + GatherDims.batchCoord _ (ix3 n x y) a + GatherDims.offCoord _ (ix3 n x y) a = _
  have h01 : a = 0 ∨ a = 1 ∨ a = 2 := by revert a; decide
  rcases h01 with rfl | rfl | rfl
  · rw [GatherDims.batchCoord_eq_zero _ _ _ (by exact fun h => by simp [gather_S32x1024x2048_S288x1_S288x1024x2048_12_0_n_n_0_1_110242048] at h),
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S32x1024x2048_S288x1_S288x1024x2048_12_0_n_n_0_1_110242048.startIndexMap from List.mem_singleton.mpr rfl)]
    have hsi : GatherDims.siIdx gather_S32x1024x2048_S288x1_S288x1024x2048_12_0_n_n_0_1_110242048 (ix3 n x y)
        ⟨List.idxOf (0 : Fin 3) gather_S32x1024x2048_S288x1_S288x1024x2048_12_0_n_n_0_1_110242048.startIndexMap,
          List.idxOf_lt_length_iff.2 (List.mem_singleton.mpr rfl)⟩ = ix2 n 0 := by
      funext b; refine Fin.ext ?_
      match b with
      | ⟨0, _⟩ => rfl
      | ⟨1, _⟩ => rfl
    refine Eq.trans ?_ (unclamped w hw)
    rw [← hi]
    show min (idx _).toInt.toNat 31 = _
    exact congrArg (fun i => min (idx i).toInt.toNat 31) hsi
  · rw [GatherDims.batchCoord_eq_zero _ _ _ (by exact fun h => by simp [gather_S32x1024x2048_S288x1_S288x1024x2048_12_0_n_n_0_1_110242048] at h)]
    have hs : GatherDims.start gather_S32x1024x2048_S288x1_S288x1024x2048_12_0_n_n_0_1_110242048 (ix3 n x y) idx 1 = 0 := by
      unfold GatherDims.start
      rw [dif_neg (by decide)]
    rw [hs]
    simp only [Nat.zero_add]
    rfl
  · rw [GatherDims.batchCoord_eq_zero _ _ _ (by exact fun h => by simp [gather_S32x1024x2048_S288x1_S288x1024x2048_12_0_n_n_0_1_110242048] at h)]
    have hs : GatherDims.start gather_S32x1024x2048_S288x1_S288x1024x2048_12_0_n_n_0_1_110242048 (ix3 n x y) idx 2 = 0 := by
      unfold GatherDims.start
      rw [dif_neg (by decide)]
    rw [hs]
    simp only [Nat.zero_add]
    rfl

/-- The expert a block's gather of argument 4 reads. -/
theorem v18_at (he : ∀ i, (x0 i).toNat < 32) (n : Fin 288) : val_main_v18 (F := Ideal) x0 (ix2 n 0) = x0 (ix1 n) := by
  refine Eq.trans ?_ (unwrapped (x0 (ix1 n)) (he _))
  unfold val_main_v18 val_main_v17 val_main_v14 val_main_v13 val_main_v16 val_main_v15 val_main_c_1 val_main_c_2
  clean_types
  pointwise

/-- The layer's part of argument 4. -/
theorem v12_at (e : Fin 32) (y : Fin 2048) : val_main_v12 (F := Ideal) x4 (ix3 e 0 y) = x4 (ix4 1 e 0 y) := by
  unfold val_main_v12 val_main_v11
  clean_types
  pointwise

/-- The gather of argument 4: the block's expert's part. -/
theorem v19_at (he : ∀ i, (x0 i).toNat < 32) (n : Fin 288) (y : Fin 2048) :
    val_main_v19 (F := Ideal) x0 x4 (ix3 n 0 y) = x4 (ix4 1 (expertOf (x0 (ix1 n))) 0 y) := by
  rw [← v12_at x4 (expertOf (x0 (ix1 n))) y]
  unfold val_main_v19
  have hi := v18_at x0 he n
  have hw := he (ix1 n)
  revert hi hw
  generalize val_main_v18 (F := Ideal) x0 = idx
  generalize val_main_v12 (F := Ideal) x4 = z
  generalize x0 (ix1 n) = w
  intro hi hw
  unfold Host.gather
  congr 1
  funext a
  refine Fin.ext ?_
  show GatherDims.start _ (ix3 n 0 y) idx a + GatherDims.batchCoord _ (ix3 n 0 y) a + GatherDims.offCoord _ (ix3 n 0 y) a = _
  have h01 : a = 0 ∨ a = 1 ∨ a = 2 := by revert a; decide
  rcases h01 with rfl | rfl | rfl
  · rw [GatherDims.batchCoord_eq_zero _ _ _ (by exact fun h => by simp [gather_S32x1x2048_S288x1_S288x1x2048_12_0_n_n_0_1_112048] at h),
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S32x1x2048_S288x1_S288x1x2048_12_0_n_n_0_1_112048.startIndexMap from List.mem_singleton.mpr rfl)]
    have hsi : GatherDims.siIdx gather_S32x1x2048_S288x1_S288x1x2048_12_0_n_n_0_1_112048 (ix3 n 0 y)
        ⟨List.idxOf (0 : Fin 3) gather_S32x1x2048_S288x1_S288x1x2048_12_0_n_n_0_1_112048.startIndexMap,
          List.idxOf_lt_length_iff.2 (List.mem_singleton.mpr rfl)⟩ = ix2 n 0 := by
      funext b; refine Fin.ext ?_
      match b with
      | ⟨0, _⟩ => rfl
      | ⟨1, _⟩ => rfl
    refine Eq.trans ?_ (unclamped w hw)
    rw [← hi]
    show min (idx _).toInt.toNat 31 = _
    exact congrArg (fun i => min (idx i).toInt.toNat 31) hsi
  · rw [GatherDims.batchCoord_eq_zero _ _ _ (by exact fun h => by simp [gather_S32x1x2048_S288x1_S288x1x2048_12_0_n_n_0_1_112048] at h)]
    have hs : GatherDims.start gather_S32x1x2048_S288x1_S288x1x2048_12_0_n_n_0_1_112048 (ix3 n 0 y) idx 1 = 0 := by
      unfold GatherDims.start
      rw [dif_neg (by decide)]
    rw [hs]
    simp only [Nat.zero_add]
    rfl
  · rw [GatherDims.batchCoord_eq_zero _ _ _ (by exact fun h => by simp [gather_S32x1x2048_S288x1_S288x1x2048_12_0_n_n_0_1_112048] at h)]
    have hs : GatherDims.start gather_S32x1x2048_S288x1_S288x1x2048_12_0_n_n_0_1_112048 (ix3 n 0 y) idx 2 = 0 := by
      unfold GatherDims.start
      rw [dif_neg (by decide)]
    rw [hs]
    simp only [Nat.zero_add]
    rfl

/-- The expert a block's gather of argument 5 reads. -/
theorem v46_at (he : ∀ i, (x0 i).toNat < 32) (n : Fin 288) : val_main_v46 (F := Ideal) x0 (ix2 n 0) = x0 (ix1 n) := by
  refine Eq.trans ?_ (unwrapped (x0 (ix1 n)) (he _))
  unfold val_main_v46 val_main_v45 val_main_v42 val_main_v41 val_main_v44 val_main_v43 val_main_c_9 val_main_c_10
  clean_types
  pointwise

/-- The layer's part of argument 5. -/
theorem v40_at (e : Fin 32) (x : Fin 1024) (y : Fin 1024) : val_main_v40 (F := Ideal) x5 (ix3 e x y) = x5 (ix4 1 e x y) := by
  unfold val_main_v40 val_main_v39
  clean_types
  pointwise

/-- The gather of argument 5: the block's expert's part. -/
theorem v47_at (he : ∀ i, (x0 i).toNat < 32) (n : Fin 288) (x : Fin 1024) (y : Fin 1024) :
    val_main_v47 (F := Ideal) x0 x5 (ix3 n x y) = x5 (ix4 1 (expertOf (x0 (ix1 n))) x y) := by
  rw [← v40_at x5 (expertOf (x0 (ix1 n))) x y]
  unfold val_main_v47
  have hi := v46_at x0 he n
  have hw := he (ix1 n)
  revert hi hw
  generalize val_main_v46 (F := Ideal) x0 = idx
  generalize val_main_v40 (F := Ideal) x5 = z
  generalize x0 (ix1 n) = w
  intro hi hw
  unfold Host.gather
  congr 1
  funext a
  refine Fin.ext ?_
  show GatherDims.start _ (ix3 n x y) idx a + GatherDims.batchCoord _ (ix3 n x y) a + GatherDims.offCoord _ (ix3 n x y) a = _
  have h01 : a = 0 ∨ a = 1 ∨ a = 2 := by revert a; decide
  rcases h01 with rfl | rfl | rfl
  · rw [GatherDims.batchCoord_eq_zero _ _ _ (by exact fun h => by simp [gather_S32x1024x1024_S288x1_S288x1024x1024_12_0_n_n_0_1_110241024] at h),
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S32x1024x1024_S288x1_S288x1024x1024_12_0_n_n_0_1_110241024.startIndexMap from List.mem_singleton.mpr rfl)]
    have hsi : GatherDims.siIdx gather_S32x1024x1024_S288x1_S288x1024x1024_12_0_n_n_0_1_110241024 (ix3 n x y)
        ⟨List.idxOf (0 : Fin 3) gather_S32x1024x1024_S288x1_S288x1024x1024_12_0_n_n_0_1_110241024.startIndexMap,
          List.idxOf_lt_length_iff.2 (List.mem_singleton.mpr rfl)⟩ = ix2 n 0 := by
      funext b; refine Fin.ext ?_
      match b with
      | ⟨0, _⟩ => rfl
      | ⟨1, _⟩ => rfl
    refine Eq.trans ?_ (unclamped w hw)
    rw [← hi]
    show min (idx _).toInt.toNat 31 = _
    exact congrArg (fun i => min (idx i).toInt.toNat 31) hsi
  · rw [GatherDims.batchCoord_eq_zero _ _ _ (by exact fun h => by simp [gather_S32x1024x1024_S288x1_S288x1024x1024_12_0_n_n_0_1_110241024] at h)]
    have hs : GatherDims.start gather_S32x1024x1024_S288x1_S288x1024x1024_12_0_n_n_0_1_110241024 (ix3 n x y) idx 1 = 0 := by
      unfold GatherDims.start
      rw [dif_neg (by decide)]
    rw [hs]
    simp only [Nat.zero_add]
    rfl
  · rw [GatherDims.batchCoord_eq_zero _ _ _ (by exact fun h => by simp [gather_S32x1024x1024_S288x1_S288x1024x1024_12_0_n_n_0_1_110241024] at h)]
    have hs : GatherDims.start gather_S32x1024x1024_S288x1_S288x1024x1024_12_0_n_n_0_1_110241024 (ix3 n x y) idx 2 = 0 := by
      unfold GatherDims.start
      rw [dif_neg (by decide)]
    rw [hs]
    simp only [Nat.zero_add]
    rfl

/-- The expert a block's gather of argument 6 reads. -/
theorem v56_at (he : ∀ i, (x0 i).toNat < 32) (n : Fin 288) : val_main_v56 (F := Ideal) x0 (ix2 n 0) = x0 (ix1 n) := by
  refine Eq.trans ?_ (unwrapped (x0 (ix1 n)) (he _))
  unfold val_main_v56 val_main_v55 val_main_v52 val_main_v51 val_main_v54 val_main_v53 val_main_c_11 val_main_c_12
  clean_types
  pointwise

/-- The layer's part of argument 6. -/
theorem v50_at (e : Fin 32) (y : Fin 1024) : val_main_v50 (F := Ideal) x6 (ix3 e 0 y) = x6 (ix4 1 e 0 y) := by
  unfold val_main_v50 val_main_v49
  clean_types
  pointwise

/-- The gather of argument 6: the block's expert's part. -/
theorem v57_at (he : ∀ i, (x0 i).toNat < 32) (n : Fin 288) (y : Fin 1024) :
    val_main_v57 (F := Ideal) x0 x6 (ix3 n 0 y) = x6 (ix4 1 (expertOf (x0 (ix1 n))) 0 y) := by
  rw [← v50_at x6 (expertOf (x0 (ix1 n))) y]
  unfold val_main_v57
  have hi := v56_at x0 he n
  have hw := he (ix1 n)
  revert hi hw
  generalize val_main_v56 (F := Ideal) x0 = idx
  generalize val_main_v50 (F := Ideal) x6 = z
  generalize x0 (ix1 n) = w
  intro hi hw
  unfold Host.gather
  congr 1
  funext a
  refine Fin.ext ?_
  show GatherDims.start _ (ix3 n 0 y) idx a + GatherDims.batchCoord _ (ix3 n 0 y) a + GatherDims.offCoord _ (ix3 n 0 y) a = _
  have h01 : a = 0 ∨ a = 1 ∨ a = 2 := by revert a; decide
  rcases h01 with rfl | rfl | rfl
  · rw [GatherDims.batchCoord_eq_zero _ _ _ (by exact fun h => by simp [gather_S32x1x1024_S288x1_S288x1x1024_12_0_n_n_0_1_111024] at h),
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S32x1x1024_S288x1_S288x1x1024_12_0_n_n_0_1_111024.startIndexMap from List.mem_singleton.mpr rfl)]
    have hsi : GatherDims.siIdx gather_S32x1x1024_S288x1_S288x1x1024_12_0_n_n_0_1_111024 (ix3 n 0 y)
        ⟨List.idxOf (0 : Fin 3) gather_S32x1x1024_S288x1_S288x1x1024_12_0_n_n_0_1_111024.startIndexMap,
          List.idxOf_lt_length_iff.2 (List.mem_singleton.mpr rfl)⟩ = ix2 n 0 := by
      funext b; refine Fin.ext ?_
      match b with
      | ⟨0, _⟩ => rfl
      | ⟨1, _⟩ => rfl
    refine Eq.trans ?_ (unclamped w hw)
    rw [← hi]
    show min (idx _).toInt.toNat 31 = _
    exact congrArg (fun i => min (idx i).toInt.toNat 31) hsi
  · rw [GatherDims.batchCoord_eq_zero _ _ _ (by exact fun h => by simp [gather_S32x1x1024_S288x1_S288x1x1024_12_0_n_n_0_1_111024] at h)]
    have hs : GatherDims.start gather_S32x1x1024_S288x1_S288x1x1024_12_0_n_n_0_1_111024 (ix3 n 0 y) idx 1 = 0 := by
      unfold GatherDims.start
      rw [dif_neg (by decide)]
    rw [hs]
    simp only [Nat.zero_add]
    rfl
  · rw [GatherDims.batchCoord_eq_zero _ _ _ (by exact fun h => by simp [gather_S32x1x1024_S288x1_S288x1x1024_12_0_n_n_0_1_111024] at h)]
    have hs : GatherDims.start gather_S32x1x1024_S288x1_S288x1x1024_12_0_n_n_0_1_111024 (ix3 n 0 y) idx 2 = 0 := by
      unfold GatherDims.start
      rw [dif_neg (by decide)]
    rw [hs]
    simp only [Nat.zero_add]
    rfl

/-- The rows by block. -/
theorem v0_at (n : Fin 288) (r : Fin 256) (d : Fin 1024) :
    val_main_v0 (F := Ideal) x2 (ix3 n r d) = x2 (ix2 ⟨n.val * 256 + r.val, by omega⟩ d) := by
  rw [val_main_v0_apply]
  congr 1
  funext a
  fin_cases a <;> apply Fin.ext <;> simp [ix2, ix3] <;> omega

variable (he : ∀ i, (x0 i).toNat < 32)
include he

/-- The first matrix and bias of a block's expert on a row. -/
theorem v21_at (n : Fin 288) (r : Fin 256) (f : Fin 2048) :
    val_main_v21 (F := Ideal) x0 x2 x3 x4 (ix3 n r f)
      = hiddenRow (fun d => x2 (ix2 ⟨n.val * 256 + r.val, by omega⟩ d)) (fun d f => x3 (ix4 1 (expertOf (x0 (ix1 n))) d f))
          (fun f => x4 (ix4 1 (expertOf (x0 (ix1 n))) 0 f)) f := by
  have h10 : val_main_v10 (F := Ideal) x0 x2 x3 (ix3 n r f)
      = ∑ d : Fin 1024, x2 (ix2 ⟨n.val * 256 + r.val, by omega⟩ d) * x3 (ix4 1 (expertOf (x0 (ix1 n))) d f) := by
    rw [val_main_v10_apply]
    refine Finset.sum_congr rfl fun d _ => ?_
    have el : lidx_main_v10 (ix3 n r f) d = ix3 n r d := funext fun a => by fin_cases a <;> rfl
    have er : ridx_main_v10 (ix3 n r f) d = ix3 n d f := funext fun a => by fin_cases a <;> rfl
    rw [el, er, v0_at, v9_at x0 x3 he]
  have h20 : val_main_v20 (F := Ideal) x0 x4 (ix3 n r f) = x4 (ix4 1 (expertOf (x0 (ix1 n))) 0 f) := by
    rw [val_main_v20_apply]
    have e : idx_main_v20 (ix3 n r f) = ix3 n 0 f := funext fun a => by fin_cases a <;> rfl
    rw [e, v19_at x0 x4 he]
  rw [val_main_v21_apply, h10, h20]
  rfl

/-- The gated activation of a row. -/
theorem v38_at (n : Fin 288) (r : Fin 256) (f : Fin 1024) :
    val_main_v38 (F := Ideal) x0 x2 x3 x4 (ix3 n r f)
      = gated (val_main_v21 (F := Ideal) x0 x2 x3 x4 (ix3 n r ⟨f.val, by omega⟩))
          (val_main_v21 (F := Ideal) x0 x2 x3 x4 (ix3 n r ⟨1024 + f.val, by omega⟩)) := by
  unfold val_main_v38 val_main_v37 val_main_v36 val_main_cst_8 val_main_v35 val_main_v34 val_main_v33 val_main_cst_7 val_main_v32
    val_main_v31 val_main_cst_6 val_main_v30 val_main_v29 val_main_v28 val_main_v27 val_main_cst_5 val_main_v26 val_main_call0_v4
    val_main_call0_v3 val_main_cst_4 val_main_call0_v2 val_main_call0_v1 val_main_call0_v0 val_main_cst_3 val_main_v25
    val_main_v24 val_main_cst val_main_v23 val_main_v22
  generalize val_main_v21 (F := Ideal) x0 x2 x3 x4 = y
  clean_types
  pointwise
  unfold gated
  rfl

/-- The second matrix and bias: the expert's layer of a row. -/
theorem v59_at (n : Fin 288) (r : Fin 256) (j : Fin 1024) :
    val_main_v59 (F := Ideal) x0 x2 x3 x4 x5 x6 (ix3 n r j)
      = expertRow (fun d => x2 (ix2 ⟨n.val * 256 + r.val, by omega⟩ d)) (fun d f => x3 (ix4 1 (expertOf (x0 (ix1 n))) d f))
          (fun f => x4 (ix4 1 (expertOf (x0 (ix1 n))) 0 f)) (fun f j => x5 (ix4 1 (expertOf (x0 (ix1 n))) f j))
          (fun j => x6 (ix4 1 (expertOf (x0 (ix1 n))) 0 j)) j := by
  have h48 : val_main_v48 (F := Ideal) x0 x2 x3 x4 x5 (ix3 n r j)
      = ∑ f : Fin 1024, val_main_v38 (F := Ideal) x0 x2 x3 x4 (ix3 n r f) * x5 (ix4 1 (expertOf (x0 (ix1 n))) f j) := by
    rw [val_main_v48_apply]
    refine Finset.sum_congr rfl fun f _ => ?_
    have el : lidx_main_v48 (ix3 n r j) f = ix3 n r f := funext fun a => by fin_cases a <;> rfl
    have er : ridx_main_v48 (ix3 n r j) f = ix3 n f j := funext fun a => by fin_cases a <;> rfl
    rw [el, er, v47_at x0 x5 he]
  have h58 : val_main_v58 (F := Ideal) x0 x6 (ix3 n r j) = x6 (ix4 1 (expertOf (x0 (ix1 n))) 0 j) := by
    rw [val_main_v58_apply]
    have e : idx_main_v58 (ix3 n r j) = ix3 n 0 j := funext fun a => by fin_cases a <;> rfl
    rw [e, v57_at x0 x6 he]
  rw [val_main_v59_apply, h48, h58]
  simp only [v38_at x0 x2 x3 x4 he, v21_at x0 x2 x3 x4 he]
  rfl

/-- A block marked 1 keeps its rows; another is zero. -/
theorem v63_at (n : Fin 288) (r : Fin 256) (j : Fin 1024) :
    val_main_v63 (F := Ideal) x0 x1 x2 x3 x4 x5 x6 (ix3 n r j) = expertsOut 1 x0 x1 x2 x3 x4 x5 x6 n r j := by
  have h : val_main_v63 (F := Ideal) x0 x1 x2 x3 x4 x5 x6 (ix3 n r j)
      = Scalar.select (IntOp.cmpi .eq (x1 (ix1 n)) 1#32) (val_main_v59 (F := Ideal) x0 x2 x3 x4 x5 x6 (ix3 n r j)) (0 : EReal) := by
    unfold val_main_v63 val_main_call1_v2 val_main_call1_v1 val_main_call1_v0 val_main_cst_14 val_main_v62 val_main_v61 val_main_v60
      val_main_c_13
    generalize val_main_v59 (F := Ideal) x0 x2 x3 x4 x5 x6 = y
    clean_types
    pointwise
    exact congrArg (Scalar.select _ _) (Ideal.ofBits_zero .f32)
  rw [h, v59_at x0 x2 x3 x4 x5 x6 he]
  unfold expertsOut
  by_cases h1 : x1 (ix1 n) = 1#32
  · rw [if_pos h1, h1]
    rfl
  · rw [if_neg h1]
    have : IntOp.cmpi .eq (x1 (ix1 n)) 1#32 = 0#1 := by
      show BitVec.ofBool (x1 (ix1 n) == 1#32) = 0#1
      rw [beq_eq_false_iff_ne.mpr h1]
      rfl
    rw [this]
    rfl

/-- The reference's array is the layer of experts over the rows. -/
theorem v64_eq : val_main_v64 (F := Ideal) x0 x1 x2 x3 x4 x5 x6 = expertsArr 1 x0 x1 x2 x3 x4 x5 x6 := by
  funext i
  have i0 : (i 0 : Nat) < 73728 := (i 0).isLt
  have i1 : (i 1 : Nat) < 1024 := (i 1).isLt
  rw [val_main_v64_apply]
  have e : idx_main_v64 i = ix3 ⟨(i 0).val / 256, by omega⟩ ⟨(i 0).val % 256, by omega⟩ (i 1) := by
    funext a
    fin_cases a <;> apply Fin.ext <;> simp [ix3] <;> omega
  exact (congrArg (val_main_v63 (F := Ideal) x0 x1 x2 x3 x4 x5 x6) e).trans (v63_at x0 x1 x2 x3 x4 x5 x6 he _ _ (i 1))

omit he in
/-- From tables naming experts the reference ends with the layer of experts in its result array, the arguments as launched. -/
theorem run (m : (ℓ : Loc nD τ sig) → Buf (Elt Ideal) ℓ) (ρ : Dev nD → PrngReg)
    (he : ∀ c : Dev nD, ∀ i : S288.Idx, (m ((c.tc : Thread nD τ).loc main_arg0) i : BitVec 32).toNat < 32) :
    θ_run defs (onTc (τ := τ) (main (F := Ideal))) ⟨m, fun _ => 0, ρ⟩ fun r => ∀ c : Dev nD,
      r.2.mem ((c.tc : Thread nD τ).loc main_v64)
        = expertsArr 1 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans ((val_main_v64_eq m c).trans (v64_eq _ _ _ _ _ _ _ (he c))), (h c).2⟩)
    (Cert.Reference3Ideal.Value.run m ρ)

end Cert.Ffn.RefValue1

end
-- ==== Proof.Qkv.Kernel.lean ====
/- The projection kernel's result arrays: the queries from the modulated rows, scaled, and the keys and values from the rows. -/
module

public import proofs.«01_k».proof.Proof.Gen.Kernel4Ideal.Frame
public import Idealize.ShloMosaic.Lib.Pipeline.Value
public import Idealize.ShloMosaic.Lib.Pointwise.IndexVar
public import Idealize.ShloMosaic.Lib.Tactic.CleanTypes

@[expose] public section

set_option maxRecDepth 16384

noncomputable section

namespace Cert.Qkv

open Idealize.ShloMosaic Idealize.ShloMosaic.TcCoe Idealize.ShloMosaic.Tactic Idealize.SL.Sem Cert.Kernel4Ideal Cert.Kernel4Ideal.Gen
open Cert.Kernel4Ideal.Facts

/-- The queries: each row modulated by its batch's scale and shift, through the weights, times 1/8. -/
def queries (x : Vec Ideal S8x2048x1024 .f32) (sh sc : Vec Ideal S8x1x1024 .f32) (w : Vec Ideal S1024x1024 .f32) :
    Vec Ideal S8x2048x1024 .bf16 := fun i =>
  (∑ k : Fin 1024, (x (ix3 (i 0) (i 1) k) * (1 + sc (ix3 (i 0) 0 k)) + sh (ix3 (i 0) 0 k)) * w (ix2 k (i 2)))
    * Ideal.ofBits .f32 0x3E000000#32

/-- The keys and values: each row through the weights. -/
def keysValues (x : Vec Ideal S8x2048x1024 .f32) (w : Vec Ideal S1024x2048 .f32) : Vec Ideal S8x2048x2048 .bf16 := fun i =>
  ∑ k : Fin 1024, x (ix3 (i 0) (i 1) k) * w (ix2 k (i 2))

/-- The body's queries at an entry of a block. -/
theorem pay2_at (x : Vec Ideal S1x512x1024 .f32) (sc sh : Vec Ideal S1x1x1024 .f32) (w : Vec Ideal S1024x1024 .bf16)
    (z : Fin 1) (r : Fin 512) (e : Fin 1024) :
    k0_pay2 (F := Ideal) x sc sh w (ix3 z r e)
      = (∑ k : Fin 1024, (x (ix3 0 r k) * (1 + sc (ix3 0 0 k)) + sh (ix3 0 0 k)) * w (ix2 k e)) * Ideal.ofBits .f32 0x3E000000#32 := by
  unfold_payloads
  pointwise

/-- The body's keys and values at an entry of a block. -/
theorem pay3_at (x : Vec Ideal S1x512x1024 .f32) (w : Vec Ideal S1024x2048 .bf16) (z : Fin 1) (r : Fin 512) (e : Fin 2048) :
    k0_pay3 (F := Ideal) x w (ix3 z r e) = ∑ k : Fin 1024, x (ix3 0 r k) * w (ix2 k e) := by
  unfold_payloads
  pointwise

theorem hz2 : (![0, 0] : Fin 2 → ℕ) = fun _ => 0 := by funext a; fin_cases a <;> rfl
theorem hz3 : (![0, 0, 0] : Fin 3 → ℕ) = fun _ => 0 := by funext a; fin_cases a <;> rfl

variable (m : (ℓ : Loc nD τ sig) → Buf (Elt Ideal) ℓ) (ρ : Dev nD → PrngReg) (c : Dev nD)

theorem idx0 : ∀ t : Fin cfg0.N, win0_0.index t 0 = t.val / 4 ∧ win0_0.index t 1 = t.val % 4 ∧ win0_0.index t 2 = 0 := by
  decide +kernel
theorem idx1 : ∀ t : Fin cfg0.N, win0_1.index t 0 = t.val / 4 ∧ win0_1.index t 1 = 0 ∧ win0_1.index t 2 = 0 := by
  decide +kernel
theorem idx2 : ∀ t : Fin cfg0.N, win0_2.index t 0 = t.val / 4 ∧ win0_2.index t 1 = 0 ∧ win0_2.index t 2 = 0 := by
  decide +kernel
theorem idx3 : ∀ t : Fin cfg0.N, win0_3.index t 0 = 0 ∧ win0_3.index t 1 = 0 := by
  decide +kernel
theorem idx4 : ∀ t : Fin cfg0.N, win0_4.index t 0 = 0 ∧ win0_4.index t 1 = 0 := by
  decide +kernel
theorem idx5 : ∀ t : Fin cfg0.N, win0_5.index t 0 = t.val / 4 ∧ win0_5.index t 1 = t.val % 4 ∧ win0_5.index t 2 = 0 := by
  decide +kernel
theorem idx6 : ∀ t : Fin cfg0.N, win0_6.index t 0 = t.val / 4 ∧ win0_6.index t 1 = t.val % 4 ∧ win0_6.index t 2 = 0 := by
  decide +kernel

theorem lt32 (t : Fin cfg0.N) : t.val < 32 := by have : cfg0.N = 32 := N_0; omega

/-- The batch of a point of the grid. -/
abbrev bat (t : Fin cfg0.N) : Fin 8 := ⟨t.val / 4, by have := lt32 t; omega⟩

/-- The row of the array at a row of a point's block. -/
abbrev row (t : Fin cfg0.N) (r : Fin 512) : Fin 2048 := ⟨512 * (t.val % 4) + r.val, by omega⟩

theorem blk0 (t : Fin cfg0.N) (r : Fin 512) (d : Fin 1024) :
    iblk m c 0 t (ix3 0 r d) = m ((c : Thread nD τ).loc main_arg0) (ix3 (bat t) (row t r) d) := by
  rw [← V_main_arg0 m c]
  show V m c main_arg0 ((win0_0.rect t).emb (ix3 0 r d)) = _
  congr 1
  funext a
  apply Fin.ext
  obtain ⟨h0, h1, h2⟩ := idx0 t
  match a with
  | ⟨0, _⟩ => show win0_0.index t 0 * 1 + 1 * 0 = t.val / 4; omega
  | ⟨1, _⟩ => show win0_0.index t 1 * 512 + 1 * r.val = 512 * (t.val % 4) + r.val; omega
  | ⟨2, _⟩ => show win0_0.index t 2 * 1024 + 1 * d.val = d.val; omega

theorem blk1 (t : Fin cfg0.N) (d : Fin 1024) :
    iblk m c 1 t (ix3 0 0 d) = m ((c : Thread nD τ).loc main_arg1) (ix3 (bat t) 0 d) := by
  rw [← V_main_arg1 m c]
  show V m c main_arg1 ((win0_1.rect t).emb (ix3 0 0 d)) = _
  congr 1
  funext a
  apply Fin.ext
  obtain ⟨h0, h1, h2⟩ := idx1 t
  match a with
  | ⟨0, _⟩ => show win0_1.index t 0 * 1 + 1 * 0 = t.val / 4; omega
  | ⟨1, _⟩ => show win0_1.index t 1 * 1 + 1 * 0 = 0; omega
  | ⟨2, _⟩ => show win0_1.index t 2 * 1024 + 1 * d.val = d.val; omega

theorem blk2 (t : Fin cfg0.N) (d : Fin 1024) :
    iblk m c 2 t (ix3 0 0 d) = m ((c : Thread nD τ).loc main_arg2) (ix3 (bat t) 0 d) := by
  rw [← V_main_arg2 m c]
  show V m c main_arg2 ((win0_2.rect t).emb (ix3 0 0 d)) = _
  congr 1
  funext a
  apply Fin.ext
  obtain ⟨h0, h1, h2⟩ := idx2 t
  match a with
  | ⟨0, _⟩ => show win0_2.index t 0 * 1 + 1 * 0 = t.val / 4; omega
  | ⟨1, _⟩ => show win0_2.index t 1 * 1 + 1 * 0 = 0; omega
  | ⟨2, _⟩ => show win0_2.index t 2 * 1024 + 1 * d.val = d.val; omega

/-- The queries' weights as the region finds them: the argument, its change of format the identity. -/
theorem wq_eq : V m c main_v0 = m ((c : Thread nD τ).loc main_arg3) := by
  show StableHlo.after hostOps0 (fun b => m (c, b)) (Proc.devRef .tc main_v0) = _
  after_results
  rfl

/-- The keys' and values' weights likewise. -/
theorem wkv_eq : V m c main_v1 = m ((c : Thread nD τ).loc main_arg4) := by
  show StableHlo.after hostOps0 (fun b => m (c, b)) (Proc.devRef .tc main_v1) = _
  after_results
  rfl

theorem blk3 (t : Fin cfg0.N) (k e : Fin 1024) :
    iblk m c 3 t (ix2 k e) = m ((c : Thread nD τ).loc main_arg3) (ix2 k e) := by
  rw [← wq_eq m c]
  show V m c main_v0 ((win0_3.rect t).emb (ix2 k e)) = _
  congr 1
  funext a
  apply Fin.ext
  obtain ⟨h0, h1⟩ := idx3 t
  match a with
  | ⟨0, _⟩ => show win0_3.index t 0 * 1024 + 1 * k.val = k.val; omega
  | ⟨1, _⟩ => show win0_3.index t 1 * 1024 + 1 * e.val = e.val; omega

theorem blk4 (t : Fin cfg0.N) (k : Fin 1024) (e : Fin 2048) :
    iblk m c 4 t (ix2 k e) = m ((c : Thread nD τ).loc main_arg4) (ix2 k e) := by
  rw [← wkv_eq m c]
  show V m c main_v1 ((win0_4.rect t).emb (ix2 k e)) = _
  congr 1
  funext a
  apply Fin.ext
  obtain ⟨h0, h1⟩ := idx4 t
  match a with
  | ⟨0, _⟩ => show win0_4.index t 0 * 1024 + 1 * k.val = k.val; omega
  | ⟨1, _⟩ => show win0_4.index t 1 * 2048 + 1 * e.val = e.val; omega

/-- A point's block of queries is its block of the array of queries. -/
theorem block5 (t : Fin cfg0.N) (x : S1x512x1024.Idx) :
    out0_5 (iblk m c 0 t) (iblk m c 1 t) (iblk m c 2 t) (iblk m c 3 t) (iblk m c 4 t) x
      = queries (m ((c : Thread nD τ).loc main_arg0)) (m ((c : Thread nD τ).loc main_arg1)) (m ((c : Thread nD τ).loc main_arg2))
          (m ((c : Thread nD τ).loc main_arg3)) ((win0_5.rect t).emb x) := by
  obtain ⟨z, r, e, rfl⟩ : ∃ (z : Fin 1) (r : Fin 512) (e : Fin 1024), x = ix3 z r e :=
    ⟨x 0, x 1, x 2, by funext a; fin_cases a <;> rfl⟩
  have he : ((win0_5.rect t).emb (ix3 z r e) : S8x2048x1024.Idx) = ix3 (bat t) (row t r) e := by
    funext a
    apply Fin.ext
    obtain ⟨h0, h1, h2⟩ := idx5 t
    match a with
    | ⟨0, _⟩ => show win0_5.index t 0 * 1 + 1 * z.val = t.val / 4; omega
    | ⟨1, _⟩ => show win0_5.index t 1 * 512 + 1 * r.val = 512 * (t.val % 4) + r.val; omega
    | ⟨2, _⟩ => show win0_5.index t 2 * 1024 + 1 * e.val = e.val; omega
  rw [he]
  unfold out0_5
  rw [View.canon_unit_zero hz3, View.ld_unit_zero hz3, View.ld_unit_zero hz3, View.ld_unit_zero hz3, View.ld_unit_zero hz2, pay2_at]
  simp only [blk0, blk1, blk2, blk3]
  rfl

/-- A point's block of keys and values is its block of their array. -/
theorem block6 (t : Fin cfg0.N) (x : S1x512x2048.Idx) :
    out0_6 (iblk m c 0 t) (iblk m c 1 t) (iblk m c 2 t) (iblk m c 3 t) (iblk m c 4 t) x
      = keysValues (m ((c : Thread nD τ).loc main_arg0)) (m ((c : Thread nD τ).loc main_arg4)) ((win0_6.rect t).emb x) := by
  obtain ⟨z, r, e, rfl⟩ : ∃ (z : Fin 1) (r : Fin 512) (e : Fin 2048), x = ix3 z r e :=
    ⟨x 0, x 1, x 2, by funext a; fin_cases a <;> rfl⟩
  have he : ((win0_6.rect t).emb (ix3 z r e) : S8x2048x2048.Idx) = ix3 (bat t) (row t r) e := by
    funext a
    apply Fin.ext
    obtain ⟨h0, h1, h2⟩ := idx6 t
    match a with
    | ⟨0, _⟩ => show win0_6.index t 0 * 1 + 1 * z.val = t.val / 4; omega
    | ⟨1, _⟩ => show win0_6.index t 1 * 512 + 1 * r.val = 512 * (t.val % 4) + r.val; omega
    | ⟨2, _⟩ => show win0_6.index t 2 * 2048 + 1 * e.val = e.val; omega
  rw [he]
  unfold out0_6
  rw [View.canon_unit_zero hz3, View.ld_unit_zero hz3, View.ld_unit_zero hz2, pay3_at]
  simp only [blk0, blk4]
  rfl

/-- The blocks of queries cover their array. -/
theorem cover5 (i : S8x2048x1024.Idx) :
    ∃ t : Fin cfg0.N, (cfg0.win 5).flush t = true ∧ i ∈ ((cfg0.win 5).blk t).view.set := by
  have i0 : (i 0 : Nat) < 8 := (i 0).isLt
  have i1 : (i 1 : Nat) < 2048 := (i 1).isLt
  have i2 : (i 2 : Nat) < 1024 := (i 2).isLt
  have hN : cfg0.N = 32 := N_0
  obtain ⟨t, ht⟩ : ∃ t : Fin cfg0.N, t.val = 4 * (i 0).val + (i 1).val / 512 := ⟨⟨_, by omega⟩, rfl⟩
  refine ⟨t, flush0_5 _, ?_⟩
  obtain ⟨h0, h1, h2⟩ := idx5 t
  show i ∈ ((View.whole main_v2_0).slice (win0_5.rect t)).set
  rw [View.set_slice_whole, Rect.mem_set_unit]
  intro a
  match a with
  | ⟨0, _⟩ => show win0_5.index _ 0 * 1 ≤ (i 0 : Nat) ∧ (i 0 : Nat) < win0_5.index _ 0 * 1 + 1; rw [h0]; omega
  | ⟨1, _⟩ => show win0_5.index _ 1 * 512 ≤ (i 1 : Nat) ∧ (i 1 : Nat) < win0_5.index _ 1 * 512 + 512; rw [h1]; omega
  | ⟨2, _⟩ => show win0_5.index _ 2 * 1024 ≤ (i 2 : Nat) ∧ (i 2 : Nat) < win0_5.index _ 2 * 1024 + 1024; rw [h2]; omega

/-- The blocks of keys and values cover theirs. -/
theorem cover6 (i : S8x2048x2048.Idx) :
    ∃ t : Fin cfg0.N, (cfg0.win 6).flush t = true ∧ i ∈ ((cfg0.win 6).blk t).view.set := by
  have i0 : (i 0 : Nat) < 8 := (i 0).isLt
  have i1 : (i 1 : Nat) < 2048 := (i 1).isLt
  have i2 : (i 2 : Nat) < 2048 := (i 2).isLt
  have hN : cfg0.N = 32 := N_0
  obtain ⟨t, ht⟩ : ∃ t : Fin cfg0.N, t.val = 4 * (i 0).val + (i 1).val / 512 := ⟨⟨_, by omega⟩, rfl⟩
  refine ⟨t, flush0_6 _, ?_⟩
  obtain ⟨h0, h1, h2⟩ := idx6 t
  show i ∈ ((View.whole main_v2_1).slice (win0_6.rect t)).set
  rw [View.set_slice_whole, Rect.mem_set_unit]
  intro a
  match a with
  | ⟨0, _⟩ => show win0_6.index _ 0 * 1 ≤ (i 0 : Nat) ∧ (i 0 : Nat) < win0_6.index _ 0 * 1 + 1; rw [h0]; omega
  | ⟨1, _⟩ => show win0_6.index _ 1 * 512 ≤ (i 1 : Nat) ∧ (i 1 : Nat) < win0_6.index _ 1 * 512 + 512; rw [h1]; omega
  | ⟨2, _⟩ => show win0_6.index _ 2 * 2048 ≤ (i 2 : Nat) ∧ (i 2 : Nat) < win0_6.index _ 2 * 2048 + 2048; rw [h2]; omega

/-- The first result array ends holding the queries. -/
theorem final5 : (dats m 0 c).arrAt 5 cfg0.N
    = queries (m ((c : Thread nD τ).loc main_arg0)) (m ((c : Thread nD τ).loc main_arg1)) (m ((c : Thread nD τ).loc main_arg2))
        (m ((c : Thread nD τ).loc main_arg3)) :=
  (dats m 0 c).arrAt_eq_of_cover 5 _ (fun t _ => by
    show (cfg0.win 5).cut (grid0.coords t) ((dats m 0 c).after 5 t) = _
    rw [after0_5]
    exact funext (block5 m c t)) cover5

/-- The second ends holding the keys and values. -/
theorem final6 : (dats m 0 c).arrAt 6 cfg0.N
    = keysValues (m ((c : Thread nD τ).loc main_arg0)) (m ((c : Thread nD τ).loc main_arg4)) :=
  (dats m 0 c).arrAt_eq_of_cover 6 _ (fun t _ => by
    show (cfg0.win 6).cut (grid0.coords t) ((dats m 0 c).after 6 t) = _
    rw [after0_6]
    exact funext (block6 m c t)) cover6

/-- The program ends with the queries and the keys and values in its result arrays, the arguments as launched. -/
theorem run : θ_run defs (onTc (τ := τ) (main (F := Ideal))) ⟨m, fun _ => 0, ρ⟩ fun r => ∀ c : Dev nD,
    r.2.mem ((c.tc : Thread nD τ).loc main_v2_0)
        = queries (m ((c.tc : Thread nD τ).loc main_arg0)) (m ((c.tc : Thread nD τ).loc main_arg1))
            (m ((c.tc : Thread nD τ).loc main_arg2)) (m ((c.tc : Thread nD τ).loc main_arg3))
    ∧ r.2.mem ((c.tc : Thread nD τ).loc main_v2_1)
        = keysValues (m ((c.tc : Thread nD τ).loc main_arg0)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  have hv : θ_run defs (onTc (τ := τ) (main (F := Ideal))) ⟨m, fun _ => 0, ρ⟩ fun r => ∀ c : Dev nD,
      r.2.mem ((c.tc : Thread nD τ).loc main_v2_0)
        = queries (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_v2_1)
        = keysValues (m ((c.tc : Thread nD τ).loc main_arg0)) (m ((c.tc : Thread nD τ).loc main_arg4)) :=
    (θ_run defs _ _).mono (fun r h c => ⟨((h c).1 5).trans (final5 m c), ((h c).1 6).trans (final6 m c)⟩) (run_main m ρ)
  exact (θ_run defs _ _).mono (fun r h c => ⟨(h.1 c).1, (h.1 c).2, h.2 c⟩) (θ_run_and hv (unchanged m ρ))

end Cert.Qkv

end
-- ==== Proof.Qkv.Reference.lean ====
/- The projection reference's results. -/
module

public import proofs.«01_k».proof.Proof.Qkv.Kernel
public import proofs.«01_k».proof.Proof.Gen.Reference4Ideal.Run
public import proofs.«01_k».proof.Proof.Gen.Reference4Ideal.Read

@[expose] public section

set_option maxRecDepth 16384

noncomputable section

namespace Cert.Qkv.Ref

open Idealize.ShloMosaic Idealize.ShloMosaic.TcCoe Idealize.ShloMosaic.Tactic Idealize.SL.Sem Cert.Reference4Ideal Cert.Reference4Ideal.Read
open Cert.Reference4Ideal.Facts

/-- The reference's first result is the queries. -/
theorem queries_eq (x : Vec Ideal S8x2048x1024 .f32) (sh sc : Vec Ideal S8x1x1024 .f32) (w : Vec Ideal S1024x1024 .f32) :
    val_main_v9 (F := Ideal) x sh sc w = queries x sh sc w := by
  funext i
  obtain ⟨b, r, e, rfl⟩ : ∃ (b : Fin 8) (r : Fin 2048) (e : Fin 1024), i = ix3 b r e :=
    ⟨i 0, i 1, i 2, by funext a; fin_cases a <;> rfl⟩
  unfold val_main_v9 val_main_v8 val_main_v7 val_main_v6 val_main_v5 val_main_v4 val_main_v3 val_main_v2 val_main_v1 val_main_v0
    val_main_cst val_main_cst_0
  clean_types
  pointwise
  rfl

/-- Its second is the keys and values. -/
theorem keysValues_eq (x : Vec Ideal S8x2048x1024 .f32) (w : Vec Ideal S1024x2048 .f32) :
    val_main_v11 (F := Ideal) x w = keysValues x w := by
  funext i
  obtain ⟨b, r, e, rfl⟩ : ∃ (b : Fin 8) (r : Fin 2048) (e : Fin 2048), i = ix3 b r e :=
    ⟨i 0, i 1, i 2, by funext a; fin_cases a <;> rfl⟩
  unfold val_main_v11 val_main_v10
  clean_types
  pointwise
  rfl

/-- The reference ends with the queries and the keys and values, the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9)
        = queries (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_v11)
        = keysValues (m ((c.tc : Thread nD τ).loc main_arg0)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v9_eq _ _ _ _).trans (queries_eq _ _ _ _)),
    (h c).2.1.trans ((val_main_v11_eq _ _).trans (keysValues_eq _ _)), (h c).2.2⟩) (Cert.Reference4Ideal.Value.run (F := Ideal) m ρ)

end Cert.Qkv.Ref

end
-- ==== Proof.Post.Body.lean ====
/- The norm after a mixer: what it computes on a row, and what the kernel's body leaves in a block. -/
module

public import proofs.«01_k».proof.Proof.Gen.Kernel5Ideal.Frame
public import Idealize.ShloMosaic.Lib.Pipeline.Value
public import Idealize.ShloMosaic.Lib.Pointwise.IndexVar
public import Idealize.ShloMosaic.Lib.Tactic.CleanTypes

@[expose] public section

set_option maxRecDepth 16384

noncomputable section

namespace Cert.Post

open Idealize.ShloMosaic Idealize.ShloMosaic.TcCoe Idealize.ShloMosaic.Tactic Idealize.SL.Sem Cert.Kernel5Ideal Cert.Kernel5Ideal.Gen
open Cert.Kernel5Ideal.Facts

/-- The mean of a row. -/
def mean (z : Fin 1024 → EReal) : EReal := Ideal.div (∑ k, z k) (Ideal.ofBits .f32 0x44800000#32)

/-- The mean of a row's squared distances from its mean. -/
def variance (z : Fin 1024 → EReal) : EReal := mean fun k => (z k - mean z) * (z k - mean z)

/-- A row's norm: less its mean, over its deviation, times the gain, plus the offset. -/
def normed (z g b : Fin 1024 → EReal) (e : Fin 1024) : EReal :=
  (z e - mean z) * Ideal.rsqrt (variance z + Ideal.ofBits .f32 0x3727C5AC#32) * g e + b e

/-- A row before its norm: the stream times the residual's weight, and the gated product of the mixer's row. -/
def gated (u : Fin 1024 → EReal) (w : Fin 1024 → Fin 1024 → EReal) (b x g1 : Fin 1024 → EReal) (e : Fin 1024) : EReal :=
  Ideal.ofBits .f32 0x3FB504F3#32 * x e + g1 e * ((∑ k, u k * w k e) + b e)

/-- The stream after the norm. -/
def stream (u : Vec Ideal S8x2048x1024 .bf16) (w : Vec Ideal S1024x1024 .f32) (b : Vec Ideal S1024 .f32)
    (x : Vec Ideal S8x2048x1024 .f32) (g1 : Vec Ideal S8x1x1024 .f32) (lg lb : Vec Ideal S1024 .f32) :
    Vec Ideal S8x2048x1024 .f32 := fun i =>
  normed (gated (fun k => u (ix3 (i 0) (i 1) k)) (fun k e => w (ix2 k e)) (fun e => b (ix1 e)) (fun e => x (ix3 (i 0) (i 1) e))
    (fun e => g1 (ix3 (i 0) 0 e))) (fun e => lg (ix1 e)) (fun e => lb (ix1 e)) (i 2)

/-- The stream modulated by each batch's scale and shift. -/
def modulated (u : Vec Ideal S8x2048x1024 .bf16) (w : Vec Ideal S1024x1024 .f32) (b : Vec Ideal S1024 .f32)
    (x : Vec Ideal S8x2048x1024 .f32) (g1 : Vec Ideal S8x1x1024 .f32) (lg lb : Vec Ideal S1024 .f32)
    (sh sc : Vec Ideal S8x1x1024 .f32) : Vec Ideal S8x2048x1024 .f32 := fun i =>
  stream u w b x g1 lg lb i * (1 + sc (ix3 (i 0) 0 (i 2))) + sh (ix3 (i 0) 0 (i 2))

/-- The router's logits of the modulated stream. -/
def logits (u : Vec Ideal S8x2048x1024 .bf16) (w : Vec Ideal S1024x1024 .f32) (b : Vec Ideal S1024 .f32)
    (x : Vec Ideal S8x2048x1024 .f32) (g1 : Vec Ideal S8x1x1024 .f32) (lg lb : Vec Ideal S1024 .f32)
    (sh sc : Vec Ideal S8x1x1024 .f32) (wr : Vec Ideal S1024x32 .f32) (br : Vec Ideal S32 .f32) : Vec Ideal S8x2048x32 .f32 := fun i =>
  (∑ k : Fin 1024, modulated u w b x g1 lg lb sh sc (ix3 (i 0) (i 1) k) * wr (ix2 k (i 2))) + br (ix1 (i 2))

section

variable (u : Vec Ideal S1x512x1024 .bf16) (w : Vec Ideal S1024x1024 .bf16) (b : Vec Ideal S1x1024 .f32)
  (x : Vec Ideal S1x512x1024 .f32) (g1 : Vec Ideal S1x1x1024 .f32) (lg lb : Vec Ideal S1x1024 .f32)
  (sh sc : Vec Ideal S1x1x1024 .f32) (wh wl : Vec Ideal S1024x128 .bf16) (br : Vec Ideal S1x128 .f32)

/-- A block's row before its norm. -/
def rowOf (r : Fin 512) : Fin 1024 → EReal :=
  gated (fun k => u (ix3 0 r k)) (fun k e => w (ix2 k e)) (fun e => b (ix2 0 e)) (fun e => x (ix3 0 r e)) (fun e => g1 (ix3 0 0 e))

theorem pay4_at (r : Fin 512) (e : Fin 1024) :
    k0_pay4 (F := Ideal) u w b x g1 (ix2 r e) = rowOf u w b x g1 r e - mean (rowOf u w b x g1 r) := by
  unfold_payloads
  pointwise
  rfl

theorem pay5_at (r : Fin 512) (z : Fin 1) :
    k0_pay5 (F := Ideal) u w b x g1 (ix2 r z) = variance (rowOf u w b x g1 r) := by
  unfold_payloads
  pointwise
  rfl

theorem pay8_at (v19 v21 : FVec Ideal S1x1024 .f32) (v27 : FVec Ideal S512x1024 .f32) (v32 v33 : FVec Ideal S512x1 .f32)
    (z : Fin 1) (r : Fin 512) (e : Fin 1024) :
    k0_pay8 (F := Ideal) v19 v21 v27 v32 v33 (ix3 z r e)
      = v27 (ix2 r e) * Ideal.rsqrt (v32 (ix2 r 0) + v33 (ix2 r 0)) * v19 (ix2 0 e) + v21 (ix2 0 e) := by
  unfold_payloads
  pointwise

theorem pay10_at (v19 v21 : FVec Ideal S1x1024 .f32) (v27 : FVec Ideal S512x1024 .f32) (v32 v33 : FVec Ideal S512x1 .f32)
    (z : Fin 1) (r : Fin 512) (e : Fin 1024) :
    k0_pay10 (F := Ideal) v19 v21 v27 v32 v33 sc sh (ix3 z r e)
      = (v27 (ix2 r e) * Ideal.rsqrt (v32 (ix2 r 0) + v33 (ix2 r 0)) * v19 (ix2 0 e) + v21 (ix2 0 e))
          * (1 + sc (ix3 0 0 e)) + sh (ix3 0 0 e) := by
  unfold_payloads
  pointwise

theorem pay12_at (v19 v21 : FVec Ideal S1x1024 .f32) (v27 : FVec Ideal S512x1024 .f32) (v32 v33 : FVec Ideal S512x1 .f32)
    (r : Fin 512) (e : Fin 1024) :
    k0_pay12 (F := Ideal) v19 v21 v27 v32 v33 sc sh (ix2 r e)
      = ((v27 (ix2 r e) * Ideal.rsqrt (v32 (ix2 r 0) + v33 (ix2 r 0)) * v19 (ix2 0 e) + v21 (ix2 0 e))
          * (1 + sc (ix3 0 0 e)) + sh (ix3 0 0 e))
        - ((v27 (ix2 r e) * Ideal.rsqrt (v32 (ix2 r 0) + v33 (ix2 r 0)) * v19 (ix2 0 e) + v21 (ix2 0 e))
          * (1 + sc (ix3 0 0 e)) + sh (ix3 0 0 e)) := by
  unfold_payloads
  pointwise

theorem pay13_at (v19 v21 : FVec Ideal S1x1024 .f32) (v27 : FVec Ideal S512x1024 .f32) (v32 v33 : FVec Ideal S512x1 .f32)
    (r : Fin 512) (e : Fin 128) :
    k0_pay13 (F := Ideal) v19 v21 v27 v32 v33 sc sh wh wl (ix2 r e)
      = (∑ k : Fin 1024, ((v27 (ix2 r k) * Ideal.rsqrt (v32 (ix2 r 0) + v33 (ix2 r 0)) * v19 (ix2 0 k) + v21 (ix2 0 k))
          * (1 + sc (ix3 0 0 k)) + sh (ix3 0 0 k)) * wh (ix2 k e))
        + ∑ k : Fin 1024, ((v27 (ix2 r k) * Ideal.rsqrt (v32 (ix2 r 0) + v33 (ix2 r 0)) * v19 (ix2 0 k) + v21 (ix2 0 k))
          * (1 + sc (ix3 0 0 k)) + sh (ix3 0 0 k)) * wl (ix2 k e) := by
  unfold_payloads
  pointwise

theorem pay1_at (lo : FVec Ideal S512x1024 .bf16) (p : FVec Ideal S512x128 .f32) (z : Fin 1) (r : Fin 512) (e : Fin 128) :
    k0_pay1 (F := Ideal) lo p (k0_pay14 (F := Ideal) wh) br (ix3 z r e)
      = p (ix2 r e) + (∑ k : Fin 1024, lo (ix2 r k) * wh (ix2 k e)) + br (ix2 0 e) := by
  unfold_payloads
  pointwise

end

end Cert.Post

end
-- ==== Proof.Post.Arrays.lean ====
/- The blocks the kernel's body reads at a point of its grid, as entries of the arguments, and the arrays its grid leaves. -/
module

public import proofs.«01_k».proof.Proof.Post.Body
public import Idealize.ShloMosaic.Lib.Pipeline.Value
public import Idealize.ShloMosaic.Lib.Pointwise.IndexVar
public import Idealize.ShloMosaic.Lib.Tactic.CleanTypes

@[expose] public section

set_option maxRecDepth 16384

noncomputable section

namespace Cert.Post

open Idealize.ShloMosaic Idealize.ShloMosaic.TcCoe Idealize.ShloMosaic.Tactic Idealize.SL.Sem Cert.Kernel5Ideal Cert.Kernel5Ideal.Gen
open Cert.Kernel5Ideal.Facts

theorem hz2 : (![0, 0] : Fin 2 → ℕ) = fun _ => 0 := by funext a; fin_cases a <;> rfl
theorem hz3 : (![0, 0, 0] : Fin 3 → ℕ) = fun _ => 0 := by funext a; fin_cases a <;> rfl

section

variable (u : Vec Ideal S1x512x1024 .bf16) (w : Vec Ideal S1024x1024 .bf16) (b : Vec Ideal S1x1024 .f32)
  (x : Vec Ideal S1x512x1024 .f32) (g1 : Vec Ideal S1x1x1024 .f32) (lg lb : Vec Ideal S1x1024 .f32)
  (sh sc : Vec Ideal S1x1x1024 .f32) (wh wl : Vec Ideal S1024x128 .bf16) (br : Vec Ideal S1x128 .f32)

theorem ld_u : View.ld u r0_0 = u := View.ld_unit_zero hz3 _ _
theorem ld_w : View.ld w r0_1 = w := View.ld_unit_zero hz2 _ _
theorem ld_b : View.ld b r0_2 = b := View.ld_unit_zero hz2 _ _
theorem ld_x : View.ld x r0_0 = x := View.ld_unit_zero hz3 _ _
theorem ld_g1 : View.ld g1 r0_3 = g1 := View.ld_unit_zero hz3 _ _
theorem ld_lg : View.ld lg r0_2 = lg := View.ld_unit_zero hz2 _ _
theorem ld_lb : View.ld lb r0_2 = lb := View.ld_unit_zero hz2 _ _
theorem ld_sh : View.ld sh r0_3 = sh := View.ld_unit_zero hz3 _ _
theorem ld_sc : View.ld sc r0_3 = sc := View.ld_unit_zero hz3 _ _
theorem ld_wh : View.ld wh r0_4 = wh := View.ld_unit_zero hz2 _ _
theorem ld_wl : View.ld wl r0_4 = wl := View.ld_unit_zero hz2 _ _
theorem ld_br : View.ld br r0_5 = br := View.ld_unit_zero hz2 _ _

theorem pay2_at (e : Fin 1024) : k0_pay2 (F := Ideal) lg (ix2 0 e) = lg (ix2 0 e) := by
  unfold_payloads
  pointwise

theorem pay3_at (e : Fin 1024) : k0_pay3 (F := Ideal) lb (ix2 0 e) = lb (ix2 0 e) := by
  unfold_payloads
  pointwise

theorem pay6_at (r : Fin 512) : k0_pay6 (F := Ideal) (ix2 r 0) = Ideal.ofBits .f32 0x3727C5AC#32 := by
  unfold_payloads
  pointwise

/-- A block's modulated row. -/
def modOf (r : Fin 512) (e : Fin 1024) : EReal :=
  normed (rowOf u w b x g1 r) (fun e => lg (ix2 0 e)) (fun e => lb (ix2 0 e)) e * (1 + sc (ix3 0 0 e)) + sh (ix3 0 0 e)

/-- The stream's block after the body. -/
theorem out12_at (z : Fin 1) (r : Fin 512) (e : Fin 1024) :
    out0_12 (F := Ideal) u w b x g1 lg lb sh sc wh wl br (ix3 z r e)
      = normed (rowOf u w b x g1 r) (fun e => lg (ix2 0 e)) (fun e => lb (ix2 0 e)) e := by
  unfold_out out0_12
  rw [View.canon_unit_zero hz3]
  simp only [ld_u, ld_w, ld_b, ld_x, ld_g1, ld_lg, ld_lb, ld_sh, ld_sc, ld_wh, ld_wl, ld_br, pay8_at, pay4_at, pay5_at, pay2_at, pay3_at, pay6_at]
  rfl

/-- The modulated block after the body. -/
theorem out13_at (z : Fin 1) (r : Fin 512) (e : Fin 1024) :
    out0_13 (F := Ideal) u w b x g1 lg lb sh sc wh wl br (ix3 z r e) = modOf u w b x g1 lg lb sh sc r e := by
  unfold_out out0_13
  rw [View.canon_unit_zero hz3]
  simp only [ld_u, ld_w, ld_b, ld_x, ld_g1, ld_lg, ld_lb, ld_sh, ld_sc, ld_wh, ld_wl, ld_br, pay10_at, pay4_at, pay5_at, pay2_at, pay3_at, pay6_at]
  rfl

/-- The block of logits after the body: the rounded row through both parts of the weights, and the row's rest through the first. -/
theorem out14_at (z : Fin 1) (r : Fin 512) (e : Fin 128) :
    out0_14 (F := Ideal) u w b x g1 lg lb sh sc wh wl br (ix3 z r e)
      = (∑ k, modOf u w b x g1 lg lb sh sc r k * wh (ix2 k e)) + (∑ k, modOf u w b x g1 lg lb sh sc r k * wl (ix2 k e))
        + (∑ k, (modOf u w b x g1 lg lb sh sc r k - modOf u w b x g1 lg lb sh sc r k) * wh (ix2 k e)) + br (ix2 0 e) := by
  unfold_out out0_14
  rw [View.canon_unit_zero hz3]
  simp only [ld_u, ld_w, ld_b, ld_x, ld_g1, ld_lg, ld_lb, ld_sh, ld_sc, ld_wh, ld_wl, ld_br, pay1_at, pay12_at, pay13_at, pay4_at, pay5_at, pay2_at, pay3_at, pay6_at]
  rfl

end

variable (m : (ℓ : Loc nD τ sig) → Buf (Elt Ideal) ℓ) (ρ : Dev nD → PrngReg) (c : Dev nD)

theorem lt32 (t : Fin cfg0.N) : t.val < 32 := by have : cfg0.N = 32 := N_0; omega

/-- The batch of a point of the grid. -/
abbrev bat (t : Fin cfg0.N) : Fin 8 := ⟨t.val / 4, by have := lt32 t; omega⟩

/-- The row of the array at a row of a point's block. -/
abbrev row (t : Fin cfg0.N) (r : Fin 512) : Fin 2048 := ⟨512 * (t.val % 4) + r.val, by omega⟩

theorem idx0 : ∀ t : Fin cfg0.N, win0_0.index t 0 = t.val / 4 ∧ win0_0.index t 1 = t.val % 4 ∧ win0_0.index t 2 = 0 := by
  decide +kernel
theorem idx1 : ∀ t : Fin cfg0.N, win0_1.index t 0 = 0 ∧ win0_1.index t 1 = 0 := by
  decide +kernel
theorem idx2 : ∀ t : Fin cfg0.N, win0_2.index t 0 = 0 ∧ win0_2.index t 1 = 0 := by
  decide +kernel
theorem idx3 : ∀ t : Fin cfg0.N, win0_3.index t 0 = t.val / 4 ∧ win0_3.index t 1 = t.val % 4 ∧ win0_3.index t 2 = 0 := by
  decide +kernel
theorem idx4 : ∀ t : Fin cfg0.N, win0_4.index t 0 = t.val / 4 ∧ win0_4.index t 1 = 0 ∧ win0_4.index t 2 = 0 := by
  decide +kernel
theorem idx5 : ∀ t : Fin cfg0.N, win0_5.index t 0 = 0 ∧ win0_5.index t 1 = 0 := by
  decide +kernel
theorem idx6 : ∀ t : Fin cfg0.N, win0_6.index t 0 = 0 ∧ win0_6.index t 1 = 0 := by
  decide +kernel
theorem idx7 : ∀ t : Fin cfg0.N, win0_7.index t 0 = t.val / 4 ∧ win0_7.index t 1 = 0 ∧ win0_7.index t 2 = 0 := by
  decide +kernel
theorem idx8 : ∀ t : Fin cfg0.N, win0_8.index t 0 = t.val / 4 ∧ win0_8.index t 1 = 0 ∧ win0_8.index t 2 = 0 := by
  decide +kernel
theorem idx9 : ∀ t : Fin cfg0.N, win0_9.index t 0 = 0 ∧ win0_9.index t 1 = 0 := by
  decide +kernel
theorem idx10 : ∀ t : Fin cfg0.N, win0_10.index t 0 = 0 ∧ win0_10.index t 1 = 0 := by
  decide +kernel
theorem idx11 : ∀ t : Fin cfg0.N, win0_11.index t 0 = 0 ∧ win0_11.index t 1 = 0 := by
  decide +kernel
theorem idx12 : ∀ t : Fin cfg0.N, win0_12.index t 0 = t.val / 4 ∧ win0_12.index t 1 = t.val % 4 ∧ win0_12.index t 2 = 0 := by
  decide +kernel
theorem idx13 : ∀ t : Fin cfg0.N, win0_13.index t 0 = t.val / 4 ∧ win0_13.index t 1 = t.val % 4 ∧ win0_13.index t 2 = 0 := by
  decide +kernel
theorem idx14 : ∀ t : Fin cfg0.N, win0_14.index t 0 = t.val / 4 ∧ win0_14.index t 1 = t.val % 4 ∧ win0_14.index t 2 = 0 := by
  decide +kernel

/-- The product's weights as the region finds them: the argument, its change of format the identity. -/
theorem w_eq : V m c main_v12 = m ((c : Thread nD τ).loc main_arg1) := by
  show StableHlo.after hostOps0 (fun b => m (c, b)) (Proc.devRef .tc main_v12) = _
  after_results
  rfl

theorem b_eq (e : Fin 1024) : V m c main_v13 (ix2 0 e) = m ((c : Thread nD τ).loc main_arg2) (ix1 e) := by
  have h : V m c main_v13 = shapeCast S1x1024 (m ((c : Thread nD τ).loc main_arg2)) shapeCasts_S1024_S1x1024 := by
    show StableHlo.after hostOps0 (fun b => m (c, b)) (Proc.devRef .tc main_v13) = _
    after_results
    rfl
  rw [h]
  generalize m ((c : Thread nD τ).loc main_arg2) = y
  clean_types
  pointwise

theorem lg_eq (e : Fin 1024) : V m c main_v14 (ix2 0 e) = m ((c : Thread nD τ).loc main_arg5) (ix1 e) := by
  have h : V m c main_v14 = shapeCast S1x1024 (m ((c : Thread nD τ).loc main_arg5)) shapeCasts_S1024_S1x1024 := by
    show StableHlo.after hostOps0 (fun b => m (c, b)) (Proc.devRef .tc main_v14) = _
    after_results
    rfl
  rw [h]
  generalize m ((c : Thread nD τ).loc main_arg5) = y
  clean_types
  pointwise

theorem lb_eq (e : Fin 1024) : V m c main_v15 (ix2 0 e) = m ((c : Thread nD τ).loc main_arg6) (ix1 e) := by
  have h : V m c main_v15 = shapeCast S1x1024 (m ((c : Thread nD τ).loc main_arg6)) shapeCasts_S1024_S1x1024 := by
    show StableHlo.after hostOps0 (fun b => m (c, b)) (Proc.devRef .tc main_v15) = _
    after_results
    rfl
  rw [h]
  generalize m ((c : Thread nD τ).loc main_arg6) = y
  clean_types
  pointwise

theorem blk0 (t : Fin cfg0.N) (r : Fin 512) (d : Fin 1024) :
    iblk m c 0 t (ix3 0 r d) = m ((c : Thread nD τ).loc main_arg0) (ix3 (bat t) (row t r) d) := by
  rw [← V_main_arg0 m c]
  show V m c main_arg0 ((win0_0.rect t).emb (ix3 0 r d)) = _
  congr 1
  funext a
  apply Fin.ext
  obtain ⟨h0, h1, h2⟩ := idx0 t
  match a with
  | ⟨0, _⟩ => show win0_0.index t 0 * 1 + 1 * 0 = t.val / 4; omega
  | ⟨1, _⟩ => show win0_0.index t 1 * 512 + 1 * r.val = 512 * (t.val % 4) + r.val; omega
  | ⟨2, _⟩ => show win0_0.index t 2 * 1024 + 1 * d.val = d.val; omega

theorem blk1 (t : Fin cfg0.N) (k : Fin 1024) (e : Fin 1024) :
    iblk m c 1 t (ix2 k e) = m ((c : Thread nD τ).loc main_arg1) (ix2 k e) := by
  rw [← w_eq m c]
  show V m c main_v12 ((win0_1.rect t).emb (ix2 k e)) = _
  congr 1
  funext a
  apply Fin.ext
  obtain ⟨h0, h1⟩ := idx1 t
  match a with
  | ⟨0, _⟩ => show win0_1.index t 0 * 1024 + 1 * k.val = k.val; omega
  | ⟨1, _⟩ => show win0_1.index t 1 * 1024 + 1 * e.val = e.val; omega

theorem blk2 (t : Fin cfg0.N) (e : Fin 1024) :
    iblk m c 2 t (ix2 0 e) = m ((c : Thread nD τ).loc main_arg2) (ix1 e) := by
  rw [← b_eq m c e]
  show V m c main_v13 ((win0_2.rect t).emb (ix2 0 e)) = _
  congr 1
  funext a
  apply Fin.ext
  obtain ⟨h0, h1⟩ := idx2 t
  match a with
  | ⟨0, _⟩ => show win0_2.index t 0 * 1 + 1 * 0 = 0; omega
  | ⟨1, _⟩ => show win0_2.index t 1 * 1024 + 1 * e.val = e.val; omega

theorem blk3 (t : Fin cfg0.N) (r : Fin 512) (d : Fin 1024) :
    iblk m c 3 t (ix3 0 r d) = m ((c : Thread nD τ).loc main_arg3) (ix3 (bat t) (row t r) d) := by
  rw [← V_main_arg3 m c]
  show V m c main_arg3 ((win0_3.rect t).emb (ix3 0 r d)) = _
  congr 1
  funext a
  apply Fin.ext
  obtain ⟨h0, h1, h2⟩ := idx3 t
  match a with
  | ⟨0, _⟩ => show win0_3.index t 0 * 1 + 1 * 0 = t.val / 4; omega
  | ⟨1, _⟩ => show win0_3.index t 1 * 512 + 1 * r.val = 512 * (t.val % 4) + r.val; omega
  | ⟨2, _⟩ => show win0_3.index t 2 * 1024 + 1 * d.val = d.val; omega

theorem blk4 (t : Fin cfg0.N) (d : Fin 1024) :
    iblk m c 4 t (ix3 0 0 d) = m ((c : Thread nD τ).loc main_arg4) (ix3 (bat t) 0 d) := by
  rw [← V_main_arg4 m c]
  show V m c main_arg4 ((win0_4.rect t).emb (ix3 0 0 d)) = _
  congr 1
  funext a
  apply Fin.ext
  obtain ⟨h0, h1, h2⟩ := idx4 t
  match a with
  | ⟨0, _⟩ => show win0_4.index t 0 * 1 + 1 * 0 = t.val / 4; omega
  | ⟨1, _⟩ => show win0_4.index t 1 * 1 + 1 * 0 = 0; omega
  | ⟨2, _⟩ => show win0_4.index t 2 * 1024 + 1 * d.val = d.val; omega

theorem blk5 (t : Fin cfg0.N) (e : Fin 1024) :
    iblk m c 5 t (ix2 0 e) = m ((c : Thread nD τ).loc main_arg5) (ix1 e) := by
  rw [← lg_eq m c e]
  show V m c main_v14 ((win0_5.rect t).emb (ix2 0 e)) = _
  congr 1
  funext a
  apply Fin.ext
  obtain ⟨h0, h1⟩ := idx5 t
  match a with
  | ⟨0, _⟩ => show win0_5.index t 0 * 1 + 1 * 0 = 0; omega
  | ⟨1, _⟩ => show win0_5.index t 1 * 1024 + 1 * e.val = e.val; omega

theorem blk6 (t : Fin cfg0.N) (e : Fin 1024) :
    iblk m c 6 t (ix2 0 e) = m ((c : Thread nD τ).loc main_arg6) (ix1 e) := by
  rw [← lb_eq m c e]
  show V m c main_v15 ((win0_6.rect t).emb (ix2 0 e)) = _
  congr 1
  funext a
  apply Fin.ext
  obtain ⟨h0, h1⟩ := idx6 t
  match a with
  | ⟨0, _⟩ => show win0_6.index t 0 * 1 + 1 * 0 = 0; omega
  | ⟨1, _⟩ => show win0_6.index t 1 * 1024 + 1 * e.val = e.val; omega

theorem blk7 (t : Fin cfg0.N) (d : Fin 1024) :
    iblk m c 7 t (ix3 0 0 d) = m ((c : Thread nD τ).loc main_arg7) (ix3 (bat t) 0 d) := by
  rw [← V_main_arg7 m c]
  show V m c main_arg7 ((win0_7.rect t).emb (ix3 0 0 d)) = _
  congr 1
  funext a
  apply Fin.ext
  obtain ⟨h0, h1, h2⟩ := idx7 t
  match a with
  | ⟨0, _⟩ => show win0_7.index t 0 * 1 + 1 * 0 = t.val / 4; omega
  | ⟨1, _⟩ => show win0_7.index t 1 * 1 + 1 * 0 = 0; omega
  | ⟨2, _⟩ => show win0_7.index t 2 * 1024 + 1 * d.val = d.val; omega

theorem blk8 (t : Fin cfg0.N) (d : Fin 1024) :
    iblk m c 8 t (ix3 0 0 d) = m ((c : Thread nD τ).loc main_arg8) (ix3 (bat t) 0 d) := by
  rw [← V_main_arg8 m c]
  show V m c main_arg8 ((win0_8.rect t).emb (ix3 0 0 d)) = _
  congr 1
  funext a
  apply Fin.ext
  obtain ⟨h0, h1, h2⟩ := idx8 t
  match a with
  | ⟨0, _⟩ => show win0_8.index t 0 * 1 + 1 * 0 = t.val / 4; omega
  | ⟨1, _⟩ => show win0_8.index t 1 * 1 + 1 * 0 = 0; omega
  | ⟨2, _⟩ => show win0_8.index t 2 * 1024 + 1 * d.val = d.val; omega

theorem blk9 (t : Fin cfg0.N) (k : Fin 1024) (e : Fin 128) :
    iblk m c 9 t (ix2 k e) = V m c main_v3 (ix2 k e) := by
  show V m c main_v3 ((win0_9.rect t).emb (ix2 k e)) = _
  congr 1
  funext a
  apply Fin.ext
  obtain ⟨h0, h1⟩ := idx9 t
  match a with
  | ⟨0, _⟩ => show win0_9.index t 0 * 1024 + 1 * k.val = k.val; omega
  | ⟨1, _⟩ => show win0_9.index t 1 * 128 + 1 * e.val = e.val; omega

theorem blk10 (t : Fin cfg0.N) (k : Fin 1024) (e : Fin 128) :
    iblk m c 10 t (ix2 k e) = V m c main_v6 (ix2 k e) := by
  show V m c main_v6 ((win0_10.rect t).emb (ix2 k e)) = _
  congr 1
  funext a
  apply Fin.ext
  obtain ⟨h0, h1⟩ := idx10 t
  match a with
  | ⟨0, _⟩ => show win0_10.index t 0 * 1024 + 1 * k.val = k.val; omega
  | ⟨1, _⟩ => show win0_10.index t 1 * 128 + 1 * e.val = e.val; omega

theorem blk11 (t : Fin cfg0.N) (e : Fin 128) :
    iblk m c 11 t (ix2 0 e) = V m c main_v11 (ix2 0 e) := by
  show V m c main_v11 ((win0_11.rect t).emb (ix2 0 e)) = _
  congr 1
  funext a
  apply Fin.ext
  obtain ⟨h0, h1⟩ := idx11 t
  match a with
  | ⟨0, _⟩ => show win0_11.index t 0 * 1 + 1 * 0 = 0; omega
  | ⟨1, _⟩ => show win0_11.index t 1 * 128 + 1 * e.val = e.val; omega

/-- Logits of split rows and weights: `h` through `wh` and `wl`, and `h` less itself through `wh`. -/
def split (h : Vec Ideal S8x2048x1024 .f32) (wh wl : Vec Ideal S1024x128 .bf16) (br : Vec Ideal S1x128 .f32) :
    Vec Ideal S8x2048x128 .f32 := fun i =>
  (∑ k : Fin 1024, h (ix3 (i 0) (i 1) k) * wh (ix2 k (i 2))) + (∑ k : Fin 1024, h (ix3 (i 0) (i 1) k) * wl (ix2 k (i 2)))
    + (∑ k : Fin 1024, (h (ix3 (i 0) (i 1) k) - h (ix3 (i 0) (i 1) k)) * wh (ix2 k (i 2))) + br (ix2 0 (i 2))

/-- The stream after the norm, of the arguments in memory. -/
abbrev streamM : Vec Ideal S8x2048x1024 .f32 :=
  stream (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The modulated stream of the arguments in memory. -/
abbrev modulatedM : Vec Ideal S8x2048x1024 .f32 :=
  modulated (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem block12 (t : Fin cfg0.N) (x : S1x512x1024.Idx) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) x
      = streamM m c ((win0_12.rect t).emb x) := by
  obtain ⟨z, r, e, rfl⟩ : ∃ (z : Fin 1) (r : Fin 512) (e : Fin 1024), x = ix3 z r e :=
    ⟨x 0, x 1, x 2, by funext a; fin_cases a <;> rfl⟩
  have he : ((win0_12.rect t).emb (ix3 z r e) : S8x2048x1024.Idx) = ix3 (bat t) (row t r) e := by
    funext a
    apply Fin.ext
    obtain ⟨h0, h1, h2⟩ := idx12 t
    match a with
    | ⟨0, _⟩ => show win0_12.index t 0 * 1 + 1 * z.val = t.val / 4; omega
    | ⟨1, _⟩ => show win0_12.index t 1 * 512 + 1 * r.val = 512 * (t.val % 4) + r.val; omega
    | ⟨2, _⟩ => show win0_12.index t 2 * 1024 + 1 * e.val = e.val; omega
  rw [he, out12_at]
  simp only [rowOf, blk0, blk1, blk2, blk3, blk4, blk5, blk6]
  rfl

theorem cover12 (i : S8x2048x1024.Idx) :
    ∃ t : Fin cfg0.N, (cfg0.win 12).flush t = true ∧ i ∈ ((cfg0.win 12).blk t).view.set := by
  have i0 : (i 0 : Nat) < 8 := (i 0).isLt
  have i1 : (i 1 : Nat) < 2048 := (i 1).isLt
  have i2 : (i 2 : Nat) < 1024 := (i 2).isLt
  have hN : cfg0.N = 32 := N_0
  obtain ⟨t, ht⟩ : ∃ t : Fin cfg0.N, t.val = 4 * (i 0).val + (i 1).val / 512 := ⟨⟨_, by omega⟩, rfl⟩
  refine ⟨t, flush0_12 _, ?_⟩
  obtain ⟨h0, h1, h2⟩ := idx12 t
  show i ∈ ((View.whole main_v16_0).slice (win0_12.rect t)).set
  rw [View.set_slice_whole, Rect.mem_set_unit]
  intro a
  match a with
  | ⟨0, _⟩ => show win0_12.index _ 0 * 1 ≤ (i 0 : Nat) ∧ (i 0 : Nat) < win0_12.index _ 0 * 1 + 1; rw [h0]; omega
  | ⟨1, _⟩ => show win0_12.index _ 1 * 512 ≤ (i 1 : Nat) ∧ (i 1 : Nat) < win0_12.index _ 1 * 512 + 512; rw [h1]; omega
  | ⟨2, _⟩ => show win0_12.index _ 2 * 1024 ≤ (i 2 : Nat) ∧ (i 2 : Nat) < win0_12.index _ 2 * 1024 + 1024; rw [h2]; omega

/-- What result array 1 ends holding. -/
theorem final12 : (dats m 0 c).arrAt 12 cfg0.N = streamM m c :=
  (dats m 0 c).arrAt_eq_of_cover 12 _ (fun t _ => by
    show (cfg0.win 12).cut (grid0.coords t) ((dats m 0 c).after 12 t) = _
    rw [after0_12]
    exact funext (block12 m c t)) cover12

theorem block13 (t : Fin cfg0.N) (x : S1x512x1024.Idx) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) x
      = modulatedM m c ((win0_13.rect t).emb x) := by
  obtain ⟨z, r, e, rfl⟩ : ∃ (z : Fin 1) (r : Fin 512) (e : Fin 1024), x = ix3 z r e :=
    ⟨x 0, x 1, x 2, by funext a; fin_cases a <;> rfl⟩
  have he : ((win0_13.rect t).emb (ix3 z r e) : S8x2048x1024.Idx) = ix3 (bat t) (row t r) e := by
    funext a
    apply Fin.ext
    obtain ⟨h0, h1, h2⟩ := idx13 t
    match a with
    | ⟨0, _⟩ => show win0_13.index t 0 * 1 + 1 * z.val = t.val / 4; omega
    | ⟨1, _⟩ => show win0_13.index t 1 * 512 + 1 * r.val = 512 * (t.val % 4) + r.val; omega
    | ⟨2, _⟩ => show win0_13.index t 2 * 1024 + 1 * e.val = e.val; omega
  rw [he, out13_at]
  simp only [modOf, rowOf, blk0, blk1, blk2, blk3, blk4, blk5, blk6, blk7, blk8]
  rfl

theorem cover13 (i : S8x2048x1024.Idx) :
    ∃ t : Fin cfg0.N, (cfg0.win 13).flush t = true ∧ i ∈ ((cfg0.win 13).blk t).view.set := by
  have i0 : (i 0 : Nat) < 8 := (i 0).isLt
  have i1 : (i 1 : Nat) < 2048 := (i 1).isLt
  have i2 : (i 2 : Nat) < 1024 := (i 2).isLt
  have hN : cfg0.N = 32 := N_0
  obtain ⟨t, ht⟩ : ∃ t : Fin cfg0.N, t.val = 4 * (i 0).val + (i 1).val / 512 := ⟨⟨_, by omega⟩, rfl⟩
  refine ⟨t, flush0_13 _, ?_⟩
  obtain ⟨h0, h1, h2⟩ := idx13 t
  show i ∈ ((View.whole main_v16_1).slice (win0_13.rect t)).set
  rw [View.set_slice_whole, Rect.mem_set_unit]
  intro a
  match a with
  | ⟨0, _⟩ => show win0_13.index _ 0 * 1 ≤ (i 0 : Nat) ∧ (i 0 : Nat) < win0_13.index _ 0 * 1 + 1; rw [h0]; omega
  | ⟨1, _⟩ => show win0_13.index _ 1 * 512 ≤ (i 1 : Nat) ∧ (i 1 : Nat) < win0_13.index _ 1 * 512 + 512; rw [h1]; omega
  | ⟨2, _⟩ => show win0_13.index _ 2 * 1024 ≤ (i 2 : Nat) ∧ (i 2 : Nat) < win0_13.index _ 2 * 1024 + 1024; rw [h2]; omega

/-- What result array 2 ends holding. -/
theorem final13 : (dats m 0 c).arrAt 13 cfg0.N = modulatedM m c :=
  (dats m 0 c).arrAt_eq_of_cover 13 _ (fun t _ => by
    show (cfg0.win 13).cut (grid0.coords t) ((dats m 0 c).after 13 t) = _
    rw [after0_13]
    exact funext (block13 m c t)) cover13

theorem block14 (t : Fin cfg0.N) (x : S1x512x128.Idx) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) x
      = split (modulatedM m c) (V m c main_v3) (V m c main_v6) (V m c main_v11) ((win0_14.rect t).emb x) := by
  obtain ⟨z, r, e, rfl⟩ : ∃ (z : Fin 1) (r : Fin 512) (e : Fin 128), x = ix3 z r e :=
    ⟨x 0, x 1, x 2, by funext a; fin_cases a <;> rfl⟩
  have he : ((win0_14.rect t).emb (ix3 z r e) : S8x2048x128.Idx) = ix3 (bat t) (row t r) e := by
    funext a
    apply Fin.ext
    obtain ⟨h0, h1, h2⟩ := idx14 t
    match a with
    | ⟨0, _⟩ => show win0_14.index t 0 * 1 + 1 * z.val = t.val / 4; omega
    | ⟨1, _⟩ => show win0_14.index t 1 * 512 + 1 * r.val = 512 * (t.val % 4) + r.val; omega
    | ⟨2, _⟩ => show win0_14.index t 2 * 128 + 1 * e.val = e.val; omega
  rw [he, out14_at]
  simp only [modOf, rowOf, blk0, blk1, blk2, blk3, blk4, blk5, blk6, blk7, blk8, blk9, blk10, blk11]
  rfl

theorem cover14 (i : S8x2048x128.Idx) :
    ∃ t : Fin cfg0.N, (cfg0.win 14).flush t = true ∧ i ∈ ((cfg0.win 14).blk t).view.set := by
  have i0 : (i 0 : Nat) < 8 := (i 0).isLt
  have i1 : (i 1 : Nat) < 2048 := (i 1).isLt
  have i2 : (i 2 : Nat) < 128 := (i 2).isLt
  have hN : cfg0.N = 32 := N_0
  obtain ⟨t, ht⟩ : ∃ t : Fin cfg0.N, t.val = 4 * (i 0).val + (i 1).val / 512 := ⟨⟨_, by omega⟩, rfl⟩
  refine ⟨t, flush0_14 _, ?_⟩
  obtain ⟨h0, h1, h2⟩ := idx14 t
  show i ∈ ((View.whole main_v16_2).slice (win0_14.rect t)).set
  rw [View.set_slice_whole, Rect.mem_set_unit]
  intro a
  match a with
  | ⟨0, _⟩ => show win0_14.index _ 0 * 1 ≤ (i 0 : Nat) ∧ (i 0 : Nat) < win0_14.index _ 0 * 1 + 1; rw [h0]; omega
  | ⟨1, _⟩ => show win0_14.index _ 1 * 512 ≤ (i 1 : Nat) ∧ (i 1 : Nat) < win0_14.index _ 1 * 512 + 512; rw [h1]; omega
  | ⟨2, _⟩ => show win0_14.index _ 2 * 128 ≤ (i 2 : Nat) ∧ (i 2 : Nat) < win0_14.index _ 2 * 128 + 128; rw [h2]; omega

/-- What result array 3 ends holding. -/
theorem final14 : (dats m 0 c).arrAt 14 cfg0.N = split (modulatedM m c) (V m c main_v3) (V m c main_v6) (V m c main_v11) :=
  (dats m 0 c).arrAt_eq_of_cover 14 _ (fun t _ => by
    show (cfg0.win 14).cut (grid0.coords t) ((dats m 0 c).after 14 t) = _
    rw [after0_14]
    exact funext (block14 m c t)) cover14

end Cert.Post

end
-- ==== Proof.Post.Router.lean ====
/- The router's weights as the kernel's grid finds them: the argument's columns first, split in a rounded part and a rest. -/
module

public import proofs.«01_k».proof.Proof.Post.Arrays
public import Idealize.ShloMosaic.Lib.Routing.OpsSet
public import Idealize.ShloMosaic.Lib.Routing.OpsOne
public import Idealize.ShloMosaic.Lib.Routing.OpsPair

@[expose] public section

set_option maxRecDepth 16384

noncomputable section

namespace Cert.Post

open Idealize.ShloMosaic Idealize.ShloMosaic.TcCoe Idealize.ShloMosaic.Tactic Idealize.SL.Sem Cert.Kernel5Ideal Cert.Kernel5Ideal.Gen
open Cert.Kernel5Ideal.Facts
open Idealize.ShloMosaic.Routing

/-- The column of the padded weights at a column of the weights. -/
abbrev wide (e : Fin 32) : Fin 128 := ⟨e.val, by omega⟩

/-- A matrix of 32 columns set at column 0 of one of 128: each entry lands at its own row and column. -/
theorem lands_w (idx : IVec S1 32) (h : ∀ i, idx i = 0#32) (k : S1024x32.Idx) (r : Fin 1024) (q : Fin 128) :
    scatter_S1024x128_S1_S1024x32_01_n_1_0.resultIdx? k idx = some (ix2 r q) ↔ (k 0).val = r.val ∧ (k 1).val = q.val := by
  have s0 : scatter_S1024x128_S1_S1024x32_01_n_1_0.start k idx 0 = 0 := by
    unfold ScatterDims.start
    exact dif_neg (by decide)
  have s1 : scatter_S1024x128_S1_S1024x32_01_n_1_0.start k idx 1 = 0 := by
    unfold ScatterDims.start
    rw [dif_pos (by decide), h]
    rfl
  have w0 : scatter_S1024x128_S1_S1024x32_01_n_1_0.window k 0 = (k 0).val := rfl
  have w1 : scatter_S1024x128_S1_S1024x32_01_n_1_0.window k 1 = (k 1).val := rfl
  refine (resultIdx?_ix2 (R := 1024) (C := 128) scatter_S1024x128_S1_S1024x32_01_n_1_0 k idx r q).trans ?_
  rw [s0, s1, w0, w1]
  omega

theorem set_w (x0 : Vec Ideal S1024x128 .f32) (idx : IVec S1 32) (h : ∀ i, idx i = 0#32) (v : Vec Ideal S1024x32 .f32)
    (r : Fin 1024) (e : Fin 32) :
    Host.scatter scatter_S1024x128_S1_S1024x32_01_n_1_0 (fun _ b => b) x0 idx v (ix2 r (wide e)) = v (ix2 r e) :=
  scatter_set_hit _ x0 idx v _ _ (fun k hk => by
    obtain ⟨h0, h1⟩ := (lands_w idx h k r (wide e)).1 hk
    congr 1
    funext a
    match a with
    | ⟨0, _⟩ => exact Fin.ext h0
    | ⟨1, _⟩ => exact Fin.ext h1) (ix2 r e) ((lands_w idx h (ix2 r e) r (wide e)).2 ⟨rfl, rfl⟩)

/-- 32 entries set at the start of a row of 128. -/
theorem lands_b (idx : IVec S2 32) (h : ∀ i, idx i = 0#32) (k : S32.Idx) (q : Fin 128) :
    scatter_S1x128_S2_S32_0_0_01_0.resultIdx? k idx = some (ix2 0 q) ↔ (k 0).val = q.val := by
  have s0 : scatter_S1x128_S2_S32_0_0_01_0.start k idx 0 = 0 := by
    unfold ScatterDims.start
    rw [dif_pos (by decide), h]
    rfl
  have s1 : scatter_S1x128_S2_S32_0_0_01_0.start k idx 1 = 0 := by
    unfold ScatterDims.start
    rw [dif_pos (by decide), h]
    rfl
  have w0 : scatter_S1x128_S2_S32_0_0_01_0.window k 0 = 0 := rfl
  have w1 : scatter_S1x128_S2_S32_0_0_01_0.window k 1 = (k 0).val := rfl
  refine (resultIdx?_ix2 (R := 1) (C := 128) scatter_S1x128_S2_S32_0_0_01_0 k idx 0 q).trans ?_
  rw [s0, s1, w0, w1]
  simp

theorem set_b (x0 : Vec Ideal S1x128 .f32) (idx : IVec S2 32) (h : ∀ i, idx i = 0#32) (v : Vec Ideal S32 .f32) (e : Fin 32) :
    Host.scatter scatter_S1x128_S2_S32_0_0_01_0 (fun _ b => b) x0 idx v (ix2 0 (wide e)) = v (ix1 e) :=
  scatter_set_hit _ x0 idx v _ _ (fun k hk => by
    have h0 := (lands_b idx h k (wide e)).1 hk
    congr 1
    funext a
    match a with
    | ⟨0, _⟩ => exact Fin.ext h0) (ix1 e) ((lands_b idx h (ix1 e) (wide e)).2 rfl)

variable (m : (ℓ : Loc nD τ sig) → Buf (Elt Ideal) ℓ) (ρ : Dev nD → PrngReg) (c : Dev nD)

/-- The zero index of the weights' columns. -/
theorem idx1_zero (i : S1.Idx) : broadcastInDim S1 ![] bcast_S_S1 (constantI S_ 32 0#32) i = 0#32 := rfl

theorem idx2_zero (i : S2.Idx) :
    concatenate S2 0 [⟨S1, broadcastInDim S1 ![] bcast_S_S1 (constantI S_ 32 0#32)⟩,
      ⟨S1, broadcastInDim S1 ![] bcast_S_S1 (constantI S_ 32 0#32)⟩] concatenates_S1_S1_S2_d0 i = 0#32 := by
  obtain ⟨j, rfl⟩ : ∃ j : Fin 2, i = ix1 j := ⟨i 0, by funext a; fin_cases a; rfl⟩
  fin_cases j <;> rfl

/-- The router's weights in the first columns of 128, the others zero. -/
def padded (v : Vec Ideal S1024x32 .f32) : FVec Ideal S1024x128 .f32 :=
  Host.scatter scatter_S1024x128_S1_S1024x32_01_n_1_0 (fun _ b => b)
    (broadcastInDim S1024x128 ![] bcast_S_S1024x128 (constant (F := Ideal) S_ .f32 0x00000000#32))
    (broadcastInDim S1 ![] bcast_S_S1 (constantI S_ 32 0#32)) v

theorem padded_at (v : Vec Ideal S1024x32 .f32) (k : Fin 1024) (e : Fin 32) : padded v (ix2 k (wide e)) = v (ix2 k e) :=
  set_w _ _ idx1_zero _ k e

/-- The rounded part of the padded weights is the weights. -/
theorem wh_eq : V m c main_v3 = (truncf .bf16 (padded (m ((c : Thread nD τ).loc main_arg9))) bitsLt_bf16_f32 : FVec Ideal S1024x128 .bf16) := by
  show StableHlo.after hostOps0 (fun b => m (c, b)) (Proc.devRef .tc main_v3) = _
  unfold padded
  after_results

/-- Their rest is the weights less the rounded part. -/
theorem wl_eq : V m c main_v6 = (truncf .bf16 (subf (padded (m ((c : Thread nD τ).loc main_arg9)))
    (extf .f32 (truncf .bf16 (padded (m ((c : Thread nD τ).loc main_arg9))) bitsLt_bf16_f32 : FVec Ideal S1024x128 .bf16)
      bitsLt_bf16_f32)) bitsLt_bf16_f32 : FVec Ideal S1024x128 .bf16) := by
  show StableHlo.after hostOps0 (fun b => m (c, b)) (Proc.devRef .tc main_v6) = _
  unfold padded
  after_results

/-- The rounded part of the router's weights, at the argument's columns, is the argument. -/
theorem wh_at (k : Fin 1024) (e : Fin 32) : V m c main_v3 (ix2 k (wide e)) = m ((c : Thread nD τ).loc main_arg9) (ix2 k e) := by
  rw [wh_eq, ← padded_at (m ((c : Thread nD τ).loc main_arg9))]
  generalize padded (m ((c : Thread nD τ).loc main_arg9)) = y
  rfl

/-- Their rest is the weights less themselves. -/
theorem wl_at (k : Fin 1024) (e : Fin 32) : V m c main_v6 (ix2 k (wide e))
    = (fun y : EReal => y - y) (m ((c : Thread nD τ).loc main_arg9) (ix2 k e)) := by
  rw [wl_eq, ← padded_at (m ((c : Thread nD τ).loc main_arg9))]
  generalize padded (m ((c : Thread nD τ).loc main_arg9)) = y
  rfl

/-- The router's bias, at the argument's columns. -/
theorem br_at (e : Fin 32) : V m c main_v11 (ix2 0 (wide e)) = m ((c : Thread nD τ).loc main_arg10) (ix1 e) := by
  have h : V m c main_v11 = Host.scatter scatter_S1x128_S2_S32_0_0_01_0 (fun _ b => b)
      (broadcastInDim S1x128 ![] bcast_S_S1x128 (constant (F := Ideal) S_ .f32 0x00000000#32))
      (concatenate S2 0 [⟨S1, broadcastInDim S1 ![] bcast_S_S1 (constantI S_ 32 0#32)⟩,
        ⟨S1, broadcastInDim S1 ![] bcast_S_S1 (constantI S_ 32 0#32)⟩] concatenates_S1_S1_S2_d0)
      (m ((c : Thread nD τ).loc main_arg10)) := by
    show StableHlo.after hostOps0 (fun b => m (c, b)) (Proc.devRef .tc main_v11) = _
    after_results
  rw [h]
  exact set_b _ _ idx2_zero _ e

end Cert.Post

end
-- ==== Proof.Post.Real.lean ====
/- A finite stream stays finite through the norm and its modulation, and there the split logits are the logits. -/
module

public import proofs.«01_k».proof.Proof.Post.Body

@[expose] public section

set_option maxRecDepth 16384

noncomputable section

namespace Cert.Post

open Idealize.ShloMosaic Idealize.ShloMosaic.TcCoe Cert.Kernel5Ideal

/-- Real, not infinite. -/
def IsReal (x : EReal) : Prop := ∃ y : ℝ, x = (y : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.self_sub {x : EReal} (hx : IsReal x) : x - x = 0 := by
  obtain ⟨a, rfl⟩ := hx
  rw [← EReal.coe_sub, sub_self]
  rfl

theorem sum_coe {n : ℕ} (f : Fin n → ℝ) : (∑ k, (f k : EReal)) = ((∑ k, f k : ℝ) : EReal) := by
  have h : ∀ s : Finset (Fin n), (∑ k ∈ s, (f k : EReal)) = ((∑ k ∈ s, f k : ℝ) : EReal) := fun s => by
    induction s using Finset.cons_induction with
    | empty => simp
    | cons a s ha ih => rw [Finset.sum_cons, Finset.sum_cons, ih, EReal.coe_add]
  exact h Finset.univ

theorem IsReal.sum {n : ℕ} {f : Fin n → EReal} (hf : ∀ k, IsReal (f k)) : IsReal (∑ k, f k) := by
  choose g hg using hf
  exact ⟨∑ k, g k, by rw [← sum_coe]; exact Finset.sum_congr rfl fun k _ => hg k⟩

theorem one_real : IsReal 1 := ⟨1, rfl⟩

/-- A normal number with a plus sign is real and positive. -/
theorem normal_pos (b : BitVec 32) (hs : (b.extractLsb' 31 1 == 1#1) = false) (h1 : (b.extractLsb' 23 8).toNat ≠ 2 ^ 8 - 1)
    (h0 : (b.extractLsb' 23 8).toNat ≠ 0) : ∃ y : ℝ, 0 < y ∧ Ideal.ofBits .f32 b = (y : EReal) := by
  have h : Ideal.ofBits .f32 b = Ideal.ieee 8 23 b := rfl
  rw [h]
  unfold Ideal.ieee
  simp only [hs, if_neg h1, if_neg h0]
  refine ⟨_, ?_, rfl⟩
  simp only [Bool.false_eq_true, if_false]
  positivity

/-- The constants: the residual's weight, the length of a row and the norm's small addend. -/
theorem alpha_real : IsReal (Ideal.ofBits .f32 0x3FB504F3#32) :=
  (normal_pos _ (by decide) (by decide) (by decide)).imp fun _ h => h.2

theorem width : ∃ y : ℝ, 0 < y ∧ Ideal.ofBits .f32 0x44800000#32 = (y : EReal) :=
  normal_pos _ (by decide) (by decide) (by decide)

theorem small : ∃ y : ℝ, 0 < y ∧ Ideal.ofBits .f32 0x3727C5AC#32 = (y : EReal) :=
  normal_pos _ (by decide) (by decide) (by decide)

/-- The mean of reals. -/
theorem mean_coe (z : Fin 1024 → ℝ) : ∃ y : ℝ, 0 < y ∧ mean (fun k => (z k : EReal)) = (((∑ k, z k) / y : ℝ) : EReal) := by
  obtain ⟨y, hy, h⟩ := width
  refine ⟨y, hy, ?_⟩
  unfold mean
  rw [h, sum_coe]
  unfold Ideal.div
  rw [if_neg (by exact_mod_cast hy.ne'), ← EReal.coe_inv, ← EReal.coe_mul, div_eq_mul_inv]

/-- A real row's norm is real. -/
theorem normed_real (z g b : Fin 1024 → EReal) (hz : ∀ k, IsReal (z k)) (hg : ∀ k, IsReal (g k)) (hb : ∀ k, IsReal (b k))
    (e : Fin 1024) : IsReal (normed z g b e) := by
  choose x hx using hz
  obtain rfl : z = fun k => (x k : EReal) := funext hx
  obtain ⟨n, hn, hm⟩ := mean_coe x
  obtain ⟨p, hp, hv⟩ := mean_coe fun k => (x k - (∑ k, x k) / n) * (x k - (∑ k, x k) / n)
  have hv' : variance (fun k => (x k : EReal)) = (((∑ k, (x k - (∑ k, x k) / n) * (x k - (∑ k, x k) / n)) / p : ℝ) : EReal) := by
    rw [← hv]
    unfold variance
    rw [hm]
    simp only [EReal.coe_mul, EReal.coe_sub]
  obtain ⟨s, hs, hc⟩ := small
  have h0 : 0 ≤ (∑ k, (x k - (∑ k, x k) / n) * (x k - (∑ k, x k) / n)) / p :=
    div_nonneg (Finset.sum_nonneg fun k _ => mul_self_nonneg _) hp.le
  unfold normed
  rw [hm, hv', hc, ← EReal.coe_add, Ideal.rsqrt_coe, if_neg (by linarith), if_neg (by linarith)]
  exact ((IsReal.sub ⟨_, rfl⟩ ⟨_, rfl⟩).mul ⟨_, rfl⟩ |>.mul (hg e)).add (hb e)

/-- A finite row before its norm is real. -/
theorem gated_real (u : Fin 1024 → EReal) (w : Fin 1024 → Fin 1024 → EReal) (b x g1 : Fin 1024 → EReal)
    (hu : ∀ k, IsReal (u k)) (hw : ∀ k e, IsReal (w k e)) (hb : ∀ k, IsReal (b k)) (hx : ∀ k, IsReal (x k))
    (hg : ∀ k, IsReal (g1 k)) (e : Fin 1024) : IsReal (gated u w b x g1 e) :=
  (alpha_real.mul (hx e)).add ((hg e).mul ((IsReal.sum fun k => (hu k).mul (hw k e)).add (hb e)))

/-- A finite stream, modulated, is real. -/
theorem modulated_real (u : Vec Ideal S8x2048x1024 .bf16) (w : Vec Ideal S1024x1024 .f32) (b : Vec Ideal S1024 .f32)
    (x : Vec Ideal S8x2048x1024 .f32) (g1 : Vec Ideal S8x1x1024 .f32) (lg lb : Vec Ideal S1024 .f32)
    (sh sc : Vec Ideal S8x1x1024 .f32) (hu : ∀ i, IsReal (u i)) (hw : ∀ i, IsReal (w i)) (hb : ∀ i, IsReal (b i))
    (hx : ∀ i, IsReal (x i)) (hg : ∀ i, IsReal (g1 i)) (hlg : ∀ i, IsReal (lg i)) (hlb : ∀ i, IsReal (lb i))
    (hsh : ∀ i, IsReal (sh i)) (hsc : ∀ i, IsReal (sc i)) (i : S8x2048x1024.Idx) :
    IsReal (modulated u w b x g1 lg lb sh sc i) :=
  ((normed_real _ _ _ (gated_real _ _ _ _ _ (fun _ => hu _) (fun _ _ => hw _) (fun _ => hb _) (fun _ => hx _) fun _ => hg _)
    (fun _ => hlg _) (fun _ => hlb _) _).mul (one_real.add (hsc _))).add (hsh _)

end Cert.Post

end
-- ==== Proof.Post.Kernel.lean ====
/- What the program leaves on finite arguments: the stream, its modulation and the router's logits. -/
module

public import proofs.«01_k».proof.Proof.Post.Arrays
public import proofs.«01_k».proof.Proof.Post.Router
public import proofs.«01_k».proof.Proof.Post.Real

@[expose] public section

set_option maxRecDepth 16384

noncomputable section

namespace Cert.Post

open Idealize.ShloMosaic Idealize.ShloMosaic.TcCoe Idealize.ShloMosaic.Tactic Idealize.SL.Sem Cert.Kernel5Ideal Cert.Kernel5Ideal.Gen
open Cert.Kernel5Ideal.Facts

/-- Where a finite row meets a finite column, the split logits are the logits: the rests vanish. -/
theorem split_at (h : Vec Ideal S8x2048x1024 .f32) (wh wl : Vec Ideal S1024x128 .bf16) (br : Vec Ideal S1x128 .f32)
    (w : Vec Ideal S1024x32 .f32) (b : Vec Ideal S32 .f32) (B : Fin 8) (r : Fin 2048) (e : Fin 32)
    (hh : ∀ i, IsReal (h i)) (hw : ∀ i, IsReal (w i)) (h1 : ∀ k, wh (ix2 k (wide e)) = w (ix2 k e))
    (h2 : ∀ k, wl (ix2 k (wide e)) = (fun y : EReal => y - y) (w (ix2 k e))) (h3 : br (ix2 0 (wide e)) = b (ix1 e)) :
    split h wh wl br (ix3 B r (wide e)) = (∑ k : Fin 1024, h (ix3 B r k) * w (ix2 k e)) + b (ix1 e) := by
  show (∑ k : Fin 1024, h (ix3 B r k) * wh (ix2 k (wide e))) + (∑ k : Fin 1024, h (ix3 B r k) * wl (ix2 k (wide e)))
    + (∑ k : Fin 1024, (h (ix3 B r k) - h (ix3 B r k)) * wh (ix2 k (wide e))) + br (ix2 0 (wide e)) = _
  have e2 : (∑ k : Fin 1024, h (ix3 B r k) * wl (ix2 k (wide e))) = 0 :=
    Finset.sum_eq_zero fun k _ => by rw [h2, show (fun y : EReal => y - y) (w (ix2 k e)) = 0 from (hw _).self_sub, mul_zero]
  have e3 : (∑ k : Fin 1024, (h (ix3 B r k) - h (ix3 B r k)) * wh (ix2 k (wide e))) = 0 :=
    Finset.sum_eq_zero fun k _ => by rw [(hh _).self_sub, zero_mul]
  rw [e2, e3, add_zero, add_zero, h3]
  simp only [h1]

variable (m : (ℓ : Loc nD τ sig) → Buf (Elt Ideal) ℓ) (ρ : Dev nD → PrngReg) (c : Dev nD)

/-- The router's logits, of the arguments in memory. -/
abbrev logitsM : Vec Ideal S8x2048x32 .f32 :=
  logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- Every argument the logits' rows and columns come from is finite. -/
abbrev Fin10 : Prop :=
  (∀ i, IsReal (m ((c : Thread nD τ).loc main_arg0) i)) ∧ (∀ i, IsReal (m ((c : Thread nD τ).loc main_arg1) i)) ∧ (∀ i, IsReal (m ((c : Thread nD τ).loc main_arg2) i)) ∧ (∀ i, IsReal (m ((c : Thread nD τ).loc main_arg3) i)) ∧ (∀ i, IsReal (m ((c : Thread nD τ).loc main_arg4) i)) ∧ (∀ i, IsReal (m ((c : Thread nD τ).loc main_arg5) i)) ∧ (∀ i, IsReal (m ((c : Thread nD τ).loc main_arg6) i)) ∧ (∀ i, IsReal (m ((c : Thread nD τ).loc main_arg7) i)) ∧ (∀ i, IsReal (m ((c : Thread nD τ).loc main_arg8) i)) ∧ (∀ i, IsReal (m ((c : Thread nD τ).loc main_arg9) i))

/-- The tail keeps the first columns of the third array. -/
theorem tail_eq : Pipeline.afterTail₀ cfgs (dats m) 0 (V0 m) [hostOps1] c main_v17
    = (extractStridedSlice S8x2048x32 ![0, 0, 0] ((dats m 0 c).arrAt 14 cfg0.N : Vec Ideal S8x2048x128 .f32)
        slices_S8x2048x128_S8x2048x32_0_0_0 : Vec Ideal S8x2048x32 .f32) := by
  have h := Pipeline.withArrays_arr spec0 launch0.win.arr_inj c (V0 m c) (fun w => (dats m 0 c).arrAt w cfg0.N) 14
  rw [← h]
  show StableHlo.after hostOps1 (Pipeline.withArrays spec0 c (V0 m c) fun w => (dats m 0 c).arrAt w cfg0.N) (Proc.devRef .tc main_v17) = _
  generalize Pipeline.withArrays spec0 c (V0 m c) (fun w => (dats m 0 c).arrAt w cfg0.N) = W
  after_results

/-- On finite arguments these are the logits. -/
theorem tail_value (hr : Fin10 m c) : Pipeline.afterTail₀ cfgs (dats m) 0 (V0 m) [hostOps1] c main_v17 = logitsM m c := by
  rw [tail_eq, final14]
  funext i
  obtain ⟨B, r, e, rfl⟩ : ∃ (B : Fin 8) (r : Fin 2048) (e : Fin 32), i = ix3 B r e :=
    ⟨i 0, i 1, i 2, by funext a; fin_cases a <;> rfl⟩
  obtain ⟨h0, h1, h2, h3, h4, h5, h6, h7, h8, h9⟩ := hr
  have hs := split_at (modulatedM m c) (V m c main_v3) (V m c main_v6) (V m c main_v11) (m ((c : Thread nD τ).loc main_arg9)) (m ((c : Thread nD τ).loc main_arg10)) B r e
    (modulated_real _ _ _ _ _ _ _ _ _ h0 h1 h2 h3 h4 h5 h6 h7 h8) h9 (fun k => wh_at m c k e) (fun k => wl_at m c k e) (br_at m c e)
  generalize split (modulatedM m c) (V m c main_v3) (V m c main_v6) (V m c main_v11) = y at hs ⊢
  refine Eq.trans ?_ hs
  show y _ = y _
  congr 1
  funext a
  apply Fin.ext
  fin_cases a <;> simp [wide]

/-- On finite arguments the program ends with these three in its result arrays, the arguments as launched. -/
theorem run (hr : ∀ c : Dev nD, Fin10 m c) :
    θ_run defs (onTc (τ := τ) (main (F := Ideal))) ⟨m, fun _ => 0, ρ⟩ fun r => ∀ c : Dev nD,
    r.2.mem ((c.tc : Thread nD τ).loc main_v16_0) = streamM m c
    ∧ r.2.mem ((c.tc : Thread nD τ).loc main_v16_1) = modulatedM m c
    ∧ r.2.mem ((c.tc : Thread nD τ).loc main_v17) = logitsM m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) := by
  have hv : θ_run defs (onTc (τ := τ) (main (F := Ideal))) ⟨m, fun _ => 0, ρ⟩ fun r => ∀ c : Dev nD,
    r.2.mem ((c.tc : Thread nD τ).loc main_v16_0) = streamM m c
    ∧ r.2.mem ((c.tc : Thread nD τ).loc main_v16_1) = modulatedM m c
    ∧ r.2.mem ((c.tc : Thread nD τ).loc main_v17) = logitsM m c :=
    (θ_run defs _ _).mono (fun r h c => ⟨((h c).1 12).trans (final12 m c), ((h c).1 13).trans (final13 m c),
      ((h c).2 main_v17 (Pipeline.mem_restRefs_of main_v17 (by decide) (by decide))).trans (tail_value m c (hr c))⟩) (run_main m ρ)
  exact (θ_run defs _ _).mono (fun r h c => ⟨(h.1 c).1, (h.1 c).2.1, (h.1 c).2.2, h.2 c⟩) (θ_run_and hv (unchanged m ρ))

end Cert.Post

end
-- ==== Proof.Post.Reference.lean ====
/- The reference's results: the stream after the norm, its modulation and the router's logits. -/
module

public import proofs.«01_k».proof.Proof.Post.Body
public import proofs.«01_k».proof.Proof.Gen.Reference5Ideal.Run
public import proofs.«01_k».proof.Proof.Gen.Reference5Ideal.Read

@[expose] public section

set_option maxRecDepth 16384

noncomputable section

namespace Cert.Post.Ref

open Idealize.ShloMosaic Idealize.ShloMosaic.TcCoe Idealize.ShloMosaic.Tactic Idealize.SL.Sem Cert.Reference5Ideal Cert.Reference5Ideal.Read
open Cert.Reference5Ideal.Facts

variable (u : Vec Ideal S8x2048x1024 .bf16) (w : Vec Ideal S1024x1024 .f32) (b : Vec Ideal S1024 .f32)
  (x : Vec Ideal S8x2048x1024 .f32) (g1 : Vec Ideal S8x1x1024 .f32) (lg lb : Vec Ideal S1024 .f32)
  (sh sc : Vec Ideal S8x1x1024 .f32) (wr : Vec Ideal S1024x32 .f32) (br : Vec Ideal S32 .f32)

/-- A row before its norm. -/
theorem gated_at (B : Fin 8) (r : Fin 2048) (e : Fin 1024) :
    val_main_v9 (F := Ideal) u w b x g1 (ix3 B r e)
      = gated (fun k => u (ix3 B r k)) (fun k e => w (ix2 k e)) (fun e => b (ix1 e)) (fun e => x (ix3 B r e))
          (fun e => g1 (ix3 B 0 e)) e := by
  unfold val_main_v9 val_main_v8 val_main_v7 val_main_v6 val_main_v5 val_main_v4 val_main_v3 val_main_v2 val_main_v1 val_main_v0
    val_main_cst
  clean_types
  pointwise
  rfl

/-- The first result is the stream after the norm. -/
theorem stream_eq : val_main_v33 (F := Ideal) u w b x g1 lg lb = stream u w b x g1 lg lb := by
  funext i
  obtain ⟨B, r, e, rfl⟩ : ∃ (B : Fin 8) (r : Fin 2048) (e : Fin 1024), i = ix3 B r e :=
    ⟨i 0, i 1, i 2, by funext a; fin_cases a <;> rfl⟩
  have hz := gated_at u w b x g1 B r
  show _ = normed (gated (fun k => u (ix3 B r k)) (fun k e => w (ix2 k e)) (fun e => b (ix1 e)) (fun e => x (ix3 B r e))
          (fun e => g1 (ix3 B 0 e))) (fun e => lg (ix1 e)) (fun e => lb (ix1 e)) e
  rw [← show (fun e => val_main_v9 (F := Ideal) u w b x g1 (ix3 B r e)) = gated (fun k => u (ix3 B r k)) (fun k e => w (ix2 k e))
          (fun e => b (ix1 e)) (fun e => x (ix3 B r e)) (fun e => g1 (ix3 B 0 e)) from funext hz]
  unfold val_main_v33 val_main_v32 val_main_v31 val_main_v30 val_main_v29 val_main_v28 val_main_v27 val_main_v26 val_main_v25
    val_main_v24 val_main_v23 val_main_v22 val_main_v21 val_main_v20 val_main_v19 val_main_v18 val_main_v17 val_main_v16 val_main_v15
    val_main_v14 val_main_v13 val_main_v12 val_main_v11 val_main_v10 val_main_cst_0 val_main_cst_1 val_main_cst_2 val_main_cst_3
    val_main_cst_4
  clear hz
  generalize val_main_v9 (F := Ideal) u w b x g1 = z
  clean_types
  pointwise
  rfl

/-- The second is the modulated stream. -/
theorem modulated_eq : val_main_v39 (F := Ideal) u w b x g1 lg lb sh sc = modulated u w b x g1 lg lb sh sc := by
  funext i
  obtain ⟨B, r, e, rfl⟩ : ∃ (B : Fin 8) (r : Fin 2048) (e : Fin 1024), i = ix3 B r e :=
    ⟨i 0, i 1, i 2, by funext a; fin_cases a <;> rfl⟩
  unfold val_main_v39 val_main_v38 val_main_v37 val_main_v36 val_main_v35 val_main_v34 val_main_cst_5 modulated
  rw [stream_eq]
  generalize stream u w b x g1 lg lb = z
  clean_types
  pointwise

/-- The third is the router's logits. -/
theorem logits_eq : val_main_v43 (F := Ideal) u w b x g1 lg lb sh sc wr br = logits u w b x g1 lg lb sh sc wr br := by
  funext i
  obtain ⟨B, r, e, rfl⟩ : ∃ (B : Fin 8) (r : Fin 2048) (e : Fin 32), i = ix3 B r e :=
    ⟨i 0, i 1, i 2, by funext a; fin_cases a <;> rfl⟩
  unfold val_main_v43 val_main_v42 val_main_v41 val_main_v40 logits
  rw [modulated_eq]
  generalize modulated u w b x g1 lg lb sh sc = z
  clean_types
  pointwise

/-- The reference ends with the three results, the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33)
        = stream (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_v39)
        = modulated (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_v43)
        = logits (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨(h c).1.trans ((val_main_v33_eq _ _).trans (stream_eq _ _ _ _ _ _ _)),
      (h c).2.1.trans ((val_main_v39_eq _ _).trans (modulated_eq _ _ _ _ _ _ _ _ _)),
      (h c).2.2.1.trans ((val_main_v43_eq _ _).trans (logits_eq _ _ _ _ _ _ _ _ _ _ _)), (h c).2.2.2⟩)
    (Cert.Reference5Ideal.Value.run (F := Ideal) m ρ)

end Cert.Post.Ref

end
-- ==== Proof.Post.Finite.lean ====
/- The precondition read: every argument but the router's bias is finite. -/
module

public import proofs.«01_k».proof.Pre_finite_stream
public import Idealize.ShloMosaic.Lib.ReduceAll
public import Idealize.ShloMosaic.Lib.Decide
public import Idealize.ShloMosaic.Lib.Pointwise.IndexVar
public import Idealize.ShloMosaic.Lib.Tactic.CleanTypes

@[expose] public section

set_option maxRecDepth 16384

noncomputable section

namespace Cert.Post.Finite

open Idealize.ShloMosaic Idealize.ShloMosaic.TcCoe Idealize.ShloMosaic.Tactic Cert.Pre_finite_stream
open Cert.Pre_finite_stream.Facts

/-- A number whose size is below infinity is real. -/
theorem real_of (x : EReal) (h : Ideal.cmp .olt (max x (-x)) (Ideal.ofBits .f32 0x7F800000#32) = 1#1) : ∃ y : ℝ, x = y := by
  have ht : Ideal.ofBits .f32 0x7F800000#32 = ⊤ := by simp [Ideal.ofBits, Ideal.ieee]
  rw [ht] at h
  induction x with
  | bot => exact absurd h (by simp [Ideal.cmp])
  | coe x => exact ⟨x, rfl⟩
  | top => exact absurd h (by simp [Ideal.cmp])

variable [Cert.Pre_finite_stream.Facts]
variable (u : Vec Ideal S8x2048x1024 .bf16) (w : Vec Ideal S1024x1024 .f32) (b : Vec Ideal S1024 .f32)
  (x : Vec Ideal S8x2048x1024 .f32) (g1 : Vec Ideal S8x1x1024 .f32) (lg lb : Vec Ideal S1024 .f32)
  (sh sc : Vec Ideal S8x1x1024 .f32) (wr : Vec Ideal S1024x32 .f32) (br : Vec Ideal S32 .f32)

instance : Subsingleton S_.Idx := ⟨fun a b => funext fun x => x.elim0⟩

/-- What the precondition says. -/
theorem read (h : Cert.Pre_finite_stream.fn (F := Ideal) u w b x g1 lg lb sh sc wr br = fun _ => 1#1) :
    (∀ i, ∃ y : ℝ, u i = (y : EReal)) ∧ (∀ i, ∃ y : ℝ, w i = (y : EReal)) ∧ (∀ i, ∃ y : ℝ, b i = (y : EReal))
      ∧ (∀ i, ∃ y : ℝ, x i = (y : EReal)) ∧ (∀ i, ∃ y : ℝ, g1 i = (y : EReal)) ∧ (∀ i, ∃ y : ℝ, lg i = (y : EReal))
      ∧ (∀ i, ∃ y : ℝ, lb i = (y : EReal)) ∧ (∀ i, ∃ y : ℝ, sh i = (y : EReal)) ∧ (∀ i, ∃ y : ℝ, sc i = (y : EReal))
      ∧ ∀ i, ∃ y : ℝ, wr i = (y : EReal) := by
  have h0 := congrFun h ix0
  unfold Cert.Pre_finite_stream.fn Cert.Pre_finite_stream.fn_part1 Cert.Pre_finite_stream.fn_part2 at h0
  dsimp only at h0
  have hand : ∀ a b : BitVec 1, IntOp.andi a b = 1#1 → a = 1#1 ∧ b = 1#1 := by decide
  obtain ⟨h1, h10⟩ := hand _ _ h0
  obtain ⟨h1, h9⟩ := hand _ _ h1
  obtain ⟨h1, h8⟩ := hand _ _ h1
  obtain ⟨h1, h7⟩ := hand _ _ h1
  obtain ⟨h1, h6⟩ := hand _ _ h1
  obtain ⟨h1, h5⟩ := hand _ _ h1
  obtain ⟨h1, h4⟩ := hand _ _ h1
  obtain ⟨h1, h3⟩ := hand _ _ h1
  obtain ⟨h1, h2⟩ := hand _ _ h1
  exact ⟨fun i => real_of (u i) (Host.reduce_andi_all _ _ _ _ _ h1 i), fun i => real_of (w i) (Host.reduce_andi_all _ _ _ _ _ h2 i),
    fun i => real_of (b i) (Host.reduce_andi_all _ _ _ _ _ h3 i), fun i => real_of (x i) (Host.reduce_andi_all _ _ _ _ _ h4 i),
    fun i => real_of (g1 i) (Host.reduce_andi_all _ _ _ _ _ h5 i), fun i => real_of (lg i) (Host.reduce_andi_all _ _ _ _ _ h6 i),
    fun i => real_of (lb i) (Host.reduce_andi_all _ _ _ _ _ h7 i), fun i => real_of (sh i) (Host.reduce_andi_all _ _ _ _ _ h8 i),
    fun i => real_of (sc i) (Host.reduce_andi_all _ _ _ _ _ h9 i), fun i => real_of (wr i) (Host.reduce_andi_all _ _ _ _ _ h10 i)⟩

end Cert.Post.Finite

end
-- ==== Proof.Ffn.Blocks.lean ====
/- The precondition read: every block names one of the 32 experts and is marked 0 or 1. -/
module

public import proofs.«01_k».proof.Pre_blocks_marked
public import Idealize.ShloMosaic.Lib.ReduceAll
public import Idealize.ShloMosaic.Lib.Decide
public import Idealize.ShloMosaic.Lib.Pointwise.IndexVar

@[expose] public section

set_option maxRecDepth 16384

noncomputable section

namespace Cert.Ffn.Blocks

open Idealize.ShloMosaic Idealize.ShloMosaic.TcCoe Cert.Pre_blocks_marked
open Cert.Pre_blocks_marked.Facts

instance : Subsingleton S_.Idx := ⟨fun a b => funext fun x => x.elim0⟩

/-- A word that is at least 0 and below 32, signed, is one of the first 32 words. -/
theorem named (w : BitVec 32) (h : IntOp.andi (IntOp.cmpi .sge w 0#32) (IntOp.cmpi .slt w 32#32) = 1#1) : w.toNat < 32 := by
  revert h
  unfold IntOp.andi IntOp.cmpi
  intro h
  have hand : ∀ a b : Bool, BitVec.ofBool a &&& BitVec.ofBool b = 1#1 → a = true ∧ b = true := by decide
  obtain ⟨h1, h2⟩ := hand _ _ h
  simp [BitVec.sle, BitVec.slt, BitVec.toInt_eq_toNat_cond] at h1 h2
  have := w.isLt
  split at h1 <;> omega

/-- A word equal to 0 or to 1. -/
theorem marked (w : BitVec 32) (h : IntOp.ori (IntOp.cmpi .eq w 0#32) (IntOp.cmpi .eq w 1#32) = 1#1) :
    w = 0#32 ∨ w = 1#32 := by
  revert h
  unfold IntOp.ori IntOp.cmpi
  intro h
  have hor : ∀ a b : Bool, BitVec.ofBool a ||| BitVec.ofBool b = 1#1 → a = true ∨ b = true := by decide
  rcases hor _ _ h with h | h
  · exact .inl (by simpa using h)
  · exact .inr (by simpa using h)

variable [Cert.Pre_blocks_marked.Facts] {F : FTy → Type} [FloatOps F]
variable (be bv : IVec S288 32) (xs : FVec F S73728x1024 .f32) (wgu : FVec F S2x32x1024x2048 .f32)
  (bgu : FVec F S2x32x1x2048 .f32) (wdn : FVec F S2x32x1024x1024 .f32) (bdn : FVec F S2x32x1x1024 .f32)

/-- What the precondition says of the two tables. -/
theorem read (h : Cert.Pre_blocks_marked.fn (F := F) be bv xs wgu bgu wdn bdn = fun _ => 1#1) :
    (∀ i, (be i).toNat < 32) ∧ ∀ i, bv i = 0#32 ∨ bv i = 1#32 := by
  have h0 := congrFun h ix0
  unfold Cert.Pre_blocks_marked.fn at h0
  dsimp only at h0
  have hand : ∀ a b : BitVec 1, IntOp.andi a b = 1#1 → a = 1#1 ∧ b = 1#1 := by decide
  obtain ⟨h1, h2⟩ := hand _ _ h0
  exact ⟨fun i => named _ (Host.reduce_andi_all _ _ _ _ _ h1 i), fun i => marked _ (Host.reduce_andi_all _ _ _ _ _ h2 i)⟩

end Cert.Ffn.Blocks

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Attn.Equal
public import proofs.«01_k».proof.Proof.Attn.Finite
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Ffn.WordTables
public import proofs.«01_k».proof.Proof.Ffn.IdealValue
public import proofs.«01_k».proof.Proof.Ffn.RefValue
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Ffn.Word1Tables
public import proofs.«01_k».proof.Proof.Ffn.Ideal1Value
public import proofs.«01_k».proof.Proof.Ffn.RefValue1
public import proofs.«01_k».proof.Proof.Gen.Kernel4
public import proofs.«01_k».proof.Proof.Gen.Kernel4Ideal
public import proofs.«01_k».proof.Proof.Gen.Kernel4.Skeleton
public import proofs.«01_k».proof.Proof.Gen.Kernel4Ideal.Skeleton
public import proofs.«01_k».proof.Proof.Gen.Kernel4.Launch
public import proofs.«01_k».proof.Proof.Gen.Kernel4Ideal.Launch
public import proofs.«01_k».proof.Proof.Gen.Kernel4.Points
public import proofs.«01_k».proof.Proof.Gen.Kernel4Ideal.Points
public import proofs.«01_k».proof.Proof.Gen.Kernel4.Frame
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5.Skeleton
public import proofs.«01_k».proof.Proof.Gen.Kernel5Ideal.Skeleton
public import proofs.«01_k».proof.Proof.Gen.Kernel5.Launch
public import proofs.«01_k».proof.Proof.Gen.Kernel5Ideal.Launch
public import proofs.«01_k».proof.Proof.Gen.Kernel5.Points
public import proofs.«01_k».proof.Proof.Gen.Kernel5Ideal.Points
public import proofs.«01_k».proof.Proof.Gen.Kernel5.Frame
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Qkv.Kernel
public import proofs.«01_k».proof.Proof.Qkv.Reference
public import proofs.«01_k».proof.Proof.Gen.Pre_finite_stream
public import proofs.«01_k».proof.Proof.Post.Kernel
public import proofs.«01_k».proof.Proof.Post.Reference
public import proofs.«01_k».proof.Proof.Post.Finite
public import proofs.«01_k».proof.Proof.Gen.Pre_blocks_marked
public import proofs.«01_k».proof.Proof.Ffn.Blocks
public import Idealize.ShloMosaic.Adequacy
public import Idealize.ShloMosaic.Init

@[expose] public section

noncomputable section

namespace Cert.Proof

open Idealize.ShloMosaic Idealize.SL.Sem Cert.Kernel

/-- The kernel and the reference leave the same attention. -/
theorem algebraic : Cert.algebraic_KernelIdeal_ReferenceIdeal_pre_finite_scores := fun m ρ m' ρ' hpre hag => by
  have hr := fun c => Cert.Attn.Finite.read _ _ _ _ _ (hpre c)
  refine ⟨fun c => Cert.Attn.attnOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun _ h => h.1)
      (Cert.Attn.run m ρ (fun c => (hr c).1) (fun c => (hr c).2.1) (fun c => (hr c).2.2))
  · refine (θ_run Cert.ReferenceIdeal.defs _ _).mono (fun _ h c => ⟨(h c).1.trans ?_, (h c).2⟩)
      (Cert.Attn.Ref.run m' ρ' (fun c => by rw [(hag c).2.2.1]; exact (hr c).2.2))
    rw [(hag c).1, (hag c).2.1, (hag c).2.2.1, (hag c).2.2.2.1, (hag c).2.2.2.2]

/-- The reference terminates, leaves its arguments and no semaphore. -/
theorem frameR : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The first expert layer's kernel terminates, leaves its arguments and no semaphore, where every block names an expert and is
    marked 0 or 1. -/
theorem frame2 : Cert.quiescent_Kernel2 := fun m ρ hpre => by
  obtain ⟨he, hv⟩ := Cert.Ffn.Blocks.read _ _ _ _ _ _ _ (hpre 0)
  exact Cert.Kernel2.Experts.frame m ρ (Cert.Kernel2.Experts.ok_of m he) fun i => hv (Cert.Kernel2.Experts.here i)

/-- The first expert layer's kernel's idealization terminates, leaves its arguments and no semaphore, where every block names an expert and is
    marked 0 or 1. -/
theorem frame2I : Cert.quiescent_Kernel2Ideal := fun m ρ hpre => by
  obtain ⟨he, hv⟩ := Cert.Ffn.Blocks.read _ _ _ _ _ _ _ (hpre 0)
  exact Cert.Kernel2Ideal.Experts.frame m ρ (Cert.Kernel2Ideal.Experts.ok_of m he) fun i => hv (Cert.Kernel2Ideal.Experts.here i)

/-- The first expert layer's reference terminates, leaves its arguments and no semaphore. -/
theorem frame2R : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The first expert layer's kernel and reference leave the same rows. -/
theorem algebraic2 : Cert.algebraic_Kernel2Ideal_Reference2Ideal := fun m ρ m' ρ' hpre hag => by
  have hr := fun c => Cert.Ffn.Blocks.read _ _ _ _ _ _ _ (hpre c)
  refine ⟨fun c => Cert.Ffn.expertsArr 0 (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6)), ?_, ?_⟩
  · exact Cert.Kernel2Ideal.Experts.run m ρ (hr 0).1 fun i => (hr 0).2 (Cert.Kernel2Ideal.Experts.here i)
  · refine (θ_run Cert.Reference2Ideal.defs _ _).mono (fun _ h c => ⟨(h c).1.trans ?_, (h c).2⟩)
      (Cert.Ffn.RefValue.run m' ρ' (fun c => by rw [(hag c).1]; exact (hr c).1))
    obtain ⟨h0, h1, h2, h3, h4, h5, h6⟩ := hag c
    rw [h0, h1, h2, h3, h4, h5, h6]

/-- The second expert layer's kernel terminates, leaves its arguments and no semaphore, where every block names an expert and is
    marked 0 or 1. -/
theorem frame3 : Cert.quiescent_Kernel3 := fun m ρ hpre => by
  obtain ⟨he, hv⟩ := Cert.Ffn.Blocks.read _ _ _ _ _ _ _ (hpre 0)
  exact Cert.Kernel3.Experts.frame m ρ (Cert.Kernel3.Experts.ok_of m he) fun i => hv (Cert.Kernel3.Experts.here i)

/-- The second expert layer's kernel's idealization terminates, leaves its arguments and no semaphore, where every block names an expert and is
    marked 0 or 1. -/
theorem frame3I : Cert.quiescent_Kernel3Ideal := fun m ρ hpre => by
  obtain ⟨he, hv⟩ := Cert.Ffn.Blocks.read _ _ _ _ _ _ _ (hpre 0)
  exact Cert.Kernel3Ideal.Experts.frame m ρ (Cert.Kernel3Ideal.Experts.ok_of m he) fun i => hv (Cert.Kernel3Ideal.Experts.here i)

/-- The second expert layer's reference terminates, leaves its arguments and no semaphore. -/
theorem frame3R : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The second expert layer's kernel and reference leave the same rows. -/
theorem algebraic3 : Cert.algebraic_Kernel3Ideal_Reference3Ideal := fun m ρ m' ρ' hpre hag => by
  have hr := fun c => Cert.Ffn.Blocks.read _ _ _ _ _ _ _ (hpre c)
  refine ⟨fun c => Cert.Ffn.expertsArr 1 (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6)), ?_, ?_⟩
  · exact Cert.Kernel3Ideal.Experts.run m ρ (hr 0).1 fun i => (hr 0).2 (Cert.Kernel3Ideal.Experts.here i)
  · refine (θ_run Cert.Reference3Ideal.defs _ _).mono (fun _ h c => ⟨(h c).1.trans ?_, (h c).2⟩)
      (Cert.Ffn.RefValue1.run m' ρ' (fun c => by rw [(hag c).1]; exact (hr c).1))
    obtain ⟨h0, h1, h2, h3, h4, h5, h6⟩ := hag c
    rw [h0, h1, h2, h3, h4, h5, h6]

/-- The projections' reference terminates, leaves its arguments and no semaphore. -/
theorem frame4R : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

/-- The projections' kernel and reference leave the same queries and the same keys and values. -/
theorem algebraic4 : Cert.algebraic_Kernel4Ideal_Reference4Ideal := fun m ρ m' ρ' _ hag => by
  refine ⟨fun c => Cert.Qkv.queries (m ((c.tc : Thread Cert.Kernel4Ideal.nD Cert.Kernel4Ideal.τ).loc Cert.Kernel4Ideal.main_arg0))
        (m ((c.tc : Thread Cert.Kernel4Ideal.nD Cert.Kernel4Ideal.τ).loc Cert.Kernel4Ideal.main_arg1))
        (m ((c.tc : Thread Cert.Kernel4Ideal.nD Cert.Kernel4Ideal.τ).loc Cert.Kernel4Ideal.main_arg2))
        (m ((c.tc : Thread Cert.Kernel4Ideal.nD Cert.Kernel4Ideal.τ).loc Cert.Kernel4Ideal.main_arg3)),
      fun c => Cert.Qkv.keysValues (m ((c.tc : Thread Cert.Kernel4Ideal.nD Cert.Kernel4Ideal.τ).loc Cert.Kernel4Ideal.main_arg0))
        (m ((c.tc : Thread Cert.Kernel4Ideal.nD Cert.Kernel4Ideal.τ).loc Cert.Kernel4Ideal.main_arg4)), Cert.Qkv.run m ρ, ?_⟩
  refine (θ_run Cert.Reference4Ideal.defs _ _).mono (fun _ h c => ⟨(h c).1.trans ?_, (h c).2.1.trans ?_, (h c).2.2⟩)
    (Cert.Qkv.Ref.run m' ρ')
  · obtain ⟨h0, h1, h2, h3, h4⟩ := hag c
    rw [h0, h1, h2, h3]
  · obtain ⟨h0, h1, h2, h3, h4⟩ := hag c
    rw [h0, h4]

/-- The reference of the norm after a mixer terminates, leaves its arguments and no semaphore. -/
theorem frame5R : Cert.quiescent_Reference5Ideal := fun m ρ _ =>
  (θ_run Cert.Reference5Ideal.defs _ _).mono (fun r h => ⟨fun c => (h c).2.2.2,
      Idealize.ShloMosaic.sem_eq_zero_of_no_sems (by decide) r.2⟩)
    (Cert.Reference5Ideal.Value.run (F := Ideal) m ρ)

/-- The norm after a mixer: kernel and reference leave the same residual stream, the same modulated rows and the same router logits. -/
theorem algebraic5 : Cert.algebraic_Kernel5Ideal_Reference5Ideal_pre_finite_stream := fun m ρ m' ρ' hpre hag => by
  have hr := fun c => Cert.Post.Finite.read _ _ _ _ _ _ _ _ _ _ _ (hpre c)
  refine ⟨Cert.Post.streamM m, Cert.Post.modulatedM m, Cert.Post.logitsM m, Cert.Post.run m ρ hr, ?_⟩
  refine (θ_run Cert.Reference5Ideal.defs _ _).mono
    (fun _ h c => ⟨(h c).1.trans ?_, (h c).2.1.trans ?_, (h c).2.2.1.trans ?_, (h c).2.2.2⟩) (Cert.Post.Ref.run m' ρ')
  all_goals
    obtain ⟨h0, h1, h2, h3, h4, h5, h6, h7, h8, h9, h10⟩ := hag c
    simp only [h0, h1, h2, h3, h4, h5, h6, h7, h8, h9, h10]

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite_scores.Gen.facts, Cert.Pre_blocks_marked.Gen.facts, Cert.Pre_finite_stream.Gen.facts,
    fun m ρ _ => Cert.Kernel.Gen.frame m ρ, fun m ρ _ => Cert.KernelIdeal.Gen.frame m ρ, fun m ρ _ => Cert.KernelIdeal.Gen.frame m ρ,
    frameR, fun m ρ _ => frameR m ρ trivial,
    frame2, frame2I, frame2R, fun m ρ _ => frame2R m ρ trivial,
    frame3, frame3I, frame3R, fun m ρ _ => frame3R m ρ trivial,
    fun m ρ _ => Cert.Kernel4.Gen.frame m ρ, fun m ρ _ => Cert.Kernel4Ideal.Gen.frame m ρ, frame4R,
    fun m ρ _ => Cert.Kernel5.Gen.frame m ρ, fun m ρ _ => Cert.Kernel5Ideal.Gen.frame m ρ, fun m ρ _ => Cert.Kernel5Ideal.Gen.frame m ρ,
    frame5R, fun m ρ _ => frame5R m ρ trivial,
    trivial, algebraic, trivial, algebraic2, trivial, algebraic3,
    trivial, algebraic4, trivial, algebraic5⟩

end Cert.Proof

end
